-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)) (v2 : (c : Dev Cert.KernelIdeal.nD) → Buf (Elt Ideal) ((c.tc : Thread Cert.KernelIdeal.nD Cert.KernelIdeal.τ).loc Cert.KernelIdeal.main_v87_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_v87_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v7) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v61) = v0 c
          ∧ r.2.mem ((c.tc : Thread Cert.Reference14Ideal.nD Cert.Reference14Ideal.τ).loc Cert.Reference14Ideal.main_v62) = v1 c
          ∧ r.2.mem ((c.tc : Thread Cert.Reference14Ideal.nD Cert.Reference14Ideal.τ).loc Cert.Reference14Ideal.main_v63) = v2 c
          ∧ r.2.mem ((c.tc : Thread Cert.Reference14Ideal.nD Cert.Reference14Ideal.τ).loc Cert.Reference14Ideal.main_v64) = v3 c
          ∧ r.2.mem ((c.tc : Thread Cert.Reference14Ideal.nD Cert.Reference14Ideal.τ).loc Cert.Reference14Ideal.main_v65) = v4 c
          ∧ r.2.mem ((c.tc : Thread Cert.Reference14Ideal.nD Cert.Reference14Ideal.τ).loc Cert.Reference14Ideal.main_v66) = v5 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v41) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_v10) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_v10) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v52) = v0 c
          ∧ r.2.mem ((c.tc : Thread Cert.Reference20Ideal.nD Cert.Reference20Ideal.τ).loc Cert.Reference20Ideal.main_v51) = v1 c
          ∧ r.2.mem ((c.tc : Thread Cert.Reference20Ideal.nD Cert.Reference20Ideal.τ).loc Cert.Reference20Ideal.main_v87) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S2x9216x384 : Shape := ⟨3, ![2, 9216, 384]⟩
abbrev S2x9216x128 : Shape := ⟨3, ![2, 9216, 128]⟩
abbrev S9216x384 : Shape := ⟨2, ![9216, 384]⟩
abbrev S1x9216x384 : Shape := ⟨3, ![1, 9216, 384]⟩
abbrev S_ : Shape := ⟨0, ![]⟩
abbrev S1x9216x128 : Shape := ⟨3, ![1, 9216, 128]⟩
abbrev S9216x128 : Shape := ⟨2, ![9216, 128]⟩

class Facts : Prop where
  slices_S2x9216x384_S1x9216x384_0_0_0 : S2x9216x384.Slices ![0, 0, 0] S1x9216x384
  shapeCasts_S1x9216x384_S9216x384 : S1x9216x384.ShapeCasts S9216x384
  bcast_S_S9216x384 : S_.BroadcastsInDim S9216x384 (![] : Fin 0 → Fin S9216x384.rank)
  reducesTo_S9216x384_S_d0_1 : S9216x384.ReducesTo [0, 1] S_
  h_S_ : 0 < S_.numel
  slices_S2x9216x128_S1x9216x128_0_0_0 : S2x9216x128.Slices ![0, 0, 0] S1x9216x128
  shapeCasts_S1x9216x128_S9216x128 : S1x9216x128.ShapeCasts S9216x128
  bcast_S_S9216x128 : S_.BroadcastsInDim S9216x128 (![] : Fin 0 → Fin S9216x128.rank)
  reducesTo_S9216x128_S_d0_1 : S9216x128.ReducesTo [0, 1] S_

variable [Facts]

def fn_part1 {F : FTy → Type} [FloatOps F] (main_arg3 : FVec F S9216x384 .bf16) (main_v12 : IVec S_ 1) (main_v17 : IVec S9216x128 1) (main_c_3 : IVec S_ 1) : IVec S_ 1 :=
  let main_v18 : IVec S_ 1 := (fun x v => Host.reduce IntOp.andi x v reducesTo_S9216x128_S_d0_1 h_S_) main_v17 main_c_3
  let main_v19 : IVec S_ 1 := andi main_v12 main_v18
  let main_v20 : FVec F S9216x384 .bf16 := Host.absf main_arg3
  let main_cst_4 : FVec F S_ .bf16 := constant S_ .bf16 0x7F80#16
  let main_v21 : FVec F S9216x384 .bf16 := broadcastInDim S9216x384 ![] bcast_S_S9216x384 main_cst_4
  let main_v22 : IVec S9216x384 1 := cmpf .olt main_v20 main_v21
  let main_c_5 : IVec S_ 1 := constantI S_ 1 1#1
  let main_v23 : IVec S_ 1 := (fun x v => Host.reduce IntOp.andi x v reducesTo_S9216x384_S_d0_1 h_S_) main_v22 main_c_5
  let main_v24 : IVec S_ 1 := andi main_v19 main_v23
  main_v24

def fn {F : FTy → Type} [FloatOps F] (main_arg0 : FVec F S2x9216x384 .bf16) (main_arg1 : FVec F S2x9216x128 .bf16) (main_arg2 : FVec F S2x9216x128 .bf16) (main_arg3 : FVec F S9216x384 .bf16) : IVec S_ 1 :=
  let main_v0 : FVec F S1x9216x384 .bf16 := (extractStridedSlice S1x9216x384 ![0, 0, 0] · slices_S2x9216x384_S1x9216x384_0_0_0) main_arg0
  let main_v1 : FVec F S9216x384 .bf16 := shapeCast S9216x384 main_v0 shapeCasts_S1x9216x384_S9216x384
  let main_v2 : FVec F S9216x384 .bf16 := Host.absf main_v1
  let main_cst : FVec F S_ .bf16 := constant S_ .bf16 0x7F80#16
  let main_v3 : FVec F S9216x384 .bf16 := broadcastInDim S9216x384 ![] bcast_S_S9216x384 main_cst
  let main_v4 : IVec S9216x384 1 := cmpf .olt main_v2 main_v3
  let main_c : IVec S_ 1 := constantI S_ 1 1#1
  let main_v5 : IVec S_ 1 := (fun x v => Host.reduce IntOp.andi x v reducesTo_S9216x384_S_d0_1 h_S_) main_v4 main_c
  let main_v6 : FVec F S1x9216x128 .bf16 := (extractStridedSlice S1x9216x128 ![0, 0, 0] · slices_S2x9216x128_S1x9216x128_0_0_0) main_arg1
  let main_v7 : FVec F S9216x128 .bf16 := shapeCast S9216x128 main_v6 shapeCasts_S1x9216x128_S9216x128
  let main_v8 : FVec F S9216x128 .bf16 := Host.absf main_v7
  let main_cst_0 : FVec F S_ .bf16 := constant S_ .bf16 0x7F80#16
  let main_v9 : FVec F S9216x128 .bf16 := broadcastInDim S9216x128 ![] bcast_S_S9216x128 main_cst_0
  let main_v10 : IVec S9216x128 1 := cmpf .olt main_v8 main_v9
  let main_c_1 : IVec S_ 1 := constantI S_ 1 1#1
  let main_v11 : IVec S_ 1 := (fun x v => Host.reduce IntOp.andi x v reducesTo_S9216x128_S_d0_1 h_S_) main_v10 main_c_1
  let main_v12 : IVec S_ 1 := andi main_v5 main_v11
  let main_v13 : FVec F S1x9216x128 .bf16 := (extractStridedSlice S1x9216x128 ![0, 0, 0] · slices_S2x9216x128_S1x9216x128_0_0_0) main_arg2
  let main_v14 : FVec F S9216x128 .bf16 := shapeCast S9216x128 main_v13 shapeCasts_S1x9216x128_S9216x128
  let main_v15 : FVec F S9216x128 .bf16 := Host.absf main_v14
  let main_cst_2 : FVec F S_ .bf16 := constant S_ .bf16 0x7F80#16
  let main_v16 : FVec F S9216x128 .bf16 := broadcastInDim S9216x128 ![] bcast_S_S9216x128 main_cst_2
  let main_v17 : IVec S9216x128 1 := cmpf .olt main_v15 main_v16
  let main_c_3 : IVec S_ 1 := constantI S_ 1 1#1
  fn_part1 (F := F) main_arg3 main_v12 main_v17 main_c_3
-- ==== Pre_finite20.lean ====
abbrev S2x9216x384 : Shape := ⟨3, ![2, 9216, 384]⟩
abbrev S2x9216x128 : Shape := ⟨3, ![2, 9216, 128]⟩
abbrev S1x9216x384 : Shape := ⟨3, ![1, 9216, 384]⟩
abbrev S9216x384 : Shape := ⟨2, ![9216, 384]⟩
abbrev S_ : Shape := ⟨0, ![]⟩
abbrev S1x9216x128 : Shape := ⟨3, ![1, 9216, 128]⟩
abbrev S9216x128 : Shape := ⟨2, ![9216, 128]⟩

class Facts : Prop where
  slices_S2x9216x384_S1x9216x384_0_0_0 : S2x9216x384.Slices ![0, 0, 0] S1x9216x384
  shapeCasts_S1x9216x384_S9216x384 : S1x9216x384.ShapeCasts S9216x384
  bcast_S_S9216x384 : S_.BroadcastsInDim S9216x384 (![] : Fin 0 → Fin S9216x384.rank)
  reducesTo_S9216x384_S_d0_1 : S9216x384.ReducesTo [0, 1] S_
  h_S_ : 0 < S_.numel
  slices_S2x9216x128_S1x9216x128_0_0_0 : S2x9216x128.Slices ![0, 0, 0] S1x9216x128
  shapeCasts_S1x9216x128_S9216x128 : S1x9216x128.ShapeCasts S9216x128
  bcast_S_S9216x128 : S_.BroadcastsInDim S9216x128 (![] : Fin 0 → Fin S9216x128.rank)
  reducesTo_S9216x128_S_d0_1 : S9216x128.ReducesTo [0, 1] S_

variable [Facts]

def fn {F : FTy → Type} [FloatOps F] (main_arg0 : FVec F S2x9216x384 .bf16) (main_arg1 : FVec F S2x9216x128 .bf16) (main_arg2 : FVec F S2x9216x128 .bf16) : IVec S_ 1 :=
  let main_v0 : FVec F S1x9216x384 .bf16 := (extractStridedSlice S1x9216x384 ![0, 0, 0] · slices_S2x9216x384_S1x9216x384_0_0_0) main_arg0
  let main_v1 : FVec F S9216x384 .bf16 := shapeCast S9216x384 main_v0 shapeCasts_S1x9216x384_S9216x384
  let main_v2 : FVec F S9216x384 .bf16 := Host.absf main_v1
  let main_cst : FVec F S_ .bf16 := constant S_ .bf16 0x7F80#16
  let main_v3 : FVec F S9216x384 .bf16 := broadcastInDim S9216x384 ![] bcast_S_S9216x384 main_cst
  let main_v4 : IVec S9216x384 1 := cmpf .olt main_v2 main_v3
  let main_c : IVec S_ 1 := constantI S_ 1 1#1
  let main_v5 : IVec S_ 1 := (fun x v => Host.reduce IntOp.andi x v reducesTo_S9216x384_S_d0_1 h_S_) main_v4 main_c
  let main_v6 : FVec F S1x9216x128 .bf16 := (extractStridedSlice S1x9216x128 ![0, 0, 0] · slices_S2x9216x128_S1x9216x128_0_0_0) main_arg1
  let main_v7 : FVec F S9216x128 .bf16 := shapeCast S9216x128 main_v6 shapeCasts_S1x9216x128_S9216x128
  let main_v8 : FVec F S9216x128 .bf16 := Host.absf main_v7
  let main_cst_0 : FVec F S_ .bf16 := constant S_ .bf16 0x7F80#16
  let main_v9 : FVec F S9216x128 .bf16 := broadcastInDim S9216x128 ![] bcast_S_S9216x128 main_cst_0
  let main_v10 : IVec S9216x128 1 := cmpf .olt main_v8 main_v9
  let main_c_1 : IVec S_ 1 := constantI S_ 1 1#1
  let main_v11 : IVec S_ 1 := (fun x v => Host.reduce IntOp.andi x v reducesTo_S9216x128_S_d0_1 h_S_) main_v10 main_c_1
  let main_v12 : IVec S_ 1 := andi main_v5 main_v11
  main_v12
-- ==== Kernel.lean ====
abbrev S2x9216x384 : Shape := ⟨3, ![2, 9216, 384]⟩
abbrev S2x9216x128 : Shape := ⟨3, ![2, 9216, 128]⟩
abbrev S9216x384 : Shape := ⟨2, ![9216, 384]⟩
abbrev S1x9216x384 : Shape := ⟨3, ![1, 9216, 384]⟩
abbrev S1x9216x128 : Shape := ⟨3, ![1, 9216, 128]⟩
abbrev S9216x128 : Shape := ⟨2, ![9216, 128]⟩
abbrev S4x2304x2x3x64 : Shape := ⟨5, ![4, 2304, 2, 3, 64]⟩
abbrev S4x2304x2x64 : Shape := ⟨4, ![4, 2304, 2, 64]⟩
abbrev S4x256x2x3x64 : Shape := ⟨5, ![4, 256, 2, 3, 64]⟩
abbrev S4x256x2x64 : Shape := ⟨4, ![4, 256, 2, 64]⟩
abbrev S4x2x256x256x3 : Shape := ⟨5, ![4, 2, 256, 256, 3]⟩
abbrev S4x2x3x256x256 : Shape := ⟨5, ![4, 2, 3, 256, 256]⟩
abbrev S_ : Shape := ⟨0, ![]⟩
abbrev S4x2x3x256 : Shape := ⟨4, ![4, 2, 3, 256]⟩
abbrev S4x2x3x256x1 : Shape := ⟨5, ![4, 2, 3, 256, 1]⟩
abbrev S4x2x64x3x256 : Shape := ⟨5, ![4, 2, 64, 3, 256]⟩
abbrev S4x2048x2x3x64 : Shape := ⟨5, ![4, 2048, 2, 3, 64]⟩
abbrev S4x2x2304x2048x3 : Shape := ⟨5, ![4, 2, 2304, 2048, 3]⟩
abbrev S4x2x3x2048x2304 : Shape := ⟨5, ![4, 2, 3, 2048, 2304]⟩
abbrev S4x2x3x2048 : Shape := ⟨4, ![4, 2, 3, 2048]⟩
abbrev S4x2x3x2048x1 : Shape := ⟨5, ![4, 2, 3, 2048, 1]⟩
abbrev S4x2x64x3x2048 : Shape := ⟨5, ![4, 2, 64, 3, 2048]⟩
abbrev S4x2x3x2304x1 : Shape := ⟨5, ![4, 2, 3, 2304, 1]⟩
abbrev S4x2x3x18x128 : Shape := ⟨5, ![4, 2, 3, 18, 128]⟩
abbrev S4x18x2x3x128 : Shape := ⟨5, ![4, 18, 2, 3, 128]⟩
abbrev S72x768x1 : Shape := ⟨3, ![72, 768, 1]⟩
abbrev S1x128x384 : Shape := ⟨3, ![1, 128, 384]⟩
abbrev S1x2304x128 : Shape := ⟨3, ![1, 2304, 128]⟩
abbrev S128x384 : Shape := ⟨2, ![128, 384]⟩
abbrev S1x768x1 : Shape := ⟨3, ![1, 768, 1]⟩
abbrev S2304x128 : Shape := ⟨2, ![2304, 128]⟩
abbrev S128x2304 : Shape := ⟨2, ![128, 2304]⟩
abbrev S1x128x128 : Shape := ⟨3, ![1, 128, 128]⟩
abbrev S128x128 : Shape := ⟨2, ![128, 128]⟩
abbrev S384x128 : Shape := ⟨2, ![384, 128]⟩
abbrev S384 : Shape := ⟨1, ![384]⟩
abbrev S384x1 : Shape := ⟨2, ![384, 1]⟩
abbrev S1x384x1 : Shape := ⟨3, ![1, 384, 1]⟩
abbrev S768x128 : Shape := ⟨2, ![768, 128]⟩
abbrev S128x768 : Shape := ⟨2, ![128, 768]⟩
abbrev S1x256x128 : Shape := ⟨3, ![1, 256, 128]⟩
abbrev S256x128 : Shape := ⟨2, ![256, 128]⟩
abbrev S384x256 : Shape := ⟨2, ![384, 256]⟩
abbrev S768x256 : Shape := ⟨2, ![768, 256]⟩
abbrev S128x256 : Shape := ⟨2, ![128, 256]⟩
abbrev S1x1024x128 : Shape := ⟨3, ![1, 1024, 128]⟩
abbrev S1024x128 : Shape := ⟨2, ![1024, 128]⟩
abbrev S384x1024 : Shape := ⟨2, ![384, 1024]⟩
abbrev S768x1024 : Shape := ⟨2, ![768, 1024]⟩
abbrev S128x1024 : Shape := ⟨2, ![128, 1024]⟩

abbrev nBuf : Space → Nat
  | .hbm => 108
  | .vmem => 20
  | .smem => 0
  | _ => 0

abbrev bufTy : (tb : Table) → Fin (tcTables nBuf tb) → BufTy
  | .hbm, ⟨0, _⟩ => ⟨S2x9216x384, .bf16⟩
  | .hbm, ⟨1, _⟩ => ⟨S2x9216x128, .bf16⟩
  | .hbm, ⟨2, _⟩ => ⟨S2x9216x128, .bf16⟩
  | .hbm, ⟨3, _⟩ => ⟨S9216x384, .bf16⟩
  | .hbm, ⟨4, _⟩ => ⟨S1x9216x384, .bf16⟩
  | .hbm, ⟨5, _⟩ => ⟨S9216x384, .bf16⟩
  | .hbm, ⟨6, _⟩ => ⟨S9216x384, .f32⟩
  | .hbm, ⟨7, _⟩ => ⟨S1x9216x128, .bf16⟩
  | .hbm, ⟨8, _⟩ => ⟨S9216x128, .bf16⟩
  | .hbm, ⟨9, _⟩ => ⟨S9216x128, .f32⟩
  | .hbm, ⟨10, _⟩ => ⟨S1x9216x128, .bf16⟩
  | .hbm, ⟨11, _⟩ => ⟨S9216x128, .bf16⟩
  | .hbm, ⟨12, _⟩ => ⟨S9216x128, .f32⟩
  | .hbm, ⟨13, _⟩ => ⟨S4x2304x2x3x64, .f32⟩
  | .hbm, ⟨14, _⟩ => ⟨S4x2304x2x64, .f32⟩
  | .hbm, ⟨15, _⟩ => ⟨S4x2304x2x64, .f32⟩
  | .hbm, ⟨16, _⟩ => ⟨S4x256x2x3x64, .f32⟩
  | .hbm, ⟨17, _⟩ => ⟨S4x256x2x64, .f32⟩
  | .hbm, ⟨18, _⟩ => ⟨S4x256x2x64, .f32⟩
  | .hbm, ⟨19, _⟩ => ⟨S4x2x256x256x3, .f32⟩
  | .hbm, ⟨20, _⟩ => ⟨S4x2x3x256x256, .f32⟩
  | .hbm, ⟨21, _⟩ => ⟨S_, .f32⟩
  | .hbm, ⟨22, _⟩ => ⟨S4x2x3x256x256, .f32⟩
  | .hbm, ⟨23, _⟩ => ⟨S4x2x3x256x256, .f32⟩
  | .hbm, ⟨24, _⟩ => ⟨S_, .f32⟩
  | .hbm, ⟨25, _⟩ => ⟨S4x2x3x256, .f32⟩
  | .hbm, ⟨26, _⟩ => ⟨S_, .f32⟩
  | .hbm, ⟨27, _⟩ => ⟨S4x2x3x256, .f32⟩
  | .hbm, ⟨28, _⟩ => ⟨S4x2x3x256, .f32⟩
  | .hbm, ⟨29, _⟩ => ⟨S4x2x3x256x1, .f32⟩
  | .hbm, ⟨30, _⟩ => ⟨S4x2x3x256x256, .f32⟩
  | .hbm, ⟨31, _⟩ => ⟨S4x2x3x256x256, .f32⟩
  | .hbm, ⟨32, _⟩ => ⟨S4x2x3x256x256, .f32⟩
  | .hbm, ⟨33, _⟩ => ⟨S_, .f32⟩
  | .hbm, ⟨34, _⟩ => ⟨S4x2x3x256, .f32⟩
  | .hbm, ⟨35, _⟩ => ⟨S4x2x3x256x1, .f32⟩
  | .hbm, ⟨36, _⟩ => ⟨S4x2x3x256x256, .f32⟩
  | .hbm, ⟨37, _⟩ => ⟨S4x2x3x256x256, .f32⟩
  | .hbm, ⟨38, _⟩ => ⟨S4x2x64x3x256, .f32⟩
  | .hbm, ⟨39, _⟩ => ⟨S4x256x2x3x64, .f32⟩
  | .hbm, ⟨40, _⟩ => ⟨S4x2048x2x3x64, .f32⟩
  | .hbm, ⟨41, _⟩ => ⟨S4x2x2304x2048x3, .f32⟩
  | .hbm, ⟨42, _⟩ => ⟨S4x2x3x2048x2304, .f32⟩
  | .hbm, ⟨43, _⟩ => ⟨S_, .f32⟩
  | .hbm, ⟨44, _⟩ => ⟨S4x2x3x2048x2304, .f32⟩
  | .hbm, ⟨45, _⟩ => ⟨S4x2x3x2048x2304, .f32⟩
  | .hbm, ⟨46, _⟩ => ⟨S_, .f32⟩
  | .hbm, ⟨47, _⟩ => ⟨S4x2x3x2048, .f32⟩
  | .hbm, ⟨48, _⟩ => ⟨S_, .f32⟩
  | .hbm, ⟨49, _⟩ => ⟨S4x2x3x2048, .f32⟩
  | .hbm, ⟨50, _⟩ => ⟨S4x2x3x2048, .f32⟩
  | .hbm, ⟨51, _⟩ => ⟨S4x2x3x2048x1, .f32⟩
  | .hbm, ⟨52, _⟩ => ⟨S4x2x3x2048x2304, .f32⟩
  | .hbm, ⟨53, _⟩ => ⟨S4x2x3x2048x2304, .f32⟩
  | .hbm, ⟨54, _⟩ => ⟨S4x2x3x2048x2304, .f32⟩
  | .hbm, ⟨55, _⟩ => ⟨S_, .f32⟩
  | .hbm, ⟨56, _⟩ => ⟨S4x2x3x2048, .f32⟩
  | .hbm, ⟨57, _⟩ => ⟨S4x2x3x2048x1, .f32⟩
  | .hbm, ⟨58, _⟩ => ⟨S4x2x3x2048x2304, .f32⟩
  | .hbm, ⟨59, _⟩ => ⟨S4x2x3x2048x2304, .f32⟩
  | .hbm, ⟨60, _⟩ => ⟨S4x2x64x3x2048, .f32⟩
  | .hbm, ⟨61, _⟩ => ⟨S4x2048x2x3x64, .f32⟩
  | .hbm, ⟨62, _⟩ => ⟨S4x2304x2x3x64, .f32⟩
  | .hbm, ⟨63, _⟩ => ⟨S9216x384, .f32⟩
  | .hbm, ⟨64, _⟩ => ⟨S4x2304x2x3x64, .f32⟩
  | .hbm, ⟨65, _⟩ => ⟨S4x2304x2x64, .f32⟩
  | .hbm, ⟨66, _⟩ => ⟨S4x256x2x3x64, .f32⟩
  | .hbm, ⟨67, _⟩ => ⟨S4x256x2x64, .f32⟩
  | .hbm, ⟨68, _⟩ => ⟨S4x2x256x256x3, .f32⟩
  | .hbm, ⟨69, _⟩ => ⟨S4x2x3x256x256, .f32⟩
  | .hbm, ⟨70, _⟩ => ⟨S_, .f32⟩
  | .hbm, ⟨71, _⟩ => ⟨S4x2x3x256x256, .f32⟩
  | .hbm, ⟨72, _⟩ => ⟨S4x2x3x256x256, .f32⟩
  | .hbm, ⟨73, _⟩ => ⟨S_, .f32⟩
  | .hbm, ⟨74, _⟩ => ⟨S4x2x3x256, .f32⟩
  | .hbm, ⟨75, _⟩ => ⟨S4x2x3x256x1, .f32⟩
  | .hbm, ⟨76, _⟩ => ⟨S4x2x3x256x256, .f32⟩
  | .hbm, ⟨77, _⟩ => ⟨S4x2x3x256x256, .f32⟩
  | .hbm, ⟨78, _⟩ => ⟨S4x2x3x256x256, .f32⟩
  | .hbm, ⟨79, _⟩ => ⟨S_, .f32⟩
  | .hbm, ⟨80, _⟩ => ⟨S4x2x3x256, .f32⟩
  | .hbm, ⟨81, _⟩ => ⟨S4x2x3x256x1, .f32⟩
  | .hbm, ⟨82, _⟩ => ⟨S4x2x3x256x1, .f32⟩
  | .hbm, ⟨83, _⟩ => ⟨S4x2x3x256x1, .f32⟩
  | .hbm, ⟨84, _⟩ => ⟨S4x2048x2x3x64, .f32⟩
  | .hbm, ⟨85, _⟩ => ⟨S4x2x2304x2048x3, .f32⟩
  | .hbm, ⟨86, _⟩ => ⟨S4x2x3x2048x2304, .f32⟩
  | .hbm, ⟨87, _⟩ => ⟨S_, .f32⟩
  | .hbm, ⟨88, _⟩ => ⟨S4x2x3x2048x2304, .f32⟩
  | .hbm, ⟨89, _⟩ => ⟨S4x2x3x2048x2304, .f32⟩
  | .hbm, ⟨90, _⟩ => ⟨S_, .f32⟩
  | .hbm, ⟨91, _⟩ => ⟨S4x2x3x2048, .f32⟩
  | .hbm, ⟨92, _⟩ => ⟨S4x2x3x2048x1, .f32⟩
  | .hbm, ⟨93, _⟩ => ⟨S4x2x3x2048x2304, .f32⟩
  | .hbm, ⟨94, _⟩ => ⟨S4x2x3x2048x2304, .f32⟩
  | .hbm, ⟨95, _⟩ => ⟨S4x2x3x2048x2304, .f32⟩
  | .hbm, ⟨96, _⟩ => ⟨S_, .f32⟩
  | .hbm, ⟨97, _⟩ => ⟨S4x2x3x2048, .f32⟩
  | .hbm, ⟨98, _⟩ => ⟨S4x2x3x2048x1, .f32⟩
  | .hbm, ⟨99, _⟩ => ⟨S4x2x3x2048x1, .f32⟩
  | .hbm, ⟨100, _⟩ => ⟨S4x2x3x2048x1, .f32⟩
  | .hbm, ⟨101, _⟩ => ⟨S4x2x3x2304x1, .f32⟩
  | .hbm, ⟨102, _⟩ => ⟨S4x2x3x18x128, .f32⟩
  | .hbm, ⟨103, _⟩ => ⟨S4x18x2x3x128, .f32⟩
  | .hbm, ⟨104, _⟩ => ⟨S72x768x1, .f32⟩
  | .hbm, ⟨105, _⟩ => ⟨S9216x384, .f32⟩
  | .hbm, ⟨106, _⟩ => ⟨S9216x128, .f32⟩
  | .hbm, ⟨107, _⟩ => ⟨S9216x128, .f32⟩
  | .local _ .vmem, ⟨0, _⟩ => ⟨S1x128x384, .bf16⟩
  | .local _ .vmem, ⟨1, _⟩ => ⟨S1x128x384, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S128x384, .bf16⟩
  | .local _ .vmem, ⟨7, _⟩ => ⟨S128x384, .bf16⟩
  | .local _ .vmem, ⟨8, _⟩ => ⟨S128x384, .f32⟩
  | .local _ .vmem, ⟨9, _⟩ => ⟨S128x384, .f32⟩
  | .local _ .vmem, ⟨10, _⟩ => ⟨S1x768x1, .f32⟩
  | .local _ .vmem, ⟨11, _⟩ => ⟨S1x768x1, .f32⟩
  | .local _ .vmem, ⟨12, _⟩ => ⟨S128x384, .f32⟩
  | .local _ .vmem, ⟨13, _⟩ => ⟨S128x384, .f32⟩
  | .local _ .vmem, ⟨14, _⟩ => ⟨S2304x128, .f32⟩
  | .local _ .vmem, ⟨15, _⟩ => ⟨S2304x128, .f32⟩
  | .local _ .vmem, ⟨16, _⟩ => ⟨S2304x128, .f32⟩
  | .local _ .vmem, ⟨17, _⟩ => ⟨S2304x128, .f32⟩
  | .local _ .vmem, ⟨18, _⟩ => ⟨S128x2304, .f32⟩
  | .local _ .vmem, ⟨19, _⟩ => ⟨S128x2304, .f32⟩
  | _, _ => ⟨S2x9216x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_10 : Ref sig .tc := ⟨.hbm, 87, rfl⟩
abbrev main_v72 : Ref sig .tc := ⟨.hbm, 88, rfl⟩
abbrev main_v73 : Ref sig .tc := ⟨.hbm, 89, rfl⟩
abbrev main_cst_11 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_12 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87_0 : Ref sig .tc := ⟨.hbm, 105, rfl⟩
abbrev main_v87_1 : Ref sig .tc := ⟨.hbm, 106, rfl⟩
abbrev main_v87_2 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 18], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg1 : BitVec 32 := BitVec.ofNat 32 (i 1).val
  let c17_i32 : BitVec 32 := 17#32
  let v9 : BitVec 1 := Scalar.cmpi .eq arg1 c17_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2304x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2x9216x384 : Shape := ⟨3, ![2, 9216, 384]⟩
abbrev S2x9216x128 : Shape := ⟨3, ![2, 9216, 128]⟩
abbrev S9216x384 : Shape := ⟨2, ![9216, 384]⟩
abbrev S1x9216x384 : Shape := ⟨3, ![1, 9216, 384]⟩
abbrev S1x9216x128 : Shape := ⟨3, ![1, 9216, 128]⟩
abbrev S9216x128 : Shape := ⟨2, ![9216, 128]⟩
abbrev S4x2304x2x3x64 : Shape := ⟨5, ![4, 2304, 2, 3, 64]⟩
abbrev S4x2304x2x64 : Shape := ⟨4, ![4, 2304, 2, 64]⟩
abbrev S4x256x2x3x64 : Shape := ⟨5, ![4, 256, 2, 3, 64]⟩
abbrev S4x256x2x64 : Shape := ⟨4, ![4, 256, 2, 64]⟩
abbrev S4x2x256x256x3 : Shape := ⟨5, ![4, 2, 256, 256, 3]⟩
abbrev S4x2x3x256x256 : Shape := ⟨5, ![4, 2, 3, 256, 256]⟩
abbrev S_ : Shape := ⟨0, ![]⟩
abbrev S4x2x3x256 : Shape := ⟨4, ![4, 2, 3, 256]⟩
abbrev S4x2x3x256x1 : Shape := ⟨5, ![4, 2, 3, 256, 1]⟩
abbrev S4x2x64x3x256 : Shape := ⟨5, ![4, 2, 64, 3, 256]⟩
abbrev S4x2048x2x3x64 : Shape := ⟨5, ![4, 2048, 2, 3, 64]⟩
abbrev S4x2x2304x2048x3 : Shape := ⟨5, ![4, 2, 2304, 2048, 3]⟩
abbrev S4x2x3x2048x2304 : Shape := ⟨5, ![4, 2, 3, 2048, 2304]⟩
abbrev S4x2x3x2048 : Shape := ⟨4, ![4, 2, 3, 2048]⟩
abbrev S4x2x3x2048x1 : Shape := ⟨5, ![4, 2, 3, 2048, 1]⟩
abbrev S4x2x64x3x2048 : Shape := ⟨5, ![4, 2, 64, 3, 2048]⟩
abbrev S4x2x64x2304 : Shape := ⟨4, ![4, 2, 64, 2304]⟩
abbrev S4x2x2048x3x64 : Shape := ⟨5, ![4, 2, 2048, 3, 64]⟩
abbrev S4x2x2304x64 : Shape := ⟨4, ![4, 2, 2304, 64]⟩
abbrev S4x2x64x256 : Shape := ⟨4, ![4, 2, 64, 256]⟩
abbrev S4x2x256x3x64 : Shape := ⟨5, ![4, 2, 256, 3, 64]⟩
abbrev S4x2x256x64 : Shape := ⟨4, ![4, 2, 256, 64]⟩

abbrev nBuf : Space → Nat
  | .hbm => 182
  | .vmem => 0
  | .smem => 0
  | _ => 0

abbrev hbmTy0_0 (i : Nat) : BufTy := match i % 128 with
  | 0 => ⟨S2x9216x384, .bf16⟩
  | 1 => ⟨S2x9216x128, .bf16⟩
  | 2 => ⟨S2x9216x128, .bf16⟩
  | 3 => ⟨S9216x384, .bf16⟩
  | 4 => ⟨S1x9216x384, .bf16⟩
  | 5 => ⟨S9216x384, .bf16⟩
  | 6 => ⟨S9216x384, .f32⟩
  | 7 => ⟨S1x9216x128, .bf16⟩
  | 8 => ⟨S9216x128, .bf16⟩
  | 9 => ⟨S9216x128, .f32⟩
  | 10 => ⟨S1x9216x128, .bf16⟩
  | 11 => ⟨S9216x128, .bf16⟩
  | 12 => ⟨S9216x128, .f32⟩
  | 13 => ⟨S4x2304x2x3x64, .f32⟩
  | 14 => ⟨S4x2304x2x64, .f32⟩
  | 15 => ⟨S4x2304x2x64, .f32⟩
  | 16 => ⟨S4x256x2x3x64, .f32⟩
  | 17 => ⟨S4x256x2x64, .f32⟩
  | 18 => ⟨S4x256x2x64, .f32⟩
  | 19 => ⟨S4x2x256x256x3, .f32⟩
  | 20 => ⟨S4x2x3x256x256, .f32⟩
  | 21 => ⟨S_, .f32⟩
  | 22 => ⟨S4x2x3x256x256, .f32⟩
  | 23 => ⟨S4x2x3x256x256, .f32⟩
  | 24 => ⟨S_, .f32⟩
  | 25 => ⟨S4x2x3x256, .f32⟩
  | 26 => ⟨S4x2x3x256x1, .f32⟩
  | 27 => ⟨S4x2x3x256x256, .f32⟩
  | 28 => ⟨S4x2x3x256x256, .i1⟩
  | 29 => ⟨S4x2x3x256x256, .f32⟩
  | 30 => ⟨S_, .f32⟩
  | 31 => ⟨S4x2x3x256, .f32⟩
  | 32 => ⟨S_, .f32⟩
  | 33 => ⟨S4x2x3x256, .f32⟩
  | 34 => ⟨S4x2x3x256, .f32⟩
  | 35 => ⟨S_, .f32⟩
  | 36 => ⟨S4x2x3x256, .f32⟩
  | 37 => ⟨S4x2x3x256, .i1⟩
  | 38 => ⟨S_, .f32⟩
  | 39 => ⟨S4x2x3x256, .f32⟩
  | 40 => ⟨S4x2x3x256, .i1⟩
  | 41 => ⟨S_, .f32⟩
  | 42 => ⟨S4x2x3x256, .f32⟩
  | 43 => ⟨S_, .f32⟩
  | 44 => ⟨S4x2x3x256, .f32⟩
  | 45 => ⟨S_, .f32⟩
  | 46 => ⟨S4x2x3x256, .f32⟩
  | 47 => ⟨S4x2x3x256, .f32⟩
  | 48 => ⟨S4x2x3x256, .f32⟩
  | 49 => ⟨S4x2x3x256x1, .f32⟩
  | 50 => ⟨S4x2x3x256x256, .f32⟩
  | 51 => ⟨S4x2x3x256x256, .f32⟩
  | 52 => ⟨S4x2x3x256x256, .f32⟩
  | 53 => ⟨S_, .f32⟩
  | 54 => ⟨S4x2x3x256, .f32⟩
  | 55 => ⟨S4x2x3x256x1, .f32⟩
  | 56 => ⟨S4x2x3x256x256, .f32⟩
  | 57 => ⟨S4x2x3x256x256, .f32⟩
  | 58 => ⟨S4x2x3x256x1, .f32⟩
  | 59 => ⟨S_, .f32⟩
  | 60 => ⟨S4x2x3x256x1, .f32⟩
  | 61 => ⟨S4x2x3x256x1, .f32⟩
  | 62 => ⟨S4x2x64x3x256, .f32⟩
  | 63 => ⟨S4x256x2x3x64, .f32⟩
  | 64 => ⟨S4x2048x2x3x64, .f32⟩
  | 65 => ⟨S4x2x2304x2048x3, .f32⟩
  | 66 => ⟨S4x2x3x2048x2304, .f32⟩
  | 67 => ⟨S_, .f32⟩
  | 68 => ⟨S4x2x3x2048x2304, .f32⟩
  | 69 => ⟨S4x2x3x2048x2304, .f32⟩
  | 70 => ⟨S_, .f32⟩
  | 71 => ⟨S4x2x3x2048, .f32⟩
  | 72 => ⟨S4x2x3x2048x1, .f32⟩
  | 73 => ⟨S4x2x3x2048x2304, .f32⟩
  | 74 => ⟨S4x2x3x2048x2304, .i1⟩
  | 75 => ⟨S4x2x3x2048x2304, .f32⟩
  | 76 => ⟨S_, .f32⟩
  | 77 => ⟨S4x2x3x2048, .f32⟩
  | 78 => ⟨S_, .f32⟩
  | 79 => ⟨S4x2x3x2048, .f32⟩
  | 80 => ⟨S4x2x3x2048, .f32⟩
  | 81 => ⟨S_, .f32⟩
  | 82 => ⟨S4x2x3x2048, .f32⟩
  | 83 => ⟨S4x2x3x2048, .i1⟩
  | 84 => ⟨S_, .f32⟩
  | 85 => ⟨S4x2x3x2048, .f32⟩
  | 86 => ⟨S4x2x3x2048, .i1⟩
  | 87 => ⟨S_, .f32⟩
  | 88 => ⟨S4x2x3x2048, .f32⟩
  | 89 => ⟨S_, .f32⟩
  | 90 => ⟨S4x2x3x2048, .f32⟩
  | 91 => ⟨S_, .f32⟩
  | 92 => ⟨S4x2x3x2048, .f32⟩
  | 93 => ⟨S4x2x3x2048, .f32⟩
  | 94 => ⟨S4x2x3x2048, .f32⟩
  | 95 => ⟨S4x2x3x2048x1, .f32⟩
  | 96 => ⟨S4x2x3x2048x2304, .f32⟩
  | 97 => ⟨S4x2x3x2048x2304, .f32⟩
  | 98 => ⟨S4x2x3x2048x2304, .f32⟩
  | 99 => ⟨S_, .f32⟩
  | 100 => ⟨S4x2x3x2048, .f32⟩
  | 101 => ⟨S4x2x3x2048x1, .f32⟩
  | 102 => ⟨S4x2x3x2048x2304, .f32⟩
  | 103 => ⟨S4x2x3x2048x2304, .f32⟩
  | 104 => ⟨S4x2x3x2048x1, .f32⟩
  | 105 => ⟨S_, .f32⟩
  | 106 => ⟨S4x2x3x2048x1, .f32⟩
  | 107 => ⟨S4x2x3x2048x1, .f32⟩
  | 108 => ⟨S4x2x64x3x2048, .f32⟩
  | 109 => ⟨S4x2048x2x3x64, .f32⟩
  | 110 => ⟨S4x2304x2x3x64, .f32⟩
  | 111 => ⟨S9216x384, .f32⟩
  | 112 => ⟨S9216x384, .f32⟩
  | 113 => ⟨S4x2304x2x3x64, .f32⟩
  | 114 => ⟨S4x256x2x3x64, .f32⟩
  | 115 => ⟨S4x2048x2x3x64, .f32⟩
  | 116 => ⟨S4x2x64x3x2048, .f32⟩
  | 117 => ⟨S4x2x3x2048x2304, .f32⟩
  | 118 => ⟨S4x2x64x2304, .f32⟩
  | 119 => ⟨S4x2304x2x64, .f32⟩
  | 120 => ⟨S4x2x3x2048x2304, .f32⟩
  | 121 => ⟨S4x2x3x2048x2304, .f32⟩
  | 122 => ⟨S4x2x3x2048x2304, .f32⟩
  | 123 => ⟨S_, .f32⟩
  | 124 => ⟨S4x2x3x2048, .f32⟩
  | 125 => ⟨S4x2x3x2048x1, .f32⟩
  | 126 => ⟨S4x2x3x2048x1, .f32⟩
  | 127 => ⟨S4x2x3x2048x2304, .f32⟩
  | _ => ⟨S2x9216x384, .bf16⟩

abbrev hbmTy0_1 (i : Nat) : BufTy := match i % 128 with
  | 0 => ⟨S4x2x3x2048x2304, .f32⟩
  | 1 => ⟨S_, .f32⟩
  | 2 => ⟨S4x2x3x2048, .f32⟩
  | 3 => ⟨S4x2x3x2048x2304, .f32⟩
  | 4 => ⟨S4x2x3x2048x2304, .f32⟩
  | 5 => ⟨S4x2x3x2048x2304, .f32⟩
  | 6 => ⟨S_, .f32⟩
  | 7 => ⟨S4x2x3x2048x2304, .f32⟩
  | 8 => ⟨S4x2x3x2048x2304, .f32⟩
  | 9 => ⟨S4x2x2304x2048x3, .f32⟩
  | 10 => ⟨S4x2x2048x3x64, .f32⟩
  | 11 => ⟨S4x2048x2x3x64, .f32⟩
  | 12 => ⟨S4x2x2304x64, .f32⟩
  | 13 => ⟨S4x2304x2x64, .f32⟩
  | 14 => ⟨S_, .f32⟩
  | 15 => ⟨S4x2304x2x3x64, .f32⟩
  | 16 => ⟨S4x2x64x3x256, .f32⟩
  | 17 => ⟨S4x2x3x256x256, .f32⟩
  | 18 => ⟨S4x2x64x256, .f32⟩
  | 19 => ⟨S4x256x2x64, .f32⟩
  | 20 => ⟨S4x2x3x256x256, .f32⟩
  | 21 => ⟨S4x2x3x256x256, .f32⟩
  | 22 => ⟨S4x2x3x256x256, .f32⟩
  | 23 => ⟨S_, .f32⟩
  | 24 => ⟨S4x2x3x256, .f32⟩
  | 25 => ⟨S4x2x3x256x1, .f32⟩
  | 26 => ⟨S4x2x3x256x1, .f32⟩
  | 27 => ⟨S4x2x3x256x256, .f32⟩
  | 28 => ⟨S4x2x3x256x256, .f32⟩
  | 29 => ⟨S_, .f32⟩
  | 30 => ⟨S4x2x3x256, .f32⟩
  | 31 => ⟨S4x2x3x256x256, .f32⟩
  | 32 => ⟨S4x2x3x256x256, .f32⟩
  | 33 => ⟨S4x2x3x256x256, .f32⟩
  | 34 => ⟨S_, .f32⟩
  | 35 => ⟨S4x2x3x256x256, .f32⟩
  | 36 => ⟨S4x2x3x256x256, .f32⟩
  | 37 => ⟨S4x2x256x256x3, .f32⟩
  | 38 => ⟨S4x2x256x3x64, .f32⟩
  | 39 => ⟨S4x256x2x3x64, .f32⟩
  | 40 => ⟨S4x2x256x64, .f32⟩
  | 41 => ⟨S4x256x2x64, .f32⟩
  | 42 => ⟨S_, .f32⟩
  | 43 => ⟨S4x2304x2x64, .f32⟩
  | 44 => ⟨S4x2304x2x64, .f32⟩
  | 45 => ⟨S_, .f32⟩
  | 46 => ⟨S4x2304x2x64, .f32⟩
  | 47 => ⟨S4x2304x2x64, .f32⟩
  | 48 => ⟨S_, .f32⟩
  | 49 => ⟨S4x2304x2x3x64, .f32⟩
  | 50 => ⟨S4x2304x2x3x64, .f32⟩
  | 51 => ⟨S9216x128, .f32⟩
  | 52 => ⟨S9216x128, .f32⟩
  | 53 => ⟨S9216x384, .f32⟩
  | _ => ⟨S2x9216x384, .bf16⟩

abbrev hbmTy (i : Nat) : BufTy := match i / 128 with
  | 0 => hbmTy0_0 i
  | 1 => hbmTy0_1 i
  | _ => ⟨S2x9216x384, .bf16⟩

abbrev bufTy : (tb : Table) → Fin (tcTables nBuf tb) → BufTy
  | .hbm, ⟨i, _⟩ => hbmTy i
  | _, _ => ⟨S2x9216x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_cst_16 : Ref sig .tc := ⟨.hbm, 87, rfl⟩
abbrev main_v66 : Ref sig .tc := ⟨.hbm, 88, rfl⟩
abbrev main_cst_17 : Ref sig .tc := ⟨.hbm, 89, rfl⟩
abbrev main_v67 : Ref sig .tc := ⟨.hbm, 90, rfl⟩
abbrev main_cst_18 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_20 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_21 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_22 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_23 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_24 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_25 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_26 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_27 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_28 : Ref sig .tc := ⟨.hbm, 170, rfl⟩
abbrev main_v137 : Ref sig .tc := ⟨.hbm, 171, rfl⟩
abbrev main_v138 : Ref sig .tc := ⟨.hbm, 172, rfl⟩
abbrev main_cst_29 : Ref sig .tc := ⟨.hbm, 173, rfl⟩
abbrev main_v139 : Ref sig .tc := ⟨.hbm, 174, rfl⟩
abbrev main_v140 : Ref sig .tc := ⟨.hbm, 175, rfl⟩
abbrev main_cst_30 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩

abbrev nD : Nat := 1
abbrev τ : Topo := Topo.v7x

variable {F : FTy → Type} [FloatOps F]
-- ==== Kernel2.lean ====
abbrev S9216x1024 : Shape := ⟨2, ![9216, 1024]⟩
abbrev S4x1024x1024 : Shape := ⟨3, ![4, 1024, 1024]⟩
abbrev S9216x4096 : Shape := ⟨2, ![9216, 4096]⟩
abbrev S1536x1024 : Shape := ⟨2, ![1536, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S4x1024x1024, .bf16⟩
  | .hbm, ⟨2, _⟩ => ⟨S9216x4096, .f32⟩
  | .hbm, ⟨3, _⟩ => ⟨S9216x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .bf16⟩
  | .local _ .vmem, ⟨7, _⟩ => ⟨S1536x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S9216x1024 : Shape := ⟨2, ![9216, 1024]⟩
abbrev S4x1024x1024 : Shape := ⟨3, ![4, 1024, 1024]⟩
abbrev S9216x4096 : Shape := ⟨2, ![9216, 4096]⟩
abbrev S_ : Shape := ⟨0, ![]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x1024x1024, .bf16⟩
  | .hbm, ⟨2, _⟩ => ⟨S9216x4096, .f32⟩
  | .hbm, ⟨3, _⟩ => ⟨S_, .f32⟩
  | .hbm, ⟨4, _⟩ => ⟨S9216x4096, .f32⟩
  | .hbm, ⟨5, _⟩ => ⟨S9216x4096, .f32⟩
  | .hbm, ⟨6, _⟩ => ⟨S_, .f32⟩
  | .hbm, ⟨7, _⟩ => ⟨S9216x4096, .f32⟩
  | .hbm, ⟨8, _⟩ => ⟨S9216x4096, .i1⟩
  | .hbm, ⟨9, _⟩ => ⟨S_, .f32⟩
  | .hbm, ⟨10, _⟩ => ⟨S9216x4096, .f32⟩
  | .hbm, ⟨11, _⟩ => ⟨S9216x4096, .f32⟩
  | .hbm, ⟨12, _⟩ => ⟨S_, .f32⟩
  | .hbm, ⟨13, _⟩ => ⟨S9216x4096, .f32⟩
  | .hbm, ⟨14, _⟩ => ⟨S9216x4096, .f32⟩
  | .hbm, ⟨15, _⟩ => ⟨S4x1024x1024, .f32⟩
  | .hbm, ⟨16, _⟩ => ⟨S4096x1024, .f32⟩
  | .hbm, ⟨17, _⟩ => ⟨S9216x1024, .f32⟩
  | .hbm, ⟨18, _⟩ => ⟨S9216x1024, .f32⟩
  | .hbm, ⟨19, _⟩ => ⟨S9216x4096, .f32⟩
  | .hbm, ⟨20, _⟩ => ⟨S9216x4096, .f32⟩
  | .hbm, ⟨21, _⟩ => ⟨S_, .f32⟩
  | .hbm, ⟨22, _⟩ => ⟨S9216x4096, .f32⟩
  | .hbm, ⟨23, _⟩ => ⟨S9216x4096, .f32⟩
  | .hbm, ⟨24, _⟩ => ⟨S9216x4096, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S9216x4096 : Shape := ⟨2, ![9216, 4096]⟩
abbrev S4x1024x1024 : Shape := ⟨3, ![4, 1024, 1024]⟩
abbrev S9216x1024 : Shape := ⟨2, ![9216, 1024]⟩
abbrev S2304x1024 : Shape := ⟨2, ![2304, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4x1024x1024, .bf16⟩
  | .hbm, ⟨2, _⟩ => ⟨S9216x1024, .f32⟩
  | .local _ .vmem, ⟨0, _⟩ => ⟨S2304x1024, .bf16⟩
  | .local _ .vmem, ⟨1, _⟩ => ⟨S2304x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2304x1024, .f32⟩
  | .local _ .vmem, ⟨5, _⟩ => ⟨S2304x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S9216x4096 : Shape := ⟨2, ![9216, 4096]⟩
abbrev S4x1024x1024 : Shape := ⟨3, ![4, 1024, 1024]⟩
abbrev S_ : Shape := ⟨0, ![]⟩
abbrev S9216x1024 : Shape := ⟨2, ![9216, 1024]⟩
abbrev S1024x4x1024 : Shape := ⟨3, ![1024, 4, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4x1024x1024, .bf16⟩
  | .hbm, ⟨2, _⟩ => ⟨S_, .f32⟩
  | .hbm, ⟨3, _⟩ => ⟨S9216x1024, .f32⟩
  | .hbm, ⟨4, _⟩ => ⟨S4x1024x1024, .f32⟩
  | .hbm, ⟨5, _⟩ => ⟨S1024x4x1024, .f32⟩
  | .hbm, ⟨6, _⟩ => ⟨S1024x4096, .f32⟩
  | .hbm, ⟨7, _⟩ => ⟨S9216x4096, .f32⟩
  | .hbm, ⟨8, _⟩ => ⟨S9216x4096, .f32⟩
  | .hbm, ⟨9, _⟩ => ⟨S9216x1024, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S9216x1024 : Shape := ⟨2, ![9216, 1024]⟩
abbrev S9216x4096 : Shape := ⟨2, ![9216, 4096]⟩
abbrev S4x1024x1024 : Shape := ⟨3, ![4, 1024, 1024]⟩
abbrev S2304x1024 : Shape := ⟨2, ![2304, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S9216x4096, .bf16⟩
  | .hbm, ⟨2, _⟩ => ⟨S4x1024x1024, .f32⟩
  | .hbm, ⟨3, _⟩ => ⟨S4x1024x1024, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S9216x1024 : Shape := ⟨2, ![9216, 1024]⟩
abbrev S9216x4096 : Shape := ⟨2, ![9216, 4096]⟩
abbrev S_ : Shape := ⟨0, ![]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x4096, .bf16⟩
  | .hbm, ⟨2, _⟩ => ⟨S_, .f32⟩
  | .hbm, ⟨3, _⟩ => ⟨S4x1024x1024, .f32⟩
  | .hbm, ⟨4, _⟩ => ⟨S9216x1024, .f32⟩
  | .hbm, ⟨5, _⟩ => ⟨S1024x4x1024, .f32⟩
  | .hbm, ⟨6, _⟩ => ⟨S1024x4096, .f32⟩
  | .hbm, ⟨7, _⟩ => ⟨S9216x4096, .f32⟩
  | .hbm, ⟨8, _⟩ => ⟨S9216x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | .hbm, ⟨13, _⟩ => ⟨S4x1024x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S9216x4096 : Shape := ⟨2, ![9216, 4096]⟩
abbrev S9216x1024 : Shape := ⟨2, ![9216, 1024]⟩
abbrev S4096x1024 : Shape := ⟨2, ![4096, 1024]⟩
abbrev S2304x1024 : Shape := ⟨2, ![2304, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x4096, .bf16⟩
  | .hbm, ⟨1, _⟩ => ⟨S9216x1024, .bf16⟩
  | .hbm, ⟨2, _⟩ => ⟨S4096x1024, .f32⟩
  | .hbm, ⟨3, _⟩ => ⟨S4096x1024, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S9216x4096 : Shape := ⟨2, ![9216, 4096]⟩
abbrev S9216x1024 : Shape := ⟨2, ![9216, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S9216x1024, .bf16⟩
  | .hbm, ⟨2, _⟩ => ⟨S_, .f32⟩
  | .hbm, ⟨3, _⟩ => ⟨S4096x1024, .f32⟩
  | .hbm, ⟨4, _⟩ => ⟨S9216x4096, .f32⟩
  | .hbm, ⟨5, _⟩ => ⟨S9216x1024, .f32⟩
  | .hbm, ⟨6, _⟩ => ⟨S9216x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S9216x4608 : Shape := ⟨2, ![9216, 4608]⟩
abbrev S4x1024x1152 : Shape := ⟨3, ![4, 1024, 1152]⟩
abbrev S9216x1024 : Shape := ⟨2, ![9216, 1024]⟩
abbrev S2304x1152 : Shape := ⟨2, ![2304, 1152]⟩
abbrev S1x1024x1152 : Shape := ⟨3, ![1, 1024, 1152]⟩
abbrev S2304x1024 : Shape := ⟨2, ![2304, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S9216x4608, .bf16⟩
  | .hbm, ⟨1, _⟩ => ⟨S4x1024x1152, .bf16⟩
  | .hbm, ⟨2, _⟩ => ⟨S9216x1024, .f32⟩
  | .local _ .vmem, ⟨0, _⟩ => ⟨S2304x1152, .bf16⟩
  | .local _ .vmem, ⟨1, _⟩ => ⟨S2304x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S2304x1024, .f32⟩
  | .local _ .vmem, ⟨5, _⟩ => ⟨S2304x1024, .f32⟩
  | _, _ => ⟨S9216x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S9216x4608 : Shape := ⟨2, ![9216, 4608]⟩
abbrev S4x1024x1152 : Shape := ⟨3, ![4, 1024, 1152]⟩
abbrev S_ : Shape := ⟨0, ![]⟩
abbrev S9216x1024 : Shape := ⟨2, ![9216, 1024]⟩
abbrev S1024x4x1152 : Shape := ⟨3, ![1024, 4, 1152]⟩
abbrev S1024x4608 : Shape := ⟨2, ![1024, 4608]⟩

abbrev nBuf : Space → Nat
  | .hbm => 10
  | .vmem => 0
  | .smem => 0
  | _ => 0

abbrev bufTy : (tb : Table) → Fin (tcTables nBuf tb) → BufTy
  | .hbm, ⟨0, _⟩ => ⟨S9216x4608, .bf16⟩
  | .hbm, ⟨1, _⟩ => ⟨S4x1024x1152, .bf16⟩
  | .hbm, ⟨2, _⟩ => ⟨S_, .f32⟩
  | .hbm, ⟨3, _⟩ => ⟨S9216x1024, .f32⟩
  | .hbm, ⟨4, _⟩ => ⟨S4x1024x1152, .f32⟩
  | .hbm, ⟨5, _⟩ => ⟨S1024x4x1152, .f32⟩
  | .hbm, ⟨6, _⟩ => ⟨S1024x4608, .f32⟩
  | .hbm, ⟨7, _⟩ => ⟨S9216x4608, .f32⟩
  | .hbm, ⟨8, _⟩ => ⟨S9216x4608, .f32⟩
  | .hbm, ⟨9, _⟩ => ⟨S9216x1024, .f32⟩
  | _, _ => ⟨S9216x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S9216x1024 : Shape := ⟨2, ![9216, 1024]⟩
abbrev S9216x4608 : Shape := ⟨2, ![9216, 4608]⟩
abbrev S4x1024x1152 : Shape := ⟨3, ![4, 1024, 1152]⟩
abbrev S2304x1024 : Shape := ⟨2, ![2304, 1024]⟩
abbrev S2304x1152 : Shape := ⟨2, ![2304, 1152]⟩
abbrev S1x1024x1152 : Shape := ⟨3, ![1, 1024, 1152]⟩
abbrev S1024x1152 : Shape := ⟨2, ![1024, 1152]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S9216x4608, .bf16⟩
  | .hbm, ⟨2, _⟩ => ⟨S4x1024x1152, .f32⟩
  | .hbm, ⟨3, _⟩ => ⟨S4x1024x1152, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1152, .bf16⟩
  | .local _ .vmem, ⟨3, _⟩ => ⟨S2304x1152, .bf16⟩
  | .local _ .vmem, ⟨4, _⟩ => ⟨S1x1024x1152, .f32⟩
  | .local _ .vmem, ⟨5, _⟩ => ⟨S1x1024x1152, .f32⟩
  | .local _ .vmem, ⟨6, _⟩ => ⟨S1x1024x1152, .bf16⟩
  | .local _ .vmem, ⟨7, _⟩ => ⟨S1x1024x1152, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S9216x1024 : Shape := ⟨2, ![9216, 1024]⟩
abbrev S9216x4608 : Shape := ⟨2, ![9216, 4608]⟩
abbrev S_ : Shape := ⟨0, ![]⟩
abbrev S4x1024x1152 : Shape := ⟨3, ![4, 1024, 1152]⟩
abbrev S1024x4x1152 : Shape := ⟨3, ![1024, 4, 1152]⟩
abbrev S1024x4608 : Shape := ⟨2, ![1024, 4608]⟩
abbrev S4608x1024 : Shape := ⟨2, ![4608, 1024]⟩

abbrev nBuf : Space → Nat
  | .hbm => 14
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x4608, .bf16⟩
  | .hbm, ⟨2, _⟩ => ⟨S_, .f32⟩
  | .hbm, ⟨3, _⟩ => ⟨S4x1024x1152, .f32⟩
  | .hbm, ⟨4, _⟩ => ⟨S9216x1024, .f32⟩
  | .hbm, ⟨5, _⟩ => ⟨S1024x4x1152, .f32⟩
  | .hbm, ⟨6, _⟩ => ⟨S1024x4608, .f32⟩
  | .hbm, ⟨7, _⟩ => ⟨S9216x4608, .f32⟩
  | .hbm, ⟨8, _⟩ => ⟨S9216x4608, .f32⟩
  | .hbm, ⟨9, _⟩ => ⟨S4608x1024, .f32⟩
  | .hbm, ⟨10, _⟩ => ⟨S1024x4608, .f32⟩
  | .hbm, ⟨11, _⟩ => ⟨S1024x4x1152, .f32⟩
  | .hbm, ⟨12, _⟩ => ⟨S4x1024x1152, .f32⟩
  | .hbm, ⟨13, _⟩ => ⟨S4x1024x1152, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S9216x1024 : Shape := ⟨2, ![9216, 1024]⟩
abbrev S4x1024x1152 : Shape := ⟨3, ![4, 1024, 1152]⟩
abbrev S9216x4608 : Shape := ⟨2, ![9216, 4608]⟩
abbrev S2304x1024 : Shape := ⟨2, ![2304, 1024]⟩
abbrev S1x1024x1152 : Shape := ⟨3, ![1, 1024, 1152]⟩
abbrev S2304x1152 : Shape := ⟨2, ![2304, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S4x1024x1152, .bf16⟩
  | .hbm, ⟨2, _⟩ => ⟨S9216x4608, .f32⟩
  | .local _ .vmem, ⟨0, _⟩ => ⟨S2304x1024, .bf16⟩
  | .local _ .vmem, ⟨1, _⟩ => ⟨S2304x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S2304x1152, .f32⟩
  | .local _ .vmem, ⟨5, _⟩ => ⟨S2304x1152, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S9216x1024 : Shape := ⟨2, ![9216, 1024]⟩
abbrev S4x1024x1152 : Shape := ⟨3, ![4, 1024, 1152]⟩
abbrev S1024x4x1152 : Shape := ⟨3, ![1024, 4, 1152]⟩
abbrev S1024x4608 : Shape := ⟨2, ![1024, 4608]⟩
abbrev S9216x4608 : Shape := ⟨2, ![9216, 4608]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x1024x1152, .bf16⟩
  | .hbm, ⟨2, _⟩ => ⟨S9216x1024, .f32⟩
  | .hbm, ⟨3, _⟩ => ⟨S4x1024x1152, .f32⟩
  | .hbm, ⟨4, _⟩ => ⟨S1024x4x1152, .f32⟩
  | .hbm, ⟨5, _⟩ => ⟨S1024x4608, .f32⟩
  | .hbm, ⟨6, _⟩ => ⟨S9216x4608, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S9216x1024 : Shape := ⟨2, ![9216, 1024]⟩
abbrev S4x1024x1024 : Shape := ⟨3, ![4, 1024, 1024]⟩
abbrev S9216x4096 : Shape := ⟨2, ![9216, 4096]⟩
abbrev S1536x1024 : Shape := ⟨2, ![1536, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S4x1024x1024, .bf16⟩
  | .hbm, ⟨2, _⟩ => ⟨S9216x4096, .f32⟩
  | .hbm, ⟨3, _⟩ => ⟨S9216x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .bf16⟩
  | .local _ .vmem, ⟨7, _⟩ => ⟨S1536x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S9216x1024 : Shape := ⟨2, ![9216, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S9216x4096 : Shape := ⟨2, ![9216, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x1024x1024, .bf16⟩
  | .hbm, ⟨2, _⟩ => ⟨S9216x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S9216x4096, .f32⟩
  | .hbm, ⟨7, _⟩ => ⟨S_, .f32⟩
  | .hbm, ⟨8, _⟩ => ⟨S9216x4096, .f32⟩
  | .hbm, ⟨9, _⟩ => ⟨S9216x4096, .f32⟩
  | .hbm, ⟨10, _⟩ => ⟨S9216x4096, .f32⟩
  | .hbm, ⟨11, _⟩ => ⟨S9216x4096, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel10.lean ====
abbrev S9216x4096 : Shape := ⟨2, ![9216, 4096]⟩
abbrev S4x1024x1024 : Shape := ⟨3, ![4, 1024, 1024]⟩
abbrev S9216x1024 : Shape := ⟨2, ![9216, 1024]⟩
abbrev S2304x1024 : Shape := ⟨2, ![2304, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4x1024x1024, .bf16⟩
  | .hbm, ⟨2, _⟩ => ⟨S9216x1024, .f32⟩
  | .local _ .vmem, ⟨0, _⟩ => ⟨S2304x1024, .bf16⟩
  | .local _ .vmem, ⟨1, _⟩ => ⟨S2304x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2304x1024, .f32⟩
  | .local _ .vmem, ⟨5, _⟩ => ⟨S2304x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S9216x4096 : Shape := ⟨2, ![9216, 4096]⟩
abbrev S4x1024x1024 : Shape := ⟨3, ![4, 1024, 1024]⟩
abbrev S4096x1024 : Shape := ⟨2, ![4096, 1024]⟩
abbrev S9216x1024 : Shape := ⟨2, ![9216, 1024]⟩

abbrev nBuf : Space → Nat
  | .hbm => 6
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4x1024x1024, .bf16⟩
  | .hbm, ⟨2, _⟩ => ⟨S9216x4096, .f32⟩
  | .hbm, ⟨3, _⟩ => ⟨S4x1024x1024, .f32⟩
  | .hbm, ⟨4, _⟩ => ⟨S4096x1024, .f32⟩
  | .hbm, ⟨5, _⟩ => ⟨S9216x1024, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S9216x1024 : Shape := ⟨2, ![9216, 1024]⟩
abbrev S4x256x1024 : Shape := ⟨3, ![4, 256, 1024]⟩
abbrev S2304x256 : Shape := ⟨2, ![2304, 256]⟩
abbrev S1x256x1024 : Shape := ⟨3, ![1, 256, 1024]⟩
abbrev S2304x1024 : Shape := ⟨2, ![2304, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S4x256x1024, .bf16⟩
  | .hbm, ⟨2, _⟩ => ⟨S9216x1024, .f32⟩
  | .local _ .vmem, ⟨0, _⟩ => ⟨S2304x256, .bf16⟩
  | .local _ .vmem, ⟨1, _⟩ => ⟨S2304x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S2304x1024, .f32⟩
  | .local _ .vmem, ⟨5, _⟩ => ⟨S2304x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S9216x1024 : Shape := ⟨2, ![9216, 1024]⟩
abbrev S4x256x1024 : Shape := ⟨3, ![4, 256, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x256x1024, .bf16⟩
  | .hbm, ⟨2, _⟩ => ⟨S9216x1024, .f32⟩
  | .hbm, ⟨3, _⟩ => ⟨S4x256x1024, .f32⟩
  | .hbm, ⟨4, _⟩ => ⟨S1024x1024, .f32⟩
  | .hbm, ⟨5, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S9216x1024 : Shape := ⟨2, ![9216, 1024]⟩
abbrev S4x256x1024 : Shape := ⟨3, ![4, 256, 1024]⟩
abbrev S2304x1024 : Shape := ⟨2, ![2304, 1024]⟩
abbrev S1x256x1024 : Shape := ⟨3, ![1, 256, 1024]⟩
abbrev S2304x256 : Shape := ⟨2, ![2304, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S4x256x1024, .bf16⟩
  | .hbm, ⟨2, _⟩ => ⟨S9216x1024, .f32⟩
  | .local _ .vmem, ⟨0, _⟩ => ⟨S2304x1024, .bf16⟩
  | .local _ .vmem, ⟨1, _⟩ => ⟨S2304x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S2304x256, .f32⟩
  | .local _ .vmem, ⟨5, _⟩ => ⟨S2304x256, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S9216x1024 : Shape := ⟨2, ![9216, 1024]⟩
abbrev S4x256x1024 : Shape := ⟨3, ![4, 256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x256x1024, .bf16⟩
  | .hbm, ⟨2, _⟩ => ⟨S_, .f32⟩
  | .hbm, ⟨3, _⟩ => ⟨S9216x1024, .f32⟩
  | .hbm, ⟨4, _⟩ => ⟨S4x256x1024, .f32⟩
  | .hbm, ⟨5, _⟩ => ⟨S1024x1024, .f32⟩
  | .hbm, ⟨6, _⟩ => ⟨S9216x1024, .f32⟩
  | .hbm, ⟨7, _⟩ => ⟨S9216x1024, .f32⟩
  | .hbm, ⟨8, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S9216x1024 : Shape := ⟨2, ![9216, 1024]⟩
abbrev S1024x1024 : Shape := ⟨2, ![1024, 1024]⟩
abbrev S2304x1024 : Shape := ⟨2, ![2304, 1024]⟩

abbrev nBuf : Space → Nat
  | .hbm => 4
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .f32⟩
  | .hbm, ⟨3, _⟩ => ⟨S1024x1024, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .f32⟩
  | .local _ .vmem, ⟨5, _⟩ => ⟨S1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference13Ideal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S_, .f32⟩
  | .hbm, ⟨3, _⟩ => ⟨S1024x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S9216x1024 : Shape := ⟨2, ![9216, 1024]⟩
abbrev S9216x384 : Shape := ⟨2, ![9216, 384]⟩
abbrev S9216x256 : Shape := ⟨2, ![9216, 256]⟩
abbrev S9216x4608 : Shape := ⟨2, ![9216, 4608]⟩
abbrev S4x384x256 : Shape := ⟨3, ![4, 384, 256]⟩
abbrev S4x256x256 : Shape := ⟨3, ![4, 256, 256]⟩
abbrev S1024x256 : Shape := ⟨2, ![1024, 256]⟩
abbrev S1024x384 : Shape := ⟨2, ![1024, 384]⟩
abbrev S1x384x256 : Shape := ⟨3, ![1, 384, 256]⟩
abbrev S1x256x256 : Shape := ⟨3, ![1, 256, 256]⟩
abbrev S384x256 : Shape := ⟨2, ![384, 256]⟩
abbrev S256x256 : Shape := ⟨2, ![256, 256]⟩

abbrev nBuf : Space → Nat
  | .hbm => 14
  | .vmem => 32
  | .smem => 0
  | _ => 0

abbrev bufTy : (tb : Table) → Fin (tcTables nBuf tb) → BufTy
  | .hbm, ⟨0, _⟩ => ⟨S9216x1024, .f32⟩
  | .hbm, ⟨1, _⟩ => ⟨S9216x384, .bf16⟩
  | .hbm, ⟨2, _⟩ => ⟨S9216x256, .bf16⟩
  | .hbm, ⟨3, _⟩ => ⟨S9216x384, .bf16⟩
  | .hbm, ⟨4, _⟩ => ⟨S9216x4608, .f32⟩
  | .hbm, ⟨5, _⟩ => ⟨S4x384x256, .bf16⟩
  | .hbm, ⟨6, _⟩ => ⟨S4x256x256, .bf16⟩
  | .hbm, ⟨7, _⟩ => ⟨S4x384x256, .bf16⟩
  | .hbm, ⟨8, _⟩ => ⟨S9216x1024, .bf16⟩
  | .hbm, ⟨9, _⟩ => ⟨S9216x1024, .bf16⟩
  | .hbm, ⟨10, _⟩ => ⟨S9216x1024, .bf16⟩
  | .hbm, ⟨11, _⟩ => ⟨S9216x1024, .bf16⟩
  | .hbm, ⟨12, _⟩ => ⟨S9216x1024, .bf16⟩
  | .hbm, ⟨13, _⟩ => ⟨S9216x1024, .bf16⟩
  | .local _ .vmem, ⟨0, _⟩ => ⟨S1024x256, .f32⟩
  | .local _ .vmem, ⟨1, _⟩ => ⟨S1024x256, .f32⟩
  | .local _ .vmem, ⟨2, _⟩ => ⟨S1024x384, .bf16⟩
  | .local _ .vmem, ⟨3, _⟩ => ⟨S1024x384, .bf16⟩
  | .local _ .vmem, ⟨4, _⟩ => ⟨S1024x256, .bf16⟩
  | .local _ .vmem, ⟨5, _⟩ => ⟨S1024x256, .bf16⟩
  | .local _ .vmem, ⟨6, _⟩ => ⟨S1024x384, .bf16⟩
  | .local _ .vmem, ⟨7, _⟩ => ⟨S1024x384, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1x384x256, .bf16⟩
  | .local _ .vmem, ⟨15, _⟩ => ⟨S1x384x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x384x256, .bf16⟩
  | .local _ .vmem, ⟨19, _⟩ => ⟨S1x384x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x256, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x384x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference14Ideal.lean ====
abbrev S9216x1024 : Shape := ⟨2, ![9216, 1024]⟩
abbrev S9216x384 : Shape := ⟨2, ![9216, 384]⟩
abbrev S9216x256 : Shape := ⟨2, ![9216, 256]⟩
abbrev S9216x4608 : Shape := ⟨2, ![9216, 4608]⟩
abbrev S4x384x256 : Shape := ⟨3, ![4, 384, 256]⟩
abbrev S4x256x256 : Shape := ⟨3, ![4, 256, 256]⟩
abbrev S384x4x256 : Shape := ⟨3, ![384, 4, 256]⟩
abbrev S384x1024 : Shape := ⟨2, ![384, 1024]⟩
abbrev S256x4x256 : Shape := ⟨3, ![256, 4, 256]⟩
abbrev S256x1024 : Shape := ⟨2, ![256, 1024]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x384, .bf16⟩
  | .hbm, ⟨2, _⟩ => ⟨S9216x256, .bf16⟩
  | .hbm, ⟨3, _⟩ => ⟨S9216x384, .bf16⟩
  | .hbm, ⟨4, _⟩ => ⟨S9216x4608, .f32⟩
  | .hbm, ⟨5, _⟩ => ⟨S4x384x256, .bf16⟩
  | .hbm, ⟨6, _⟩ => ⟨S4x256x256, .bf16⟩
  | .hbm, ⟨7, _⟩ => ⟨S4x384x256, .bf16⟩
  | .hbm, ⟨8, _⟩ => ⟨S9216x384, .f32⟩
  | .hbm, ⟨9, _⟩ => ⟨S4x384x256, .f32⟩
  | .hbm, ⟨10, _⟩ => ⟨S384x4x256, .f32⟩
  | .hbm, ⟨11, _⟩ => ⟨S384x1024, .f32⟩
  | .hbm, ⟨12, _⟩ => ⟨S9216x1024, .f32⟩
  | .hbm, ⟨13, _⟩ => ⟨S9216x256, .f32⟩
  | .hbm, ⟨14, _⟩ => ⟨S4x256x256, .f32⟩
  | .hbm, ⟨15, _⟩ => ⟨S256x4x256, .f32⟩
  | .hbm, ⟨16, _⟩ => ⟨S256x1024, .f32⟩
  | .hbm, ⟨17, _⟩ => ⟨S9216x1024, .f32⟩
  | .hbm, ⟨18, _⟩ => ⟨S9216x384, .f32⟩
  | .hbm, ⟨19, _⟩ => ⟨S4x384x256, .f32⟩
  | .hbm, ⟨20, _⟩ => ⟨S384x4x256, .f32⟩
  | .hbm, ⟨21, _⟩ => ⟨S384x1024, .f32⟩
  | .hbm, ⟨22, _⟩ => ⟨S9216x1024, .f32⟩
  | .hbm, ⟨23, _⟩ => ⟨S9216x1024, .f32⟩
  | .hbm, ⟨24, _⟩ => ⟨S9216x1024, .f32⟩
  | .hbm, ⟨25, _⟩ => ⟨S9216x1024, .f32⟩
  | .hbm, ⟨26, _⟩ => ⟨S9216x1024, .f32⟩
  | .hbm, ⟨27, _⟩ => ⟨S9216x1024, .f32⟩
  | .hbm, ⟨28, _⟩ => ⟨S_, .f32⟩
  | .hbm, ⟨29, _⟩ => ⟨S9216x1024, .f32⟩
  | .hbm, ⟨30, _⟩ => ⟨S9216x1024, .f32⟩
  | .hbm, ⟨31, _⟩ => ⟨S_, .f32⟩
  | .hbm, ⟨32, _⟩ => ⟨S9216x1024, .f32⟩
  | .hbm, ⟨33, _⟩ => ⟨S9216x1024, .f32⟩
  | .hbm, ⟨34, _⟩ => ⟨S_, .f32⟩
  | .hbm, ⟨35, _⟩ => ⟨S9216x1024, .f32⟩
  | .hbm, ⟨36, _⟩ => ⟨S9216x1024, .f32⟩
  | .hbm, ⟨37, _⟩ => ⟨S9216x1024, .f32⟩
  | .hbm, ⟨38, _⟩ => ⟨S9216x1024, .f32⟩
  | .hbm, ⟨39, _⟩ => ⟨S9216x1024, .f32⟩
  | .hbm, ⟨40, _⟩ => ⟨S9216x1024, .f32⟩
  | .hbm, ⟨41, _⟩ => ⟨S_, .f32⟩
  | .hbm, ⟨42, _⟩ => ⟨S9216x1024, .f32⟩
  | .hbm, ⟨43, _⟩ => ⟨S9216x1024, .f32⟩
  | .hbm, ⟨44, _⟩ => ⟨S_, .f32⟩
  | .hbm, ⟨45, _⟩ => ⟨S9216x1024, .f32⟩
  | .hbm, ⟨46, _⟩ => ⟨S9216x1024, .f32⟩
  | .hbm, ⟨47, _⟩ => ⟨S_, .f32⟩
  | .hbm, ⟨48, _⟩ => ⟨S9216x1024, .f32⟩
  | .hbm, ⟨49, _⟩ => ⟨S9216x1024, .f32⟩
  | .hbm, ⟨50, _⟩ => ⟨S9216x1024, .f32⟩
  | .hbm, ⟨51, _⟩ => ⟨S9216x1024, .f32⟩
  | .hbm, ⟨52, _⟩ => ⟨S9216x1024, .f32⟩
  | .hbm, ⟨53, _⟩ => ⟨S9216x1024, .f32⟩
  | .hbm, ⟨54, _⟩ => ⟨S9216x1024, .f32⟩
  | .hbm, ⟨55, _⟩ => ⟨S_, .f32⟩
  | .hbm, ⟨56, _⟩ => ⟨S9216x1024, .f32⟩
  | .hbm, ⟨57, _⟩ => ⟨S9216x1024, .f32⟩
  | .hbm, ⟨58, _⟩ => ⟨S_, .f32⟩
  | .hbm, ⟨59, _⟩ => ⟨S9216x1024, .f32⟩
  | .hbm, ⟨60, _⟩ => ⟨S9216x1024, .f32⟩
  | .hbm, ⟨61, _⟩ => ⟨S_, .f32⟩
  | .hbm, ⟨62, _⟩ => ⟨S9216x1024, .f32⟩
  | .hbm, ⟨63, _⟩ => ⟨S9216x1024, .f32⟩
  | .hbm, ⟨64, _⟩ => ⟨S9216x1024, .f32⟩
  | .hbm, ⟨65, _⟩ => ⟨S9216x1024, .f32⟩
  | .hbm, ⟨66, _⟩ => ⟨S9216x1024, .f32⟩
  | .hbm, ⟨67, _⟩ => ⟨S9216x1024, .f32⟩
  | .hbm, ⟨68, _⟩ => ⟨S9216x1024, .f32⟩
  | .hbm, ⟨69, _⟩ => ⟨S9216x1024, .f32⟩
  | .hbm, ⟨70, _⟩ => ⟨S9216x1024, .f32⟩
  | .hbm, ⟨71, _⟩ => ⟨S9216x1024, .f32⟩
  | .hbm, ⟨72, _⟩ => ⟨S9216x1024, .f32⟩
  | .hbm, ⟨73, _⟩ => ⟨S9216x1024, .f32⟩
  | .hbm, ⟨74, _⟩ => ⟨S9216x1024, .f32⟩
  | .hbm, ⟨75, _⟩ => ⟨S9216x1024, .f32⟩
  | .hbm, ⟨76, _⟩ => ⟨S9216x1024, .f32⟩
  | .hbm, ⟨77, _⟩ => ⟨S9216x1024, .f32⟩
  | .hbm, ⟨78, _⟩ => ⟨S9216x1024, .bf16⟩
  | .hbm, ⟨79, _⟩ => ⟨S9216x1024, .bf16⟩
  | .hbm, ⟨80, _⟩ => ⟨S9216x1024, .bf16⟩
  | .hbm, ⟨81, _⟩ => ⟨S9216x1024, .bf16⟩
  | .hbm, ⟨82, _⟩ => ⟨S9216x1024, .bf16⟩
  | .hbm, ⟨83, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Kernel15.lean ====
abbrev S9216x384 : Shape := ⟨2, ![9216, 384]⟩
abbrev S9216x256 : Shape := ⟨2, ![9216, 256]⟩
abbrev S9216x4608 : Shape := ⟨2, ![9216, 4608]⟩
abbrev S4x384x256 : Shape := ⟨3, ![4, 384, 256]⟩
abbrev S4x256x256 : Shape := ⟨3, ![4, 256, 256]⟩
abbrev S9216x1024 : Shape := ⟨2, ![9216, 1024]⟩
abbrev S1024x384 : Shape := ⟨2, ![1024, 384]⟩
abbrev S1024x256 : Shape := ⟨2, ![1024, 256]⟩
abbrev S1x384x256 : Shape := ⟨3, ![1, 384, 256]⟩
abbrev S1x256x256 : Shape := ⟨3, ![1, 256, 256]⟩
abbrev S384x256 : Shape := ⟨2, ![384, 256]⟩
abbrev S256x256 : Shape := ⟨2, ![256, 256]⟩

abbrev nBuf : Space → Nat
  | .hbm => 8
  | .vmem => 20
  | .smem => 0
  | _ => 0

abbrev bufTy : (tb : Table) → Fin (tcTables nBuf tb) → BufTy
  | .hbm, ⟨0, _⟩ => ⟨S9216x384, .bf16⟩
  | .hbm, ⟨1, _⟩ => ⟨S9216x256, .bf16⟩
  | .hbm, ⟨2, _⟩ => ⟨S9216x384, .bf16⟩
  | .hbm, ⟨3, _⟩ => ⟨S9216x4608, .f32⟩
  | .hbm, ⟨4, _⟩ => ⟨S4x384x256, .bf16⟩
  | .hbm, ⟨5, _⟩ => ⟨S4x256x256, .bf16⟩
  | .hbm, ⟨6, _⟩ => ⟨S4x384x256, .bf16⟩
  | .hbm, ⟨7, _⟩ => ⟨S9216x1024, .bf16⟩
  | .local _ .vmem, ⟨0, _⟩ => ⟨S1024x384, .bf16⟩
  | .local _ .vmem, ⟨1, _⟩ => ⟨S1024x384, .bf16⟩
  | .local _ .vmem, ⟨2, _⟩ => ⟨S1024x256, .bf16⟩
  | .local _ .vmem, ⟨3, _⟩ => ⟨S1024x256, .bf16⟩
  | .local _ .vmem, ⟨4, _⟩ => ⟨S1024x384, .bf16⟩
  | .local _ .vmem, ⟨5, _⟩ => ⟨S1024x384, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1x384x256, .bf16⟩
  | .local _ .vmem, ⟨13, _⟩ => ⟨S1x384x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x384x256, .bf16⟩
  | .local _ .vmem, ⟨17, _⟩ => ⟨S1x384x256, .bf16⟩
  | .local _ .vmem, ⟨18, _⟩ => ⟨S1024x256, .bf16⟩
  | .local _ .vmem, ⟨19, _⟩ => ⟨S1024x256, .bf16⟩
  | _, _ => ⟨S9216x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference15Ideal.lean ====
abbrev S9216x384 : Shape := ⟨2, ![9216, 384]⟩
abbrev S9216x256 : Shape := ⟨2, ![9216, 256]⟩
abbrev S9216x4608 : Shape := ⟨2, ![9216, 4608]⟩
abbrev S4x384x256 : Shape := ⟨3, ![4, 384, 256]⟩
abbrev S4x256x256 : Shape := ⟨3, ![4, 256, 256]⟩
abbrev S384x4x256 : Shape := ⟨3, ![384, 4, 256]⟩
abbrev S384x1024 : Shape := ⟨2, ![384, 1024]⟩
abbrev S9216x1024 : Shape := ⟨2, ![9216, 1024]⟩
abbrev S256x4x256 : Shape := ⟨3, ![256, 4, 256]⟩
abbrev S256x1024 : Shape := ⟨2, ![256, 1024]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S9216x384, .bf16⟩
  | .hbm, ⟨1, _⟩ => ⟨S9216x256, .bf16⟩
  | .hbm, ⟨2, _⟩ => ⟨S9216x384, .bf16⟩
  | .hbm, ⟨3, _⟩ => ⟨S9216x4608, .f32⟩
  | .hbm, ⟨4, _⟩ => ⟨S4x384x256, .bf16⟩
  | .hbm, ⟨5, _⟩ => ⟨S4x256x256, .bf16⟩
  | .hbm, ⟨6, _⟩ => ⟨S4x384x256, .bf16⟩
  | .hbm, ⟨7, _⟩ => ⟨S9216x384, .f32⟩
  | .hbm, ⟨8, _⟩ => ⟨S4x384x256, .f32⟩
  | .hbm, ⟨9, _⟩ => ⟨S384x4x256, .f32⟩
  | .hbm, ⟨10, _⟩ => ⟨S384x1024, .f32⟩
  | .hbm, ⟨11, _⟩ => ⟨S9216x1024, .f32⟩
  | .hbm, ⟨12, _⟩ => ⟨S9216x256, .f32⟩
  | .hbm, ⟨13, _⟩ => ⟨S4x256x256, .f32⟩
  | .hbm, ⟨14, _⟩ => ⟨S256x4x256, .f32⟩
  | .hbm, ⟨15, _⟩ => ⟨S256x1024, .f32⟩
  | .hbm, ⟨16, _⟩ => ⟨S9216x1024, .f32⟩
  | .hbm, ⟨17, _⟩ => ⟨S9216x384, .f32⟩
  | .hbm, ⟨18, _⟩ => ⟨S4x384x256, .f32⟩
  | .hbm, ⟨19, _⟩ => ⟨S384x4x256, .f32⟩
  | .hbm, ⟨20, _⟩ => ⟨S384x1024, .f32⟩
  | .hbm, ⟨21, _⟩ => ⟨S9216x1024, .f32⟩
  | .hbm, ⟨22, _⟩ => ⟨S9216x1024, .f32⟩
  | .hbm, ⟨23, _⟩ => ⟨S9216x1024, .f32⟩
  | .hbm, ⟨24, _⟩ => ⟨S9216x1024, .f32⟩
  | .hbm, ⟨25, _⟩ => ⟨S9216x1024, .f32⟩
  | .hbm, ⟨26, _⟩ => ⟨S9216x1024, .f32⟩
  | .hbm, ⟨27, _⟩ => ⟨S_, .f32⟩
  | .hbm, ⟨28, _⟩ => ⟨S9216x1024, .f32⟩
  | .hbm, ⟨29, _⟩ => ⟨S9216x1024, .f32⟩
  | .hbm, ⟨30, _⟩ => ⟨S_, .f32⟩
  | .hbm, ⟨31, _⟩ => ⟨S9216x1024, .f32⟩
  | .hbm, ⟨32, _⟩ => ⟨S9216x1024, .f32⟩
  | .hbm, ⟨33, _⟩ => ⟨S9216x1024, .f32⟩
  | .hbm, ⟨34, _⟩ => ⟨S9216x1024, .f32⟩
  | .hbm, ⟨35, _⟩ => ⟨S9216x1024, .f32⟩
  | .hbm, ⟨36, _⟩ => ⟨S_, .f32⟩
  | .hbm, ⟨37, _⟩ => ⟨S9216x1024, .f32⟩
  | .hbm, ⟨38, _⟩ => ⟨S9216x1024, .f32⟩
  | .hbm, ⟨39, _⟩ => ⟨S_, .f32⟩
  | .hbm, ⟨40, _⟩ => ⟨S9216x1024, .f32⟩
  | .hbm, ⟨41, _⟩ => ⟨S9216x1024, .f32⟩
  | .hbm, ⟨42, _⟩ => ⟨S9216x1024, .f32⟩
  | .hbm, ⟨43, _⟩ => ⟨S9216x1024, .f32⟩
  | .hbm, ⟨44, _⟩ => ⟨S9216x1024, .f32⟩
  | .hbm, ⟨45, _⟩ => ⟨S9216x1024, .f32⟩
  | .hbm, ⟨46, _⟩ => ⟨S_, .f32⟩
  | .hbm, ⟨47, _⟩ => ⟨S9216x1024, .f32⟩
  | .hbm, ⟨48, _⟩ => ⟨S9216x1024, .f32⟩
  | .hbm, ⟨49, _⟩ => ⟨S_, .f32⟩
  | .hbm, ⟨50, _⟩ => ⟨S9216x1024, .f32⟩
  | .hbm, ⟨51, _⟩ => ⟨S9216x1024, .f32⟩
  | .hbm, ⟨52, _⟩ => ⟨S9216x1024, .f32⟩
  | .hbm, ⟨53, _⟩ => ⟨S9216x1024, .f32⟩
  | .hbm, ⟨54, _⟩ => ⟨S9216x1024, .bf16⟩
  | _, _ => ⟨S9216x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel16.lean ====
abbrev S9216x1024 : Shape := ⟨2, ![9216, 1024]⟩
abbrev S4x384x256 : Shape := ⟨3, ![4, 384, 256]⟩
abbrev S9216x384 : Shape := ⟨2, ![9216, 384]⟩
abbrev S2304x256 : Shape := ⟨2, ![2304, 256]⟩
abbrev S1x384x256 : Shape := ⟨3, ![1, 384, 256]⟩
abbrev S2304x384 : Shape := ⟨2, ![2304, 384]⟩
abbrev S384x256 : Shape := ⟨2, ![384, 256]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S4x384x256, .bf16⟩
  | .hbm, ⟨2, _⟩ => ⟨S9216x384, .bf16⟩
  | .local _ .vmem, ⟨0, _⟩ => ⟨S2304x256, .bf16⟩
  | .local _ .vmem, ⟨1, _⟩ => ⟨S2304x256, .bf16⟩
  | .local _ .vmem, ⟨2, _⟩ => ⟨S1x384x256, .bf16⟩
  | .local _ .vmem, ⟨3, _⟩ => ⟨S1x384x256, .bf16⟩
  | .local _ .vmem, ⟨4, _⟩ => ⟨S2304x384, .bf16⟩
  | .local _ .vmem, ⟨5, _⟩ => ⟨S2304x384, .bf16⟩
  | .local _ .vmem, ⟨6, _⟩ => ⟨S2304x384, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S9216x1024 : Shape := ⟨2, ![9216, 1024]⟩
abbrev S4x384x256 : Shape := ⟨3, ![4, 384, 256]⟩
abbrev S_ : Shape := ⟨0, ![]⟩
abbrev S9216x384 : Shape := ⟨2, ![9216, 384]⟩
abbrev S384x4x256 : Shape := ⟨3, ![384, 4, 256]⟩
abbrev S384x1024 : Shape := ⟨2, ![384, 1024]⟩

abbrev nBuf : Space → Nat
  | .hbm => 11
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x384x256, .bf16⟩
  | .hbm, ⟨2, _⟩ => ⟨S_, .f32⟩
  | .hbm, ⟨3, _⟩ => ⟨S9216x384, .f32⟩
  | .hbm, ⟨4, _⟩ => ⟨S4x384x256, .f32⟩
  | .hbm, ⟨5, _⟩ => ⟨S384x4x256, .f32⟩
  | .hbm, ⟨6, _⟩ => ⟨S384x1024, .f32⟩
  | .hbm, ⟨7, _⟩ => ⟨S9216x1024, .f32⟩
  | .hbm, ⟨8, _⟩ => ⟨S9216x1024, .f32⟩
  | .hbm, ⟨9, _⟩ => ⟨S9216x384, .f32⟩
  | .hbm, ⟨10, _⟩ => ⟨S9216x384, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S9216x1024 : Shape := ⟨2, ![9216, 1024]⟩
abbrev S4x256x256 : Shape := ⟨3, ![4, 256, 256]⟩
abbrev S9216x256 : Shape := ⟨2, ![9216, 256]⟩
abbrev S2304x256 : Shape := ⟨2, ![2304, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S4x256x256, .bf16⟩
  | .hbm, ⟨2, _⟩ => ⟨S9216x256, .f32⟩
  | .local _ .vmem, ⟨0, _⟩ => ⟨S2304x256, .bf16⟩
  | .local _ .vmem, ⟨1, _⟩ => ⟨S2304x256, .bf16⟩
  | .local _ .vmem, ⟨2, _⟩ => ⟨S1x256x256, .bf16⟩
  | .local _ .vmem, ⟨3, _⟩ => ⟨S1x256x256, .bf16⟩
  | .local _ .vmem, ⟨4, _⟩ => ⟨S2304x256, .f32⟩
  | .local _ .vmem, ⟨5, _⟩ => ⟨S2304x256, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S9216x1024 : Shape := ⟨2, ![9216, 1024]⟩
abbrev S4x256x256 : Shape := ⟨3, ![4, 256, 256]⟩
abbrev S_ : Shape := ⟨0, ![]⟩
abbrev S9216x256 : Shape := ⟨2, ![9216, 256]⟩
abbrev S256x4x256 : Shape := ⟨3, ![256, 4, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x256x256, .bf16⟩
  | .hbm, ⟨2, _⟩ => ⟨S_, .f32⟩
  | .hbm, ⟨3, _⟩ => ⟨S9216x256, .f32⟩
  | .hbm, ⟨4, _⟩ => ⟨S4x256x256, .f32⟩
  | .hbm, ⟨5, _⟩ => ⟨S256x4x256, .f32⟩
  | .hbm, ⟨6, _⟩ => ⟨S256x1024, .f32⟩
  | .hbm, ⟨7, _⟩ => ⟨S9216x1024, .f32⟩
  | .hbm, ⟨8, _⟩ => ⟨S9216x1024, .f32⟩
  | .hbm, ⟨9, _⟩ => ⟨S9216x256, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S9216x384 : Shape := ⟨2, ![9216, 384]⟩
abbrev S9216x1024 : Shape := ⟨2, ![9216, 1024]⟩
abbrev S4x384x256 : Shape := ⟨3, ![4, 384, 256]⟩
abbrev S2304x384 : Shape := ⟨2, ![2304, 384]⟩
abbrev S2304x256 : Shape := ⟨2, ![2304, 256]⟩
abbrev S1x384x256 : Shape := ⟨3, ![1, 384, 256]⟩
abbrev S384x256 : Shape := ⟨2, ![384, 256]⟩

abbrev nBuf : Space → Nat
  | .hbm => 4
  | .vmem => 8
  | .smem => 0
  | _ => 0

abbrev bufTy : (tb : Table) → Fin (tcTables nBuf tb) → BufTy
  | .hbm, ⟨0, _⟩ => ⟨S9216x384, .bf16⟩
  | .hbm, ⟨1, _⟩ => ⟨S9216x1024, .bf16⟩
  | .hbm, ⟨2, _⟩ => ⟨S4x384x256, .f32⟩
  | .hbm, ⟨3, _⟩ => ⟨S4x384x256, .bf16⟩
  | .local _ .vmem, ⟨0, _⟩ => ⟨S2304x384, .bf16⟩
  | .local _ .vmem, ⟨1, _⟩ => ⟨S2304x384, .bf16⟩
  | .local _ .vmem, ⟨2, _⟩ => ⟨S2304x256, .bf16⟩
  | .local _ .vmem, ⟨3, _⟩ => ⟨S2304x256, .bf16⟩
  | .local _ .vmem, ⟨4, _⟩ => ⟨S1x384x256, .f32⟩
  | .local _ .vmem, ⟨5, _⟩ => ⟨S1x384x256, .f32⟩
  | .local _ .vmem, ⟨6, _⟩ => ⟨S1x384x256, .bf16⟩
  | .local _ .vmem, ⟨7, _⟩ => ⟨S1x384x256, .bf16⟩
  | _, _ => ⟨S9216x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2304x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S9216x384 : Shape := ⟨2, ![9216, 384]⟩
abbrev S9216x1024 : Shape := ⟨2, ![9216, 1024]⟩
abbrev S_ : Shape := ⟨0, ![]⟩
abbrev S4x384x256 : Shape := ⟨3, ![4, 384, 256]⟩
abbrev S384x4x256 : Shape := ⟨3, ![384, 4, 256]⟩
abbrev S384x1024 : Shape := ⟨2, ![384, 1024]⟩
abbrev S1024x384 : Shape := ⟨2, ![1024, 384]⟩

abbrev nBuf : Space → Nat
  | .hbm => 14
  | .vmem => 0
  | .smem => 0
  | _ => 0

abbrev bufTy : (tb : Table) → Fin (tcTables nBuf tb) → BufTy
  | .hbm, ⟨0, _⟩ => ⟨S9216x384, .bf16⟩
  | .hbm, ⟨1, _⟩ => ⟨S9216x1024, .bf16⟩
  | .hbm, ⟨2, _⟩ => ⟨S_, .f32⟩
  | .hbm, ⟨3, _⟩ => ⟨S4x384x256, .f32⟩
  | .hbm, ⟨4, _⟩ => ⟨S9216x384, .f32⟩
  | .hbm, ⟨5, _⟩ => ⟨S384x4x256, .f32⟩
  | .hbm, ⟨6, _⟩ => ⟨S384x1024, .f32⟩
  | .hbm, ⟨7, _⟩ => ⟨S9216x1024, .f32⟩
  | .hbm, ⟨8, _⟩ => ⟨S9216x1024, .f32⟩
  | .hbm, ⟨9, _⟩ => ⟨S1024x384, .f32⟩
  | .hbm, ⟨10, _⟩ => ⟨S384x1024, .f32⟩
  | .hbm, ⟨11, _⟩ => ⟨S384x4x256, .f32⟩
  | .hbm, ⟨12, _⟩ => ⟨S4x384x256, .f32⟩
  | .hbm, ⟨13, _⟩ => ⟨S4x384x256, .bf16⟩
  | _, _ => ⟨S9216x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel19.lean ====
abbrev S9216x256 : Shape := ⟨2, ![9216, 256]⟩
abbrev S9216x1024 : Shape := ⟨2, ![9216, 1024]⟩
abbrev S4x256x256 : Shape := ⟨3, ![4, 256, 256]⟩
abbrev S2304x256 : Shape := ⟨2, ![2304, 256]⟩
abbrev S1x256x256 : Shape := ⟨3, ![1, 256, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S9216x256, .bf16⟩
  | .hbm, ⟨1, _⟩ => ⟨S9216x1024, .bf16⟩
  | .hbm, ⟨2, _⟩ => ⟨S4x256x256, .f32⟩
  | .hbm, ⟨3, _⟩ => ⟨S4x256x256, .bf16⟩
  | .local _ .vmem, ⟨0, _⟩ => ⟨S2304x256, .bf16⟩
  | .local _ .vmem, ⟨1, _⟩ => ⟨S2304x256, .bf16⟩
  | .local _ .vmem, ⟨2, _⟩ => ⟨S2304x256, .bf16⟩
  | .local _ .vmem, ⟨3, _⟩ => ⟨S2304x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .bf16⟩
  | .local _ .vmem, ⟨7, _⟩ => ⟨S1x256x256, .bf16⟩
  | _, _ => ⟨S9216x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S9216x256 : Shape := ⟨2, ![9216, 256]⟩
abbrev S9216x1024 : Shape := ⟨2, ![9216, 1024]⟩
abbrev S_ : Shape := ⟨0, ![]⟩
abbrev S4x256x256 : Shape := ⟨3, ![4, 256, 256]⟩
abbrev S256x4x256 : Shape := ⟨3, ![256, 4, 256]⟩
abbrev S256x1024 : Shape := ⟨2, ![256, 1024]⟩
abbrev S1024x256 : Shape := ⟨2, ![1024, 256]⟩

abbrev nBuf : Space → Nat
  | .hbm => 14
  | .vmem => 0
  | .smem => 0
  | _ => 0

abbrev bufTy : (tb : Table) → Fin (tcTables nBuf tb) → BufTy
  | .hbm, ⟨0, _⟩ => ⟨S9216x256, .bf16⟩
  | .hbm, ⟨1, _⟩ => ⟨S9216x1024, .bf16⟩
  | .hbm, ⟨2, _⟩ => ⟨S_, .f32⟩
  | .hbm, ⟨3, _⟩ => ⟨S4x256x256, .f32⟩
  | .hbm, ⟨4, _⟩ => ⟨S9216x256, .f32⟩
  | .hbm, ⟨5, _⟩ => ⟨S256x4x256, .f32⟩
  | .hbm, ⟨6, _⟩ => ⟨S256x1024, .f32⟩
  | .hbm, ⟨7, _⟩ => ⟨S9216x1024, .f32⟩
  | .hbm, ⟨8, _⟩ => ⟨S9216x1024, .f32⟩
  | .hbm, ⟨9, _⟩ => ⟨S1024x256, .f32⟩
  | .hbm, ⟨10, _⟩ => ⟨S256x1024, .f32⟩
  | .hbm, ⟨11, _⟩ => ⟨S256x4x256, .f32⟩
  | .hbm, ⟨12, _⟩ => ⟨S4x256x256, .f32⟩
  | .hbm, ⟨13, _⟩ => ⟨S4x256x256, .bf16⟩
  | _, _ => ⟨S9216x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel20.lean ====
abbrev S2x9216x384 : Shape := ⟨3, ![2, 9216, 384]⟩
abbrev S2x9216x128 : Shape := ⟨3, ![2, 9216, 128]⟩
abbrev S9216x384 : Shape := ⟨2, ![9216, 384]⟩
abbrev S72x768x1 : Shape := ⟨3, ![72, 768, 1]⟩
abbrev S1x128x384 : Shape := ⟨3, ![1, 128, 384]⟩
abbrev S1x2304x128 : Shape := ⟨3, ![1, 2304, 128]⟩
abbrev S128x384 : Shape := ⟨2, ![128, 384]⟩
abbrev S1x768x1 : Shape := ⟨3, ![1, 768, 1]⟩
abbrev S1x128x128 : Shape := ⟨3, ![1, 128, 128]⟩
abbrev S128x128 : Shape := ⟨2, ![128, 128]⟩
abbrev S384x128 : Shape := ⟨2, ![384, 128]⟩
abbrev S384x1 : Shape := ⟨2, ![384, 1]⟩
abbrev S1x256x128 : Shape := ⟨3, ![1, 256, 128]⟩
abbrev S256x128 : Shape := ⟨2, ![256, 128]⟩
abbrev S384x256 : Shape := ⟨2, ![384, 256]⟩
abbrev S384 : Shape := ⟨1, ![384]⟩
abbrev S1x384x1 : Shape := ⟨3, ![1, 384, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x9216x384, .bf16⟩
  | .hbm, ⟨1, _⟩ => ⟨S2x9216x128, .bf16⟩
  | .hbm, ⟨2, _⟩ => ⟨S2x9216x128, .bf16⟩
  | .hbm, ⟨3, _⟩ => ⟨S9216x384, .bf16⟩
  | .hbm, ⟨4, _⟩ => ⟨S9216x384, .f32⟩
  | .hbm, ⟨5, _⟩ => ⟨S72x768x1, .f32⟩
  | .local _ .vmem, ⟨0, _⟩ => ⟨S1x128x384, .bf16⟩
  | .local _ .vmem, ⟨1, _⟩ => ⟨S1x128x384, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S128x384, .bf16⟩
  | .local _ .vmem, ⟨7, _⟩ => ⟨S128x384, .bf16⟩
  | .local _ .vmem, ⟨8, _⟩ => ⟨S128x384, .f32⟩
  | .local _ .vmem, ⟨9, _⟩ => ⟨S128x384, .f32⟩
  | .local _ .vmem, ⟨10, _⟩ => ⟨S1x768x1, .f32⟩
  | .local _ .vmem, ⟨11, _⟩ => ⟨S1x768x1, .f32⟩
  | _, _ => ⟨S2x9216x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 18], ![false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c2_i32_0 : BitVec 32 := 2#32
  let v3 : BitVec 1 := Scalar.cmpi .sge arg1 c2_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference20Ideal.lean ====
abbrev S2x9216x384 : Shape := ⟨3, ![2, 9216, 384]⟩
abbrev S2x9216x128 : Shape := ⟨3, ![2, 9216, 128]⟩
abbrev S1x9216x384 : Shape := ⟨3, ![1, 9216, 384]⟩
abbrev S9216x384 : Shape := ⟨2, ![9216, 384]⟩
abbrev S1x9216x128 : Shape := ⟨3, ![1, 9216, 128]⟩
abbrev S9216x128 : Shape := ⟨2, ![9216, 128]⟩
abbrev S4x2304x2x3x64 : Shape := ⟨5, ![4, 2304, 2, 3, 64]⟩
abbrev S4x2304x2x64 : Shape := ⟨4, ![4, 2304, 2, 64]⟩
abbrev S4x256x2x3x64 : Shape := ⟨5, ![4, 256, 2, 3, 64]⟩
abbrev S4x256x2x64 : Shape := ⟨4, ![4, 256, 2, 64]⟩
abbrev S4x2x256x256x3 : Shape := ⟨5, ![4, 2, 256, 256, 3]⟩
abbrev S4x2x3x256x256 : Shape := ⟨5, ![4, 2, 3, 256, 256]⟩
abbrev S_ : Shape := ⟨0, ![]⟩
abbrev S4x2x3x256 : Shape := ⟨4, ![4, 2, 3, 256]⟩
abbrev S4x2x3x256x1 : Shape := ⟨5, ![4, 2, 3, 256, 1]⟩
abbrev S4x2x64x3x256 : Shape := ⟨5, ![4, 2, 64, 3, 256]⟩
abbrev S4x2048x2x3x64 : Shape := ⟨5, ![4, 2048, 2, 3, 64]⟩
abbrev S4x2x2304x2048x3 : Shape := ⟨5, ![4, 2, 2304, 2048, 3]⟩
abbrev S4x2x3x2048x2304 : Shape := ⟨5, ![4, 2, 3, 2048, 2304]⟩
abbrev S4x2x3x2048 : Shape := ⟨4, ![4, 2, 3, 2048]⟩
abbrev S4x2x3x2048x1 : Shape := ⟨5, ![4, 2, 3, 2048, 1]⟩
abbrev S4x2x64x3x2048 : Shape := ⟨5, ![4, 2, 64, 3, 2048]⟩
abbrev S4x2x3x2304x1 : Shape := ⟨5, ![4, 2, 3, 2304, 1]⟩
abbrev S4x2x3x18x128 : Shape := ⟨5, ![4, 2, 3, 18, 128]⟩
abbrev S4x18x2x3x128 : Shape := ⟨5, ![4, 18, 2, 3, 128]⟩
abbrev S72x768x1 : Shape := ⟨3, ![72, 768, 1]⟩

abbrev nBuf : Space → Nat
  | .hbm => 105
  | .vmem => 0
  | .smem => 0
  | _ => 0

abbrev bufTy : (tb : Table) → Fin (tcTables nBuf tb) → BufTy
  | .hbm, ⟨0, _⟩ => ⟨S2x9216x384, .bf16⟩
  | .hbm, ⟨1, _⟩ => ⟨S2x9216x128, .bf16⟩
  | .hbm, ⟨2, _⟩ => ⟨S2x9216x128, .bf16⟩
  | .hbm, ⟨3, _⟩ => ⟨S1x9216x384, .bf16⟩
  | .hbm, ⟨4, _⟩ => ⟨S9216x384, .bf16⟩
  | .hbm, ⟨5, _⟩ => ⟨S9216x384, .f32⟩
  | .hbm, ⟨6, _⟩ => ⟨S1x9216x128, .bf16⟩
  | .hbm, ⟨7, _⟩ => ⟨S9216x128, .bf16⟩
  | .hbm, ⟨8, _⟩ => ⟨S9216x128, .f32⟩
  | .hbm, ⟨9, _⟩ => ⟨S1x9216x128, .bf16⟩
  | .hbm, ⟨10, _⟩ => ⟨S9216x128, .bf16⟩
  | .hbm, ⟨11, _⟩ => ⟨S9216x128, .f32⟩
  | .hbm, ⟨12, _⟩ => ⟨S4x2304x2x3x64, .f32⟩
  | .hbm, ⟨13, _⟩ => ⟨S4x2304x2x64, .f32⟩
  | .hbm, ⟨14, _⟩ => ⟨S4x2304x2x64, .f32⟩
  | .hbm, ⟨15, _⟩ => ⟨S4x256x2x3x64, .f32⟩
  | .hbm, ⟨16, _⟩ => ⟨S4x256x2x64, .f32⟩
  | .hbm, ⟨17, _⟩ => ⟨S4x256x2x64, .f32⟩
  | .hbm, ⟨18, _⟩ => ⟨S4x2x256x256x3, .f32⟩
  | .hbm, ⟨19, _⟩ => ⟨S4x2x3x256x256, .f32⟩
  | .hbm, ⟨20, _⟩ => ⟨S_, .f32⟩
  | .hbm, ⟨21, _⟩ => ⟨S4x2x3x256x256, .f32⟩
  | .hbm, ⟨22, _⟩ => ⟨S4x2x3x256x256, .f32⟩
  | .hbm, ⟨23, _⟩ => ⟨S_, .f32⟩
  | .hbm, ⟨24, _⟩ => ⟨S4x2x3x256, .f32⟩
  | .hbm, ⟨25, _⟩ => ⟨S_, .f32⟩
  | .hbm, ⟨26, _⟩ => ⟨S4x2x3x256, .f32⟩
  | .hbm, ⟨27, _⟩ => ⟨S4x2x3x256, .f32⟩
  | .hbm, ⟨28, _⟩ => ⟨S4x2x3x256x1, .f32⟩
  | .hbm, ⟨29, _⟩ => ⟨S4x2x3x256x256, .f32⟩
  | .hbm, ⟨30, _⟩ => ⟨S4x2x3x256x256, .f32⟩
  | .hbm, ⟨31, _⟩ => ⟨S4x2x3x256x256, .f32⟩
  | .hbm, ⟨32, _⟩ => ⟨S_, .f32⟩
  | .hbm, ⟨33, _⟩ => ⟨S4x2x3x256, .f32⟩
  | .hbm, ⟨34, _⟩ => ⟨S4x2x3x256x1, .f32⟩
  | .hbm, ⟨35, _⟩ => ⟨S4x2x3x256x256, .f32⟩
  | .hbm, ⟨36, _⟩ => ⟨S4x2x3x256x256, .f32⟩
  | .hbm, ⟨37, _⟩ => ⟨S4x2x64x3x256, .f32⟩
  | .hbm, ⟨38, _⟩ => ⟨S4x256x2x3x64, .f32⟩
  | .hbm, ⟨39, _⟩ => ⟨S4x2048x2x3x64, .f32⟩
  | .hbm, ⟨40, _⟩ => ⟨S4x2x2304x2048x3, .f32⟩
  | .hbm, ⟨41, _⟩ => ⟨S4x2x3x2048x2304, .f32⟩
  | .hbm, ⟨42, _⟩ => ⟨S_, .f32⟩
  | .hbm, ⟨43, _⟩ => ⟨S4x2x3x2048x2304, .f32⟩
  | .hbm, ⟨44, _⟩ => ⟨S4x2x3x2048x2304, .f32⟩
  | .hbm, ⟨45, _⟩ => ⟨S_, .f32⟩
  | .hbm, ⟨46, _⟩ => ⟨S4x2x3x2048, .f32⟩
  | .hbm, ⟨47, _⟩ => ⟨S_, .f32⟩
  | .hbm, ⟨48, _⟩ => ⟨S4x2x3x2048, .f32⟩
  | .hbm, ⟨49, _⟩ => ⟨S4x2x3x2048, .f32⟩
  | .hbm, ⟨50, _⟩ => ⟨S4x2x3x2048x1, .f32⟩
  | .hbm, ⟨51, _⟩ => ⟨S4x2x3x2048x2304, .f32⟩
  | .hbm, ⟨52, _⟩ => ⟨S4x2x3x2048x2304, .f32⟩
  | .hbm, ⟨53, _⟩ => ⟨S4x2x3x2048x2304, .f32⟩
  | .hbm, ⟨54, _⟩ => ⟨S_, .f32⟩
  | .hbm, ⟨55, _⟩ => ⟨S4x2x3x2048, .f32⟩
  | .hbm, ⟨56, _⟩ => ⟨S4x2x3x2048x1, .f32⟩
  | .hbm, ⟨57, _⟩ => ⟨S4x2x3x2048x2304, .f32⟩
  | .hbm, ⟨58, _⟩ => ⟨S4x2x3x2048x2304, .f32⟩
  | .hbm, ⟨59, _⟩ => ⟨S4x2x64x3x2048, .f32⟩
  | .hbm, ⟨60, _⟩ => ⟨S4x2048x2x3x64, .f32⟩
  | .hbm, ⟨61, _⟩ => ⟨S4x2304x2x3x64, .f32⟩
  | .hbm, ⟨62, _⟩ => ⟨S9216x384, .f32⟩
  | .hbm, ⟨63, _⟩ => ⟨S9216x384, .bf16⟩
  | .hbm, ⟨64, _⟩ => ⟨S4x2304x2x3x64, .f32⟩
  | .hbm, ⟨65, _⟩ => ⟨S4x2304x2x64, .f32⟩
  | .hbm, ⟨66, _⟩ => ⟨S4x256x2x3x64, .f32⟩
  | .hbm, ⟨67, _⟩ => ⟨S4x256x2x64, .f32⟩
  | .hbm, ⟨68, _⟩ => ⟨S4x2x256x256x3, .f32⟩
  | .hbm, ⟨69, _⟩ => ⟨S4x2x3x256x256, .f32⟩
  | .hbm, ⟨70, _⟩ => ⟨S_, .f32⟩
  | .hbm, ⟨71, _⟩ => ⟨S4x2x3x256x256, .f32⟩
  | .hbm, ⟨72, _⟩ => ⟨S4x2x3x256x256, .f32⟩
  | .hbm, ⟨73, _⟩ => ⟨S_, .f32⟩
  | .hbm, ⟨74, _⟩ => ⟨S4x2x3x256, .f32⟩
  | .hbm, ⟨75, _⟩ => ⟨S4x2x3x256x1, .f32⟩
  | .hbm, ⟨76, _⟩ => ⟨S4x2x3x256x256, .f32⟩
  | .hbm, ⟨77, _⟩ => ⟨S4x2x3x256x256, .f32⟩
  | .hbm, ⟨78, _⟩ => ⟨S4x2x3x256x256, .f32⟩
  | .hbm, ⟨79, _⟩ => ⟨S_, .f32⟩
  | .hbm, ⟨80, _⟩ => ⟨S4x2x3x256, .f32⟩
  | .hbm, ⟨81, _⟩ => ⟨S4x2x3x256x1, .f32⟩
  | .hbm, ⟨82, _⟩ => ⟨S4x2x3x256x1, .f32⟩
  | .hbm, ⟨83, _⟩ => ⟨S4x2x3x256x1, .f32⟩
  | .hbm, ⟨84, _⟩ => ⟨S4x2048x2x3x64, .f32⟩
  | .hbm, ⟨85, _⟩ => ⟨S4x2x2304x2048x3, .f32⟩
  | .hbm, ⟨86, _⟩ => ⟨S4x2x3x2048x2304, .f32⟩
  | .hbm, ⟨87, _⟩ => ⟨S_, .f32⟩
  | .hbm, ⟨88, _⟩ => ⟨S4x2x3x2048x2304, .f32⟩
  | .hbm, ⟨89, _⟩ => ⟨S4x2x3x2048x2304, .f32⟩
  | .hbm, ⟨90, _⟩ => ⟨S_, .f32⟩
  | .hbm, ⟨91, _⟩ => ⟨S4x2x3x2048, .f32⟩
  | .hbm, ⟨92, _⟩ => ⟨S4x2x3x2048x1, .f32⟩
  | .hbm, ⟨93, _⟩ => ⟨S4x2x3x2048x2304, .f32⟩
  | .hbm, ⟨94, _⟩ => ⟨S4x2x3x2048x2304, .f32⟩
  | .hbm, ⟨95, _⟩ => ⟨S4x2x3x2048x2304, .f32⟩
  | .hbm, ⟨96, _⟩ => ⟨S_, .f32⟩
  | .hbm, ⟨97, _⟩ => ⟨S4x2x3x2048, .f32⟩
  | .hbm, ⟨98, _⟩ => ⟨S4x2x3x2048x1, .f32⟩
  | .hbm, ⟨99, _⟩ => ⟨S4x2x3x2048x1, .f32⟩
  | .hbm, ⟨100, _⟩ => ⟨S4x2x3x2048x1, .f32⟩
  | .hbm, ⟨101, _⟩ => ⟨S4x2x3x2304x1, .f32⟩
  | .hbm, ⟨102, _⟩ => ⟨S4x2x3x18x128, .f32⟩
  | .hbm, ⟨103, _⟩ => ⟨S4x18x2x3x128, .f32⟩
  | .hbm, ⟨104, _⟩ => ⟨S72x768x1, .f32⟩
  | _, _ => ⟨S2x9216x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_v60 : Ref sig .tc := ⟨.hbm, 72, rfl⟩
abbrev main_cst_8 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_9 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_10 : Ref sig .tc := ⟨.hbm, 87, rfl⟩
abbrev main_v73 : Ref sig .tc := ⟨.hbm, 88, rfl⟩
abbrev main_v74 : Ref sig .tc := ⟨.hbm, 89, rfl⟩
abbrev main_cst_11 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_12 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩

abbrev nD : Nat := 1
abbrev τ : Topo := Topo.v7x

variable {F : FTy → Type} [FloatOps F]
-- ==== Proof.Softmax.lean ====
module

public import Idealize.ShloMosaic.Lib.Pointwise
/-!
# The mathematics of a softmax row and of its gradient, over the reals

Everything here is about one row of scores `s 0, …, s (N-1)` (a function on the naturals read below `N`).
-/
@[expose] public section

noncomputable section
namespace Cert.Attn

/-- The softmax weight of entry `x` in a row of `N` scores. -/
def soft (N : ℕ) (s : ℕ → ℝ) (x : ℕ) : ℝ := Real.exp (s x) / ∑ y : Fin N, Real.exp (s y)

/-- The gradient of the scores of a row whose weights meet the cotangents `g`. -/
def softGrad (N : ℕ) (s g : ℕ → ℝ) (x : ℕ) : ℝ := soft N s x * (g x - ∑ y : Fin N, soft N s y * g y)

/-- A sum of exponentials over a row that is not empty is positive. -/
theorem sum_exp_pos {N : ℕ} (hN : 0 < N) (s : ℕ → ℝ) : 0 < ∑ y : Fin N, Real.exp (s y) :=
  Finset.sum_pos (fun _ _ => Real.exp_pos _) ⟨⟨0, hN⟩, Finset.mem_univ _⟩

/-- Shifting every score of the row by the same number leaves the weights. -/
theorem soft_shift (N : ℕ) (s : ℕ → ℝ) (m : ℝ) (x : ℕ) :
    Real.exp (s x - m) / ∑ y : Fin N, Real.exp (s y - m) = soft N s x := by
  have h : ∀ y : ℕ, Real.exp (s y - m) = Real.exp (s y) * Real.exp (-m) := fun y => by
    rw [sub_eq_add_neg, Real.exp_add]
  unfold soft
  simp only [h]
  rw [← Finset.sum_mul, mul_div_mul_right _ _ (Real.exp_pos _).ne']

/-- The weight recomputed from the row's log-sum-exp, the form the backward kernel uses. -/
theorem soft_lse {N : ℕ} (hN : 0 < N) (s : ℕ → ℝ) (m : ℝ) (x : ℕ) :
    Real.exp (s x - (m + Real.log (∑ y : Fin N, Real.exp (s y - m)))) = soft N s x := by
  rw [← sub_sub, Real.exp_sub, Real.exp_log (sum_exp_pos hN fun y => s y - m), soft_shift]

/-- The gradient as automatic differentiation of `exp (s - m) / Σ exp (s - m)` writes it. -/
theorem softGrad_quotient {N : ℕ} (hN : 0 < N) (s g : ℕ → ℝ) (m : ℝ) (x : ℕ) :
    (g x / (∑ y : Fin N, Real.exp (s y - m))
        + -(∑ y : Fin N, g y * (1 / ((∑ z : Fin N, Real.exp (s z - m)) * ∑ z : Fin N, Real.exp (s z - m))) * Real.exp (s y - m)))
      * Real.exp (s x - m) = softGrad N s g x := by
  have hZ := (sum_exp_pos hN fun y => s y - m).ne'
  unfold softGrad
  simp only [← soft_shift N s m]
  generalize (∑ y : Fin N, Real.exp (s y - m)) = Z at hZ ⊢
  have : (∑ y : Fin N, g y * (1 / (Z * Z)) * Real.exp (s y - m)) = (∑ y : Fin N, Real.exp (s y - m) / Z * g y) / Z := by
    rw [Finset.sum_div]
    refine Finset.sum_congr rfl fun y _ => ?_
    field_simp
  rw [this]
  field_simp
  ring

/-! ## Real numbers inside the extended reals -/

/-- A finite sum of reals, read in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The quotient of two reals, the divisor not zero, read in the extended reals. -/
theorem coe_div (x y : ℝ) (hy : y ≠ 0) : Idealize.ShloMosaic.Ideal.div (x : EReal) (y : EReal) = ((x / y : ℝ) : EReal) := by
  rw [Idealize.ShloMosaic.Ideal.div_coe hy, ← EReal.coe_mul, mul_one_div]

end Cert.Attn
end
-- ==== Proof.Spec.lean ====
module

public import proofs.«01_k».proof.Proof.Softmax
/-!
# The gradients of the joint attention, as real numbers

Four samples of 2304 rows each, the first 256 of them context. A context row attends to the 256 context rows of its sample, any
other row to all 2304. Six query heads of 64 lanes, three to each of two key heads.  `q`, `k`, `v` and the cotangent `w` are
functions of a row (of all 9216) and a lane.
-/
@[expose] public section

noncomputable section
namespace Cert.Attn

/-- How many rows of its sample row `n` attends to. -/
def keys (n : ℕ) : ℕ := if n < 256 then 256 else 2304

theorem keys_pos (n : ℕ) : 0 < keys n := by unfold keys; split <;> norm_num

/-- The score of query row `n` of head `h` against row `x`, in sample `b`. -/
def score (q k : ℕ → ℕ → ℝ) (b h n x : ℕ) : ℝ :=
  (∑ d : Fin 64, q (2304 * b + n) (64 * h + d) * k (2304 * b + x) (64 * (h / 3) + d)) * (1 / 8)

/-- The attention weight. -/
def prob (q k : ℕ → ℕ → ℝ) (b h n x : ℕ) : ℝ := soft (keys n) (score q k b h n) x

/-- The attention's output. -/
def attn (q k v : ℕ → ℕ → ℝ) (b h n d : ℕ) : ℝ :=
  ∑ x : Fin (keys n), prob q k b h n x * v (2304 * b + x) (64 * (h / 3) + d)

/-- The cotangent of an attention weight. -/
def dprob (v w : ℕ → ℕ → ℝ) (b h n x : ℕ) : ℝ :=
  ∑ d : Fin 64, w (2304 * b + n) (64 * h + d) * v (2304 * b + x) (64 * (h / 3) + d)

/-- The cotangent of a score. -/
def dscore (q k v w : ℕ → ℕ → ℝ) (b h n x : ℕ) : ℝ :=
  softGrad (keys n) (score q k b h n) (dprob v w b h n) x

/-- The gradient of the queries. -/
def gradQ (q k v w : ℕ → ℕ → ℝ) (b h n d : ℕ) : ℝ :=
  (∑ x : Fin (keys n), dscore q k v w b h n x * k (2304 * b + x) (64 * (h / 3) + d)) * (1 / 8)

/-- The gradient of the keys: row `x`, key head `j`. -/
def gradK (q k v w : ℕ → ℕ → ℝ) (b x j d : ℕ) : ℝ :=
  ∑ n : Fin 2304, ∑ g : Fin 3, if x < keys n then dscore q k v w b (3 * j + g) n x * (q (2304 * b + n) (64 * (3 * j + g) + d) * (1 / 8)) else 0

/-- The gradient of the values: row `x`, key head `j`. -/
def gradV (q k w : ℕ → ℕ → ℝ) (b x j d : ℕ) : ℝ :=
  ∑ n : Fin 2304, ∑ g : Fin 3, if x < keys n then prob q k b (3 * j + g) n x * w (2304 * b + n) (64 * (3 * j + g) + d) else 0

/-- The inner product the kernel forms from the output and its cotangent is the weighted sum the softmax gradient subtracts. -/
theorem sum_mul_attn (q k v w : ℕ → ℕ → ℝ) (b h n : ℕ) :
    ∑ d : Fin 64, w (2304 * b + n) (64 * h + d) * attn q k v b h n d = ∑ x : Fin (keys n), prob q k b h n x * dprob v w b h n x := by
  unfold attn dprob
  simp only [Finset.mul_sum]
  rw [Finset.sum_comm]
  exact Finset.sum_congr rfl fun x _ => Finset.sum_congr rfl fun d _ => by ring

end Cert.Attn
end
-- ==== Proof.Stacks.lean ====
module

public import proofs.«01_k».proof.Proof.Spec
public import proofs.«01_k».proof.Proof.Gen.KernelIdeal.Skeleton
public import Idealize.ShloMosaic.Lib.Pipeline.ValueKit

/-!
# What each of the kernel body's stored values is, on blocks that hold real numbers

The stacks of heads, the row sums and the masks.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

/-- The entries of a matrix are the reals `a`. -/
abbrev Is2 (n m : ℕ) (x : (⟨2, ![n, m]⟩ : Shape).Idx → EReal) (a : ℕ → ℕ → ℝ) : Prop :=
  ∀ (r : Fin n) (l : Fin m), x (ix2 r l) = ((a r l : ℝ) : EReal)

/-- The entries of a matrix under a leading axis of one are the reals `a`. -/
abbrev Is3 (n m : ℕ) (x : (⟨3, ![1, n, m]⟩ : Shape).Idx → EReal) (a : ℕ → ℕ → ℝ) : Prop :=
  ∀ (r : Fin n) (l : Fin m), x (ix3 0 r l) = ((a r l : ℝ) : EReal)

/-- The kernel's stack of the three heads of key head `j`: row `128 g + r` holds row `r` of head `3 j + g`, in the 64 lanes of
    half `j`; the other half is zero. -/
def stack (A : ℕ → ℕ → ℝ) (j R l : ℕ) : ℝ := if l / 64 = j then A (R % 128) (64 * (3 * j + R / 128) + l % 64) else 0

/-- Row sums over the stack of the products of two arrays. -/
def rowDot (W O : ℕ → ℕ → ℝ) (j R : ℕ) : ℝ := ∑ l : Fin 128, stack (fun r l => W r l * O r l) j R l

/-- The kernel's mask of the lower half of the lanes. -/
theorem lane_slt : ∀ l : Fin 128, IntOp.cmpi .slt (BitVec.ofNat 32 l.val) 64#32 = if l.val < 64 then 1#1 else 0#1 := by decide
/-- The kernel's mask of the upper half of the lanes. -/
theorem lane_sge : ∀ l : Fin 128, IntOp.cmpi .sge (BitVec.ofNat 32 l.val) 64#32 = if l.val < 64 then 0#1 else 1#1 := by decide
/-- A select on the lower half. -/
theorem select_slt {α : Type} (l : Fin 128) (x y : α) : Scalar.select (IntOp.cmpi .slt (BitVec.ofNat 32 l.val) 64#32) x y = if l.val < 64 then x else y := by
  rw [lane_slt]; split <;> rfl
/-- A select on the upper half. -/
theorem select_sge {α : Type} (l : Fin 128) (x y : α) : Scalar.select (IntOp.cmpi .sge (BitVec.ofNat 32 l.val) 64#32) x y = if l.val < 64 then y else x := by
  rw [lane_sge]; split <;> rfl
/-- The constant the scores are scaled by is one eighth, the inverse square root of 64. -/
theorem eighth : Ideal.ofBits .f32 0x3E000000#32 = ((1 / 8 : ℝ) : EReal) := by
  simp [Ideal.ofBits, Ideal.ieee]
  rw [← EReal.coe_mul]
  norm_num

/-- The stack of the scaled queries, key head 0. -/
theorem q0_apply {A : ℕ → ℕ → ℝ} {x0 x1 x2 : FVec Ideal S1x128x128 .bf16} (h0 : Is3 128 128 x0 A) (h1 : Is3 128 128 x1 A)
    (h2 : Is3 128 128 x2 fun r l => A r (128 + l)) : Is2 384 128 (k0_pay13 (F := Ideal) x0 x1 x2) fun R l => stack A 0 R l * (1 / 8) := by
  intro R l
  have hR := R.isLt; have hl := l.isLt
  unfold k0_pay13
  pointwise
  simp only [select_slt, h0 _ _, h1 _ _, h2 _ _, eighth, stack]
  rw [EReal.coe_mul]
  congr 1
  split_ifs <;> first | rfl | (exfalso; omega) | (exfalso; dsimp only at *; omega) | (refine congrArg _ (congrArg₂ _ ?_ ?_) <;> (try dsimp only) <;> omega) | (refine congrArg _ (congrArg₂ _ (congrArg₂ _ ?_ ?_) (congrArg₂ _ ?_ ?_)) <;> (try dsimp only) <;> omega)

/-- The first part of the stack of key head 1. -/
theorem q1a_apply {A : ℕ → ℕ → ℝ} {x0 : FVec Ideal S1x128x128 .bf16} (h0 : Is3 128 128 x0 fun r l => A r (128 + l)) :
    Is2 128 128 (k0_pay14 (F := Ideal) x0) fun r l => if l / 64 = 1 then A r (128 + l) else 0 := by
  intro R l
  have hR := R.isLt; have hl := l.isLt
  unfold k0_pay14
  pointwise
  simp only [select_sge, h0 _ _]
  split_ifs <;> first | rfl | (exfalso; omega) | (exfalso; dsimp only at *; omega) | (refine congrArg _ (congrArg₂ _ ?_ ?_) <;> (try dsimp only) <;> omega) | (refine congrArg _ (congrArg₂ _ (congrArg₂ _ ?_ ?_) (congrArg₂ _ ?_ ?_)) <;> (try dsimp only) <;> omega)

/-- The stack of the scaled queries, key head 1. -/
theorem q1_apply {A : ℕ → ℕ → ℝ} {x0 : FVec Ideal S128x128 .f32} {x1 x2 : FVec Ideal S1x128x128 .bf16}
    (h0 : Is2 128 128 x0 fun r l => if l / 64 = 1 then A r (128 + l) else 0) (h1 : Is3 128 128 x1 fun r l => A r (256 + l))
    (h2 : Is3 128 128 x2 fun r l => A r (256 + l)) : Is2 384 128 (k0_pay15 (F := Ideal) x0 x1 x2) fun R l => stack A 1 R l * (1 / 8) := by
  intro R l
  have hR := R.isLt; have hl := l.isLt
  unfold k0_pay15
  pointwise
  simp only [select_sge, h0 _ _, h1 _ _, h2 _ _, eighth, stack]
  rw [EReal.coe_mul]
  congr 1
  split_ifs <;> first | rfl | (exfalso; omega) | (exfalso; dsimp only at *; omega) | (refine congrArg _ (congrArg₂ _ ?_ ?_) <;> (try dsimp only) <;> omega) | (refine congrArg _ (congrArg₂ _ (congrArg₂ _ ?_ ?_) (congrArg₂ _ ?_ ?_)) <;> (try dsimp only) <;> omega)

/-- The first part of the stack of cotangents, key head 0. -/
theorem w0a_apply {A : ℕ → ℕ → ℝ} {x0 : FVec Ideal S128x128 .bf16} (h0 : Is2 128 128 x0 A) :
    Is2 128 128 (k0_pay16 (F := Ideal) x0) fun r l => if l / 64 = 0 then A r l else 0 := by
  intro R l
  have hR := R.isLt; have hl := l.isLt
  unfold k0_pay16
  pointwise
  simp only [select_slt, h0 _ _]
  split_ifs <;> first | rfl | (exfalso; omega) | (exfalso; dsimp only at *; omega) | (refine congrArg _ (congrArg₂ _ ?_ ?_) <;> (try dsimp only) <;> omega) | (refine congrArg _ (congrArg₂ _ (congrArg₂ _ ?_ ?_) (congrArg₂ _ ?_ ?_)) <;> (try dsimp only) <;> omega)

/-- The second part of the stack of cotangents, key head 0. -/
theorem w0b_apply {A : ℕ → ℕ → ℝ} {x0 : FVec Ideal S128x128 .bf16} (h0 : Is2 128 128 x0 A) :
    Is2 128 128 (k0_pay17 (F := Ideal) x0) fun r l => if l / 64 = 0 then A r (64 + l) else 0 := by
  intro R l
  have hR := R.isLt; have hl := l.isLt
  unfold k0_pay17
  pointwise
  simp only [select_slt, h0 _ _]
  split_ifs <;> first | rfl | (exfalso; omega) | (exfalso; dsimp only at *; omega) | (refine congrArg _ (congrArg₂ _ ?_ ?_) <;> (try dsimp only) <;> omega) | (refine congrArg _ (congrArg₂ _ (congrArg₂ _ ?_ ?_) (congrArg₂ _ ?_ ?_)) <;> (try dsimp only) <;> omega)

/-- The third part of the stack of cotangents before its mask. -/
theorem w0c_apply {A : ℕ → ℕ → ℝ} {x0 : FVec Ideal S128x128 .bf16} (h0 : Is2 128 128 x0 A) :
    Is2 128 128 (k0_pay18 (F := Ideal) x0) A := by
  intro R l
  unfold k0_pay18
  pointwise
  exact h0 _ _

/-- The stack of cotangents, key head 0. -/
theorem w0_apply {A : ℕ → ℕ → ℝ} {x0 x1 x2 : FVec Ideal S128x128 .f32}
    (h0 : Is2 128 128 x0 fun r l => if l / 64 = 0 then A r l else 0) (h1 : Is2 128 128 x1 fun r l => if l / 64 = 0 then A r (64 + l) else 0)
    (h2 : Is2 128 128 x2 fun r l => A r (128 + l)) : Is2 384 128 (k0_pay19 (F := Ideal) x0 x1 x2) fun R l => stack A 0 R l := by
  intro R l
  have hR := R.isLt; have hl := l.isLt
  unfold k0_pay19
  pointwise
  simp only [select_slt, h0 _ _, h1 _ _, h2 _ _, stack]
  split_ifs <;> first | rfl | (exfalso; omega) | (exfalso; dsimp only at *; omega) | (refine congrArg _ (congrArg₂ _ ?_ ?_) <;> (try dsimp only) <;> omega) | (refine congrArg _ (congrArg₂ _ (congrArg₂ _ ?_ ?_) (congrArg₂ _ ?_ ?_)) <;> (try dsimp only) <;> omega)

/-- The stack of cotangents, key head 1. -/
theorem w1_apply {A : ℕ → ℕ → ℝ} {x0 x1 x2 : FVec Ideal S128x128 .bf16}
    (h0 : Is2 128 128 x0 fun r l => A r (128 + l)) (h1 : Is2 128 128 x1 fun r l => A r (256 + l))
    (h2 : Is2 128 128 x2 fun r l => A r (256 + l)) : Is2 384 128 (k0_pay20 (F := Ideal) x0 x1 x2) fun R l => stack A 1 R l := by
  intro R l
  have hR := R.isLt; have hl := l.isLt
  unfold k0_pay20
  pointwise
  simp only [select_sge, h0 _ _, h1 _ _, h2 _ _, stack]
  split_ifs <;> first | rfl | (exfalso; omega) | (exfalso; dsimp only at *; omega) | (refine congrArg _ (congrArg₂ _ ?_ ?_) <;> (try dsimp only) <;> omega) | (refine congrArg _ (congrArg₂ _ (congrArg₂ _ ?_ ?_) (congrArg₂ _ ?_ ?_)) <;> (try dsimp only) <;> omega)

/-- Cotangent times output, the first tile. -/
theorem d0a_apply {W O : ℕ → ℕ → ℝ} {x : FVec Ideal S128x128 .bf16} {y : FVec Ideal S128x128 .f32} (hx : Is2 128 128 x W) (hy : Is2 128 128 y O) :
    Is2 128 128 (k0_pay21 (F := Ideal) x y) fun r l => W r l * O r l := by
  intro R l
  unfold k0_pay21
  pointwise
  simp only [hx _ _, hy _ _, EReal.coe_mul]

/-- The row sums of cotangent times output, key head 0. -/
theorem d0_apply {W O : ℕ → ℕ → ℝ} {x0 : FVec Ideal S128x128 .f32} {w1 w2 : FVec Ideal S128x128 .bf16} {o1 o2 : FVec Ideal S128x128 .f32}
    (h0 : Is2 128 128 x0 fun r l => W r l * O r l) (hw1 : Is2 128 128 w1 W) (ho1 : Is2 128 128 o1 O)
    (hw2 : Is2 128 128 w2 fun r l => W r (128 + l)) (ho2 : Is2 128 128 o2 fun r l => O r (128 + l)) :
    Is2 384 1 (k0_pay23 (F := Ideal) x0 (k0_pay22) (FloatOps.ofBits .f32 0#32) w1 o1 w2 o2) fun R _ => rowDot W O 0 R := by
  intro R z
  have hR := R.isLt
  unfold k0_pay23 k0_pay22
  pointwise
  rw [rowDot, coe_sum]
  refine Finset.sum_congr rfl fun l _ => ?_
  have hl := l.isLt
  simp only [select_slt, h0 _ _, hw1 _ _, ho1 _ _, hw2 _ _, ho2 _ _, ← EReal.coe_mul, stack]
  split_ifs <;> first | rfl | (exfalso; omega) | (exfalso; dsimp only at *; omega) | (refine congrArg _ (congrArg₂ _ ?_ ?_) <;> (try dsimp only) <;> omega) | (refine congrArg _ (congrArg₂ _ (congrArg₂ _ ?_ ?_) (congrArg₂ _ ?_ ?_)) <;> (try dsimp only) <;> omega)

/-- Cotangent times output, the second tile masked. -/
theorem d1a_apply {W O : ℕ → ℕ → ℝ} {x : FVec Ideal S128x128 .bf16} {y : FVec Ideal S128x128 .f32} (hx : Is2 128 128 x fun r l => W r (128 + l))
    (hy : Is2 128 128 y fun r l => O r (128 + l)) :
    Is2 128 128 (k0_pay24 (F := Ideal) x y) fun r l => if l / 64 = 1 then W r (128 + l) * O r (128 + l) else 0 := by
  intro R l
  have hl := l.isLt
  unfold k0_pay24
  pointwise
  simp only [select_sge, hx _ _, hy _ _, ← EReal.coe_mul]
  split_ifs <;> first | rfl | (exfalso; omega) | (exfalso; dsimp only at *; omega) | (refine congrArg _ (congrArg₂ _ ?_ ?_) <;> (try dsimp only) <;> omega) | (refine congrArg _ (congrArg₂ _ (congrArg₂ _ ?_ ?_) (congrArg₂ _ ?_ ?_)) <;> (try dsimp only) <;> omega)

/-- The cotangents of the third tile. -/
theorem d1b_apply {W : ℕ → ℕ → ℝ} {x : FVec Ideal S128x128 .bf16} (hx : Is2 128 128 x W) : Is2 128 128 (k0_pay25 (F := Ideal) x) W := by
  intro R l
  unfold k0_pay25
  pointwise
  exact hx _ _

/-- The row sums of cotangent times output, key head 1. -/
theorem d1_apply {W O : ℕ → ℕ → ℝ} {x0 : FVec Ideal S128x128 .f32} {w1 : FVec Ideal S128x128 .f32} {w2 : FVec Ideal S128x128 .bf16} {o1 o2 : FVec Ideal S128x128 .f32}
    (h0 : Is2 128 128 x0 fun r l => if l / 64 = 1 then W r (128 + l) * O r (128 + l) else 0) (hw1 : Is2 128 128 w1 fun r l => W r (256 + l))
    (ho1 : Is2 128 128 o1 fun r l => O r (256 + l)) (hw2 : Is2 128 128 w2 fun r l => W r (256 + l)) (ho2 : Is2 128 128 o2 fun r l => O r (256 + l)) :
    Is2 384 1 (k0_pay26 (F := Ideal) x0 w1 o1 w2 o2) fun R _ => rowDot W O 1 R := by
  intro R z
  have hR := R.isLt
  unfold k0_pay26
  pointwise
  rw [rowDot, coe_sum]
  refine Finset.sum_congr rfl fun l _ => ?_
  have hl := l.isLt
  simp only [select_sge, h0 _ _, hw1 _ _, ho1 _ _, hw2 _ _, ho2 _ _, ← EReal.coe_mul, stack]
  split_ifs <;> first | rfl | (exfalso; omega) | (exfalso; dsimp only at *; omega) | (refine congrArg _ (congrArg₂ _ ?_ ?_) <;> (try dsimp only) <;> omega) | (refine congrArg _ (congrArg₂ _ (congrArg₂ _ ?_ ?_) (congrArg₂ _ ?_ ?_)) <;> (try dsimp only) <;> omega)

end Cert.KernelIdeal.Value
end
end
-- ==== Proof.Chunks.lean ====
module

public import proofs.«01_k».proof.Proof.Stacks

/-!
# What each of the kernel body's stored values is, on blocks that hold real numbers

One chunk of keys: the weights, their cotangents, and the sums they enter.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

/-- A product of rows over 128 lanes. -/
def dots (a b : ℕ → ℕ → ℝ) (R k : ℕ) : ℝ := ∑ l : Fin 128, a R l * b k l

/-- The weight of stacked row `R` and key `k`: the exponential of the score less the row's logarithm of the sum. -/
def wt (a b : ℕ → ℕ → ℝ) (L : ℕ → ℝ) (R k : ℕ) : ℝ := Real.exp (dots a b R k - L R)

/-- The cotangent of the score. -/
def ds (a b w v : ℕ → ℕ → ℝ) (L D : ℕ → ℝ) (R k : ℕ) : ℝ := wt a b L R k * (dots w v R k - D R)

/-- Two stacks on top of each other. -/
def over (s t : ℕ → ℕ → ℝ) (R k : ℕ) : ℝ := if R < 384 then s R k else t (R - 384) k

/-- A sum over both stacks. -/
theorem sum_over (a a' s s' : ℕ → ℕ → ℝ) (l k : ℕ) :
    ∑ R : Fin 768, over a a' R l * over s s' R k = (∑ R : Fin 384, a R l * s R k) + ∑ R : Fin 384, a' R l * s' R k := by
  rw [show (768 : ℕ) = 384 + 384 from rfl, Fin.sum_univ_add]
  refine congrArg₂ _ (Finset.sum_congr rfl fun R _ => ?_) (Finset.sum_congr rfl fun R _ => ?_) <;> simp [over]

section
variable {a b w v acc : ℕ → ℕ → ℝ} {L D : ℕ → ℝ}

/-- A column of row sums with its leading axis of one dropped. -/
theorem col_apply {x : FVec Ideal S1x384x1 .f32} (h : Is3 384 1 x fun R _ => L R) : Is2 384 1 (k0_pay27 (F := Ideal) x) fun R _ => L R := by
  intro R l
  unfold k0_pay27
  pointwise
  exact h _ _

/-- The stacks one over the other, transposed. -/
theorem tr_apply {x y : FVec Ideal S384x128 .bf16} (hx : Is2 384 128 x a) (hy : Is2 384 128 y b) :
    Is2 128 768 (k0_pay28 (F := Ideal) x y) fun l R => over a b R l := by
  intro l R
  have hR := R.isLt
  unfold k0_pay28
  pointwise
  simp only [hx _ _, hy _ _, over]
  split_ifs <;> first | rfl | (exfalso; omega) | (exfalso; dsimp only at *; omega)

/-- A context chunk's scores. -/
theorem s_ctx {x : FVec Ideal S384x128 .bf16} {y : FVec Ideal S1x256x128 .bf16} (hx : Is2 384 128 x a) (hy : Is3 256 128 y b) :
    Is2 384 256 (k0_pay32 (F := Ideal) x y) fun R k => dots a b R k := by
  intro R k
  unfold k0_pay32
  pointwise
  simp only [hx _ _, hy _ _, ← EReal.coe_mul, ← coe_sum, dots]

/-- The row's logarithm of the sum, along the chunk. -/
theorem l_ctx {x : FVec Ideal S1x384x1 .f32} (h : Is3 384 1 x fun R _ => L R) : Is2 384 256 (k0_pay33 (F := Ideal) x) fun R _ => L R := by
  intro R l
  unfold k0_pay33
  pointwise
  exact h _ _

/-- A context chunk's weights. -/
theorem p0_ctx {s t : FVec Ideal S384x256 .f32} (hs : Is2 384 256 s fun R k => dots a b R k) (ht : Is2 384 256 t fun R _ => L R) :
    Is2 384 256 (k0_pay34 (F := Ideal) s t) fun R k => wt a b L R k := by
  intro R k
  unfold k0_pay34
  pointwise
  simp only [hs _ _, ht _ _, ← EReal.coe_sub, Ideal.exp_coe, wt]

/-- A context chunk's score cotangents, key head 0. -/
theorem ds0_ctx {x : FVec Ideal S384x128 .bf16} {d : FVec Ideal S384x1 .f32} {s t : FVec Ideal S384x256 .f32} {y : FVec Ideal S1x256x128 .bf16}
    (hx : Is2 384 128 x w) (hd : Is2 384 1 d fun R _ => D R) (hs : Is2 384 256 s fun R k => dots a b R k)
    (ht : Is2 384 256 t fun R _ => L R) (hy : Is3 256 128 y v) :
    Is2 384 256 (k0_pay35 (F := Ideal) x d s t y) fun R k => ds a b w v L D R k := by
  intro R k
  have hp := p0_ctx hs ht R k
  unfold k0_pay35
  pointwise
  simp only [hx _ _, hd _ _, hy _ _, hp, ← EReal.coe_mul, ← coe_sum, ← EReal.coe_sub, ds, dots]

/-- The query gradient after a context chunk, key head 0. -/
theorem dq0_ctx {x : FVec Ideal S384x128 .bf16} {d : FVec Ideal S384x1 .f32} {e : FVec Ideal S384x128 .f32} {s t : FVec Ideal S384x256 .f32} {y z : FVec Ideal S1x256x128 .bf16}
    (hx : Is2 384 128 x w) (hd : Is2 384 1 d fun R _ => D R) (he : Is2 384 128 e acc) (hs : Is2 384 256 s fun R k => dots a b R k)
    (ht : Is2 384 256 t fun R _ => L R) (hy : Is3 256 128 y v) (hz : Is3 256 128 z b) :
    Is2 384 128 (k0_pay36 (F := Ideal) x d e s t y z) fun R l => acc R l + ∑ k : Fin 256, ds a b w v L D R k * b k l := by
  intro R l
  have hp := ds0_ctx hx hd hs ht hy
  unfold k0_pay36
  pointwise
  simp only [hz _ _, he _ _, hp _ _, ← EReal.coe_mul, ← coe_sum, ← EReal.coe_add]

/-- A context chunk's weights, key head 1. -/
theorem p1_ctx {x : FVec Ideal S384x128 .bf16} {t : FVec Ideal S384x1 .f32} {y : FVec Ideal S1x256x128 .bf16}
    (hx : Is2 384 128 x a) (ht : Is2 384 1 t fun R _ => L R) (hy : Is3 256 128 y b) :
    Is2 384 256 (k0_pay37 (F := Ideal) x t y) fun R k => wt a b L R k := by
  intro R k
  unfold k0_pay37
  pointwise
  simp only [hx _ _, ht _ _, hy _ _, ← EReal.coe_mul, ← coe_sum, ← EReal.coe_sub, Ideal.exp_coe, wt, dots]

/-- A context chunk's score cotangents, key head 1. -/
theorem ds1_ctx {x u : FVec Ideal S384x128 .bf16} {d t : FVec Ideal S384x1 .f32} {y z : FVec Ideal S1x256x128 .bf16}
    (hx : Is2 384 128 x a) (hu : Is2 384 128 u w) (hd : Is2 384 1 d fun R _ => D R) (ht : Is2 384 1 t fun R _ => L R)
    (hy : Is3 256 128 y b) (hz : Is3 256 128 z v) :
    Is2 384 256 (k0_pay38 (F := Ideal) x u d t y z) fun R k => ds a b w v L D R k := by
  intro R k
  have hp := p1_ctx hx ht hy R k
  unfold k0_pay38
  pointwise
  simp only [hu _ _, hd _ _, hz _ _, hp, ← EReal.coe_mul, ← coe_sum, ← EReal.coe_sub, ds, dots]

/-- The query gradient after a context chunk, key head 1. -/
theorem dq1_ctx {x u : FVec Ideal S384x128 .bf16} {d t : FVec Ideal S384x1 .f32} {e : FVec Ideal S384x128 .f32} {y z y' : FVec Ideal S1x256x128 .bf16}
    (hx : Is2 384 128 x a) (hu : Is2 384 128 u w) (hd : Is2 384 1 d fun R _ => D R) (ht : Is2 384 1 t fun R _ => L R) (he : Is2 384 128 e acc)
    (hy : Is3 256 128 y b) (hz : Is3 256 128 z v) (hy' : Is3 256 128 y' b) :
    Is2 384 128 (k0_pay39 (F := Ideal) x u d t e y z y') fun R l => acc R l + ∑ k : Fin 256, ds a b w v L D R k * b k l := by
  intro R l
  have hp := ds1_ctx hx hu hd ht hy hz
  unfold k0_pay39
  pointwise
  simp only [hy' _ _, he _ _, hp _ _, ← EReal.coe_mul, ← coe_sum, ← EReal.coe_add]

/-- A context chunk's weights of both key heads, one over the other. -/
theorem pp_ctx {a' b' : ℕ → ℕ → ℝ} {L' : ℕ → ℝ} {x : FVec Ideal S384x128 .bf16} {r : FVec Ideal S384x1 .f32} {s t : FVec Ideal S384x256 .f32} {y : FVec Ideal S1x256x128 .bf16}
    (hx : Is2 384 128 x a') (hr : Is2 384 1 r fun R _ => L' R) (hs : Is2 384 256 s fun R k => dots a b R k)
    (ht : Is2 384 256 t fun R _ => L R) (hy : Is3 256 128 y b') :
    Is2 768 256 (k0_pay40 (F := Ideal) x r s t y) fun R k => over (wt a b L) (wt a' b' L') R k := by
  intro R k
  have hR := R.isLt
  have hp := p0_ctx hs ht
  have hq := p1_ctx hx hr hy
  unfold k0_pay40
  pointwise
  simp only [hp _ _, hq _ _, over]
  split_ifs <;> first | rfl | (exfalso; omega) | (exfalso; dsimp only at *; omega)

/-- The key gradient after a context chunk. -/
theorem dk_ctx {a' b' w' v' q q' : ℕ → ℕ → ℝ} {L' D' : ℕ → ℝ} {x u u' : FVec Ideal S384x128 .bf16} {d d' t' : FVec Ideal S384x1 .f32} {f : FVec Ideal S128x768 .bf16}
    {s t : FVec Ideal S384x256 .f32} {y z y' : FVec Ideal S1x256x128 .bf16} {e : FVec Ideal S128x256 .f32}
    (hx : Is2 384 128 x a') (hu : Is2 384 128 u w) (hu' : Is2 384 128 u' w') (hd : Is2 384 1 d fun R _ => D R) (hd' : Is2 384 1 d' fun R _ => D' R)
    (ht' : Is2 384 1 t' fun R _ => L' R) (hf : Is2 128 768 f fun l R => over q q' R l) (hs : Is2 384 256 s fun R k => dots a b R k)
    (ht : Is2 384 256 t fun R _ => L R) (hy : Is3 256 128 y v) (hz : Is3 256 128 z b') (hy' : Is3 256 128 y' v') (he : Is2 128 256 e acc) :
    Is2 128 256 (k0_pay42 (k0_pay41 (F := Ideal) x u u' d d' t' f s t y z y' e)) fun l k =>
      acc l k + ((∑ R : Fin 384, q R l * ds a b w v L D R k) + ∑ R : Fin 384, q' R l * ds a' b' w' v' L' D' R k) := by
  intro l k
  have hp := ds0_ctx hu hd hs ht hy
  have hq := ds1_ctx hx hu' hd' ht' hz hy'
  have hc : ∀ (R : Fin 768), concatenate S768x256 0 [⟨S384x256, k0_pay35 (F := Ideal) u d s t y⟩, ⟨S384x256, k0_pay38 x u' d' t' z y'⟩] concatenates_S384x256_S384x256_S768x256_d0 (ix2 R k)
      = ((over (ds a b w v L D) (ds a' b' w' v' L' D') R k : ℝ) : EReal) := by
    intro R
    have hR := R.isLt
    pointwise
    simp only [hp _ _, hq _ _, over]
    split_ifs <;> first | rfl | (exfalso; omega) | (exfalso; dsimp only at *; omega)
  unfold k0_pay42 k0_pay41
  generalize concatenate S768x256 0 [⟨S384x256, k0_pay35 (F := Ideal) u d s t y⟩, ⟨S384x256, k0_pay38 x u' d' t' z y'⟩] concatenates_S384x256_S384x256_S768x256_d0 = cc at hc
  pointwise
  simp only [hf _ _, he _ _, hc _, ← EReal.coe_mul, ← coe_sum, ← EReal.coe_add, sum_over]

/-- The value gradient after a context chunk. -/
theorem dv_ctx {q q' s s' : ℕ → ℕ → ℝ} {f : FVec Ideal S128x768 .bf16} {p : FVec Ideal S768x256 .bf16} {e : FVec Ideal S128x256 .f32}
    (hf : Is2 128 768 f fun l R => over q q' R l) (hp : Is2 768 256 p fun R k => over s s' R k) (he : Is2 128 256 e acc) :
    Is2 128 256 (k0_pay43 (F := Ideal) f p e) fun l k => acc l k + ((∑ R : Fin 384, q R l * s R k) + ∑ R : Fin 384, q' R l * s' R k) := by
  intro l k
  unfold k0_pay43
  pointwise
  simp only [hf _ _, he _ _, hp _ _, ← EReal.coe_mul, ← coe_sum, ← EReal.coe_add, sum_over]

end
end Cert.KernelIdeal.Value
end
end
-- ==== Proof.Large.lean ====
module

public import proofs.«01_k».proof.Proof.Chunks

/-!
# What each of the kernel body's stored values is, on blocks that hold real numbers

The two large chunks of keys that only a latent row reads.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

section
variable {a b w v acc : ℕ → ℕ → ℝ} {L D : ℕ → ℝ}

/-- A chunk's weights, key head 0, the first of the two large chunks. -/
theorem p0_one {x : FVec Ideal S384x128 .bf16} {t : FVec Ideal S384x1 .f32} {y : FVec Ideal S1x1024x128 .bf16}
    (hx : Is2 384 128 x a) (ht : Is2 384 1 t fun R _ => L R) (hy : Is3 1024 128 y b) :
    Is2 384 1024 (k0_pay83 (F := Ideal) x t y) fun R k => wt a b L R k := by
  intro R k
  unfold k0_pay83
  pointwise
  simp only [hx _ _, ht _ _, hy _ _, ← EReal.coe_mul, ← coe_sum, ← EReal.coe_sub, Ideal.exp_coe, wt, dots]

/-- A chunk's weights, key head 1, the first large chunk. -/
theorem p1_one {x : FVec Ideal S384x128 .bf16} {t : FVec Ideal S384x1 .f32} {y : FVec Ideal S1x1024x128 .bf16}
    (hx : Is2 384 128 x a) (ht : Is2 384 1 t fun R _ => L R) (hy : Is3 1024 128 y b) :
    Is2 384 1024 (k0_pay87 (F := Ideal) x t y) fun R k => wt a b L R k := by
  intro R k
  unfold k0_pay87
  pointwise
  simp only [hx _ _, ht _ _, hy _ _, ← EReal.coe_mul, ← coe_sum, ← EReal.coe_sub, Ideal.exp_coe, wt, dots]

/-- A chunk's weights, key head 0, the second large chunk. -/
theorem p0_two {x : FVec Ideal S384x128 .bf16} {t : FVec Ideal S384x1 .f32} {y : FVec Ideal S1x1024x128 .bf16}
    (hx : Is2 384 128 x a) (ht : Is2 384 1 t fun R _ => L R) (hy : Is3 1024 128 y b) :
    Is2 384 1024 (k0_pay92 (F := Ideal) x t y) fun R k => wt a b L R k := by
  intro R k
  unfold k0_pay92
  pointwise
  simp only [hx _ _, ht _ _, hy _ _, ← EReal.coe_mul, ← coe_sum, ← EReal.coe_sub, Ideal.exp_coe, wt, dots]

/-- A chunk's weights, key head 1, the second large chunk. -/
theorem p1_two {x : FVec Ideal S384x128 .bf16} {t : FVec Ideal S384x1 .f32} {y : FVec Ideal S1x1024x128 .bf16}
    (hx : Is2 384 128 x a) (ht : Is2 384 1 t fun R _ => L R) (hy : Is3 1024 128 y b) :
    Is2 384 1024 (k0_pay96 (F := Ideal) x t y) fun R k => wt a b L R k := by
  intro R k
  unfold k0_pay96
  pointwise
  simp only [hx _ _, ht _ _, hy _ _, ← EReal.coe_mul, ← coe_sum, ← EReal.coe_sub, Ideal.exp_coe, wt, dots]

/-- Score cotangents, key head 0, first large chunk. -/
theorem ds0_one {x u : FVec Ideal S384x128 .bf16} {d t : FVec Ideal S384x1 .f32} {y z : FVec Ideal S1x1024x128 .bf16}
    (hx : Is2 384 128 x a) (hu : Is2 384 128 u w) (hd : Is2 384 1 d fun R _ => D R) (ht : Is2 384 1 t fun R _ => L R)
    (hy : Is3 1024 128 y b) (hz : Is3 1024 128 z v) :
    Is2 384 1024 (k0_pay84 (F := Ideal) x u d t y z) fun R k => ds a b w v L D R k := by
  intro R k
  have hp := p0_one hx ht hy R k
  unfold k0_pay84
  pointwise
  simp only [hu _ _, hd _ _, hz _ _, hp, ← EReal.coe_mul, ← coe_sum, ← EReal.coe_sub, ds, dots]

/-- The query gradient after the first large chunk, key head 0. -/
theorem dq0_one {x u : FVec Ideal S384x128 .bf16} {d t : FVec Ideal S384x1 .f32} {e : FVec Ideal S384x128 .f32} {y z y' : FVec Ideal S1x1024x128 .bf16}
    (hx : Is2 384 128 x a) (hu : Is2 384 128 u w) (hd : Is2 384 1 d fun R _ => D R) (ht : Is2 384 1 t fun R _ => L R) (he : Is2 384 128 e acc)
    (hy : Is3 1024 128 y b) (hz : Is3 1024 128 z v) (hy' : Is3 1024 128 y' b) :
    Is2 384 128 (k0_pay85 (F := Ideal) x u d t e y z y') fun R l => acc R l + ∑ k : Fin 1024, ds a b w v L D R k * b k l := by
  intro R l
  have hp := ds0_one hx hu hd ht hy hz
  unfold k0_pay85
  pointwise
  simp only [hy' _ _, he _ _, hp _ _, ← EReal.coe_mul, ← coe_sum, ← EReal.coe_add]

/-- The first large chunk's weights in the narrower format. -/
theorem p0b_one {x : FVec Ideal S384x128 .bf16} {t : FVec Ideal S384x1 .f32} {y : FVec Ideal S1x1024x128 .bf16}
    (hx : Is2 384 128 x a) (ht : Is2 384 1 t fun R _ => L R) (hy : Is3 1024 128 y b) :
    Is2 384 1024 (k0_pay86 (F := Ideal) x t y) fun R k => wt a b L R k := by
  intro R k
  have hp := p0_one hx ht hy R k
  unfold k0_pay86
  pointwise
  exact hp

/-- Score cotangents, key head 1, first large chunk. -/
theorem ds1_one {u : FVec Ideal S384x128 .bf16} {d : FVec Ideal S384x1 .f32} {p : FVec Ideal S384x1024 .f32} {z : FVec Ideal S1x1024x128 .bf16}
    (hu : Is2 384 128 u w) (hd : Is2 384 1 d fun R _ => D R) (hp : Is2 384 1024 p fun R k => wt a b L R k) (hz : Is3 1024 128 z v) :
    Is2 384 1024 (k0_pay88 (F := Ideal) u d p z) fun R k => ds a b w v L D R k := by
  intro R k
  unfold k0_pay88
  pointwise
  simp only [hu _ _, hd _ _, hz _ _, hp _ _, ← EReal.coe_mul, ← coe_sum, ← EReal.coe_sub, ds, dots]

/-- The query gradient after the first large chunk, key head 1. -/
theorem dq1_one {u : FVec Ideal S384x128 .bf16} {d : FVec Ideal S384x1 .f32} {e : FVec Ideal S384x128 .f32} {p : FVec Ideal S384x1024 .f32} {z y' : FVec Ideal S1x1024x128 .bf16}
    (hu : Is2 384 128 u w) (hd : Is2 384 1 d fun R _ => D R) (he : Is2 384 128 e acc) (hw : Is2 384 1024 p fun R k => wt a b L R k)
    (hz : Is3 1024 128 z v) (hy' : Is3 1024 128 y' b) :
    Is2 384 128 (k0_pay89 (F := Ideal) u d e p z y') fun R l => acc R l + ∑ k : Fin 1024, ds a b w v L D R k * b k l := by
  intro R l
  have hp := ds1_one hu hd hw hz
  unfold k0_pay89
  pointwise
  simp only [hy' _ _, he _ _, hp _ _, ← EReal.coe_mul, ← coe_sum, ← EReal.coe_add]

/-- Two stacks of chunk values, one over the other. -/
theorem cat_large {s s' : ℕ → ℕ → ℝ} {x y : FVec Ideal S384x1024 .bf16} (hx : Is2 384 1024 x s) (hy : Is2 384 1024 y s') :
    Is2 768 1024 (concatenate S768x1024 0 [⟨S384x1024, x⟩, ⟨S384x1024, y⟩] concatenates_S384x1024_S384x1024_S768x1024_d0) fun R k => over s s' R k := by
  intro R k
  have hR := R.isLt
  pointwise
  simp only [hx _ _, hy _ _, over]
  split_ifs <;> first | rfl | (exfalso; omega) | (exfalso; dsimp only at *; omega)

/-- The key gradient after the first large chunk. -/
theorem dk_one {q q' s : ℕ → ℕ → ℝ} {u : FVec Ideal S384x128 .bf16} {d : FVec Ideal S384x1 .f32} {f : FVec Ideal S128x768 .bf16} {p : FVec Ideal S384x1024 .f32} {o : FVec Ideal S384x1024 .bf16} {z : FVec Ideal S1x1024x128 .bf16} {e : FVec Ideal S128x1024 .f32}
    (hu : Is2 384 128 u w) (hd : Is2 384 1 d fun R _ => D R) (hf : Is2 128 768 f fun l R => over q q' R l) (ho : Is2 384 1024 o s)
    (hp : Is2 384 1024 p fun R k => wt a b L R k) (hz : Is3 1024 128 z v) (he : Is2 128 1024 e acc) :
    Is2 128 1024 (k0_pay90 (F := Ideal) u d f o p z e) fun l k =>
      acc l k + ((∑ R : Fin 384, q R l * s R k) + ∑ R : Fin 384, q' R l * ds a b w v L D R k) := by
  intro l k
  have hc := cat_large ho (ds1_one hu hd hp hz)
  unfold k0_pay90
  generalize concatenate S768x1024 0 [⟨S384x1024, o⟩, ⟨S384x1024, k0_pay88 (F := Ideal) u d p z⟩] concatenates_S384x1024_S384x1024_S768x1024_d0 = cc at hc
  pointwise
  simp only [hf _ _, he _ _, hc _ _, ← EReal.coe_mul, ← coe_sum, ← EReal.coe_add, sum_over]

/-- The value gradient after the first large chunk. -/
theorem dv_one {q q' s s' : ℕ → ℕ → ℝ} {f : FVec Ideal S128x768 .bf16} {p : FVec Ideal S384x1024 .f32} {o : FVec Ideal S384x1024 .bf16} {e : FVec Ideal S128x1024 .f32}
    (hf : Is2 128 768 f fun l R => over q q' R l) (ho : Is2 384 1024 o s) (hp : Is2 384 1024 p s') (he : Is2 128 1024 e acc) :
    Is2 128 1024 (k0_pay91 (F := Ideal) f o p e) fun l k => acc l k + ((∑ R : Fin 384, q R l * s R k) + ∑ R : Fin 384, q' R l * s' R k) := by
  intro l k
  have ht : Is2 384 1024 (truncf (F := Ideal) .bf16 p bitsLt_bf16_f32) s' := hp
  have hc := cat_large ho ht
  unfold k0_pay91
  generalize concatenate S768x1024 0 [⟨S384x1024, o⟩, ⟨S384x1024, truncf (F := Ideal) .bf16 p bitsLt_bf16_f32⟩] concatenates_S384x1024_S384x1024_S768x1024_d0 = cc at hc
  pointwise
  simp only [hf _ _, he _ _, hc _ _, ← EReal.coe_mul, ← coe_sum, ← EReal.coe_add, sum_over]

/-- A chunk of values with its leading axis of one dropped. -/
theorem v_two {x : FVec Ideal S1x1024x128 .bf16} (h : Is3 1024 128 x v) :
    Is2 1024 128 (k0_pay93 (F := Ideal) x) v := by
  intro R l
  unfold k0_pay93
  pointwise
  exact h _ _

/-- Score cotangents, key head 0, second large chunk. -/
theorem ds0_two {u : FVec Ideal S384x128 .bf16} {d : FVec Ideal S384x1 .f32} {p : FVec Ideal S384x1024 .f32} {z : FVec Ideal S1024x128 .bf16}
    (hu : Is2 384 128 u w) (hd : Is2 384 1 d fun R _ => D R) (hp : Is2 384 1024 p fun R k => wt a b L R k) (hz : Is2 1024 128 z v) :
    Is2 384 1024 (k0_pay94 (F := Ideal) u d p z (constant S384x1024 .f32 0x00000000#32)) fun R k => ds a b w v L D R k := by
  intro R k
  unfold k0_pay94
  pointwise
  simp only [hu _ _, hd _ _, hz _ _, hp _ _, ← EReal.coe_mul, ← coe_sum, ← EReal.coe_sub, ds, dots]

/-- The query gradient after the second large chunk, key head 0. -/
theorem dq0_two {u : FVec Ideal S384x128 .bf16} {d : FVec Ideal S384x1 .f32} {e : FVec Ideal S384x128 .f32} {p : FVec Ideal S384x1024 .f32} {z : FVec Ideal S1024x128 .bf16} {y' : FVec Ideal S1x1024x128 .bf16}
    (hu : Is2 384 128 u w) (hd : Is2 384 1 d fun R _ => D R) (he : Is2 384 128 e acc) (hw : Is2 384 1024 p fun R k => wt a b L R k)
    (hz : Is2 1024 128 z v) (hy' : Is3 1024 128 y' b) :
    Is2 384 128 (k0_pay95 (F := Ideal) u d e p z (constant S384x1024 .f32 0x00000000#32) y') fun R l => acc R l + ∑ k : Fin 1024, ds a b w v L D R k * b k l := by
  intro R l
  have hp := ds0_two hu hd hw hz
  unfold k0_pay95
  pointwise
  simp only [hy' _ _, he _ _, hp _ _, ← EReal.coe_mul, ← coe_sum, ← EReal.coe_add]

/-- Score cotangents, key head 1, second large chunk. -/
theorem ds1_two {x u : FVec Ideal S384x128 .bf16} {d t : FVec Ideal S384x1 .f32} {y z : FVec Ideal S1x1024x128 .bf16}
    (hx : Is2 384 128 x a) (hu : Is2 384 128 u w) (hd : Is2 384 1 d fun R _ => D R) (ht : Is2 384 1 t fun R _ => L R)
    (hy : Is3 1024 128 y b) (hz : Is3 1024 128 z v) :
    Is2 384 1024 (k0_pay97 (F := Ideal) x u d t y z) fun R k => ds a b w v L D R k := by
  intro R k
  have hp := p1_two hx ht hy R k
  unfold k0_pay97
  pointwise
  simp only [hu _ _, hd _ _, hz _ _, hp, ← EReal.coe_mul, ← coe_sum, ← EReal.coe_sub, ds, dots]

/-- The query gradient after the second large chunk, key head 1. -/
theorem dq1_two {x u : FVec Ideal S384x128 .bf16} {d t : FVec Ideal S384x1 .f32} {e : FVec Ideal S384x128 .f32} {y z y' : FVec Ideal S1x1024x128 .bf16}
    (hx : Is2 384 128 x a) (hu : Is2 384 128 u w) (hd : Is2 384 1 d fun R _ => D R) (ht : Is2 384 1 t fun R _ => L R) (he : Is2 384 128 e acc)
    (hy : Is3 1024 128 y b) (hz : Is3 1024 128 z v) (hy' : Is3 1024 128 y' b) :
    Is2 384 128 (k0_pay98 (F := Ideal) x u d t e y z y') fun R l => acc R l + ∑ k : Fin 1024, ds a b w v L D R k * b k l := by
  intro R l
  have hp := ds1_two hx hu hd ht hy hz
  unfold k0_pay98
  pointwise
  simp only [hy' _ _, he _ _, hp _ _, ← EReal.coe_mul, ← coe_sum, ← EReal.coe_add]

/-- The second large chunk's weights of both key heads, one over the other. -/
theorem pp_two {s : ℕ → ℕ → ℝ} {x : FVec Ideal S384x128 .bf16} {t : FVec Ideal S384x1 .f32} {p : FVec Ideal S384x1024 .f32} {y : FVec Ideal S1x1024x128 .bf16}
    (hx : Is2 384 128 x a) (ht : Is2 384 1 t fun R _ => L R) (hp : Is2 384 1024 p s) (hy : Is3 1024 128 y b) :
    Is2 768 1024 (k0_pay99 (F := Ideal) x t p y) fun R k => over s (wt a b L) R k := by
  have h0 : Is2 384 1024 (truncf (F := Ideal) .bf16 p bitsLt_bf16_f32) s := hp
  have h1 : Is2 384 1024 (truncf (F := Ideal) .bf16 (k0_pay96 (F := Ideal) x t y) bitsLt_bf16_f32) fun R k => wt a b L R k := p1_two hx ht hy
  exact cat_large h0 h1

/-- The key gradient after the second large chunk. -/
theorem dk_two {a' b' w' v' q q' : ℕ → ℕ → ℝ} {L' D' : ℕ → ℝ} {x u u' : FVec Ideal S384x128 .bf16} {d d' t' : FVec Ideal S384x1 .f32} {f : FVec Ideal S128x768 .bf16} {p : FVec Ideal S384x1024 .f32} {z : FVec Ideal S1024x128 .bf16} {y z' : FVec Ideal S1x1024x128 .bf16} {e : FVec Ideal S128x1024 .f32}
    (hx : Is2 384 128 x a') (hu : Is2 384 128 u w) (hu' : Is2 384 128 u' w') (hd : Is2 384 1 d fun R _ => D R) (hd' : Is2 384 1 d' fun R _ => D' R)
    (ht' : Is2 384 1 t' fun R _ => L' R) (hf : Is2 128 768 f fun l R => over q q' R l) (hp : Is2 384 1024 p fun R k => wt a b L R k)
    (hz : Is2 1024 128 z v) (hy : Is3 1024 128 y b') (hz' : Is3 1024 128 z' v') (he : Is2 128 1024 e acc) :
    Is2 128 1024 (k0_pay100 (F := Ideal) x u u' d d' t' f p z (constant S384x1024 .f32 0x00000000#32) y z' e) fun l k =>
      acc l k + ((∑ R : Fin 384, q R l * ds a b w v L D R k) + ∑ R : Fin 384, q' R l * ds a' b' w' v' L' D' R k) := by
  intro l k
  have hc := cat_large (ds0_two hu hd hp hz) (ds1_two hx hu' hd' ht' hy hz')
  unfold k0_pay100
  generalize concatenate S768x1024 0 [⟨S384x1024, k0_pay94 (F := Ideal) u d p z (constant S384x1024 .f32 0x00000000#32)⟩, ⟨S384x1024, k0_pay97 (F := Ideal) x u' d' t' y z'⟩] concatenates_S384x1024_S384x1024_S768x1024_d0 = cc at hc
  pointwise
  simp only [hf _ _, he _ _, hc _ _, ← EReal.coe_mul, ← coe_sum, ← EReal.coe_add, sum_over]

/-- The value gradient after the second large chunk. -/
theorem dv_two {q q' s s' : ℕ → ℕ → ℝ} {f : FVec Ideal S128x768 .bf16} {p : FVec Ideal S768x1024 .bf16} {e : FVec Ideal S128x1024 .f32}
    (hf : Is2 128 768 f fun l R => over q q' R l) (hc : Is2 768 1024 p fun R k => over s s' R k) (he : Is2 128 1024 e acc) :
    Is2 128 1024 (k0_pay101 (F := Ideal) f p e) fun l k => acc l k + ((∑ R : Fin 384, q R l * s R k) + ∑ R : Fin 384, q' R l * s' R k) := by
  intro l k
  unfold k0_pay101
  pointwise
  simp only [hf _ _, he _ _, hc _ _, ← EReal.coe_mul, ← coe_sum, ← EReal.coe_add, sum_over]

end
end Cert.KernelIdeal.Value
end
end
-- ==== Proof.Outs.lean ====
module

public import proofs.«01_k».proof.Proof.Large

/-!
# What each of the kernel body's stored values is, on blocks that hold real numbers

The query gradient taken apart into heads, and the key and value gradients added to their outputs.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

/-- The query gradient of a block, row `r` and column `c`, from the two stacks of heads. -/
def unstack (Q0 Q1 : ℕ → ℕ → ℝ) (r c : ℕ) : ℝ :=
  (if c / 64 / 3 = 0 then Q0 else Q1) (128 * (c / 64 % 3) + r) (64 * (c / 64 / 3) + c % 64) * (1 / 8)

section
variable {Q0 Q1 : ℕ → ℕ → ℝ} {x y : FVec Ideal S384x128 .f32}

/-- Columns 0 to 127 of the query gradient, context block. -/
theorem tile0_context (hx : Is2 384 128 x Q0) (hy : Is2 384 128 y Q1) :
    Is2 128 128 (k0_pay5 (F := Ideal) (k0_pay46 x) (k0_pay47 x)) fun r l => unstack Q0 Q1 r l := by
  intro r l
  have hr := r.isLt; have hl := l.isLt
  unfold k0_pay5 k0_pay46 k0_pay47 k0_pay44
  pointwise
  simp only [select_slt, select_sge, hx _ _, eighth, ← EReal.coe_mul]
  by_cases h : l.val < 64
  · have e1 : (l.val) / 64 = 0 := by omega
    have e2 : (l.val) % 64 = l.val := by omega
    have e : unstack Q0 Q1 r l = Q0 (128 * 0 + r) (64 * 0 + l.val) * (1 / 8) := by
      unfold unstack
      rw [e1, e2]
      rfl
    rw [e]
    simp only [if_pos h, add_zero, zero_add]
    first | rfl | (refine congrArg (fun z : ℝ => (z : EReal)) (congrArg (· * (1 / 8)) (congrArg₂ _ ?_ ?_)) <;> (try dsimp only) <;> omega)
  · have e1 : (l.val) / 64 = 1 := by omega
    have e2 : (l.val) % 64 = l.val - 64 := by omega
    have e : unstack Q0 Q1 r l = Q0 (128 * 1 + r) (64 * 0 + (l.val - 64)) * (1 / 8) := by
      unfold unstack
      rw [e1, e2]
      rfl
    rw [e]
    simp only [if_neg h, add_zero, zero_add]
    first | rfl | (refine congrArg (fun z : ℝ => (z : EReal)) (congrArg (· * (1 / 8)) (congrArg₂ _ ?_ ?_)) <;> (try dsimp only) <;> omega)

/-- Columns 128 to 255 of the query gradient, context block. -/
theorem tile1_context (hx : Is2 384 128 x Q0) (hy : Is2 384 128 y Q1) :
    Is2 128 128 (k0_pay6 (F := Ideal) (k0_pay48 x) (k0_pay49 y)) fun r l => unstack Q0 Q1 r (128 + l) := by
  intro r l
  have hr := r.isLt; have hl := l.isLt
  unfold k0_pay6 k0_pay48 k0_pay49 k0_pay44 k0_pay45
  pointwise
  simp only [select_slt, select_sge, hx _ _, hy _ _, eighth, ← EReal.coe_mul]
  by_cases h : l.val < 64
  · have e1 : (128 + l.val) / 64 = 2 := by omega
    have e2 : (128 + l.val) % 64 = l.val := by omega
    have e : unstack Q0 Q1 r (128 + l) = Q0 (128 * 2 + r) (64 * 0 + l.val) * (1 / 8) := by
      unfold unstack
      rw [e1, e2]
      rfl
    rw [e]
    simp only [if_pos h, add_zero, zero_add]
    first | rfl | (refine congrArg (fun z : ℝ => (z : EReal)) (congrArg (· * (1 / 8)) (congrArg₂ _ ?_ ?_)) <;> (try dsimp only) <;> omega)
  · have e1 : (128 + l.val) / 64 = 3 := by omega
    have e2 : (128 + l.val) % 64 = l.val - 64 := by omega
    have e : unstack Q0 Q1 r (128 + l) = Q1 (128 * 0 + r) (64 * 1 + (l.val - 64)) * (1 / 8) := by
      unfold unstack
      rw [e1, e2]
      rfl
    rw [e]
    simp only [if_neg h, add_zero, zero_add]
    first | rfl | (refine congrArg (fun z : ℝ => (z : EReal)) (congrArg (· * (1 / 8)) (congrArg₂ _ ?_ ?_)) <;> (try dsimp only) <;> omega)

/-- Columns 256 to 383 of the query gradient, context block. -/
theorem tile2_context (hx : Is2 384 128 x Q0) (hy : Is2 384 128 y Q1) :
    Is2 128 128 (k0_pay7 (F := Ideal) (k0_pay45 y) (k0_pay50 y) (iota .tc S128x128 32 [1] iota_S128x128_d1_w32)) fun r l => unstack Q0 Q1 r (256 + l) := by
  intro r l
  have hr := r.isLt; have hl := l.isLt
  unfold k0_pay7 k0_pay50 k0_pay45
  pointwise
  simp only [select_slt, select_sge, hy _ _, eighth, ← EReal.coe_mul]
  by_cases h : l.val < 64
  · have e1 : (256 + l.val) / 64 = 4 := by omega
    have e2 : (256 + l.val) % 64 = l.val := by omega
    have e : unstack Q0 Q1 r (256 + l) = Q1 (128 * 1 + r) (64 * 1 + l.val) * (1 / 8) := by
      unfold unstack
      rw [e1, e2]
      rfl
    rw [e]
    simp only [if_pos h, add_zero, zero_add]
    first | rfl | (refine congrArg (fun z : ℝ => (z : EReal)) (congrArg (· * (1 / 8)) (congrArg₂ _ ?_ ?_)) <;> (try dsimp only) <;> omega)
  · have e1 : (256 + l.val) / 64 = 5 := by omega
    have e2 : (256 + l.val) % 64 = l.val - 64 := by omega
    have e : unstack Q0 Q1 r (256 + l) = Q1 (128 * 2 + r) (64 * 1 + (l.val - 64)) * (1 / 8) := by
      unfold unstack
      rw [e1, e2]
      rfl
    rw [e]
    simp only [if_neg h, add_zero, zero_add]
    first | rfl | (refine congrArg (fun z : ℝ => (z : EReal)) (congrArg (· * (1 / 8)) (congrArg₂ _ ?_ ?_)) <;> (try dsimp only) <;> omega)

/-- Columns 0 to 127 of the query gradient, latent block. -/
theorem tile0_latent (hx : Is2 384 128 x Q0) (hy : Is2 384 128 y Q1) :
    Is2 128 128 (k0_pay8 (F := Ideal) (k0_pay104 x) (k0_pay105 x)) fun r l => unstack Q0 Q1 r l := by
  intro r l
  have hr := r.isLt; have hl := l.isLt
  unfold k0_pay8 k0_pay104 k0_pay105 k0_pay102
  pointwise
  simp only [select_slt, select_sge, hx _ _, eighth, ← EReal.coe_mul]
  by_cases h : l.val < 64
  · have e1 : (l.val) / 64 = 0 := by omega
    have e2 : (l.val) % 64 = l.val := by omega
    have e : unstack Q0 Q1 r l = Q0 (128 * 0 + r) (64 * 0 + l.val) * (1 / 8) := by
      unfold unstack
      rw [e1, e2]
      rfl
    rw [e]
    simp only [if_pos h, add_zero, zero_add]
    first | rfl | (refine congrArg (fun z : ℝ => (z : EReal)) (congrArg (· * (1 / 8)) (congrArg₂ _ ?_ ?_)) <;> (try dsimp only) <;> omega)
  · have e1 : (l.val) / 64 = 1 := by omega
    have e2 : (l.val) % 64 = l.val - 64 := by omega
    have e : unstack Q0 Q1 r l = Q0 (128 * 1 + r) (64 * 0 + (l.val - 64)) * (1 / 8) := by
      unfold unstack
      rw [e1, e2]
      rfl
    rw [e]
    simp only [if_neg h, add_zero, zero_add]
    first | rfl | (refine congrArg (fun z : ℝ => (z : EReal)) (congrArg (· * (1 / 8)) (congrArg₂ _ ?_ ?_)) <;> (try dsimp only) <;> omega)

/-- Columns 128 to 255 of the query gradient, latent block. -/
theorem tile1_latent (hx : Is2 384 128 x Q0) (hy : Is2 384 128 y Q1) :
    Is2 128 128 (k0_pay9 (F := Ideal) (k0_pay106 x) (k0_pay107 y)) fun r l => unstack Q0 Q1 r (128 + l) := by
  intro r l
  have hr := r.isLt; have hl := l.isLt
  unfold k0_pay9 k0_pay106 k0_pay107 k0_pay102 k0_pay103
  pointwise
  simp only [select_slt, select_sge, hx _ _, hy _ _, eighth, ← EReal.coe_mul]
  by_cases h : l.val < 64
  · have e1 : (128 + l.val) / 64 = 2 := by omega
    have e2 : (128 + l.val) % 64 = l.val := by omega
    have e : unstack Q0 Q1 r (128 + l) = Q0 (128 * 2 + r) (64 * 0 + l.val) * (1 / 8) := by
      unfold unstack
      rw [e1, e2]
      rfl
    rw [e]
    simp only [if_pos h, add_zero, zero_add]
    first | rfl | (refine congrArg (fun z : ℝ => (z : EReal)) (congrArg (· * (1 / 8)) (congrArg₂ _ ?_ ?_)) <;> (try dsimp only) <;> omega)
  · have e1 : (128 + l.val) / 64 = 3 := by omega
    have e2 : (128 + l.val) % 64 = l.val - 64 := by omega
    have e : unstack Q0 Q1 r (128 + l) = Q1 (128 * 0 + r) (64 * 1 + (l.val - 64)) * (1 / 8) := by
      unfold unstack
      rw [e1, e2]
      rfl
    rw [e]
    simp only [if_neg h, add_zero, zero_add]
    first | rfl | (refine congrArg (fun z : ℝ => (z : EReal)) (congrArg (· * (1 / 8)) (congrArg₂ _ ?_ ?_)) <;> (try dsimp only) <;> omega)

/-- Columns 256 to 383 of the query gradient, latent block. -/
theorem tile2_latent (hx : Is2 384 128 x Q0) (hy : Is2 384 128 y Q1) :
    Is2 128 128 (k0_pay10 (F := Ideal) (k0_pay103 y) (k0_pay108 y)) fun r l => unstack Q0 Q1 r (256 + l) := by
  intro r l
  have hr := r.isLt; have hl := l.isLt
  unfold k0_pay10 k0_pay108 k0_pay103
  pointwise
  simp only [select_slt, select_sge, hy _ _, eighth, ← EReal.coe_mul]
  by_cases h : l.val < 64
  · have e1 : (256 + l.val) / 64 = 4 := by omega
    have e2 : (256 + l.val) % 64 = l.val := by omega
    have e : unstack Q0 Q1 r (256 + l) = Q1 (128 * 1 + r) (64 * 1 + l.val) * (1 / 8) := by
      unfold unstack
      rw [e1, e2]
      rfl
    rw [e]
    simp only [if_pos h, add_zero, zero_add]
    first | rfl | (refine congrArg (fun z : ℝ => (z : EReal)) (congrArg (· * (1 / 8)) (congrArg₂ _ ?_ ?_)) <;> (try dsimp only) <;> omega)
  · have e1 : (256 + l.val) / 64 = 5 := by omega
    have e2 : (256 + l.val) % 64 = l.val - 64 := by omega
    have e : unstack Q0 Q1 r (256 + l) = Q1 (128 * 2 + r) (64 * 1 + (l.val - 64)) * (1 / 8) := by
      unfold unstack
      rw [e1, e2]
      rfl
    rw [e]
    simp only [if_neg h, add_zero, zero_add]
    first | rfl | (refine congrArg (fun z : ℝ => (z : EReal)) (congrArg (· * (1 / 8)) (congrArg₂ _ ?_ ?_)) <;> (try dsimp only) <;> omega)

end

/-- The key gradient's output block after the last point of a sample: what it held plus the sum, transposed. -/
theorem fin11_apply {p s : ℕ → ℕ → ℝ} {x : FVec Ideal S2304x128 .f32} {y : FVec Ideal S128x2304 .f32} (hx : Is2 2304 128 x p) (hy : Is2 128 2304 y s) :
    Is2 2304 128 (k0_pay11 (F := Ideal) x y) fun r l => p r l + s l r := by
  intro r l
  unfold k0_pay11
  pointwise
  simp only [hx _ _, hy _ _, ← EReal.coe_add]

/-- The value gradient's output block after the last point of a sample: what it held plus the sum, transposed. -/
theorem fin12_apply {p s : ℕ → ℕ → ℝ} {x : FVec Ideal S2304x128 .f32} {y : FVec Ideal S128x2304 .f32} (hx : Is2 2304 128 x p) (hy : Is2 128 2304 y s) :
    Is2 2304 128 (k0_pay12 (F := Ideal) x y) fun r l => p r l + s l r := by
  intro r l
  unfold k0_pay12
  pointwise
  simp only [hx _ _, hy _ _, ← EReal.coe_add]

/-- A block of zeros. -/
theorem zero1_apply : Is2 2304 128 (k0_pay1 (F := Ideal)) fun _ _ => 0 := by
  intro r l
  unfold k0_pay1
  pointwise
  exact EReal.coe_zero.symm

/-- A block of zeros. -/
theorem zero2_apply : Is2 2304 128 (k0_pay2 (F := Ideal)) fun _ _ => 0 := by
  intro r l
  unfold k0_pay2
  pointwise
  exact EReal.coe_zero.symm

/-- A block of zeros. -/
theorem zero3_apply : Is2 128 2304 (k0_pay3 (F := Ideal)) fun _ _ => 0 := by
  intro r l
  unfold k0_pay3
  pointwise
  exact EReal.coe_zero.symm

/-- A block of zeros. -/
theorem zero4_apply : Is2 128 2304 (k0_pay4 (F := Ideal)) fun _ _ => 0 := by
  intro r l
  unfold k0_pay4
  pointwise
  exact EReal.coe_zero.symm

/-- A block of zeros. -/
theorem zero30_apply : Is2 384 128 (k0_pay30 (F := Ideal)) fun _ _ => 0 := by
  intro r l
  unfold k0_pay30
  pointwise
  exact EReal.coe_zero.symm

/-- A block of zeros. -/
theorem zero31_apply : Is2 384 128 (k0_pay31 (F := Ideal)) fun _ _ => 0 := by
  intro r l
  unfold k0_pay31
  pointwise
  exact EReal.coe_zero.symm

end Cert.KernelIdeal.Value
end
end
-- ==== Proof.Pieces.lean ====
module

public import proofs.«01_k».proof.Proof.Outs

/-!
# Blocks read through rectangles, and stores through rectangles read back

For matrices of real numbers.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

/-- The shape of a matrix. -/
abbrev Mat (n m : ℕ) : Shape := ⟨2, ![n, m]⟩

/-- A part of a matrix, from row `r0` and column `c0` on. -/
theorem ld2 {e : EltTy} {n m N M r0 c0 : ℕ} {x : (Mat N M).Idx → EReal} {a : ℕ → ℕ → ℝ} (hx : Is2 N M x a)
    (inb : ∀ i, (![r0, c0] : Fin 2 → ℕ) i + (![n, m] : Fin 2 → ℕ) i ≤ (Mat N M).size i) :
    Is2 n m (fun i => x ((Rect.unit (s := Mat N M) ![r0, c0] ![n, m] inb).idx i)) fun r l => a (r0 + r) (c0 + l) := by
  intro r l
  have h0 : r0 + n ≤ N := inb 0
  have h1 : c0 + m ≤ M := inb 1
  have hr := r.isLt; have hl := l.isLt
  rw [← hx ⟨r0 + r, by omega⟩ ⟨c0 + l, by omega⟩]
  refine congrArg x (funext fun i => Fin.ext ?_)
  refine (Rect.idx_unit_val _ _ inb (ix2 r l) i).trans ?_
  fin_cases i <;> rfl

/-- A part of a matrix under a leading axis of one. -/
theorem ld3 {n m N M r0 c0 : ℕ} {x : (⟨3, ![1, N, M]⟩ : Shape).Idx → EReal} {a : ℕ → ℕ → ℝ} (hx : Is3 N M x a)
    (inb : ∀ i, (![0, r0, c0] : Fin 3 → ℕ) i + (![1, n, m] : Fin 3 → ℕ) i ≤ (⟨3, ![1, N, M]⟩ : Shape).size i) :
    Is3 n m (fun i => x ((Rect.unit (s := ⟨3, ![1, N, M]⟩) ![0, r0, c0] ![1, n, m] inb).idx i)) fun r l => a (r0 + r) (c0 + l) := by
  intro r l
  have h0 : r0 + n ≤ N := inb 1
  have h1 : c0 + m ≤ M := inb 2
  have hr := r.isLt; have hl := l.isLt
  rw [← hx ⟨r0 + r, by omega⟩ ⟨c0 + l, by omega⟩]
  refine congrArg x (funext fun i => Fin.ext ?_)
  refine (Rect.idx_unit_val _ _ inb (ix3 0 r l) i).trans ?_
  fin_cases i <;> rfl

/-- The position in a matrix of a position in a part of it. -/
theorem emb2 {n m N M r0 c0 : ℕ} (inb : ∀ i, (![r0, c0] : Fin 2 → ℕ) i + (![n, m] : Fin 2 → ℕ) i ≤ (Mat N M).size i)
    (r : Fin N) (c : Fin M) (h0 : r0 ≤ r.val) (h1 : r.val < r0 + n) (h2 : c0 ≤ c.val) (h3 : c.val < c0 + m) :
    (Rect.unit (s := Mat N M) ![r0, c0] ![n, m] inb).emb (ix2 (⟨r.val - r0, by omega⟩ : Fin n) (⟨c.val - c0, by omega⟩ : Fin m)) = ix2 r c := by
  refine funext fun i => Fin.ext ?_
  refine (Rect.idx_unit_val _ _ inb (ix2 (⟨r.val - r0, by omega⟩ : Fin n) (⟨c.val - c0, by omega⟩ : Fin m)) i).trans ?_
  fin_cases i
  · show r0 + (r.val - r0) = r.val; omega
  · show c0 + (c.val - c0) = c.val; omega

/-- A position outside a part of a matrix. -/
theorem not_mem2 {n m N M r0 c0 : ℕ} (inb : ∀ i, (![r0, c0] : Fin 2 → ℕ) i + (![n, m] : Fin 2 → ℕ) i ≤ (Mat N M).size i)
    (r : Fin N) (c : Fin M) (h : ¬(c0 ≤ c.val ∧ c.val < c0 + m)) : ix2 r c ∉ (Rect.unit (s := Mat N M) ![r0, c0] ![n, m] inb).set := by
  intro hm
  obtain ⟨x, hx⟩ := (Rect.unit (s := Mat N M) ![r0, c0] ![n, m] inb).exists_idx_of_mem hm
  have h1 := congrArg (fun y : (Mat N M).Idx => (y 1).val) hx
  have h2 : c0 + (x 1).val = c.val := (Rect.idx_unit_val _ _ inb x 1).symm.trans h1
  have h3 : (x 1).val < m := (x 1).isLt
  exact h ⟨by omega, by omega⟩

section
variable {n m N M r0 c0 : ℕ} {inb : ∀ i, (![r0, c0] : Fin 2 → ℕ) i + (![n, m] : Fin 2 → ℕ) i ≤ (Mat N M).size i}
  {w : (Mat n m).Idx → EReal} {a b : ℕ → ℕ → ℝ}

/-- What stores leave, in the columns of the last store. -/
theorem canon_in (L : List (View.Piece (Elt Ideal) (Mat N M) .f32)) (r : Fin N) (c : Fin M) (hw : Is2 n m w a) (h0 : r0 ≤ r.val) (h1 : r.val < r0 + n)
    (h2 : c0 ≤ c.val) (h3 : c.val < c0 + m) :
    View.canon ((⟨Rect.unit (s := Mat N M) ![r0, c0] ![n, m] inb, w⟩ : View.Piece (Elt Ideal) (Mat N M) .f32) :: L) (ix2 r c) = ((a (r.val - r0) (c.val - c0) : ℝ) : EReal) := by
  rw [← emb2 inb r c h0 h1 h2 h3]
  refine (View.canon_cons_emb (Val := Elt Ideal) (e := .f32) (Rect.unit (s := Mat N M) ![r0, c0] ![n, m] inb) w L _).trans ?_
  exact hw _ _

/-- What stores leave, off the columns of the last store. -/
theorem canon_off (L : List (View.Piece (Elt Ideal) (Mat N M) .f32)) (r : Fin N) (c : Fin M) (h : ¬(c0 ≤ c.val ∧ c.val < c0 + m)) :
    View.canon ((⟨Rect.unit (s := Mat N M) ![r0, c0] ![n, m] inb, w⟩ : View.Piece (Elt Ideal) (Mat N M) .f32) :: L) (ix2 r c) = View.canon L (ix2 r c) :=
  View.canon_cons_of_not_mem _ L (not_mem2 inb r c h)

/-- A store over earlier contents, in its columns. -/
theorem store_in {κ : Kind} {sp : Space} (v : View sig κ sp (Mat N M) .f32) (f : v.ty.Contents (Elt Ideal)) (r : Fin N) (c : Fin M)
    (hw : Is2 n m w a) (h0 : r0 ≤ r.val) (h1 : r.val < r0 + n) (h2 : c0 ≤ c.val) (h3 : c.val < c0 + m) :
    v.read (Elt Ideal) (v.writes (Elt Ideal) f [⟨Rect.unit (s := Mat N M) ![r0, c0] ![n, m] inb, w⟩]) (ix2 r c) = ((a (r.val - r0) (c.val - c0) : ℝ) : EReal) := by
  rw [← emb2 inb r c h0 h1 h2 h3]
  refine (View.read_writes_cons_emb v f (Rect.unit (s := Mat N M) ![r0, c0] ![n, m] inb) w [] _).trans ?_
  exact hw _ _

/-- A store over earlier contents, off its columns. -/
theorem store_off {κ : Kind} {sp : Space} (v : View sig κ sp (Mat N M) .f32) (f : v.ty.Contents (Elt Ideal)) (r : Fin N) (c : Fin M)
    (h : ¬(c0 ≤ c.val ∧ c.val < c0 + m)) :
    v.read (Elt Ideal) (v.writes (Elt Ideal) f [⟨Rect.unit (s := Mat N M) ![r0, c0] ![n, m] inb, w⟩]) (ix2 r c) = v.read (Elt Ideal) f (ix2 r c) := by
  rw [View.writes_cons, View.read_slice_write_of_not_mem _ _ _ _ (by rw [Rect.map_emb_univ]; exact not_mem2 inb r c h), View.writes_nil]

/-- A load of a part of what stores left. -/
theorem cov2 {κ : Kind} {sp : Space} (v : View sig κ sp (Mat N M) .f32) (L : List (View.Piece (Elt Ideal) (Mat N M) .f32))
    (hL : ∀ (r : Fin N) (c : Fin M), View.canon L (ix2 r c) = ((b r c : ℝ) : EReal)) :
    Is2 n m (v.readCov L (Rect.unit (s := Mat N M) ![r0, c0] ![n, m] inb).toLoadRect) fun r l => b (r0 + r) (c0 + l) := by
  rw [View.readCov_eq_canon']
  exact ld2 (e := .f32) (x := View.canon L) hL inb

end
end Cert.KernelIdeal.Value
end
end
-- ==== Proof.Point.lean ====
module

public import proofs.«01_k».proof.Proof.Pieces
public import proofs.«01_k».proof.Proof.Gen.KernelIdeal.Frame
public import Idealize.ShloMosaic.Lib.Pipeline.ReadBack

/-!
# A point of the grid

The reals that a point's blocks hold, what the point computes of them, and the parts of the blocks that the body loads.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

/-- The reals in a point's blocks: 128 rows of queries, cotangents and outputs, the keys and values of the batch entry, and the
    rows' logarithms of the sums, stacked by head. -/
structure Row where
  /-- queries -/
  A : ℕ → ℕ → ℝ
  /-- keys -/
  K : ℕ → ℕ → ℝ
  /-- values -/
  V : ℕ → ℕ → ℝ
  /-- cotangents -/
  W : ℕ → ℕ → ℝ
  /-- outputs -/
  O : ℕ → ℕ → ℝ
  /-- logarithms of the sums -/
  L : ℕ → ℝ

namespace Row
variable (x : Row)
/-- The stack of the scaled queries of key head `j`. -/
def q (j R l : ℕ) : ℝ := stack x.A j R l * (1 / 8)
/-- The stack of the cotangents of key head `j`. -/
def w (j R l : ℕ) : ℝ := stack x.W j R l
/-- The logarithms of the sums of the rows of key head `j`. -/
def lse (j R : ℕ) : ℝ := x.L (384 * j + R)
/-- The row sums of cotangent times output. -/
def delta (j R : ℕ) : ℝ := rowDot x.W x.O j R
/-- The weights. -/
def P (j R k : ℕ) : ℝ := wt (x.q j) x.K (x.lse j) R k
/-- The cotangents of the scores. -/
def dS (j R k : ℕ) : ℝ := ds (x.q j) x.K (x.w j) x.V (x.lse j) (x.delta j) R k
/-- The gradient of the stacked queries from the first `N` keys, before the scale. -/
def dQ (N j R l : ℕ) : ℝ := ∑ k : Fin N, x.dS j R k * x.K k l
/-- What the point adds to the gradient of the keys, transposed. -/
def gK (l k : ℕ) : ℝ := (∑ R : Fin 384, x.q 0 R l * x.dS 0 R k) + ∑ R : Fin 384, x.q 1 R l * x.dS 1 R k
/-- What the point adds to the gradient of the values, transposed. -/
def gV (l k : ℕ) : ℝ := (∑ R : Fin 384, x.w 0 R l * x.P 0 R k) + ∑ R : Fin 384, x.w 1 R l * x.P 1 R k

/-- The gradient of the queries of a context row. -/
theorem dQ_context (j R l : ℕ) : 0 + ∑ k : Fin 256, ds (x.q j) x.K (x.w j) x.V (x.lse j) (x.delta j) R k * x.K k l = x.dQ 256 j R l := zero_add _

/-- The gradient of the queries of a latent row, by chunks of the keys. -/
theorem dQ_latent (j R l : ℕ) :
    ((0 + ∑ k : Fin 256, ds (x.q j) x.K (x.w j) x.V (x.lse j) (x.delta j) R k * x.K k l)
      + ∑ k : Fin 1024, ds (x.q j) (fun k l => x.K (256 + k) l) (x.w j) (fun k l => x.V (256 + k) l) (x.lse j) (x.delta j) R k * x.K (256 + k) l)
      + ∑ k : Fin 1024, ds (x.q j) (fun k l => x.K (1280 + k) l) (x.w j) (fun k l => x.V (1280 + k) l) (x.lse j) (x.delta j) R k * x.K (1280 + k) l
      = x.dQ 2304 j R l := by
  unfold dQ
  rw [show (2304 : ℕ) = 256 + 1024 + 1024 from rfl, Fin.sum_univ_add, Fin.sum_univ_add, zero_add]
  rfl
end Row

/-- The same reals under another name. -/
theorem Is2.congr {n m : ℕ} {x : (⟨2, ![n, m]⟩ : Shape).Idx → EReal} {a b : ℕ → ℕ → ℝ} (h : Is2 n m x a) (e : ∀ r l, a r l = b r l) : Is2 n m x b :=
  fun r l => (h r l).trans (congrArg (fun z : ℝ => (z : EReal)) (e r l))

/-- Three tiles side by side. -/
theorem canon_tiles3 {w2 w1 w0 : (Mat 128 128).Idx → EReal} {u : ℕ → ℕ → ℝ} (h2 : Is2 128 128 w2 fun r l => u r (256 + l)) (h1 : Is2 128 128 w1 fun r l => u r (128 + l))
    (h0 : Is2 128 128 w0 u) (i2 : ∀ i, (![0, 256] : Fin 2 → ℕ) i + (![128, 128] : Fin 2 → ℕ) i ≤ (Mat 128 384).size i) (i1 : ∀ i, (![0, 128] : Fin 2 → ℕ) i + (![128, 128] : Fin 2 → ℕ) i ≤ (Mat 128 384).size i)
    (i0 : ∀ i, (![0, 0] : Fin 2 → ℕ) i + (![128, 128] : Fin 2 → ℕ) i ≤ (Mat 128 384).size i) :
    Is2 128 384 (View.canon ([⟨Rect.unit (s := Mat 128 384) ![0, 256] ![128, 128] i2, w2⟩, ⟨Rect.unit (s := Mat 128 384) ![0, 128] ![128, 128] i1, w1⟩,
      ⟨Rect.unit (s := Mat 128 384) ![0, 0] ![128, 128] i0, w0⟩] : List (View.Piece (Elt Ideal) (Mat 128 384) .f32))) u := by
  intro r c
  have hr := r.isLt; have hc := c.isLt
  by_cases e2 : 256 ≤ c.val
  · rw [canon_in _ r c h2 (by omega) (by omega) e2 (by omega)]
    exact congrArg (fun z : ℝ => (z : EReal)) (congrArg₂ u (by omega) (by omega))
  rw [canon_off _ r c (by omega)]
  by_cases e1 : 128 ≤ c.val
  · rw [canon_in _ r c h1 (by omega) (by omega) e1 (by omega)]
    exact congrArg (fun z : ℝ => (z : EReal)) (congrArg₂ u (by omega) (by omega))
  rw [canon_off _ r c (by omega), canon_in _ r c h0 (by omega) (by omega) (by omega) (by omega)]
  exact congrArg (fun z : ℝ => (z : EReal)) (congrArg₂ u (by omega) (by omega))

/-- Three chunks of keys side by side. -/
theorem canon_chunks3 {w2 w1 : (Mat 128 1024).Idx → EReal} {w0 : (Mat 128 256).Idx → EReal} {u : ℕ → ℕ → ℝ} (h2 : Is2 128 1024 w2 fun r l => u r (1280 + l)) (h1 : Is2 128 1024 w1 fun r l => u r (256 + l))
    (h0 : Is2 128 256 w0 u) (i2 : ∀ i, (![0, 1280] : Fin 2 → ℕ) i + (![128, 1024] : Fin 2 → ℕ) i ≤ (Mat 128 2304).size i) (i1 : ∀ i, (![0, 256] : Fin 2 → ℕ) i + (![128, 1024] : Fin 2 → ℕ) i ≤ (Mat 128 2304).size i)
    (i0 : ∀ i, (![0, 0] : Fin 2 → ℕ) i + (![128, 256] : Fin 2 → ℕ) i ≤ (Mat 128 2304).size i) :
    Is2 128 2304 (View.canon ([⟨Rect.unit (s := Mat 128 2304) ![0, 1280] ![128, 1024] i2, w2⟩, ⟨Rect.unit (s := Mat 128 2304) ![0, 256] ![128, 1024] i1, w1⟩,
      ⟨Rect.unit (s := Mat 128 2304) ![0, 0] ![128, 256] i0, w0⟩] : List (View.Piece (Elt Ideal) (Mat 128 2304) .f32))) u := by
  intro r c
  have hr := r.isLt; have hc := c.isLt
  by_cases e2 : 1280 ≤ c.val
  · rw [canon_in _ r c h2 (by omega) (by omega) e2 (by omega)]
    exact congrArg (fun z : ℝ => (z : EReal)) (congrArg₂ u (by omega) (by omega))
  rw [canon_off _ r c (by omega)]
  by_cases e1 : 256 ≤ c.val
  · rw [canon_in _ r c h1 (by omega) (by omega) e1 (by omega)]
    exact congrArg (fun z : ℝ => (z : EReal)) (congrArg₂ u (by omega) (by omega))
  rw [canon_off _ r c (by omega), canon_in _ r c h0 (by omega) (by omega) (by omega) (by omega)]
  exact congrArg (fun z : ℝ => (z : EReal)) (congrArg₂ u (by omega) (by omega))

/-- A whole store of zeros. -/
theorem canon_zero {w : (Mat 128 2304).Idx → EReal} (h : Is2 128 2304 w fun _ _ => 0) (i0 : ∀ i, (![0, 0] : Fin 2 → ℕ) i + (![128, 2304] : Fin 2 → ℕ) i ≤ (Mat 128 2304).size i) :
    Is2 128 2304 (View.canon ([⟨Rect.unit (s := Mat 128 2304) ![0, 0] ![128, 2304] i0, w⟩] : List (View.Piece (Elt Ideal) (Mat 128 2304) .f32))) fun _ _ => 0 := by
  intro r c
  have hr := r.isLt; have hc := c.isLt
  exact canon_in _ r c h (by omega) (by omega) (by omega) (by omega)

/-- A context chunk over zeros. -/
theorem canon_chunk1 {w0 : (Mat 128 256).Idx → EReal} {w : (Mat 128 2304).Idx → EReal} {u : ℕ → ℕ → ℝ} (h0 : Is2 128 256 w0 u) (h : Is2 128 2304 w fun _ _ => 0)
    (i0 : ∀ i, (![0, 0] : Fin 2 → ℕ) i + (![128, 256] : Fin 2 → ℕ) i ≤ (Mat 128 2304).size i) (iz : ∀ i, (![0, 0] : Fin 2 → ℕ) i + (![128, 2304] : Fin 2 → ℕ) i ≤ (Mat 128 2304).size i) :
    Is2 128 2304 (View.canon ([⟨Rect.unit (s := Mat 128 2304) ![0, 0] ![128, 256] i0, w0⟩, ⟨Rect.unit (s := Mat 128 2304) ![0, 0] ![128, 2304] iz, w⟩] : List (View.Piece (Elt Ideal) (Mat 128 2304) .f32)))
      fun l k => if k < 256 then u l k else 0 := by
  intro r c
  have hr := r.isLt; have hc := c.isLt
  by_cases e : c.val < 256
  · rw [canon_in _ r c h0 (by omega) (by omega) (by omega) (by omega)]
    exact congrArg (fun z : ℝ => (z : EReal)) ((congrArg₂ u (by omega) (by omega)).trans (if_pos e).symm)
  · rw [canon_off _ r c (by omega), canon_zero h iz r c]
    exact congrArg (fun z : ℝ => (z : EReal)) (if_neg e).symm

/-- A context chunk stored over earlier contents. -/
theorem store_chunk1 {κ : Kind} {sp : Space} (v : View sig κ sp (Mat 128 2304) .f32) (f : v.ty.Contents (Elt Ideal)) {w0 : (Mat 128 256).Idx → EReal} {u p : ℕ → ℕ → ℝ}
    (h0 : Is2 128 256 w0 u) (h : Is2 128 2304 (v.read (Elt Ideal) f) p) (i0 : ∀ i, (![0, 0] : Fin 2 → ℕ) i + (![128, 256] : Fin 2 → ℕ) i ≤ (Mat 128 2304).size i) :
    Is2 128 2304 (v.read (Elt Ideal) (v.writes (Elt Ideal) f [⟨Rect.unit (s := Mat 128 2304) ![0, 0] ![128, 256] i0, w0⟩])) fun l k => if k < 256 then u l k else p l k := by
  intro r c
  have hr := r.isLt; have hc := c.isLt
  by_cases e : c.val < 256
  · rw [store_in v f r c h0 (by omega) (by omega) (by omega) (by omega)]
    exact congrArg (fun z : ℝ => (z : EReal)) ((congrArg₂ u (by omega) (by omega)).trans (if_pos e).symm)
  · rw [store_off v f r c (by omega), h r c]
    exact congrArg (fun z : ℝ => (z : EReal)) (if_neg e).symm

variable (m : (ℓ : Loc nD τ sig) → Buf (Elt Ideal) ℓ)

/-- The blocks of point `t` hold the reals of `x`. -/
structure Blocks (c : Dev nD) (t : Fin cfg0.N) (x : Row) : Prop where
  /-- queries -/
  hA : Is3 128 384 (iblk m c 0 t) x.A
  /-- keys -/
  hK : Is3 2304 128 (iblk m c 1 t) x.K
  /-- values -/
  hV : Is3 2304 128 (iblk m c 2 t) x.V
  /-- cotangents -/
  hW : Is2 128 384 (iblk m c 3 t) x.W
  /-- outputs -/
  hO : Is2 128 384 (iblk m c 4 t) x.O
  /-- logarithms of the sums -/
  hL : Is3 768 1 (iblk m c 5 t) fun R _ => x.L R

namespace Blocks
variable {m} {c : Dev nD} {t : Fin cfg0.N} {x : Row} (B : Blocks m c t x)
include B
/-- Tile 0 of the queries. -/
theorem a0 : Is3 128 128 (View.ld (Val := Elt Ideal) (e' := .bf16) (iblk m c 0 t) (Rect.unit (s := S1x128x384) ![0, 0, 0] ![1, 128, 128] inb_S1x128x384_S1x128x128_0_0_0)) (x.A) :=
  fun r l => by simpa only [zero_add] using ld3 B.hA inb_S1x128x384_S1x128x128_0_0_0 r l
/-- Tile 1 of the queries. -/
theorem a1 : Is3 128 128 (View.ld (Val := Elt Ideal) (e' := .bf16) (iblk m c 0 t) (Rect.unit (s := S1x128x384) ![0, 0, 128] ![1, 128, 128] inb_S1x128x384_S1x128x128_0_0_128)) (fun r l => x.A r (128 + l)) :=
  fun r l => by simpa only [zero_add] using ld3 B.hA inb_S1x128x384_S1x128x128_0_0_128 r l
/-- Tile 2 of the queries. -/
theorem a2 : Is3 128 128 (View.ld (Val := Elt Ideal) (e' := .bf16) (iblk m c 0 t) (Rect.unit (s := S1x128x384) ![0, 0, 256] ![1, 128, 128] inb_S1x128x384_S1x128x128_0_0_256)) (fun r l => x.A r (256 + l)) :=
  fun r l => by simpa only [zero_add] using ld3 B.hA inb_S1x128x384_S1x128x128_0_0_256 r l
/-- Tile 0 of the cotangents. -/
theorem w0 : Is2 128 128 (View.ld (Val := Elt Ideal) (e' := .bf16) (iblk m c 3 t) (Rect.unit (s := S128x384) ![0, 0] ![128, 128] inb_S128x384_S128x128_0_0)) (x.W) :=
  fun r l => by simpa only [zero_add] using ld2 (e := .bf16) B.hW inb_S128x384_S128x128_0_0 r l
/-- Tile 1 of the cotangents. -/
theorem w1 : Is2 128 128 (View.ld (Val := Elt Ideal) (e' := .bf16) (iblk m c 3 t) (Rect.unit (s := S128x384) ![0, 128] ![128, 128] inb_S128x384_S128x128_0_128)) (fun r l => x.W r (128 + l)) :=
  fun r l => by simpa only [zero_add] using ld2 (e := .bf16) B.hW inb_S128x384_S128x128_0_128 r l
/-- Tile 2 of the cotangents. -/
theorem w2 : Is2 128 128 (View.ld (Val := Elt Ideal) (e' := .bf16) (iblk m c 3 t) (Rect.unit (s := S128x384) ![0, 256] ![128, 128] inb_S128x384_S128x128_0_256)) (fun r l => x.W r (256 + l)) :=
  fun r l => by simpa only [zero_add] using ld2 (e := .bf16) B.hW inb_S128x384_S128x128_0_256 r l
/-- Tile 0 of the outputs. -/
theorem o0 : Is2 128 128 (View.ld (Val := Elt Ideal) (e' := .f32) (iblk m c 4 t) (Rect.unit (s := S128x384) ![0, 0] ![128, 128] inb_S128x384_S128x128_0_0)) (x.O) :=
  fun r l => by simpa only [zero_add] using ld2 (e := .f32) B.hO inb_S128x384_S128x128_0_0 r l
/-- Tile 1 of the outputs. -/
theorem o1 : Is2 128 128 (View.ld (Val := Elt Ideal) (e' := .f32) (iblk m c 4 t) (Rect.unit (s := S128x384) ![0, 128] ![128, 128] inb_S128x384_S128x128_0_128)) (fun r l => x.O r (128 + l)) :=
  fun r l => by simpa only [zero_add] using ld2 (e := .f32) B.hO inb_S128x384_S128x128_0_128 r l
/-- Tile 2 of the outputs. -/
theorem o2 : Is2 128 128 (View.ld (Val := Elt Ideal) (e' := .f32) (iblk m c 4 t) (Rect.unit (s := S128x384) ![0, 256] ![128, 128] inb_S128x384_S128x128_0_256)) (fun r l => x.O r (256 + l)) :=
  fun r l => by simpa only [zero_add] using ld2 (e := .f32) B.hO inb_S128x384_S128x128_0_256 r l
/-- Chunk 0 of the keys. -/
theorem k0 : Is3 256 128 (View.ld (Val := Elt Ideal) (e' := .bf16) (iblk m c 1 t) (Rect.unit (s := S1x2304x128) ![0, 0, 0] ![1, 256, 128] inb_S1x2304x128_S1x256x128_0_0_0)) (x.K) :=
  fun r l => by simpa only [zero_add] using ld3 B.hK inb_S1x2304x128_S1x256x128_0_0_0 r l
/-- Chunk 1 of the keys. -/
theorem k1 : Is3 1024 128 (View.ld (Val := Elt Ideal) (e' := .bf16) (iblk m c 1 t) (Rect.unit (s := S1x2304x128) ![0, 256, 0] ![1, 1024, 128] inb_S1x2304x128_S1x1024x128_0_256_0)) (fun k l => x.K (256 + k) l) :=
  fun r l => by simpa only [zero_add] using ld3 B.hK inb_S1x2304x128_S1x1024x128_0_256_0 r l
/-- Chunk 2 of the keys. -/
theorem k2 : Is3 1024 128 (View.ld (Val := Elt Ideal) (e' := .bf16) (iblk m c 1 t) (Rect.unit (s := S1x2304x128) ![0, 1280, 0] ![1, 1024, 128] inb_S1x2304x128_S1x1024x128_0_1280_0)) (fun k l => x.K (1280 + k) l) :=
  fun r l => by simpa only [zero_add] using ld3 B.hK inb_S1x2304x128_S1x1024x128_0_1280_0 r l
/-- Chunk 0 of the values. -/
theorem v0 : Is3 256 128 (View.ld (Val := Elt Ideal) (e' := .bf16) (iblk m c 2 t) (Rect.unit (s := S1x2304x128) ![0, 0, 0] ![1, 256, 128] inb_S1x2304x128_S1x256x128_0_0_0)) (x.V) :=
  fun r l => by simpa only [zero_add] using ld3 B.hV inb_S1x2304x128_S1x256x128_0_0_0 r l
/-- Chunk 1 of the values. -/
theorem v1 : Is3 1024 128 (View.ld (Val := Elt Ideal) (e' := .bf16) (iblk m c 2 t) (Rect.unit (s := S1x2304x128) ![0, 256, 0] ![1, 1024, 128] inb_S1x2304x128_S1x1024x128_0_256_0)) (fun k l => x.V (256 + k) l) :=
  fun r l => by simpa only [zero_add] using ld3 B.hV inb_S1x2304x128_S1x1024x128_0_256_0 r l
/-- Chunk 2 of the values. -/
theorem v2 : Is3 1024 128 (View.ld (Val := Elt Ideal) (e' := .bf16) (iblk m c 2 t) (Rect.unit (s := S1x2304x128) ![0, 1280, 0] ![1, 1024, 128] inb_S1x2304x128_S1x1024x128_0_1280_0)) (fun k l => x.V (1280 + k) l) :=
  fun r l => by simpa only [zero_add] using ld3 B.hV inb_S1x2304x128_S1x1024x128_0_1280_0 r l
/-- The logarithms of the sums of key head 0. -/
theorem l0 : Is3 384 1 (View.ld (Val := Elt Ideal) (e' := .f32) (iblk m c 5 t) (Rect.unit (s := S1x768x1) ![0, 0, 0] ![1, 384, 1] inb_S1x768x1_S1x384x1_0_0_0)) fun R _ => x.lse 0 R :=
  fun r l => by simpa only [Row.lse, Nat.mul_zero, Nat.mul_one] using ld3 B.hL inb_S1x768x1_S1x384x1_0_0_0 r l
/-- The logarithms of the sums of key head 1. -/
theorem l1 : Is3 384 1 (View.ld (Val := Elt Ideal) (e' := .f32) (iblk m c 5 t) (Rect.unit (s := S1x768x1) ![0, 384, 0] ![1, 384, 1] inb_S1x768x1_S1x384x1_0_384_0)) fun R _ => x.lse 1 R :=
  fun r l => by simpa only [Row.lse, Nat.mul_zero, Nat.mul_one] using ld3 B.hL inb_S1x768x1_S1x384x1_0_384_0 r l
end Blocks

end Cert.KernelIdeal.Value
end
end
-- ==== Proof.CasesContext.lean ====
module

public import proofs.«01_k».proof.Proof.Point

/-!
# The cases of the body

What each case of the body leaves in the outputs and in the two accumulators, on blocks of reals.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

/-! The values that the two branches of the body store alike. -/

/-- The same value in the other branch. -/
theorem same51 : @k0_pay51 = @k0_pay13 := rfl
/-- The same value in the other branch. -/
theorem same52 : @k0_pay52 = @k0_pay14 := rfl
/-- The same value in the other branch. -/
theorem same53 : @k0_pay53 = @k0_pay15 := rfl
/-- The same value in the other branch. -/
theorem same54 : @k0_pay54 = @k0_pay16 := rfl
/-- The same value in the other branch. -/
theorem same55 : @k0_pay55 = @k0_pay17 := rfl
/-- The same value in the other branch. -/
theorem same56 : @k0_pay56 = @k0_pay18 := rfl
/-- The same value in the other branch. -/
theorem same57 : @k0_pay57 = @k0_pay19 := rfl
/-- The same value in the other branch. -/
theorem same58 : @k0_pay58 = @k0_pay20 := rfl
/-- The same value in the other branch. -/
theorem same59 : @k0_pay59 = @k0_pay21 := rfl
/-- The same value in the other branch. -/
theorem same60 : @k0_pay60 = @k0_pay22 := rfl
/-- The same value in the other branch. -/
theorem same61 : @k0_pay61 = @k0_pay23 := rfl
/-- The same value in the other branch. -/
theorem same62 : @k0_pay62 = @k0_pay24 := rfl
/-- The same value in the other branch. -/
theorem same63 : @k0_pay63 = @k0_pay25 := rfl
/-- The same value in the other branch. -/
theorem same64 : @k0_pay64 = @k0_pay26 := rfl
/-- The same value in the other branch. -/
theorem same65 : @k0_pay65 = @k0_pay27 := rfl
/-- The same value in the other branch. -/
theorem same66 : @k0_pay66 = @k0_pay27 := rfl
/-- The same value in the other branch. -/
theorem same67 : @k0_pay67 = @k0_pay28 := rfl
/-- The same value in the other branch. -/
theorem same68 : @k0_pay68 = @k0_pay28 := rfl
/-- The same value in the other branch. -/
theorem same69 : @k0_pay69 = @k0_pay30 := rfl
/-- The same value in the other branch. -/
theorem same70 : @k0_pay70 = @k0_pay31 := rfl
/-- The same value in the other branch. -/
theorem same71 : @k0_pay71 = @k0_pay32 := rfl
/-- The same value in the other branch. -/
theorem same72 : @k0_pay72 = @k0_pay33 := rfl
/-- The same value in the other branch. -/
theorem same73 : @k0_pay73 = @k0_pay34 := rfl
/-- The same value in the other branch. -/
theorem same74 : @k0_pay74 = @k0_pay35 := rfl
/-- The same value in the other branch. -/
theorem same75 : @k0_pay75 = @k0_pay36 := rfl
/-- The same value in the other branch. -/
theorem same76 : @k0_pay76 = @k0_pay37 := rfl
/-- The same value in the other branch. -/
theorem same77 : @k0_pay77 = @k0_pay38 := rfl
/-- The same value in the other branch. -/
theorem same78 : @k0_pay78 = @k0_pay39 := rfl
/-- The same value in the other branch. -/
theorem same79 : @k0_pay79 = @k0_pay40 := rfl
/-- The same value in the other branch. -/
theorem same80 : @k0_pay80 = @k0_pay41 := rfl
/-- The same value in the other branch. -/
theorem same81 : @k0_pay81 = @k0_pay42 := rfl
/-- The same value in the other branch. -/
theorem same82 : @k0_pay82 = @k0_pay43 := rfl
/-- The same value in the other branch. -/
theorem same29 : @k0_pay29 = @k0_pay28 := rfl

variable {m : (ℓ : Loc nD τ sig) → Buf (Elt Ideal) ℓ} {c : Dev nD} {t : Fin cfg0.N} {x : Row}

/-- The first point of a batch entry: context rows, the accumulators set to zero first. -/
theorem caseA (B : Blocks m c t x) (h0 : t.val % 18 = 0) (h1 : t.val % 18 ≤ 1) (h2 : ¬2 ≤ t.val % 18) (h3 : ¬t.val % 18 = 17) :
    Is2 128 384 (outsAt0 m c t.val t.isLt).1 (unstack (x.dQ 256 0) (x.dQ 256 1)) ∧ Is2 2304 128 (outsAt0 m c t.val t.isLt).2.1 (fun _ _ => 0) ∧ Is2 2304 128 (outsAt0 m c t.val t.isLt).2.2.1 (fun _ _ => 0)
    ∧ Is2 128 2304 (outsAt0 m c t.val t.isLt).2.2.2.1 (fun l k => if k < 256 then 0 + x.gK l k else 0) ∧ Is2 128 2304 (outsAt0 m c t.val t.isLt).2.2.2.2 (fun l k => if k < 256 then 0 + x.gV l k else 0) := by
  have hq0 : Is2 384 128 (k0_pay13 (F := Ideal) _ _ _) (x.q 0) := q0_apply (A := x.A) B.a0 B.a0 B.a1
  have hq1 : Is2 384 128 (k0_pay15 (F := Ideal) _ _ _) (x.q 1) := q1_apply (A := x.A) (q1a_apply (A := x.A) B.a1) B.a2 B.a2
  have hw0 : Is2 384 128 (k0_pay19 (F := Ideal) _ _ _) (x.w 0) := w0_apply (A := x.W) (w0a_apply B.w0) (w0b_apply B.w0) (w0c_apply B.w1)
  have hw1 : Is2 384 128 (k0_pay20 (F := Ideal) _ _ _) (x.w 1) := w1_apply (A := x.W) B.w1 B.w2 B.w2
  have hd0 : Is2 384 1 (k0_pay23 (F := Ideal) _ _ _ _ _ _ _) fun R _ => x.delta 0 R :=
    d0_apply (W := x.W) (O := x.O) (d0a_apply B.w0 B.o0) B.w0 B.o0 B.w1 B.o1
  have hd1 : Is2 384 1 (k0_pay26 (F := Ideal) _ _ _ _ _) fun R _ => x.delta 1 R :=
    d1_apply (W := x.W) (O := x.O) (d1a_apply (W := x.W) (O := x.O) B.w1 B.o1) (d1b_apply B.w2) B.o2 B.w2 B.o2
  have hl0 := l_ctx (L := x.lse 0) B.l0
  have hl1 := col_apply (L := x.lse 1) B.l1
  have hs0 := s_ctx hq0 B.k0
  have hdq0 := dq0_ctx (L := x.lse 0) (D := x.delta 0) hw0 hd0 zero30_apply hs0 hl0 B.v0 B.k0
  have hdq1 := dq1_ctx (L := x.lse 1) (D := x.delta 1) hq1 hw1 hd1 hl1 zero31_apply B.k0 B.v0 B.k0
  have htq := tr_apply hq0 hq1
  have htw := tr_apply hw0 hw1
  have hpp := pp_ctx (L := x.lse 0) (L' := x.lse 1) hq1 hl1 hs0 hl0 B.k0
  have hQ0 := hdq0.congr (x.dQ_context 0)
  have hQ1 := hdq1.congr (x.dQ_context 1)
  have hO := canon_tiles3 (u := unstack (x.dQ 256 0) (x.dQ 256 1)) (tile2_context hQ0 hQ1) (tile1_context hQ0 hQ1) (tile0_context hQ0 hQ1)
    inb_S128x384_S128x128_0_256 inb_S128x384_S128x128_0_128 inb_S128x384_S128x128_0_0
  have zK := canon_zero zero3_apply inb_S128x2304_S128x2304_0_0
  have zV := canon_zero zero4_apply inb_S128x2304_S128x2304_0_0
  have hK := canon_chunk1 (dk_ctx (L := x.lse 0) (D := x.delta 0) (L' := x.lse 1) (D' := x.delta 1) hq1 hw0 hw1 hd0 hd1 hl1 htq hs0 hl0 B.v0 B.k0 B.v0
    (cov2 (View.whole cc0_scratch0) _ (b := fun _ _ => 0) zK (inb := inb_S128x2304_S128x256_0_0))) zero3_apply inb_S128x2304_S128x256_0_0 inb_S128x2304_S128x2304_0_0
  have hV := canon_chunk1 (dv_ctx htw hpp (cov2 (View.whole cc0_scratch1) _ (b := fun _ _ => 0) zV (inb := inb_S128x2304_S128x256_0_0))) zero4_apply inb_S128x2304_S128x256_0_0 inb_S128x2304_S128x2304_0_0
  refine ⟨?_, ?_, ?_, ?_, ?_⟩
  · intro r l; rw [outsAt0_A m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact hO r l
  · intro r l; rw [outsAt0_A m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact zero1_apply r l
  · intro r l; rw [outsAt0_A m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact zero2_apply r l
  · intro r l; rw [outsAt0_A m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact hK r l
  · intro r l; rw [outsAt0_A m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact hV r l

/-- The other points of context rows. -/
theorem caseB (B : Blocks m c t x) (h0 : ¬t.val % 18 = 0) (h1 : t.val % 18 ≤ 1) (h2 : ¬2 ≤ t.val % 18) (h3 : ¬t.val % 18 = 17) {P7 P8 S0 S1 : ℕ → ℕ → ℝ} (hn : t.val - 1 < cfg0.N)
    (H7 : Is2 2304 128 (outsAt0 m c (t.val - 1) hn).2.1 P7) (H8 : Is2 2304 128 (outsAt0 m c (t.val - 1) hn).2.2.1 P8)
    (H0 : Is2 128 2304 (outsAt0 m c (t.val - 1) hn).2.2.2.1 S0) (H1 : Is2 128 2304 (outsAt0 m c (t.val - 1) hn).2.2.2.2 S1) :
    Is2 128 384 (outsAt0 m c t.val t.isLt).1 (unstack (x.dQ 256 0) (x.dQ 256 1)) ∧ Is2 2304 128 (outsAt0 m c t.val t.isLt).2.1 (P7) ∧ Is2 2304 128 (outsAt0 m c t.val t.isLt).2.2.1 (P8)
    ∧ Is2 128 2304 (outsAt0 m c t.val t.isLt).2.2.2.1 (fun l k => if k < 256 then S0 l k + x.gK l k else S0 l k) ∧ Is2 128 2304 (outsAt0 m c t.val t.isLt).2.2.2.2 (fun l k => if k < 256 then S1 l k + x.gV l k else S1 l k) := by
  have hq0 : Is2 384 128 (k0_pay13 (F := Ideal) _ _ _) (x.q 0) := q0_apply (A := x.A) B.a0 B.a0 B.a1
  have hq1 : Is2 384 128 (k0_pay15 (F := Ideal) _ _ _) (x.q 1) := q1_apply (A := x.A) (q1a_apply (A := x.A) B.a1) B.a2 B.a2
  have hw0 : Is2 384 128 (k0_pay19 (F := Ideal) _ _ _) (x.w 0) := w0_apply (A := x.W) (w0a_apply B.w0) (w0b_apply B.w0) (w0c_apply B.w1)
  have hw1 : Is2 384 128 (k0_pay20 (F := Ideal) _ _ _) (x.w 1) := w1_apply (A := x.W) B.w1 B.w2 B.w2
  have hd0 : Is2 384 1 (k0_pay23 (F := Ideal) _ _ _ _ _ _ _) fun R _ => x.delta 0 R :=
    d0_apply (W := x.W) (O := x.O) (d0a_apply B.w0 B.o0) B.w0 B.o0 B.w1 B.o1
  have hd1 : Is2 384 1 (k0_pay26 (F := Ideal) _ _ _ _ _) fun R _ => x.delta 1 R :=
    d1_apply (W := x.W) (O := x.O) (d1a_apply (W := x.W) (O := x.O) B.w1 B.o1) (d1b_apply B.w2) B.o2 B.w2 B.o2
  have hl0 := l_ctx (L := x.lse 0) B.l0
  have hl1 := col_apply (L := x.lse 1) B.l1
  have hs0 := s_ctx hq0 B.k0
  have hdq0 := dq0_ctx (L := x.lse 0) (D := x.delta 0) hw0 hd0 zero30_apply hs0 hl0 B.v0 B.k0
  have hdq1 := dq1_ctx (L := x.lse 1) (D := x.delta 1) hq1 hw1 hd1 hl1 zero31_apply B.k0 B.v0 B.k0
  have htq := tr_apply hq0 hq1
  have htw := tr_apply hw0 hw1
  have hpp := pp_ctx (L := x.lse 0) (L' := x.lse 1) hq1 hl1 hs0 hl0 B.k0
  have hQ0 := hdq0.congr (x.dQ_context 0)
  have hQ1 := hdq1.congr (x.dQ_context 1)
  have hO := canon_tiles3 (u := unstack (x.dQ 256 0) (x.dQ 256 1)) (tile2_context hQ0 hQ1) (tile1_context hQ0 hQ1) (tile0_context hQ0 hQ1)
    inb_S128x384_S128x128_0_256 inb_S128x384_S128x128_0_128 inb_S128x384_S128x128_0_0
  have z : ∀ (S g : ℕ → ℕ → ℝ) (l k : ℕ), S (0 + l) (0 + k) + g l k = S l k + g l k := fun S g l k => by rw [Nat.zero_add, Nat.zero_add]
  have hK := (dk_ctx (L := x.lse 0) (D := x.delta 0) (L' := x.lse 1) (D' := x.delta 1) hq1 hw0 hw1 hd0 hd1 hl1 htq hs0 hl0 B.v0 B.k0 B.v0 (ld2 (e := .f32) H0 inb_S128x2304_S128x256_0_0)).congr (z S0 x.gK)
  have hV := (dv_ctx htw hpp (ld2 (e := .f32) H1 inb_S128x2304_S128x256_0_0)).congr (z S1 x.gV)
  refine ⟨?_, ?_, ?_, ?_, ?_⟩
  · intro r l; rw [outsAt0_B m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact hO r l
  · intro r l; rw [outsAt0_B m c t h0 h1 h2 h3]; exact H7 r l
  · intro r l; rw [outsAt0_B m c t h0 h1 h2 h3]; exact H8 r l
  · intro r l; rw [outsAt0_B m c t h0 h1 h2 h3]; frame_out; (try simp only [same51, same52, same53, same54, same55, same56, same57, same58, same59, same60, same61, same62, same63, same64, same65, same66, same67, same68, same69, same70, same71, same72, same73, same74, same75, same76, same77, same78, same79, same80, same81, same82, same29])
    refine store_chunk1 (View.whole cc0_scratch0) _ (u := fun l k => S0 l k + x.gK l k) (p := S0) ?_ ?_ inb_S128x2304_S128x256_0_0 r l
    · simp only [read_unread_whole]; exact hK
    · simp only [read_unread_whole]; exact H0
  · intro r l; rw [outsAt0_B m c t h0 h1 h2 h3]; frame_out; (try simp only [same51, same52, same53, same54, same55, same56, same57, same58, same59, same60, same61, same62, same63, same64, same65, same66, same67, same68, same69, same70, same71, same72, same73, same74, same75, same76, same77, same78, same79, same80, same81, same82, same29])
    refine store_chunk1 (View.whole cc0_scratch1) _ (u := fun l k => S1 l k + x.gV l k) (p := S1) ?_ ?_ inb_S128x2304_S128x256_0_0 r l
    · simp only [read_unread_whole]; exact hV
    · simp only [read_unread_whole]; exact H1

end Cert.KernelIdeal.Value
end
end
-- ==== Proof.CasesLatent.lean ====
module

public import proofs.«01_k».proof.Proof.CasesContext

/-!
# The cases of the body

The points of latent rows.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

variable {m : (ℓ : Loc nD τ sig) → Buf (Elt Ideal) ℓ} {c : Dev nD} {t : Fin cfg0.N} {x : Row}

/-- A point of latent rows. -/
theorem caseC (B : Blocks m c t x) (h0 : ¬t.val % 18 = 0) (h1 : ¬t.val % 18 ≤ 1) (h2 : 2 ≤ t.val % 18) (h3 : ¬t.val % 18 = 17) {P7 P8 S0 S1 : ℕ → ℕ → ℝ} (hn : t.val - 1 < cfg0.N)
    (H7 : Is2 2304 128 (outsAt0 m c (t.val - 1) hn).2.1 P7) (H8 : Is2 2304 128 (outsAt0 m c (t.val - 1) hn).2.2.1 P8)
    (H0 : Is2 128 2304 (outsAt0 m c (t.val - 1) hn).2.2.2.1 S0) (H1 : Is2 128 2304 (outsAt0 m c (t.val - 1) hn).2.2.2.2 S1) :
    Is2 128 384 (outsAt0 m c t.val t.isLt).1 (unstack (x.dQ 2304 0) (x.dQ 2304 1)) ∧ Is2 2304 128 (outsAt0 m c t.val t.isLt).2.1 (P7) ∧ Is2 2304 128 (outsAt0 m c t.val t.isLt).2.2.1 (P8)
    ∧ Is2 128 2304 (outsAt0 m c t.val t.isLt).2.2.2.1 (fun l k => S0 l k + x.gK l k) ∧ Is2 128 2304 (outsAt0 m c t.val t.isLt).2.2.2.2 (fun l k => S1 l k + x.gV l k) := by
  have hq0 : Is2 384 128 (k0_pay13 (F := Ideal) _ _ _) (x.q 0) := q0_apply (A := x.A) B.a0 B.a0 B.a1
  have hq1 : Is2 384 128 (k0_pay15 (F := Ideal) _ _ _) (x.q 1) := q1_apply (A := x.A) (q1a_apply (A := x.A) B.a1) B.a2 B.a2
  have hw0 : Is2 384 128 (k0_pay19 (F := Ideal) _ _ _) (x.w 0) := w0_apply (A := x.W) (w0a_apply B.w0) (w0b_apply B.w0) (w0c_apply B.w1)
  have hw1 : Is2 384 128 (k0_pay20 (F := Ideal) _ _ _) (x.w 1) := w1_apply (A := x.W) B.w1 B.w2 B.w2
  have hd0 : Is2 384 1 (k0_pay23 (F := Ideal) _ _ _ _ _ _ _) fun R _ => x.delta 0 R :=
    d0_apply (W := x.W) (O := x.O) (d0a_apply B.w0 B.o0) B.w0 B.o0 B.w1 B.o1
  have hd1 : Is2 384 1 (k0_pay26 (F := Ideal) _ _ _ _ _) fun R _ => x.delta 1 R :=
    d1_apply (W := x.W) (O := x.O) (d1a_apply (W := x.W) (O := x.O) B.w1 B.o1) (d1b_apply B.w2) B.o2 B.w2 B.o2
  have hl0 := l_ctx (L := x.lse 0) B.l0
  have hl1 := col_apply (L := x.lse 1) B.l1
  have hs0 := s_ctx hq0 B.k0
  have hdq0 := dq0_ctx (L := x.lse 0) (D := x.delta 0) hw0 hd0 zero30_apply hs0 hl0 B.v0 B.k0
  have hdq1 := dq1_ctx (L := x.lse 1) (D := x.delta 1) hq1 hw1 hd1 hl1 zero31_apply B.k0 B.v0 B.k0
  have htq := tr_apply hq0 hq1
  have htw := tr_apply hw0 hw1
  have hpp := pp_ctx (L := x.lse 0) (L' := x.lse 1) hq1 hl1 hs0 hl0 B.k0
  have hc0 := col_apply (L := x.lse 0) B.l0
  have hp1 := p1_one (L := x.lse 1) hq1 hl1 B.k1
  have hdq1b := dq1_one (L := x.lse 1) (D := x.delta 1) hw1 hd1 hdq1 hp1 B.v1 B.k1
  have hdq1c := dq1_two (L := x.lse 1) (D := x.delta 1) hq1 hw1 hd1 hl1 hdq1b B.k2 B.v2 B.k2
  have hdq0b := dq0_one (L := x.lse 0) (D := x.delta 0) hq0 hw0 hd0 hc0 hdq0 B.k1 B.v1 B.k1
  have hp0 := p0_two (L := x.lse 0) hq0 hc0 B.k2
  have hv2 := v_two B.v2
  have hdq0c := dq0_two (L := x.lse 0) (D := x.delta 0) hw0 hd0 hdq0b hp0 hv2 B.k2
  have hds := ds0_one (L := x.lse 0) (D := x.delta 0) hq0 hw0 hd0 hc0 B.k1 B.v1
  have hQ0 := hdq0c.congr (x.dQ_latent 0)
  have hQ1 := hdq1c.congr (x.dQ_latent 1)
  have hk2 := dk_two (L := x.lse 0) (D := x.delta 0) (L' := x.lse 1) (D' := x.delta 1) hq1 hw0 hw1 hd0 hd1 hl1 htq hp0 hv2 B.k2 B.v2 (ld2 (e := .f32) H0 inb_S128x2304_S128x1024_0_1280)
  have hk1 := dk_one (L := x.lse 1) (D := x.delta 1) hw1 hd1 htq hds hp1 B.v1 (ld2 (e := .f32) H0 inb_S128x2304_S128x1024_0_256)
  have hk0 := dk_ctx (L := x.lse 0) (D := x.delta 0) (L' := x.lse 1) (D' := x.delta 1) hq1 hw0 hw1 hd0 hd1 hl1 htq hs0 hl0 B.v0 B.k0 B.v0 (ld2 (e := .f32) H0 inb_S128x2304_S128x256_0_0)
  have hv2' := dv_two htw (pp_two (L := x.lse 1) hq1 hl1 hp0 B.k2) (ld2 (e := .f32) H1 inb_S128x2304_S128x1024_0_1280)
  have hv1' := dv_one htw (p0b_one (L := x.lse 0) hq0 hc0 B.k1) hp1 (ld2 (e := .f32) H1 inb_S128x2304_S128x1024_0_256)
  have hv0' := dv_ctx htw hpp (ld2 (e := .f32) H1 inb_S128x2304_S128x256_0_0)
  have z : ∀ (S g : ℕ → ℕ → ℝ) (l k : ℕ), S (0 + l) (0 + k) + g l k = S l k + g l k := fun S g l k => by rw [Nat.zero_add, Nat.zero_add]
  have z' : ∀ (S g : ℕ → ℕ → ℝ) (o l k : ℕ), S (0 + l) (o + k) + g l (o + k) = S l (o + k) + g l (o + k) := fun S g o l k => by rw [Nat.zero_add]
  have hK := canon_chunks3 (u := fun l k => S0 l k + x.gK l k) (hk2.congr (z' S0 x.gK 1280)) (hk1.congr (z' S0 x.gK 256)) (hk0.congr (z S0 x.gK))
    inb_S128x2304_S128x1024_0_1280 inb_S128x2304_S128x1024_0_256 inb_S128x2304_S128x256_0_0
  have hV := canon_chunks3 (u := fun l k => S1 l k + x.gV l k) (hv2'.congr (z' S1 x.gV 1280)) (hv1'.congr (z' S1 x.gV 256)) (hv0'.congr (z S1 x.gV))
    inb_S128x2304_S128x1024_0_1280 inb_S128x2304_S128x1024_0_256 inb_S128x2304_S128x256_0_0
  have hO := canon_tiles3 (u := unstack (x.dQ 2304 0) (x.dQ 2304 1)) (tile2_latent hQ0 hQ1) (tile1_latent hQ0 hQ1) (tile0_latent hQ0 hQ1)
    inb_S128x384_S128x128_0_256 inb_S128x384_S128x128_0_128 inb_S128x384_S128x128_0_0
  refine ⟨?_, ?_, ?_, ?_, ?_⟩
  · intro r l; rw [outsAt0_C m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact hO r l
  · intro r l; rw [outsAt0_C m c t h0 h1 h2 h3]; exact H7 r l
  · intro r l; rw [outsAt0_C m c t h0 h1 h2 h3]; exact H8 r l
  · intro r l; rw [outsAt0_C m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact hK r l
  · intro r l; rw [outsAt0_C m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact hV r l

/-- The last point of a batch entry: the accumulators go out, transposed. -/
theorem caseD (B : Blocks m c t x) (h0 : ¬t.val % 18 = 0) (h1 : ¬t.val % 18 ≤ 1) (h2 : 2 ≤ t.val % 18) (h3 : t.val % 18 = 17) {P7 P8 S0 S1 : ℕ → ℕ → ℝ} (hn : t.val - 1 < cfg0.N)
    (H7 : Is2 2304 128 (outsAt0 m c (t.val - 1) hn).2.1 P7) (H8 : Is2 2304 128 (outsAt0 m c (t.val - 1) hn).2.2.1 P8)
    (H0 : Is2 128 2304 (outsAt0 m c (t.val - 1) hn).2.2.2.1 S0) (H1 : Is2 128 2304 (outsAt0 m c (t.val - 1) hn).2.2.2.2 S1) :
    Is2 128 384 (outsAt0 m c t.val t.isLt).1 (unstack (x.dQ 2304 0) (x.dQ 2304 1)) ∧ Is2 2304 128 (outsAt0 m c t.val t.isLt).2.1 (fun k l => P7 k l + (S0 l k + x.gK l k)) ∧ Is2 2304 128 (outsAt0 m c t.val t.isLt).2.2.1 (fun k l => P8 k l + (S1 l k + x.gV l k))
    ∧ Is2 128 2304 (outsAt0 m c t.val t.isLt).2.2.2.1 (fun l k => S0 l k + x.gK l k) ∧ Is2 128 2304 (outsAt0 m c t.val t.isLt).2.2.2.2 (fun l k => S1 l k + x.gV l k) := by
  have hq0 : Is2 384 128 (k0_pay13 (F := Ideal) _ _ _) (x.q 0) := q0_apply (A := x.A) B.a0 B.a0 B.a1
  have hq1 : Is2 384 128 (k0_pay15 (F := Ideal) _ _ _) (x.q 1) := q1_apply (A := x.A) (q1a_apply (A := x.A) B.a1) B.a2 B.a2
  have hw0 : Is2 384 128 (k0_pay19 (F := Ideal) _ _ _) (x.w 0) := w0_apply (A := x.W) (w0a_apply B.w0) (w0b_apply B.w0) (w0c_apply B.w1)
  have hw1 : Is2 384 128 (k0_pay20 (F := Ideal) _ _ _) (x.w 1) := w1_apply (A := x.W) B.w1 B.w2 B.w2
  have hd0 : Is2 384 1 (k0_pay23 (F := Ideal) _ _ _ _ _ _ _) fun R _ => x.delta 0 R :=
    d0_apply (W := x.W) (O := x.O) (d0a_apply B.w0 B.o0) B.w0 B.o0 B.w1 B.o1
  have hd1 : Is2 384 1 (k0_pay26 (F := Ideal) _ _ _ _ _) fun R _ => x.delta 1 R :=
    d1_apply (W := x.W) (O := x.O) (d1a_apply (W := x.W) (O := x.O) B.w1 B.o1) (d1b_apply B.w2) B.o2 B.w2 B.o2
  have hl0 := l_ctx (L := x.lse 0) B.l0
  have hl1 := col_apply (L := x.lse 1) B.l1
  have hs0 := s_ctx hq0 B.k0
  have hdq0 := dq0_ctx (L := x.lse 0) (D := x.delta 0) hw0 hd0 zero30_apply hs0 hl0 B.v0 B.k0
  have hdq1 := dq1_ctx (L := x.lse 1) (D := x.delta 1) hq1 hw1 hd1 hl1 zero31_apply B.k0 B.v0 B.k0
  have htq := tr_apply hq0 hq1
  have htw := tr_apply hw0 hw1
  have hpp := pp_ctx (L := x.lse 0) (L' := x.lse 1) hq1 hl1 hs0 hl0 B.k0
  have hc0 := col_apply (L := x.lse 0) B.l0
  have hp1 := p1_one (L := x.lse 1) hq1 hl1 B.k1
  have hdq1b := dq1_one (L := x.lse 1) (D := x.delta 1) hw1 hd1 hdq1 hp1 B.v1 B.k1
  have hdq1c := dq1_two (L := x.lse 1) (D := x.delta 1) hq1 hw1 hd1 hl1 hdq1b B.k2 B.v2 B.k2
  have hdq0b := dq0_one (L := x.lse 0) (D := x.delta 0) hq0 hw0 hd0 hc0 hdq0 B.k1 B.v1 B.k1
  have hp0 := p0_two (L := x.lse 0) hq0 hc0 B.k2
  have hv2 := v_two B.v2
  have hdq0c := dq0_two (L := x.lse 0) (D := x.delta 0) hw0 hd0 hdq0b hp0 hv2 B.k2
  have hds := ds0_one (L := x.lse 0) (D := x.delta 0) hq0 hw0 hd0 hc0 B.k1 B.v1
  have hQ0 := hdq0c.congr (x.dQ_latent 0)
  have hQ1 := hdq1c.congr (x.dQ_latent 1)
  have hk2 := dk_two (L := x.lse 0) (D := x.delta 0) (L' := x.lse 1) (D' := x.delta 1) hq1 hw0 hw1 hd0 hd1 hl1 htq hp0 hv2 B.k2 B.v2 (ld2 (e := .f32) H0 inb_S128x2304_S128x1024_0_1280)
  have hk1 := dk_one (L := x.lse 1) (D := x.delta 1) hw1 hd1 htq hds hp1 B.v1 (ld2 (e := .f32) H0 inb_S128x2304_S128x1024_0_256)
  have hk0 := dk_ctx (L := x.lse 0) (D := x.delta 0) (L' := x.lse 1) (D' := x.delta 1) hq1 hw0 hw1 hd0 hd1 hl1 htq hs0 hl0 B.v0 B.k0 B.v0 (ld2 (e := .f32) H0 inb_S128x2304_S128x256_0_0)
  have hv2' := dv_two htw (pp_two (L := x.lse 1) hq1 hl1 hp0 B.k2) (ld2 (e := .f32) H1 inb_S128x2304_S128x1024_0_1280)
  have hv1' := dv_one htw (p0b_one (L := x.lse 0) hq0 hc0 B.k1) hp1 (ld2 (e := .f32) H1 inb_S128x2304_S128x1024_0_256)
  have hv0' := dv_ctx htw hpp (ld2 (e := .f32) H1 inb_S128x2304_S128x256_0_0)
  have z : ∀ (S g : ℕ → ℕ → ℝ) (l k : ℕ), S (0 + l) (0 + k) + g l k = S l k + g l k := fun S g l k => by rw [Nat.zero_add, Nat.zero_add]
  have z' : ∀ (S g : ℕ → ℕ → ℝ) (o l k : ℕ), S (0 + l) (o + k) + g l (o + k) = S l (o + k) + g l (o + k) := fun S g o l k => by rw [Nat.zero_add]
  have hK := canon_chunks3 (u := fun l k => S0 l k + x.gK l k) (hk2.congr (z' S0 x.gK 1280)) (hk1.congr (z' S0 x.gK 256)) (hk0.congr (z S0 x.gK))
    inb_S128x2304_S128x1024_0_1280 inb_S128x2304_S128x1024_0_256 inb_S128x2304_S128x256_0_0
  have hV := canon_chunks3 (u := fun l k => S1 l k + x.gV l k) (hv2'.congr (z' S1 x.gV 1280)) (hv1'.congr (z' S1 x.gV 256)) (hv0'.congr (z S1 x.gV))
    inb_S128x2304_S128x1024_0_1280 inb_S128x2304_S128x1024_0_256 inb_S128x2304_S128x256_0_0
  have hO := canon_tiles3 (u := unstack (x.dQ 2304 0) (x.dQ 2304 1)) (tile2_latent hQ0 hQ1) (tile1_latent hQ0 hQ1) (tile0_latent hQ0 hQ1)
    inb_S128x384_S128x128_0_256 inb_S128x384_S128x128_0_128 inb_S128x384_S128x128_0_0
  refine ⟨?_, ?_, ?_, ?_, ?_⟩
  · intro r l; rw [outsAt0_D m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact hO r l
  · intro r l; rw [outsAt0_D m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29])
    refine (fin11_apply H7 ((cov2 (View.whole cc0_scratch0) _ (b := fun l k => S0 l k + x.gK l k) hK (inb := inb_S128x2304_S128x2304_0_0)).congr (b := fun l k => S0 l k + x.gK l k) fun l k => ?_) r l)
    simp only [Nat.zero_add]
  · intro r l; rw [outsAt0_D m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29])
    refine (fin12_apply H8 ((cov2 (View.whole cc0_scratch1) _ (b := fun l k => S1 l k + x.gV l k) hV (inb := inb_S128x2304_S128x2304_0_0)).congr (b := fun l k => S1 l k + x.gV l k) fun l k => ?_) r l)
    simp only [Nat.zero_add]
  · intro r l; rw [outsAt0_D m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact hK r l
  · intro r l; rw [outsAt0_D m c t h0 h1 h2 h3]; frame_out; (try simp only [read_unread_whole]); (try simp only [same51, same52, same53, same54, same55, same56, same57, same58, same59, same60, same61, same62, same63, same64, same65, same66, same67, same68, same69, same70, same71, same72, same73, same74, same75, same76, same77, same78, same79, same80, same81, same82, same29]); exact hV r l

end Cert.KernelIdeal.Value
end
end
-- ==== Proof.Sweep.lean ====
module

public import proofs.«01_k».proof.Proof.CasesLatent

/-!
# The sweep over a batch entry

What the eighteen points of a batch entry leave, by induction.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

/-- Which keys a point adds to: the context keys at every point, the latent keys from the third point on. -/
def gate (i k : ℕ) (g : ℝ) : ℝ := if k < 256 ∨ 2 ≤ i then g else 0

/-- The sum over the first points of a batch entry of what each adds. -/
def accum (g : ℕ → ℕ → ℕ → ℝ) (i l k : ℕ) : ℝ := ∑ s ∈ Finset.range (i + 1), gate s k (g s l k)

/-- One more point. -/
theorem accum_succ (g : ℕ → ℕ → ℕ → ℝ) (i l k : ℕ) : accum g (i + 1) l k = accum g i l k + gate (i + 1) k (g (i + 1) l k) :=
  Finset.sum_range_succ _ _

/-- How many keys a row sees. -/
def width (i : ℕ) : ℕ := if i ≤ 1 then 256 else 2304

variable {m : (ℓ : Loc nD τ sig) → Buf (Elt Ideal) ℓ} {c : Dev nD}

/-- What the points of batch entry `b` leave: the queries' gradients at each, the accumulators' partial sums, and the gradients of the keys
    and values at the last. -/
theorem sweep (b : ℕ) (hb : b < 4) (X : ℕ → Row) (HB : ∀ i (hi : i < 18), Blocks m c ⟨18 * b + i, lt_of_lt_of_eq (by omega) N_0.symm⟩ (X i)) :
    ∀ (i : ℕ) (hi : i < 18) (hn : 18 * b + i < cfg0.N),
      Is2 128 384 (outsAt0 m c (18 * b + i) hn).1 (unstack ((X i).dQ (width i) 0) ((X i).dQ (width i) 1))
      ∧ Is2 2304 128 (outsAt0 m c (18 * b + i) hn).2.1 (fun k l => if i = 17 then accum (fun s => (X s).gK) 17 l k else 0)
      ∧ Is2 2304 128 (outsAt0 m c (18 * b + i) hn).2.2.1 (fun k l => if i = 17 then accum (fun s => (X s).gV) 17 l k else 0)
      ∧ Is2 128 2304 (outsAt0 m c (18 * b + i) hn).2.2.2.1 (accum (fun s => (X s).gK) i)
      ∧ Is2 128 2304 (outsAt0 m c (18 * b + i) hn).2.2.2.2 (accum (fun s => (X s).gV) i) := by
  intro i
  induction i with
  | zero =>
    intro hi hn
    obtain ⟨e6, e7, e8, e0, e1⟩ := caseA (HB 0 hi) (by show (18 * b + 0) % 18 = 0; omega) (by show (18 * b + 0) % 18 ≤ 1; omega)
      (by show ¬2 ≤ (18 * b + 0) % 18; omega) (by show ¬(18 * b + 0) % 18 = 17; omega)
    refine ⟨e6, e7.congr fun _ _ => rfl, e8.congr fun _ _ => rfl, e0.congr fun l k => ?_, e1.congr fun l k => ?_⟩ <;>
    · simp only [accum, gate, Finset.sum_range_one, zero_add]
      split_ifs <;> first | rfl | (exfalso; omega)
  | succ i ih =>
    intro hi hn
    obtain ⟨-, p7, p8, p0, p1⟩ := ih (by omega) (by omega)
    have p7' := p7.congr (b := fun _ _ => 0) fun _ _ => if_neg (by omega)
    have p8' := p8.congr (b := fun _ _ => 0) fun _ _ => if_neg (by omega)
    by_cases h1 : i + 1 ≤ 1
    · obtain ⟨e6, e7, e8, e0, e1⟩ := caseB (HB (i + 1) hi) (by show ¬(18 * b + (i + 1)) % 18 = 0; omega) (by show (18 * b + (i + 1)) % 18 ≤ 1; omega)
        (by show ¬2 ≤ (18 * b + (i + 1)) % 18; omega) (by show ¬(18 * b + (i + 1)) % 18 = 17; omega) _ p7' p8' p0 p1
      have hw : width (i + 1) = 256 := if_pos h1
      refine ⟨by rw [hw]; exact e6, e7.congr fun _ _ => (if_neg (by omega)).symm, e8.congr fun _ _ => (if_neg (by omega)).symm, e0.congr fun l k => ?_, e1.congr fun l k => ?_⟩ <;>
      · rw [accum_succ]
        simp only [gate]
        split_ifs <;> first | rfl | (exfalso; omega) | exact (add_zero _).symm
    have hw : width (i + 1) = 2304 := if_neg h1
    by_cases h3 : i + 1 = 17
    · obtain ⟨e6, e7, e8, e0, e1⟩ := caseD (HB (i + 1) hi) (by show ¬(18 * b + (i + 1)) % 18 = 0; omega) (by show ¬(18 * b + (i + 1)) % 18 ≤ 1; omega)
        (by show 2 ≤ (18 * b + (i + 1)) % 18; omega) (by show (18 * b + (i + 1)) % 18 = 17; omega) _ p7' p8' p0 p1
      refine ⟨by rw [hw]; exact e6, e7.congr fun k l => ?_, e8.congr fun k l => ?_, e0.congr fun l k => ?_, e1.congr fun l k => ?_⟩
      · rw [if_pos h3, ← h3, accum_succ, zero_add, gate, if_pos (by omega)]
      · rw [if_pos h3, ← h3, accum_succ, zero_add, gate, if_pos (by omega)]
      · rw [accum_succ, gate, if_pos (by omega)]
      · rw [accum_succ, gate, if_pos (by omega)]
    · obtain ⟨e6, e7, e8, e0, e1⟩ := caseC (HB (i + 1) hi) (by show ¬(18 * b + (i + 1)) % 18 = 0; omega) (by show ¬(18 * b + (i + 1)) % 18 ≤ 1; omega)
        (by show 2 ≤ (18 * b + (i + 1)) % 18; omega) (by show ¬(18 * b + (i + 1)) % 18 = 17; omega) _ p7' p8' p0 p1
      refine ⟨by rw [hw]; exact e6, e7.congr fun _ _ => (if_neg h3).symm, e8.congr fun _ _ => (if_neg h3).symm, e0.congr fun l k => ?_, e1.congr fun l k => ?_⟩
      · rw [accum_succ, gate, if_pos (by omega)]
      · rw [accum_succ, gate, if_pos (by omega)]

end Cert.KernelIdeal.Value
end
end
-- ==== Proof.Meet.lean ====
module

public import proofs.«01_k».proof.Proof.Sweep

/-!
# The points together are the gradients

Sums over the points, the heads and the rows of the kernel, put in the order of the plain gradients.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

/-- A sum over `n * m` positions by blocks of `m`. -/
theorem sum_blocks (n m : ℕ) (f : ℕ → ℝ) : ∑ x : Fin (n * m), f x = ∑ s : Fin n, ∑ r : Fin m, f (m * s + r) := by
  rw [← Fintype.sum_prod_type', ← Equiv.sum_comp finProdFinEquiv]
  exact Finset.sum_congr rfl fun p _ => congrArg f (by show p.2.val + m * p.1.val = _; omega)

/-- A sum over 128 lanes of a stack is a sum over the 64 lanes of its half. -/
theorem sum_stack (A : ℕ → ℕ → ℝ) (j R : ℕ) (hj : j < 2) (F : ℕ → ℝ) :
    ∑ l : Fin 128, stack A j R l * F l = ∑ d : Fin 64, A (R % 128) (64 * (3 * j + R / 128) + d) * F (64 * j + d) := by
  rw [show (128 : ℕ) = 64 + 64 from rfl, Fin.sum_univ_add]
  have e : ∀ d : Fin 64, (d : ℕ) / 64 = 0 := fun d => by omega
  have e' : ∀ d : Fin 64, (64 + (d : ℕ)) / 64 = 1 := fun d => by omega
  have f : ∀ d : Fin 64, (d : ℕ) % 64 = d := fun d => by omega
  have f' : ∀ d : Fin 64, (64 + (d : ℕ)) % 64 = d := fun d => by omega
  interval_cases j
  · simp [stack, e, e', f, f']
  · simp [stack, e, e', f, f', Nat.add_comm]

/-- An entry of a stack in its own half. -/
theorem stack_in (A : ℕ → ℕ → ℝ) (j g r d : ℕ) (hr : r < 128) (hd : d < 64) : stack A j (128 * g + r) (64 * j + d) = A r (64 * (3 * j + g) + d) := by
  unfold stack
  rw [if_pos (by omega), show (128 * g + r) % 128 = r by omega, show (128 * g + r) / 128 = g by omega, show (64 * j + d) % 64 = d by omega]

/-- An entry of a stack in the other half. -/
theorem stack_out (A : ℕ → ℕ → ℝ) (j j' R d : ℕ) (hd : d < 64) (h : j' ≠ j) : stack A j' R (64 * j + d) = 0 :=
  if_neg (by omega)

/-- The blocks of point `i` of batch entry `b` come of queries, keys, values and cotangents, with the attention's output and with logarithms
    of the sums that give its weights. -/
structure Meets (q k v w : ℕ → ℕ → ℝ) (b i : ℕ) (x : Row) : Prop where
  /-- queries -/
  hA : ∀ r l, x.A r l = q (2304 * b + (128 * i + r)) l
  /-- keys -/
  hK : ∀ r l, x.K r l = k (2304 * b + r) l
  /-- values -/
  hV : ∀ r l, x.V r l = v (2304 * b + r) l
  /-- cotangents -/
  hW : ∀ r l, x.W r l = w (2304 * b + (128 * i + r)) l
  /-- outputs -/
  hO : ∀ r h d, r < 128 → h < 6 → d < 64 → x.O r (64 * h + d) = attn q k v b h (128 * i + r) d
  /-- logarithms of the sums -/
  hL : ∀ j g r y, j < 2 → g < 3 → r < 128 →
    Real.exp (score q k b (3 * j + g) (128 * i + r) y - x.L (384 * j + (128 * g + r))) = prob q k b (3 * j + g) (128 * i + r) y

namespace Meets
variable {q k v w : ℕ → ℕ → ℝ} {b i : ℕ} {x : Row} (M : Meets q k v w b i x)
include M

/-- The kernel's scores. -/
theorem dots_q (j g r y : ℕ) (hj : j < 2) (hg : g < 3) (hr : r < 128) :
    dots (x.q j) x.K (128 * g + r) y = score q k b (3 * j + g) (128 * i + r) y := by
  unfold dots score Row.q
  have e : ∀ l : Fin 128, stack x.A j (128 * g + r) l * (1 / 8) * x.K y l = stack x.A j (128 * g + r) l * (1 / 8 * x.K y l) := fun l => mul_assoc _ _ _
  simp only [e]
  rw [sum_stack x.A j _ hj fun l => 1 / 8 * x.K y l, Finset.sum_mul, show (128 * g + r) % 128 = r by omega, show (128 * g + r) / 128 = g by omega, show (3 * j + g) / 3 = j by omega]
  refine Finset.sum_congr rfl fun d _ => ?_
  rw [M.hA, M.hK]
  ring

/-- The kernel's weights. -/
theorem P_eq (j g r y : ℕ) (hj : j < 2) (hg : g < 3) (hr : r < 128) :
    x.P j (128 * g + r) y = prob q k b (3 * j + g) (128 * i + r) y := by
  unfold Row.P wt Row.lse
  rw [M.dots_q j g r y hj hg hr]
  exact M.hL j g r y hj hg hr

/-- The cotangents of the weights. -/
theorem dots_w (j g r y : ℕ) (hj : j < 2) (hg : g < 3) (hr : r < 128) :
    dots (x.w j) x.V (128 * g + r) y = dprob v w b (3 * j + g) (128 * i + r) y := by
  unfold dots dprob Row.w
  rw [sum_stack x.W j _ hj fun l => x.V y l, show (128 * g + r) % 128 = r by omega, show (128 * g + r) / 128 = g by omega, show (3 * j + g) / 3 = j by omega]
  refine Finset.sum_congr rfl fun d _ => ?_
  rw [M.hW, M.hV]

/-- The row sums of cotangent times output. -/
theorem delta_eq (j g r : ℕ) (hj : j < 2) (hg : g < 3) (hr : r < 128) :
    x.delta j (128 * g + r) = ∑ y : Fin (keys (128 * i + r)), prob q k b (3 * j + g) (128 * i + r) y * dprob v w b (3 * j + g) (128 * i + r) y := by
  rw [← sum_mul_attn]
  unfold Row.delta rowDot
  have e := sum_stack (fun r l => x.W r l * x.O r l) j (128 * g + r) hj fun _ => 1
  simp only [mul_one] at e
  rw [e, show (128 * g + r) % 128 = r by omega, show (128 * g + r) / 128 = g by omega]
  refine Finset.sum_congr rfl fun d _ => ?_
  rw [M.hW, M.hO r (3 * j + g) d hr (by omega) d.isLt]

/-- The cotangents of the scores. -/
theorem dS_eq (j g r y : ℕ) (hj : j < 2) (hg : g < 3) (hr : r < 128) :
    x.dS j (128 * g + r) y = dscore q k v w b (3 * j + g) (128 * i + r) y := by
  have hp := M.P_eq j g r y hj hg hr
  unfold Row.P at hp
  unfold Row.dS ds dscore softGrad
  rw [hp, M.dots_w j g r y hj hg hr, M.delta_eq j g r hj hg hr]
  rfl

/-- The gradient of the queries. -/
theorem dQ_eq (r c : ℕ) (hi : i < 18) (hr : r < 128) (hc : c < 384) :
    unstack (x.dQ (width i) 0) (x.dQ (width i) 1) r c = gradQ q k v w b (c / 64) (128 * i + r) (c % 64) := by
  have hw : width i = keys (128 * i + r) := by unfold width keys; split_ifs <;> first | rfl | (exfalso; omega)
  have h : ∀ j, j < 2 → c / 64 / 3 = j → x.dQ (width i) j (128 * (c / 64 % 3) + r) (64 * j + c % 64) * (1 / 8) = gradQ q k v w b (c / 64) (128 * i + r) (c % 64) := by
    intro j hj he
    unfold Row.dQ gradQ
    rw [hw]
    refine congrArg (· * (1 / 8 : ℝ)) (Finset.sum_congr rfl fun y _ => ?_)
    rw [M.dS_eq j (c / 64 % 3) r y hj (by omega) hr, M.hK, show 3 * j + c / 64 % 3 = c / 64 by omega, he]
  unfold unstack
  by_cases h0 : c / 64 / 3 = 0
  · rw [if_pos h0, h0]; exact h 0 (by omega) h0
  · have h1 : c / 64 / 3 = 1 := by omega
    rw [if_neg h0, h1]; exact h 1 (by omega) h1

/-- What the point adds to the gradient of the keys. -/
theorem gK_eq (y j d : ℕ) (hj : j < 2) (hd : d < 64) :
    x.gK (64 * j + d) y = ∑ r : Fin 128, ∑ g : Fin 3, dscore q k v w b (3 * j + g) (128 * i + r) y * (q (2304 * b + (128 * i + r)) (64 * (3 * j + g) + d) * (1 / 8)) := by
  have hs : ∀ j', j' ≠ j → ∑ R : Fin 384, x.q j' R (64 * j + d) * x.dS j' R y = 0 := fun j' h =>
    Finset.sum_eq_zero fun R _ => by unfold Row.q; rw [stack_out _ _ _ _ _ hd h]; ring
  have hm : ∑ R : Fin 384, x.q j R (64 * j + d) * x.dS j R y
      = ∑ r : Fin 128, ∑ g : Fin 3, dscore q k v w b (3 * j + g) (128 * i + r) y * (q (2304 * b + (128 * i + r)) (64 * (3 * j + g) + d) * (1 / 8)) := by
    rw [Finset.sum_comm, sum_blocks 3 128 fun R => x.q j R (64 * j + d) * x.dS j R y]
    refine Finset.sum_congr rfl fun g _ => Finset.sum_congr rfl fun r _ => ?_
    rw [M.dS_eq j g r y hj g.isLt r.isLt]
    unfold Row.q
    rw [stack_in _ _ _ _ _ r.isLt hd, M.hA]
    ring
  unfold Row.gK
  interval_cases j
  · rw [hs 1 (by decide), hm, add_zero]
  · rw [hs 0 (by decide), hm, zero_add]

/-- What the point adds to the gradient of the values. -/
theorem gV_eq (y j d : ℕ) (hj : j < 2) (hd : d < 64) :
    x.gV (64 * j + d) y = ∑ r : Fin 128, ∑ g : Fin 3, prob q k b (3 * j + g) (128 * i + r) y * w (2304 * b + (128 * i + r)) (64 * (3 * j + g) + d) := by
  have hs : ∀ j', j' ≠ j → ∑ R : Fin 384, x.w j' R (64 * j + d) * x.P j' R y = 0 := fun j' h =>
    Finset.sum_eq_zero fun R _ => by unfold Row.w; rw [stack_out _ _ _ _ _ hd h]; ring
  have hm : ∑ R : Fin 384, x.w j R (64 * j + d) * x.P j R y
      = ∑ r : Fin 128, ∑ g : Fin 3, prob q k b (3 * j + g) (128 * i + r) y * w (2304 * b + (128 * i + r)) (64 * (3 * j + g) + d) := by
    rw [Finset.sum_comm, sum_blocks 3 128 fun R => x.w j R (64 * j + d) * x.P j R y]
    refine Finset.sum_congr rfl fun g _ => Finset.sum_congr rfl fun r _ => ?_
    rw [M.P_eq j g r y hj g.isLt r.isLt]
    unfold Row.w
    rw [stack_in _ _ _ _ _ r.isLt hd, M.hW]
    ring
  unfold Row.gV
  interval_cases j
  · rw [hs 1 (by decide), hm, add_zero]
  · rw [hs 0 (by decide), hm, zero_add]
end Meets

/-- The partial sums at the last point, over all rows. -/
theorem accum_all (g : ℕ → ℕ → ℕ → ℝ) (f : ℕ → ℝ) (l y : ℕ) (hy : y < 2304) (h : ∀ s : ℕ, s < 18 → g s l y = ∑ r : Fin 128, f (128 * s + r)) :
    accum g 17 l y = ∑ n : Fin 2304, if y < keys n then f n else 0 := by
  unfold accum
  rw [Finset.sum_range, sum_blocks 18 128 fun n => if y < keys n then f n else 0]
  refine Finset.sum_congr rfl fun s _ => ?_
  have hs := s.isLt
  rw [h s hs]
  unfold gate
  by_cases e : y < 256 ∨ 2 ≤ (s : ℕ)
  · rw [if_pos e]
    refine Finset.sum_congr rfl fun r _ => (if_pos ?_).symm
    unfold keys; split_ifs <;> omega
  · rw [if_neg e]
    refine (Finset.sum_eq_zero fun r _ => if_neg ?_).symm
    have hr := r.isLt
    unfold keys; split_ifs <;> omega

section
variable {q k v w : ℕ → ℕ → ℝ} {b : ℕ} {X : ℕ → Row} (M : ∀ i, i < 18 → Meets q k v w b i (X i))
include M

/-- The gradient of the keys of a batch entry. -/
theorem accum_gK (y j d : ℕ) (hy : y < 2304) (hj : j < 2) (hd : d < 64) :
    accum (fun s => (X s).gK) 17 (64 * j + d) y = gradK q k v w b y j d := by
  rw [accum_all (fun s => (X s).gK) (fun n => ∑ g : Fin 3, dscore q k v w b (3 * j + g) n y * (q (2304 * b + n) (64 * (3 * j + g) + d) * (1 / 8))) _ y hy
    fun s hs => (M s hs).gK_eq y j d hj hd]
  unfold gradK
  refine Finset.sum_congr rfl fun n _ => ?_
  split_ifs
  · rfl
  · exact Finset.sum_const_zero.symm

/-- The gradient of the values of a batch entry. -/
theorem accum_gV (y j d : ℕ) (hy : y < 2304) (hj : j < 2) (hd : d < 64) :
    accum (fun s => (X s).gV) 17 (64 * j + d) y = gradV q k w b y j d := by
  rw [accum_all (fun s => (X s).gV) (fun n => ∑ g : Fin 3, prob q k b (3 * j + g) n y * w (2304 * b + n) (64 * (3 * j + g) + d)) _ y hy
    fun s hs => (M s hs).gV_eq y j d hj hd]
  unfold gradV
  refine Finset.sum_congr rfl fun n _ => ?_
  split_ifs
  · rfl
  · exact Finset.sum_const_zero.symm
end

end Cert.KernelIdeal.Value
end
end
-- ==== Proof.RefForward.lean ====
module

public import proofs.«01_k».proof.Proof.Spec
public import proofs.«01_k».proof.Proof.Gen.ReferenceIdeal.Read
public import Idealize.ShloMosaic.Lib.ValueIdx
/-!
# The reference's forward half on real inputs

Its scores, the largest of each row, the exponentials, their sums, the attention weights and the attention's output.
-/
@[expose] public section
set_option maxRecDepth 16384
noncomputable section
namespace Cert.ReferenceIdeal.Read
open Cert.ReferenceIdeal Cert.ReferenceIdeal.Gen Idealize.ShloMosaic Idealize.ShloMosaic.TcCoe Idealize.SL.Sem Idealize.ShloMosaic.StableHlo
open Cert.Attn

/-- The queries' array, both layers. -/
abbrev TQ := (⟨S2x9216x384, .bf16⟩ : BufTy).Contents (Elt Ideal)
/-- The keys' or the values' array, both layers. -/
abbrev TK := (⟨S2x9216x128, .bf16⟩ : BufTy).Contents (Elt Ideal)

/-- The first layer of an array of two holds the reals `a`. -/
abbrev Layer (n m : ℕ) (x : (⟨3, ![2, n, m]⟩ : Shape).Idx → EReal) (a : ℕ → ℕ → ℝ) : Prop :=
  ∀ j : (⟨3, ![2, n, m]⟩ : Shape).Idx, (j 0).val = 0 → x j = ((a (j 1).val (j 2).val : ℝ) : EReal)

/-- One eighth. -/
theorem eighthR : Ideal.ofBits .f32 0x3E000000#32 = ((1 / 8 : ℝ) : EReal) := by
  simp [Ideal.ofBits, Ideal.ieee]
  rw [← EReal.coe_mul]
  norm_num
/-- Zero. -/
theorem zeroR : Ideal.ofBits .f32 0x00000000#32 = 0 := by
  simp [Ideal.ofBits, Ideal.ieee]
/-- One. -/
theorem oneR : Ideal.ofBits .f32 0x3F800000#32 = ((1 : ℝ) : EReal) := by
  simp [Ideal.ofBits, Ideal.ieee]
  rw [← EReal.coe_mul]
  norm_num
/-- Minus infinity. -/
theorem botR : Ideal.ofBits .f32 0xFF800000#32 = ⊥ := by
  simp [Ideal.ofBits, Ideal.ieee]

/-- The largest of finitely many reals, at least one of them, taken from minus infinity, is a real. -/
theorem fold_max_real {n : ℕ} (hn : 0 < n) (f : Fin n → EReal) (a : Fin n → ℝ) (h : ∀ y, f y = ((a y : ℝ) : EReal)) :
    ∃ r : ℝ, (Finset.univ : Finset (Fin n)).fold max (⊥ : EReal) f = ((r : ℝ) : EReal) := by
  obtain ⟨y, _, e⟩ := Finset.exists_mem_eq_sup (Finset.univ : Finset (Fin n)) ⟨⟨0, hn⟩, Finset.mem_univ _⟩ f
  exact ⟨a y, (show _ = _ from e).trans (h y)⟩

/-- A sum over the rows attended to, their number named. -/
theorem sum_keys {n N : ℕ} (h : keys n = N) (f : ℕ → ℝ) : ∑ x : Fin (keys n), f x = ∑ x : Fin N, f x := by subst h; rfl
theorem keys_lt {n : ℕ} (h : n < 256) : keys n = 256 := if_pos h
theorem keys_ge (n : ℕ) : keys (256 + n) = 2304 := if_neg (by omega)

variable {x0 : TQ} {x1 x2 : TK} {q k v : ℕ → ℕ → ℝ}

/-- The queries by sample, row, key head, head of the group and lane. -/
theorem q_real (h0 : Layer 9216 384 x0 q) (i : S4x2304x2x3x64.Idx) :
    val_main_v9 (F := Ideal) x0 i = ((q (2304 * (i 0).val + (i 1).val) (64 * (3 * (i 2).val + (i 3).val) + (i 4).val) : ℝ) : EReal) := by
  have b0 : (i 0).val < 4 := (i 0).isLt
  have b1 : (i 1).val < 2304 := (i 1).isLt
  have b2 : (i 2).val < 2 := (i 2).isLt
  have b3 : (i 3).val < 3 := (i 3).isLt
  have b4 : (i 4).val < 64 := (i 4).isLt
  rw [val_main_v9_apply, val_main_v2_apply, val_main_v1_apply, val_main_v0_apply]
  refine (h0 _ ?_).trans ?_
  · show ((_ : ℕ) : ℕ) = 0
    first | rfl | omega
  · refine congrArg Real.toEReal (congrArg₂ q ?_ ?_)
    · show ((((((i 0).val * 2304 + (i 1).val) * 2 + (i 2).val) * 3 + (i 3).val) * 64 + (i 4).val) / 384 * 384 + (((((i 0).val * 2304 + (i 1).val) * 2 + (i 2).val) * 3 + (i 3).val) * 64 + (i 4).val) % 384) / 384 % 9216 = _
      omega
    · show ((((((i 0).val * 2304 + (i 1).val) * 2 + (i 2).val) * 3 + (i 3).val) * 64 + (i 4).val) / 384 * 384 + (((((i 0).val * 2304 + (i 1).val) * 2 + (i 2).val) * 3 + (i 3).val) * 64 + (i 4).val) % 384) % 384 = _
      omega

/-- The keys by sample, row, key head and lane. -/
theorem k_real (h1 : Layer 9216 128 x1 k) (i : S4x2304x2x64.Idx) :
    val_main_v10 (F := Ideal) x1 i = ((k (2304 * (i 0).val + (i 1).val) (64 * (i 2).val + (i 3).val) : ℝ) : EReal) := by
  have b0 : (i 0).val < 4 := (i 0).isLt
  have b1 : (i 1).val < 2304 := (i 1).isLt
  have b2 : (i 2).val < 2 := (i 2).isLt
  have b3 : (i 3).val < 64 := (i 3).isLt
  rw [val_main_v10_apply, val_main_v5_apply, val_main_v4_apply, val_main_v3_apply]
  refine (h1 _ ?_).trans ?_
  · show ((_ : ℕ) : ℕ) = 0
    first | rfl | omega
  · refine congrArg Real.toEReal (congrArg₂ k ?_ ?_)
    · show (((((i 0).val * 2304 + (i 1).val) * 2 + (i 2).val) * 64 + (i 3).val) / 128 * 128 + ((((i 0).val * 2304 + (i 1).val) * 2 + (i 2).val) * 64 + (i 3).val) % 128) / 128 % 9216 = _
      omega
    · show (((((i 0).val * 2304 + (i 1).val) * 2 + (i 2).val) * 64 + (i 3).val) / 128 * 128 + ((((i 0).val * 2304 + (i 1).val) * 2 + (i 2).val) * 64 + (i 3).val) % 128) % 128 = _
      omega

/-- The values by sample, row, key head and lane. -/
theorem v_real (h1 : Layer 9216 128 x2 v) (i : S4x2304x2x64.Idx) :
    val_main_v11 (F := Ideal) x2 i = ((v (2304 * (i 0).val + (i 1).val) (64 * (i 2).val + (i 3).val) : ℝ) : EReal) := by
  have b0 : (i 0).val < 4 := (i 0).isLt
  have b1 : (i 1).val < 2304 := (i 1).isLt
  have b2 : (i 2).val < 2 := (i 2).isLt
  have b3 : (i 3).val < 64 := (i 3).isLt
  rw [val_main_v11_apply, val_main_v8_apply, val_main_v7_apply, val_main_v6_apply]
  refine (h1 _ ?_).trans ?_
  · show ((_ : ℕ) : ℕ) = 0
    first | rfl | omega
  · refine congrArg Real.toEReal (congrArg₂ v ?_ ?_)
    · show (((((i 0).val * 2304 + (i 1).val) * 2 + (i 2).val) * 64 + (i 3).val) / 128 * 128 + ((((i 0).val * 2304 + (i 1).val) * 2 + (i 2).val) * 64 + (i 3).val) % 128) / 128 % 9216 = _
      omega
    · show (((((i 0).val * 2304 + (i 1).val) * 2 + (i 2).val) * 64 + (i 3).val) / 128 * 128 + ((((i 0).val * 2304 + (i 1).val) * 2 + (i 2).val) * 64 + (i 3).val) % 128) % 128 = _
      omega

/-- The context rows' queries. -/
theorem qc_real (h0 : Layer 9216 384 x0 q) (i : S4x256x2x3x64.Idx) :
    val_main_v12 (F := Ideal) x0 i = ((q (2304 * (i 0).val + (i 1).val) (64 * (3 * (i 2).val + (i 3).val) + (i 4).val) : ℝ) : EReal) := by
  rw [val_main_v12_apply]; exact q_real h0 _
/-- The other rows' queries. -/
theorem ql_real (h0 : Layer 9216 384 x0 q) (i : S4x2048x2x3x64.Idx) :
    val_main_v49 (F := Ideal) x0 i = ((q (2304 * (i 0).val + (256 + (i 1).val)) (64 * (3 * (i 2).val + (i 3).val) + (i 4).val) : ℝ) : EReal) := by
  rw [val_main_v49_apply]; exact q_real h0 _
/-- The context rows' keys. -/
theorem kc_real (h1 : Layer 9216 128 x1 k) (i : S4x256x2x64.Idx) :
    val_main_v13 (F := Ideal) x1 i = ((k (2304 * (i 0).val + (i 1).val) (64 * (i 2).val + (i 3).val) : ℝ) : EReal) := by
  rw [val_main_v13_apply]; exact k_real h1 _
/-- The context rows' values. -/
theorem vc_real (h2 : Layer 9216 128 x2 v) (i : S4x256x2x64.Idx) :
    val_main_v14 (F := Ideal) x2 i = ((v (2304 * (i 0).val + (i 1).val) (64 * (i 2).val + (i 3).val) : ℝ) : EReal) := by
  rw [val_main_v14_apply]; exact v_real h2 _
/-- All rows' keys. -/
theorem kl_real (h1 : Layer 9216 128 x1 k) (i : S4x2304x2x64.Idx) :
    val_main_v10 (F := Ideal) x1 i = ((k (2304 * (i 0).val + (i 1).val) (64 * (i 2).val + (i 3).val) : ℝ) : EReal) := k_real h1 i
/-- All rows' values. -/
theorem vl_real (h2 : Layer 9216 128 x2 v) (i : S4x2304x2x64.Idx) :
    val_main_v11 (F := Ideal) x2 i = ((v (2304 * (i 0).val + (i 1).val) (64 * (i 2).val + (i 3).val) : ℝ) : EReal) := v_real h2 i

theorem div3 {j g : ℕ} (hg : g < 3) : (3 * j + g) / 3 = j := by omega

/-- The scores of a context row. -/
theorem scorec_real (h0 : Layer 9216 384 x0 q) (h1 : Layer 9216 128 x1 k) (i : S4x2x3x256x256.Idx) :
    val_main_v18 (F := Ideal) x0 x1 i = ((score q k (i 0).val (3 * (i 1).val + (i 2).val) (i 3).val (i 4).val : ℝ) : EReal) := by
  have b2 : (i 2).val < 3 := (i 2).isLt
  rw [val_main_v18_apply, val_main_v16_apply, val_main_v17_apply]
  refine (congrArg₂ (fun a b : EReal => a * b) (val_main_v15_apply x0 x1 _) eighthR).trans ?_
  simp only [score, div3 b2]
  rw [EReal.coe_mul, coe_sum]
  refine congrArg (fun a : EReal => a * _) (Finset.sum_congr rfl fun d _ => ?_)
  rw [kc_real h1, qc_real h0, ← EReal.coe_mul, mul_comm]

/-- The largest score of a context row is a real. -/
theorem maxc_ex (h0 : Layer 9216 384 x0 q) (h1 : Layer 9216 128 x1 k) (j : S4x2x3x256.Idx) :
    ∃ r : ℝ, val_main_v19 (F := Ideal) x0 x1 j = ((r : ℝ) : EReal) := by
  unfold val_main_v19
  rw [Host.reduce_eq_fold_single FloatOps.maximumf _ _ _ (by decide) h_S_]
  obtain ⟨r, e⟩ := fold_max_real (n := 256) (by norm_num) _ _ fun y => scorec_real h0 h1 (Shape.Reduces.lift (a := 4) (show S4x2x3x256x256.Reduces [4] S4x2x3x256 by decide) j y)
  exact ⟨r, (congrArg (fun z : EReal => (Finset.univ : Finset (Fin 256)).fold max z _) botR).trans e⟩

/-- The largest score of a context row, by sample, key head, head of the group and row. -/
def mxc (x0 : TQ) (x1 : TK) (b j g n : ℕ) : ℝ :=
  if h : b < 4 ∧ j < 2 ∧ g < 3 ∧ n < 256 then (val_main_v19 (F := Ideal) x0 x1 (ix4 ⟨b, h.1⟩ ⟨j, h.2.1⟩ ⟨g, h.2.2.1⟩ ⟨n, h.2.2.2⟩) : EReal).toReal else 0

theorem maxc_real (h0 : Layer 9216 384 x0 q) (h1 : Layer 9216 128 x1 k) (j : S4x2x3x256.Idx) :
    val_main_v19 (F := Ideal) x0 x1 j = ((mxc x0 x1 (j 0).val (j 1).val (j 2).val (j 3).val : ℝ) : EReal) := by
  obtain ⟨r, e⟩ := maxc_ex h0 h1 j
  have hj : j = ix4 (n0 := 4) (n1 := 2) (n2 := 3) (n3 := 256) (j 0) (j 1) (j 2) (j 3) := eq_ix4 j
  have : mxc x0 x1 (j 0).val (j 1).val (j 2).val (j 3).val = r := by
    unfold mxc
    rw [dif_pos ⟨(j 0).isLt, (j 1).isLt, (j 2).isLt, (j 3).isLt⟩]
    exact (congrArg EReal.toReal ((congrArg (val_main_v19 (F := Ideal) x0 x1) hj.symm).trans e)).trans (EReal.toReal_coe r)
  rw [this]; exact e

/-- The exponentials of a context row. -/
theorem expc_real (h0 : Layer 9216 384 x0 q) (h1 : Layer 9216 128 x1 k) (i : S4x2x3x256x256.Idx) :
    val_main_v39 (F := Ideal) x0 x1 i = ((Real.exp (score q k (i 0).val (3 * (i 1).val + (i 2).val) (i 3).val (i 4).val - mxc x0 x1 (i 0).val (i 1).val (i 2).val (i 3).val) : ℝ) : EReal) := by
  rw [val_main_v39_apply, val_main_v38_apply, val_main_v37_apply, val_main_v36_apply, val_main_v26_apply, val_main_v25_apply, maxc_real h0 h1, scorec_real h0 h1]
  refine (congrArg (fun z : EReal => Ideal.exp (((score q k (i 0).val (3 * (i 1).val + (i 2).val) (i 3).val (i 4).val : ℝ) : EReal) - max z ((mxc x0 x1 (i 0).val (i 1).val (i 2).val (i 3).val : ℝ) : EReal))) botR).trans ?_
  rw [max_eq_right bot_le, ← EReal.coe_sub, Ideal.exp_coe]

/-- The sum of the exponentials of a context row. -/
theorem sumc_real (h0 : Layer 9216 384 x0 q) (h1 : Layer 9216 128 x1 k) (j : S4x2x3x256.Idx) :
    val_main_v40 (F := Ideal) x0 x1 j = ((∑ y : Fin 256, Real.exp (score q k (j 0).val (3 * (j 1).val + (j 2).val) (j 3).val y - mxc x0 x1 (j 0).val (j 1).val (j 2).val (j 3).val) : ℝ) : EReal) := by
  rw [val_main_v40_apply]
  refine (congrArg (fun z : EReal => z + _) zeroR).trans ?_
  rw [zero_add, coe_sum]
  exact Finset.sum_congr rfl fun y _ => expc_real h0 h1 _

/-- The attention weights of a context row. -/
theorem probc_real (h0 : Layer 9216 384 x0 q) (h1 : Layer 9216 128 x1 k) (i : S4x2x3x256x256.Idx) :
    val_main_v43 (F := Ideal) x0 x1 i = ((prob q k (i 0).val (3 * (i 1).val + (i 2).val) (i 3).val (i 4).val : ℝ) : EReal) := by
  have b3 : (i 3).val < 256 := (i 3).isLt
  have hk : keys (i 3).val = 256 := keys_lt b3
  rw [val_main_v43_apply, val_main_v42_apply, val_main_v41_apply, sumc_real h0 h1, expc_real h0 h1]
  refine (coe_div _ _ (sum_exp_pos (by norm_num) fun y => score q k _ _ _ y - mxc x0 x1 _ _ _ _).ne').trans ?_
  unfold prob
  rw [hk, ← soft_shift 256 _ (mxc x0 x1 (i 0).val (i 1).val (i 2).val (i 3).val)]

/-- The output of a context row. -/
theorem attnc_real (h0 : Layer 9216 384 x0 q) (h1 : Layer 9216 128 x1 k) (h2 : Layer 9216 128 x2 v) (i : S4x256x2x3x64.Idx) :
    val_main_v48 (F := Ideal) x0 x1 x2 i = ((attn q k v (i 0).val (3 * (i 2).val + (i 3).val) (i 1).val (i 4).val : ℝ) : EReal) := by
  have b1 : (i 1).val < 256 := (i 1).isLt
  have b3 : (i 3).val < 3 := (i 3).isLt
  have hk : keys (i 1).val = 256 := keys_lt b1
  rw [val_main_v48_apply, val_main_v47_apply]
  unfold attn
  rw [div3 b3, sum_keys hk fun y => prob q k (i 0).val (3 * (i 2).val + (i 3).val) (i 1).val y * v (2304 * (i 0).val + y) (64 * (i 2).val + (i 4).val), coe_sum]
  refine Finset.sum_congr rfl fun y _ => ?_
  rw [vc_real h2, probc_real h0 h1, ← EReal.coe_mul, mul_comm]

/-- The scores of a row past the context. -/
theorem scorel_real (h0 : Layer 9216 384 x0 q) (h1 : Layer 9216 128 x1 k) (i : S4x2x3x2048x2304.Idx) :
    val_main_v53 (F := Ideal) x0 x1 i = ((score q k (i 0).val (3 * (i 1).val + (i 2).val) (256 + (i 3).val) (i 4).val : ℝ) : EReal) := by
  have b2 : (i 2).val < 3 := (i 2).isLt
  rw [val_main_v53_apply, val_main_v51_apply, val_main_v52_apply]
  refine (congrArg₂ (fun a b : EReal => a * b) (val_main_v50_apply x0 x1 _) eighthR).trans ?_
  simp only [score, div3 b2]
  rw [EReal.coe_mul, coe_sum]
  refine congrArg (fun a : EReal => a * _) (Finset.sum_congr rfl fun d _ => ?_)
  rw [kl_real h1, ql_real h0, ← EReal.coe_mul, mul_comm]

/-- The largest score of a row past the context is a real. -/
theorem maxl_ex (h0 : Layer 9216 384 x0 q) (h1 : Layer 9216 128 x1 k) (j : S4x2x3x2048.Idx) :
    ∃ r : ℝ, val_main_v54 (F := Ideal) x0 x1 j = ((r : ℝ) : EReal) := by
  unfold val_main_v54
  rw [Host.reduce_eq_fold_single FloatOps.maximumf _ _ _ (by decide) h_S_]
  obtain ⟨r, e⟩ := fold_max_real (n := 2304) (by norm_num) _ _ fun y => scorel_real h0 h1 (Shape.Reduces.lift (a := 4) (show S4x2x3x2048x2304.Reduces [4] S4x2x3x2048 by decide) j y)
  exact ⟨r, (congrArg (fun z : EReal => (Finset.univ : Finset (Fin 2304)).fold max z _) botR).trans e⟩

/-- The largest score of a row past the context, by sample, key head, head of the group and row. -/
def mxl (x0 : TQ) (x1 : TK) (b j g n : ℕ) : ℝ :=
  if h : b < 4 ∧ j < 2 ∧ g < 3 ∧ n < 2048 then (val_main_v54 (F := Ideal) x0 x1 (ix4 ⟨b, h.1⟩ ⟨j, h.2.1⟩ ⟨g, h.2.2.1⟩ ⟨n, h.2.2.2⟩) : EReal).toReal else 0

theorem maxl_real (h0 : Layer 9216 384 x0 q) (h1 : Layer 9216 128 x1 k) (j : S4x2x3x2048.Idx) :
    val_main_v54 (F := Ideal) x0 x1 j = ((mxl x0 x1 (j 0).val (j 1).val (j 2).val (j 3).val : ℝ) : EReal) := by
  obtain ⟨r, e⟩ := maxl_ex h0 h1 j
  have hj : j = ix4 (n0 := 4) (n1 := 2) (n2 := 3) (n3 := 2048) (j 0) (j 1) (j 2) (j 3) := eq_ix4 j
  have : mxl x0 x1 (j 0).val (j 1).val (j 2).val (j 3).val = r := by
    unfold mxl
    rw [dif_pos ⟨(j 0).isLt, (j 1).isLt, (j 2).isLt, (j 3).isLt⟩]
    exact (congrArg EReal.toReal ((congrArg (val_main_v54 (F := Ideal) x0 x1) hj.symm).trans e)).trans (EReal.toReal_coe r)
  rw [this]; exact e

/-- The exponentials of a row past the context. -/
theorem expl_real (h0 : Layer 9216 384 x0 q) (h1 : Layer 9216 128 x1 k) (i : S4x2x3x2048x2304.Idx) :
    val_main_v74 (F := Ideal) x0 x1 i = ((Real.exp (score q k (i 0).val (3 * (i 1).val + (i 2).val) (256 + (i 3).val) (i 4).val - mxl x0 x1 (i 0).val (i 1).val (i 2).val (i 3).val) : ℝ) : EReal) := by
  rw [val_main_v74_apply, val_main_v73_apply, val_main_v72_apply, val_main_v71_apply, val_main_v61_apply, val_main_v60_apply, maxl_real h0 h1, scorel_real h0 h1]
  refine (congrArg (fun z : EReal => Ideal.exp (((score q k (i 0).val (3 * (i 1).val + (i 2).val) (256 + (i 3).val) (i 4).val : ℝ) : EReal) - max z ((mxl x0 x1 (i 0).val (i 1).val (i 2).val (i 3).val : ℝ) : EReal))) botR).trans ?_
  rw [max_eq_right bot_le, ← EReal.coe_sub, Ideal.exp_coe]

/-- The sum of the exponentials of a row past the context. -/
theorem suml_real (h0 : Layer 9216 384 x0 q) (h1 : Layer 9216 128 x1 k) (j : S4x2x3x2048.Idx) :
    val_main_v75 (F := Ideal) x0 x1 j = ((∑ y : Fin 2304, Real.exp (score q k (j 0).val (3 * (j 1).val + (j 2).val) (256 + (j 3).val) y - mxl x0 x1 (j 0).val (j 1).val (j 2).val (j 3).val) : ℝ) : EReal) := by
  rw [val_main_v75_apply]
  refine (congrArg (fun z : EReal => z + _) zeroR).trans ?_
  rw [zero_add, coe_sum]
  exact Finset.sum_congr rfl fun y _ => expl_real h0 h1 _

/-- The attention weights of a row past the context. -/
theorem probl_real (h0 : Layer 9216 384 x0 q) (h1 : Layer 9216 128 x1 k) (i : S4x2x3x2048x2304.Idx) :
    val_main_v78 (F := Ideal) x0 x1 i = ((prob q k (i 0).val (3 * (i 1).val + (i 2).val) (256 + (i 3).val) (i 4).val : ℝ) : EReal) := by
  have b3 : (i 3).val < 2048 := (i 3).isLt
  have hk : keys (256 + (i 3).val) = 2304 := keys_ge _
  rw [val_main_v78_apply, val_main_v77_apply, val_main_v76_apply, suml_real h0 h1, expl_real h0 h1]
  refine (coe_div _ _ (sum_exp_pos (by norm_num) fun y => score q k _ _ _ y - mxl x0 x1 _ _ _ _).ne').trans ?_
  unfold prob
  rw [hk, ← soft_shift 2304 _ (mxl x0 x1 (i 0).val (i 1).val (i 2).val (i 3).val)]

/-- The output of a row past the context. -/
theorem attnl_real (h0 : Layer 9216 384 x0 q) (h1 : Layer 9216 128 x1 k) (h2 : Layer 9216 128 x2 v) (i : S4x2048x2x3x64.Idx) :
    val_main_v83 (F := Ideal) x0 x1 x2 i = ((attn q k v (i 0).val (3 * (i 2).val + (i 3).val) (256 + (i 1).val) (i 4).val : ℝ) : EReal) := by
  have b1 : (i 1).val < 2048 := (i 1).isLt
  have b3 : (i 3).val < 3 := (i 3).isLt
  have hk : keys (256 + (i 1).val) = 2304 := keys_ge _
  rw [val_main_v83_apply, val_main_v82_apply]
  unfold attn
  rw [div3 b3, sum_keys hk fun y => prob q k (i 0).val (3 * (i 2).val + (i 3).val) (256 + (i 1).val) y * v (2304 * (i 0).val + y) (64 * (i 2).val + (i 4).val), coe_sum]
  refine Finset.sum_congr rfl fun y _ => ?_
  rw [vl_real h2, probl_real h0 h1, ← EReal.coe_mul, mul_comm]

/-- The attention's output, all rows. -/
theorem attn_real (h0 : Layer 9216 384 x0 q) (h1 : Layer 9216 128 x1 k) (h2 : Layer 9216 128 x2 v) (i : S4x2304x2x3x64.Idx) :
    val_main_v84 (F := Ideal) x0 x1 x2 i = ((attn q k v (i 0).val (3 * (i 2).val + (i 3).val) (i 1).val (i 4).val : ℝ) : EReal) := by
  unfold val_main_v84
  rw [concatenate_pair_apply]
  split
  · rw [attnc_real h0 h1 h2]
    rfl
  · rename_i h
    have h : ¬(i 1).val < 256 := h
    rw [attnl_real h0 h1 h2]
    refine congrArg Real.toEReal ?_
    show attn q k v (i 0).val (3 * (i 2).val + (i 3).val) (256 + ((i 1).val - 256)) (i 4).val = _
    rw [show 256 + ((i 1).val - 256) = (i 1).val by omega]

/-- The attention's output as the matrix of rows and lanes. -/
theorem out_real (h0 : Layer 9216 384 x0 q) (h1 : Layer 9216 128 x1 k) (h2 : Layer 9216 128 x2 v) (i : S9216x384.Idx) :
    val_main_v85 (F := Ideal) x0 x1 x2 i = ((attn q k v ((i 0).val / 2304) ((i 1).val / 64) ((i 0).val % 2304) ((i 1).val % 64) : ℝ) : EReal) := by
  have b0 : (i 0).val < 9216 := (i 0).isLt
  have b1 : (i 1).val < 384 := (i 1).isLt
  rw [val_main_v85_apply, attn_real h0 h1 h2]
  refine congrArg Real.toEReal ?_
  show attn q k v (((i 0).val * 384 + (i 1).val) / 884736) (3 * (((i 0).val * 384 + (i 1).val) / 192 % 2) + ((i 0).val * 384 + (i 1).val) / 64 % 3) (((i 0).val * 384 + (i 1).val) / 384 % 2304) (((i 0).val * 384 + (i 1).val) % 64) = _
  rw [show ((i 0).val * 384 + (i 1).val) / 884736 = (i 0).val / 2304 by omega,
    show 3 * (((i 0).val * 384 + (i 1).val) / 192 % 2) + ((i 0).val * 384 + (i 1).val) / 64 % 3 = (i 1).val / 64 by omega,
    show ((i 0).val * 384 + (i 1).val) / 384 % 2304 = (i 0).val % 2304 by omega,
    show ((i 0).val * 384 + (i 1).val) % 64 = (i 1).val % 64 by omega]

end Cert.ReferenceIdeal.Read
end
end
-- ==== Proof.RefLse.lean ====
module

public import proofs.«01_k».proof.Proof.RefForward
/-!
# The logarithms of the sums

The logarithm of the sum of the exponentials of a row's scores, from the largest score of the row, as the host hands it to the kernel.
-/
@[expose] public section
set_option maxRecDepth 16384
noncomputable section
namespace Cert.ReferenceIdeal.Read
open Cert.ReferenceIdeal Cert.ReferenceIdeal.Gen Idealize.ShloMosaic Idealize.ShloMosaic.TcCoe Idealize.SL.Sem Idealize.ShloMosaic.StableHlo
open Cert.Attn

variable {x0 : TQ} {x1 x2 : TK} {q k v : ℕ → ℕ → ℝ}

/-- The logarithm of a sum of exponentials. -/
theorem log_sum {N : ℕ} (hN : 0 < N) (f : ℕ → ℝ) : Ideal.log ((∑ y : Fin N, Real.exp (f y) : ℝ) : EReal) = ((Real.log (∑ y : Fin N, Real.exp (f y)) : ℝ) : EReal) := by
  rw [Ideal.log_coe]
  exact if_neg (not_le.mpr (sum_exp_pos hN f))

/-- A sum and a logarithm, entry by entry. -/
theorem add_log {s : Shape} (a b : FVec Ideal s .f32) (i : s.Idx) {r t : ℝ} (ha : a i = ((r : ℝ) : EReal)) (hb : b i = ((t : ℝ) : EReal)) :
    addf (F := Ideal) (φ := .f32) a (Host.log (F := Ideal) (φ := .f32) b) i = ((r : ℝ) : EReal) + Ideal.log ((t : ℝ) : EReal) := by
  show a i + Ideal.log (b i) = _
  rw [ha, hb]

/-- The largest score of a context row is not changed by minus infinity. -/
theorem bot_maxc (x0 : TQ) (x1 : TK) : val_main_v26 (F := Ideal) x0 x1 = val_main_v19 (F := Ideal) x0 x1 := by
  funext j
  rw [val_main_v26_apply, val_main_v25_apply]
  refine (congrArg (fun z : EReal => max z (val_main_v19 (F := Ideal) x0 x1 j)) botR).trans ?_
  exact max_eq_right bot_le

/-- The logarithms of the sums of a context row, as the host computes them. -/
def lsec (x0 : TQ) (x1 : TK) : (⟨S4x2x3x256x1, .f32⟩ : BufTy).Contents (Elt Ideal) :=
  addf (F := Ideal) (broadcastInDim S4x2x3x256x1 ![0, 1, 2, 3] bcast_S4x2x3x256_S4x2x3x256x1_0_1_2_3 (val_main_v19 (F := Ideal) x0 x1))
    (Host.log (F := Ideal) (broadcastInDim S4x2x3x256x1 ![0, 1, 2, 3] bcast_S4x2x3x256_S4x2x3x256x1_0_1_2_3
      (Host.reduceAdd (F := Ideal) (Host.exp (F := Ideal) (subf (F := Ideal) (val_main_v18 (F := Ideal) x0 x1)
        (broadcastInDim S4x2x3x256x256 ![0, 1, 2, 3, 4] bcast_S4x2x3x256x1_S4x2x3x256x256_0_1_2_3_4 (broadcastInDim S4x2x3x256x1 ![0, 1, 2, 3] bcast_S4x2x3x256_S4x2x3x256x1_0_1_2_3 (val_main_v19 (F := Ideal) x0 x1)))))
        (constant S_ .f32 0x00000000#32) reducesTo_S4x2x3x256x256_S4x2x3x256_d4 h_S_)))

/-- They are the sums the attention weights divide by. -/
theorem lsec_eq (x0 : TQ) (x1 : TK) : lsec x0 x1 = addf (F := Ideal) (φ := .f32) (val_main_v36 (F := Ideal) x0 x1) (Host.log (F := Ideal) (φ := .f32) (val_main_v41 (F := Ideal) x0 x1)) := by
  unfold lsec
  rw [← bot_maxc]
  rfl

/-- Their value. -/
theorem lsec_real (h0 : Layer 9216 384 x0 q) (h1 : Layer 9216 128 x1 k) (i : S4x2x3x256x1.Idx) :
    lsec x0 x1 i = ((mxc x0 x1 (i 0).val (i 1).val (i 2).val (i 3).val + Real.log (∑ y : Fin 256, Real.exp (score q k (i 0).val (3 * (i 1).val + (i 2).val) ((i 3).val) y - mxc x0 x1 (i 0).val (i 1).val (i 2).val (i 3).val)) : ℝ) : EReal) := by
  rw [lsec_eq]
  have e1 : (val_main_v36 (F := Ideal) x0 x1 i : EReal) = ((mxc x0 x1 (i 0).val (i 1).val (i 2).val (i 3).val : ℝ) : EReal) :=
    (val_main_v36_apply x0 x1 i).trans ((congrFun (bot_maxc x0 x1) (idx_main_v36 i)).trans (maxc_real h0 h1 (idx_main_v36 i)))
  have e2 : (val_main_v41 (F := Ideal) x0 x1 i : EReal) = ((∑ y : Fin 256, Real.exp (score q k (i 0).val (3 * (i 1).val + (i 2).val) ((i 3).val) y - mxc x0 x1 (i 0).val (i 1).val (i 2).val (i 3).val) : ℝ) : EReal) :=
    (val_main_v41_apply x0 x1 i).trans (sumc_real h0 h1 (idx_main_v41 i))
  refine (add_log (s := S4x2x3x256x1) (val_main_v36 (F := Ideal) x0 x1) (val_main_v41 (F := Ideal) x0 x1) i e1 e2).trans ?_
  rw [log_sum (N := 256) (by norm_num) (fun y => score q k (i 0).val (3 * (i 1).val + (i 2).val) ((i 3).val) y - mxc x0 x1 (i 0).val (i 1).val (i 2).val (i 3).val), ← EReal.coe_add]

/-- The largest score of a row past the context is not changed by minus infinity. -/
theorem bot_maxl (x0 : TQ) (x1 : TK) : val_main_v61 (F := Ideal) x0 x1 = val_main_v54 (F := Ideal) x0 x1 := by
  funext j
  rw [val_main_v61_apply, val_main_v60_apply]
  refine (congrArg (fun z : EReal => max z (val_main_v54 (F := Ideal) x0 x1 j)) botR).trans ?_
  exact max_eq_right bot_le

/-- The logarithms of the sums of a row past the context, as the host computes them. -/
def lsel (x0 : TQ) (x1 : TK) : (⟨S4x2x3x2048x1, .f32⟩ : BufTy).Contents (Elt Ideal) :=
  addf (F := Ideal) (broadcastInDim S4x2x3x2048x1 ![0, 1, 2, 3] bcast_S4x2x3x2048_S4x2x3x2048x1_0_1_2_3 (val_main_v54 (F := Ideal) x0 x1))
    (Host.log (F := Ideal) (broadcastInDim S4x2x3x2048x1 ![0, 1, 2, 3] bcast_S4x2x3x2048_S4x2x3x2048x1_0_1_2_3
      (Host.reduceAdd (F := Ideal) (Host.exp (F := Ideal) (subf (F := Ideal) (val_main_v53 (F := Ideal) x0 x1)
        (broadcastInDim S4x2x3x2048x2304 ![0, 1, 2, 3, 4] bcast_S4x2x3x2048x1_S4x2x3x2048x2304_0_1_2_3_4 (broadcastInDim S4x2x3x2048x1 ![0, 1, 2, 3] bcast_S4x2x3x2048_S4x2x3x2048x1_0_1_2_3 (val_main_v54 (F := Ideal) x0 x1)))))
        (constant S_ .f32 0x00000000#32) reducesTo_S4x2x3x2048x2304_S4x2x3x2048_d4 h_S_)))

/-- They are the sums the attention weights divide by. -/
theorem lsel_eq (x0 : TQ) (x1 : TK) : lsel x0 x1 = addf (F := Ideal) (φ := .f32) (val_main_v71 (F := Ideal) x0 x1) (Host.log (F := Ideal) (φ := .f32) (val_main_v76 (F := Ideal) x0 x1)) := by
  unfold lsel
  rw [← bot_maxl]
  rfl

/-- Their value. -/
theorem lsel_real (h0 : Layer 9216 384 x0 q) (h1 : Layer 9216 128 x1 k) (i : S4x2x3x2048x1.Idx) :
    lsel x0 x1 i = ((mxl x0 x1 (i 0).val (i 1).val (i 2).val (i 3).val + Real.log (∑ y : Fin 2304, Real.exp (score q k (i 0).val (3 * (i 1).val + (i 2).val) (256 + (i 3).val) y - mxl x0 x1 (i 0).val (i 1).val (i 2).val (i 3).val)) : ℝ) : EReal) := by
  rw [lsel_eq]
  have e1 : (val_main_v71 (F := Ideal) x0 x1 i : EReal) = ((mxl x0 x1 (i 0).val (i 1).val (i 2).val (i 3).val : ℝ) : EReal) :=
    (val_main_v71_apply x0 x1 i).trans ((congrFun (bot_maxl x0 x1) (idx_main_v71 i)).trans (maxl_real h0 h1 (idx_main_v71 i)))
  have e2 : (val_main_v76 (F := Ideal) x0 x1 i : EReal) = ((∑ y : Fin 2304, Real.exp (score q k (i 0).val (3 * (i 1).val + (i 2).val) (256 + (i 3).val) y - mxl x0 x1 (i 0).val (i 1).val (i 2).val (i 3).val) : ℝ) : EReal) :=
    (val_main_v76_apply x0 x1 i).trans (suml_real h0 h1 (idx_main_v76 i))
  refine (add_log (s := S4x2x3x2048x1) (val_main_v71 (F := Ideal) x0 x1) (val_main_v76 (F := Ideal) x0 x1) i e1 e2).trans ?_
  rw [log_sum (N := 2304) (by norm_num) (fun y => score q k (i 0).val (3 * (i 1).val + (i 2).val) (256 + (i 3).val) y - mxl x0 x1 (i 0).val (i 1).val (i 2).val (i 3).val), ← EReal.coe_add]

/-- The logarithm of the sum of a row, by sample, key head, head of the group and row. -/
def lseR (x0 : TQ) (x1 : TK) (q k : ℕ → ℕ → ℝ) (b j g n : ℕ) : ℝ :=
  if n < 256 then mxc x0 x1 b j g n + Real.log (∑ y : Fin 256, Real.exp (score q k b (3 * j + g) n y - mxc x0 x1 b j g n))
  else mxl x0 x1 b j g (n - 256) + Real.log (∑ y : Fin 2304, Real.exp (score q k b (3 * j + g) n y - mxl x0 x1 b j g (n - 256)))

/-- The exponential of a score less the logarithm of the sum is the attention weight. -/
theorem exp_lse (x0 : TQ) (x1 : TK) (q k : ℕ → ℕ → ℝ) (b j g n y : ℕ) :
    Real.exp (score q k b (3 * j + g) n y - lseR x0 x1 q k b j g n) = prob q k b (3 * j + g) n y := by
  unfold lseR prob
  by_cases h : n < 256
  · rw [if_pos h, keys_lt h]
    exact soft_lse (by norm_num) _ _ _
  · rw [if_neg h, show n = 256 + (n - 256) by omega, keys_ge]
    simp only [show 256 + (n - 256) - 256 = n - 256 by omega]
    exact soft_lse (by norm_num) _ _ _

end Cert.ReferenceIdeal.Read
end
end
-- ==== Proof.Host.lean ====
module

public import proofs.«01_k».proof.Proof.RefLse
public import proofs.«01_k».proof.Proof.Stacks
public import proofs.«01_k».proof.Proof.Gen.KernelIdeal.Value
public import Idealize.ShloMosaic.Lib.StableHlo.RunRead

/-!
# The arrays the host hands to the kernel

The attention's output and the logarithms of the sums, as the host has computed them when the kernel starts.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

open Cert.ReferenceIdeal.Read (Layer TQ TK val_main_v48 val_main_v83 val_main_v84 val_main_v85 lsec lsel lseR lsec_real lsel_real out_real)

variable (m : (ℓ : Loc nD τ sig) → Buf (Elt Ideal) ℓ) (c : Dev nD)

/-- The rows' outputs, context rows first, from their two parts. -/
theorem join_out {a a' : S4x256x2x3x64.Idx → EReal} {b b' : S4x2048x2x3x64.Idx → EReal} (ha : a = a') (hb : b = b') :
    shapeCast S9216x384 (concatenate S4x2304x2x3x64 1 [⟨S4x256x2x3x64, a⟩, ⟨S4x2048x2x3x64, b⟩] concatenates_S4x256x2x3x64_S4x2048x2x3x64_S4x2304x2x3x64_d1) shapeCasts_S4x2304x2x3x64_S9216x384
      = shapeCast S9216x384 (concatenate S4x2304x2x3x64 1 [⟨S4x256x2x3x64, a'⟩, ⟨S4x2048x2x3x64, b'⟩] concatenates_S4x256x2x3x64_S4x2048x2x3x64_S4x2304x2x3x64_d1) shapeCasts_S4x2304x2x3x64_S9216x384 := by
  rw [ha, hb]

/-- The rows' logarithms, context rows first, laid out by blocks of 128 rows, from their two parts. -/
abbrev laid (a : S4x2x3x256x1.Idx → EReal) (b : S4x2x3x2048x1.Idx → EReal) : S72x768x1.Idx → EReal :=
  shapeCast S72x768x1 (transpose S4x18x2x3x128 [0, 3, 1, 2, 4] (shapeCast S4x2x3x18x128
    (concatenate S4x2x3x2304x1 3 [⟨S4x2x3x256x1, a⟩, ⟨S4x2x3x2048x1, b⟩] concatenates_S4x2x3x256x1_S4x2x3x2048x1_S4x2x3x2304x1_d3)
    shapeCasts_S4x2x3x2304x1_S4x2x3x18x128) transposes_S4x2x3x18x128_S4x18x2x3x128_0_3_1_2_4) shapeCasts_S4x18x2x3x128_S72x768x1

theorem laid_congr {a a' : S4x2x3x256x1.Idx → EReal} {b b' : S4x2x3x2048x1.Idx → EReal} (ha : a = a') (hb : b = b') : laid a b = laid a' b' := by
  rw [ha, hb]

set_option maxHeartbeats 4000000 in
/-- The output the host hands over is the reference's. -/
theorem V_out : V m c main_v51 = val_main_v85 (F := Ideal) (m ((c : Thread nD τ).loc main_arg0)) (m ((c : Thread nD τ).loc main_arg1)) (m ((c : Thread nD τ).loc main_arg2)) := by
  show StableHlo.after hostOps0 (fun b => m (c, b)) (Proc.devRef .tc main_v51) = _
  after_reads_simp
  refine join_out ?_ ?_
  · after_reads_simp
    rfl
  · after_reads_simp
    rfl

set_option maxHeartbeats 4000000 in
/-- The logarithms the host hands over are the reference's. -/
theorem V_lse : V m c main_v86 = laid (lsec (m ((c : Thread nD τ).loc main_arg0)) (m ((c : Thread nD τ).loc main_arg1))) (lsel (m ((c : Thread nD τ).loc main_arg0)) (m ((c : Thread nD τ).loc main_arg1))) := by
  show StableHlo.after hostOps0 (fun b => m (c, b)) (Proc.devRef .tc main_v86) = _
  after_reads_simp
  refine laid_congr ?_ ?_
  · after_reads_simp
    rfl
  · after_reads_simp
    rfl

/-- The layout of the logarithms: block `18 b + i` holds rows `128 i …` of sample `b`, stacked by key head and head of the group. -/
theorem laid_apply (a : S4x2x3x256x1.Idx → EReal) (d : S4x2x3x2048x1.Idx → EReal) (u : ℕ → ℕ → ℕ → ℕ → ℝ)
    (ha : ∀ i : S4x2x3x256x1.Idx, a i = ((u (i 0).val (i 1).val (i 2).val (i 3).val : ℝ) : EReal))
    (hd : ∀ i : S4x2x3x2048x1.Idx, d i = ((u (i 0).val (i 1).val (i 2).val (256 + (i 3).val) : ℝ) : EReal)) (J : S72x768x1.Idx) :
    laid a d J = ((u ((J 0).val / 18) ((J 1).val / 384) ((J 1).val / 128 % 3) (128 * ((J 0).val % 18) + (J 1).val % 128) : ℝ) : EReal) := by
  have b0 : (J 0).val < 72 := (J 0).isLt
  have b1 : (J 1).val < 768 := (J 1).isLt
  have b2 : (J 2).val < 1 := (J 2).isLt
  unfold laid
  rw [shapeCast_apply _ shapeCasts_S4x18x2x3x128_S72x768x1 J (ix5 (n0 := 4) (n1 := 18) (n2 := 2) (n3 := 3) (n4 := 128) ⟨(J 0).val / 18, by omega⟩ ⟨(J 0).val % 18, by omega⟩ ⟨(J 1).val / 384, by omega⟩ ⟨(J 1).val / 128 % 3, by omega⟩ ⟨(J 1).val % 128, by omega⟩)
    (by rewrite [Shape.rowMajor_val_five, Shape.rowMajor_val_three]; show (((((J 0).val / 18 * 18 + (J 0).val % 18) * 2 + (J 1).val / 384) * 3 + (J 1).val / 128 % 3) * 128 + (J 1).val % 128 : ℕ) = ((J 0).val * 768 + (J 1).val) * 1 + (J 2).val; omega)]
  rw [transpose_apply [0, 3, 1, 2, 4] _ transposes_S4x2x3x18x128_S4x18x2x3x128_0_3_1_2_4 _ (ix5 (n0 := 4) (n1 := 2) (n2 := 3) (n3 := 18) (n4 := 128) ⟨(J 0).val / 18, by omega⟩ ⟨(J 1).val / 384, by omega⟩ ⟨(J 1).val / 128 % 3, by omega⟩ ⟨(J 0).val % 18, by omega⟩ ⟨(J 1).val % 128, by omega⟩)
    (fun b => match b with | ⟨0, _⟩ => rfl | ⟨1, _⟩ => rfl | ⟨2, _⟩ => rfl | ⟨3, _⟩ => rfl | ⟨4, _⟩ => rfl)]
  rw [shapeCast_apply _ shapeCasts_S4x2x3x2304x1_S4x2x3x18x128 _ (ix5 (n0 := 4) (n1 := 2) (n2 := 3) (n3 := 2304) (n4 := 1) ⟨(J 0).val / 18, by omega⟩ ⟨(J 1).val / 384, by omega⟩ ⟨(J 1).val / 128 % 3, by omega⟩ ⟨128 * ((J 0).val % 18) + (J 1).val % 128, by omega⟩ ⟨0, by omega⟩)
    (by rewrite [Shape.rowMajor_val_five, Shape.rowMajor_val_five]; show (((((J 0).val / 18 * 2 + (J 1).val / 384) * 3 + (J 1).val / 128 % 3) * 2304 + (128 * ((J 0).val % 18) + (J 1).val % 128)) * 1 + 0 : ℕ) = ((((J 0).val / 18 * 2 + (J 1).val / 384) * 3 + (J 1).val / 128 % 3) * 18 + (J 0).val % 18) * 128 + (J 1).val % 128; omega)]
  rw [concatenate_pair_apply]
  split
  · exact ha _
  · rename_i h
    have h : ¬(128 * ((J 0).val % 18) + (J 1).val % 128 < 256) := h
    refine (hd _).trans (congrArg Real.toEReal ?_)
    show u ((J 0).val / 18) ((J 1).val / 384) ((J 1).val / 128 % 3) (256 + (128 * ((J 0).val % 18) + (J 1).val % 128 - 256)) = _
    rw [show 256 + (128 * ((J 0).val % 18) + (J 1).val % 128 - 256) = 128 * ((J 0).val % 18) + (J 1).val % 128 by omega]

variable {q k v : ℕ → ℕ → ℝ}

/-- The logarithms handed over, on real inputs. -/
theorem V_lse_real (h0 : Layer 9216 384 (m ((c : Thread nD τ).loc main_arg0)) q) (h1 : Layer 9216 128 (m ((c : Thread nD τ).loc main_arg1)) k) (J : S72x768x1.Idx) :
    (V m c main_v86 : S72x768x1.Idx → EReal) J = ((lseR (m ((c : Thread nD τ).loc main_arg0)) (m ((c : Thread nD τ).loc main_arg1)) q k ((J 0).val / 18) ((J 1).val / 384) ((J 1).val / 128 % 3) (128 * ((J 0).val % 18) + (J 1).val % 128) : ℝ) : EReal) := by
  refine (congrFun (V_lse m c) J).trans (laid_apply _ _ (lseR (m ((c : Thread nD τ).loc main_arg0)) (m ((c : Thread nD τ).loc main_arg1)) q k) ?_ ?_ J)
  · intro i
    refine (lsec_real h0 h1 i).trans (congrArg Real.toEReal ?_)
    have b3 : (i 3).val < 256 := (i 3).isLt
    unfold lseR
    rw [if_pos b3]
  · intro i
    refine (lsel_real h0 h1 i).trans (congrArg Real.toEReal ?_)
    unfold lseR
    rw [if_neg (by omega)]
    simp only [show 256 + (i 3).val - 256 = (i 3).val by omega]

end Cert.KernelIdeal.Value
end
end
-- ==== Proof.RefBackward.lean ====
module

public import proofs.«01_k».proof.Proof.RefForward
public import Idealize.ShloMosaic.Lib.TwoAxisContraction
/-!
# The reference's backward half on real inputs

The cotangents of the weights and of the scores, and the three gradients of either kind of row.
-/
@[expose] public section
set_option maxRecDepth 16384
noncomputable section
namespace Cert.ReferenceIdeal.Read
open Cert.ReferenceIdeal Cert.ReferenceIdeal.Gen Idealize.ShloMosaic Idealize.ShloMosaic.TcCoe Idealize.SL.Sem Idealize.ShloMosaic.StableHlo
open Cert.Attn
open Idealize.ShloMosaic.ValueIdx (contrEquiv2 contrEquiv2_symm_val0 contrEquiv2_symm_val1)

/-- The cotangent's array. -/
abbrev TW := (⟨S9216x384, .bf16⟩ : BufTy).Contents (Elt Ideal)
/-- A matrix holds the reals `a`. -/
abbrev Mat (n m : ℕ) (x : (⟨2, ![n, m]⟩ : Shape).Idx → EReal) (a : ℕ → ℕ → ℝ) : Prop :=
  ∀ j : (⟨2, ![n, m]⟩ : Shape).Idx, x j = ((a (j 0).val (j 1).val : ℝ) : EReal)

variable {x0 : TQ} {x1 x2 : TK} {x3 : TW} {q k v w : ℕ → ℕ → ℝ}

/-- The cotangent by sample, row, key head, head of the group and lane. -/
theorem w_real (h3 : Mat 9216 384 x3 w) (i : S4x2304x2x3x64.Idx) :
    val_main_v87 (F := Ideal) x3 i = ((w (2304 * (i 0).val + (i 1).val) (64 * (3 * (i 2).val + (i 3).val) + (i 4).val) : ℝ) : EReal) := by
  have b0 : (i 0).val < 4 := (i 0).isLt
  have b1 : (i 1).val < 2304 := (i 1).isLt
  have b2 : (i 2).val < 2 := (i 2).isLt
  have b3 : (i 3).val < 3 := (i 3).isLt
  have b4 : (i 4).val < 64 := (i 4).isLt
  rw [val_main_v87_apply, val_main_v86_apply]
  refine (h3 _).trans (congrArg Real.toEReal (congrArg₂ w ?_ ?_))
  · show (((((i 0).val * 2304 + (i 1).val) * 2 + (i 2).val) * 3 + (i 3).val) * 64 + (i 4).val) / 384 = _
    omega
  · show (((((i 0).val * 2304 + (i 1).val) * 2 + (i 2).val) * 3 + (i 3).val) * 64 + (i 4).val) % 384 = _
    omega

/-- The cotangent of a context row, transposed. -/
theorem wc_real (h3 : Mat 9216 384 x3 w) (i : S4x2x64x3x256.Idx) :
    val_main_v114 (F := Ideal) x3 i = ((w (2304 * (i 0).val + (i 4).val) (64 * (3 * (i 1).val + (i 3).val) + (i 2).val) : ℝ) : EReal) := by
  rw [val_main_v114_apply, val_main_v88_apply]; exact w_real h3 _

/-- The cotangent of the weights of a context row. -/
theorem dprobc_real (h2 : Layer 9216 128 x2 v) (h3 : Mat 9216 384 x3 w) (i : S4x2x3x256x256.Idx) :
    val_main_v115 (F := Ideal) x2 x3 i = ((dprob v w (i 0).val (3 * (i 1).val + (i 2).val) (i 3).val (i 4).val : ℝ) : EReal) := by
  have b2 : (i 2).val < 3 := (i 2).isLt
  rw [val_main_v115_apply]
  simp only [dprob, div3 b2]
  rw [coe_sum]
  refine Finset.sum_congr rfl fun d _ => ?_
  rw [vc_real h2, wc_real h3, ← EReal.coe_mul]

/-- The row sum of the exponentials of a context row, as a number. -/
def Zc (x0 : TQ) (x1 : TK) (q k : ℕ → ℕ → ℝ) (b j g n : ℕ) : ℝ :=
  ∑ y : Fin 256, Real.exp (score q k b (3 * j + g) n y - mxc x0 x1 b j g n)

theorem Zc_ne (b j g n : ℕ) : Zc x0 x1 q k b j g n ≠ 0 :=
  (sum_exp_pos (N := 256) (by norm_num) fun y => score q k b (3 * j + g) n y - mxc x0 x1 b j g n).ne'

/-- One over the square of the row sum. -/
theorem invc_real (h0 : Layer 9216 384 x0 q) (h1 : Layer 9216 128 x1 k) (i : S4x2x3x256x1.Idx) :
    val_main_v46 (F := Ideal) x0 x1 i = ((1 / (Zc x0 x1 q k (i 0).val (i 1).val (i 2).val (i 3).val * Zc x0 x1 q k (i 0).val (i 1).val (i 2).val (i 3).val) : ℝ) : EReal) := by
  rw [val_main_v46_apply, val_main_v45_apply, val_main_v44_apply, val_main_v41_apply, sumc_real h0 h1]
  refine (congrArg₂ Ideal.div oneR (EReal.coe_mul _ _).symm).trans ?_
  exact coe_div _ _ (mul_ne_zero (Zc_ne _ _ _ _) (Zc_ne _ _ _ _))

/-- The products the row sum of the softmax gradient runs over. -/
theorem termc_real (h0 : Layer 9216 384 x0 q) (h1 : Layer 9216 128 x1 k) (h2 : Layer 9216 128 x2 v) (h3 : Mat 9216 384 x3 w) (i : S4x2x3x256x256.Idx) :
    val_main_v120 (F := Ideal) x0 x1 x2 x3 i
      = ((dprob v w (i 0).val (3 * (i 1).val + (i 2).val) (i 3).val (i 4).val
          * (1 / (Zc x0 x1 q k (i 0).val (i 1).val (i 2).val (i 3).val * Zc x0 x1 q k (i 0).val (i 1).val (i 2).val (i 3).val))
          * Real.exp (score q k (i 0).val (3 * (i 1).val + (i 2).val) (i 3).val (i 4).val - mxc x0 x1 (i 0).val (i 1).val (i 2).val (i 3).val) : ℝ) : EReal) := by
  rw [val_main_v120_apply, val_main_v119_apply, val_main_v118_apply, invc_real h0 h1, dprobc_real h2 h3, expc_real h0 h1, EReal.coe_mul, EReal.coe_mul]
  rfl

/-- The row sum of the softmax gradient of a context row, its sign turned. -/
theorem negc_real (h0 : Layer 9216 384 x0 q) (h1 : Layer 9216 128 x1 k) (h2 : Layer 9216 128 x2 v) (h3 : Mat 9216 384 x3 w) (j : S4x2x3x256.Idx) :
    val_main_v126 (F := Ideal) x0 x1 x2 x3 j
      = ((-(∑ y : Fin 256, dprob v w (j 0).val (3 * (j 1).val + (j 2).val) (j 3).val y
          * (1 / (Zc x0 x1 q k (j 0).val (j 1).val (j 2).val (j 3).val * Zc x0 x1 q k (j 0).val (j 1).val (j 2).val (j 3).val))
          * Real.exp (score q k (j 0).val (3 * (j 1).val + (j 2).val) (j 3).val y - mxc x0 x1 (j 0).val (j 1).val (j 2).val (j 3).val)) : ℝ) : EReal) := by
  have b0 : (j 0).val < 4 := (j 0).isLt
  have b1 : (j 1).val < 2 := (j 1).isLt
  have b2 : (j 2).val < 3 := (j 2).isLt
  have b3 : (j 3).val < 256 := (j 3).isLt
  have e : idx_main_v122 (idx_main_v126 j 0) = j := funext fun a => Fin.ext (by
    match a with
    | ⟨0, _⟩ => show ((((((j 0).val * 2 + (j 1).val) * 3 + (j 2).val) * 256 + (j 3).val) * 1 + 0) / 1536 : ℕ) = (j 0).val; omega
    | ⟨1, _⟩ => show ((((((j 0).val * 2 + (j 1).val) * 3 + (j 2).val) * 256 + (j 3).val) * 1 + 0) / 768 % 2 : ℕ) = (j 1).val; omega
    | ⟨2, _⟩ => show ((((((j 0).val * 2 + (j 1).val) * 3 + (j 2).val) * 256 + (j 3).val) * 1 + 0) / 256 % 3 : ℕ) = (j 2).val; omega
    | ⟨3, _⟩ => show ((((((j 0).val * 2 + (j 1).val) * 3 + (j 2).val) * 256 + (j 3).val) * 1 + 0) % 256 : ℕ) = (j 3).val; omega)
  rw [val_main_v126_apply]
  refine (congrArg (fun z : EReal => z + _) zeroR).trans ?_
  rw [zero_add, Fin.sum_univ_one, val_main_v123_apply, val_main_v122_apply, e, val_main_v121_apply, EReal.coe_neg, coe_sum]
  refine congrArg (fun z : EReal => -z) ?_
  refine (congrArg (fun z : EReal => z + _) zeroR).trans ?_
  rw [zero_add]
  exact Finset.sum_congr rfl fun y _ => termc_real h0 h1 h2 h3 _

/-- The cotangent of the scores of a context row. -/
theorem dscorec_real (h0 : Layer 9216 384 x0 q) (h1 : Layer 9216 128 x1 k) (h2 : Layer 9216 128 x2 v) (h3 : Mat 9216 384 x3 w) (i : S4x2x3x256x256.Idx) :
    val_main_v129 (F := Ideal) x0 x1 x2 x3 i = ((dscore q k v w (i 0).val (3 * (i 1).val + (i 2).val) (i 3).val (i 4).val : ℝ) : EReal) := by
  have b3 : (i 3).val < 256 := (i 3).isLt
  have hk : keys (i 3).val = 256 := keys_lt b3
  rw [val_main_v129_apply, val_main_v128_apply, val_main_v125_apply, val_main_v124_apply, val_main_v41_apply, val_main_v127_apply,
    sumc_real h0 h1, negc_real h0 h1 h2 h3, dprobc_real h2 h3, expc_real h0 h1]
  refine (congrArg (fun z : EReal => (z + ((_ : ℝ) : EReal)) * ((_ : ℝ) : EReal)) (coe_div _ _ (Zc_ne (x0 := x0) (x1 := x1) (q := q) (k := k) (i 0).val (i 1).val (i 2).val (i 3).val))).trans ?_
  rw [← EReal.coe_add, ← EReal.coe_mul]
  refine congrArg Real.toEReal ?_
  unfold dscore
  rw [hk]
  exact softGrad_quotient (by norm_num) (score q k (i 0).val (3 * (i 1).val + (i 2).val) (i 3).val) (dprob v w (i 0).val (3 * (i 1).val + (i 2).val) (i 3).val) (mxc x0 x1 (i 0).val (i 1).val (i 2).val (i 3).val) (i 4).val

/-- The same, scaled and transposed. -/
theorem dsTc_real (h0 : Layer 9216 384 x0 q) (h1 : Layer 9216 128 x1 k) (h2 : Layer 9216 128 x2 v) (h3 : Mat 9216 384 x3 w) (i : S4x2x256x256x3.Idx) :
    val_main_v132 (F := Ideal) x0 x1 x2 x3 i = ((dscore q k v w (i 0).val (3 * (i 1).val + (i 4).val) (i 3).val (i 2).val * (1 / 8) : ℝ) : EReal) := by
  rw [val_main_v132_apply, val_main_v131_apply, val_main_v130_apply, dscorec_real h0 h1 h2 h3, EReal.coe_mul]
  exact congrArg (fun z : EReal => _ * z) eighthR

/-- The queries' gradient, a context row. -/
theorem dqc_real (h0 : Layer 9216 384 x0 q) (h1 : Layer 9216 128 x1 k) (h2 : Layer 9216 128 x2 v) (h3 : Mat 9216 384 x3 w) (i : S4x256x2x3x64.Idx) :
    val_main_v134 (F := Ideal) x0 x1 x2 x3 i = ((gradQ q k v w (i 0).val (3 * (i 2).val + (i 3).val) (i 1).val (i 4).val : ℝ) : EReal) := by
  have b1 : (i 1).val < 256 := (i 1).isLt
  have b3 : (i 3).val < 3 := (i 3).isLt
  have hk : keys (i 1).val = 256 := keys_lt b1
  rw [val_main_v134_apply, val_main_v133_apply]
  unfold gradQ
  rw [div3 b3, sum_keys hk fun y => dscore q k v w (i 0).val (3 * (i 2).val + (i 3).val) (i 1).val y * k (2304 * (i 0).val + y) (64 * (i 2).val + (i 4).val), Finset.sum_mul, coe_sum]
  refine Finset.sum_congr rfl fun y _ => ?_
  rw [kc_real h1, dsTc_real h0 h1 h2 h3, ← EReal.coe_mul]
  exact congrArg Real.toEReal (mul_right_comm _ _ _)

/-- The keys' gradient through a context row. -/
theorem dkc_real (h0 : Layer 9216 384 x0 q) (h1 : Layer 9216 128 x1 k) (h2 : Layer 9216 128 x2 v) (h3 : Mat 9216 384 x3 w) (i : S4x256x2x64.Idx) :
    val_main_v136 (F := Ideal) x0 x1 x2 x3 i
      = ((∑ y : Fin 256, ∑ g : Fin 3, dscore q k v w (i 0).val (3 * (i 2).val + g.val) y.val (i 1).val * (q (2304 * (i 0).val + y.val) (64 * (3 * (i 2).val + g.val) + (i 3).val) * (1 / 8)) : ℝ) : EReal) := by
  rw [val_main_v136_apply]
  unfold val_main_v135
  simp only [Host.dotGeneral]
  rw [Ideal.dotGeneral_apply, ← Equiv.sum_comp (contrEquiv2 dot_S4x2x256x256x3_S4x256x2x3x64_S4x2x256x64_34_13_2_4_01_02 256 3 rfl rfl rfl).symm, Fintype.sum_prod_type, coe_sum]
  refine Finset.sum_congr rfl fun y _ => ?_
  rw [coe_sum]
  refine Finset.sum_congr rfl fun g _ => ?_
  have e0 := contrEquiv2_symm_val0 dot_S4x2x256x256x3_S4x256x2x3x64_S4x2x256x64_34_13_2_4_01_02 256 3 rfl rfl rfl (y, g)
  have e1 := contrEquiv2_symm_val1 dot_S4x2x256x256x3_S4x256x2x3x64_S4x2x256x64_34_13_2_4_01_02 256 3 rfl rfl rfl (y, g)
  have el : dot_S4x2x256x256x3_S4x256x2x3x64_S4x2x256x64_34_13_2_4_01_02.lhsIdx (idx_main_v136 i) ((contrEquiv2 dot_S4x2x256x256x3_S4x256x2x3x64_S4x2x256x64_34_13_2_4_01_02 256 3 rfl rfl rfl).symm (y, g))
      = ix5 (n0 := 4) (n1 := 2) (n2 := 256) (n3 := 256) (n4 := 3) (i 0) (i 2) (i 1) y g := funext fun a => Fin.ext (by
    match a with
    | ⟨0, _⟩ => rfl
    | ⟨1, _⟩ => rfl
    | ⟨2, _⟩ => rfl
    | ⟨3, _⟩ => exact e0
    | ⟨4, _⟩ => exact e1)
  have er : dot_S4x2x256x256x3_S4x256x2x3x64_S4x2x256x64_34_13_2_4_01_02.rhsIdx (idx_main_v136 i) ((contrEquiv2 dot_S4x2x256x256x3_S4x256x2x3x64_S4x2x256x64_34_13_2_4_01_02 256 3 rfl rfl rfl).symm (y, g))
      = ix5 (n0 := 4) (n1 := 256) (n2 := 2) (n3 := 3) (n4 := 64) (i 0) y (i 2) g (i 3) := funext fun a => Fin.ext (by
    match a with
    | ⟨0, _⟩ => rfl
    | ⟨1, _⟩ => exact e0
    | ⟨2, _⟩ => rfl
    | ⟨3, _⟩ => exact e1
    | ⟨4, _⟩ => rfl)
  rw [el, er, dsTc_real h0 h1 h2 h3, qc_real h0, ← EReal.coe_mul]
  exact congrArg Real.toEReal ((mul_assoc _ _ _).trans (congrArg (fun z => _ * z) (mul_comm _ _)))

/-- The values' gradient through a context row. -/
theorem dvc_real (h0 : Layer 9216 384 x0 q) (h1 : Layer 9216 128 x1 k) (h3 : Mat 9216 384 x3 w) (i : S4x256x2x64.Idx) :
    val_main_v117 (F := Ideal) x0 x1 x3 i
      = ((∑ y : Fin 256, ∑ g : Fin 3, prob q k (i 0).val (3 * (i 2).val + g.val) y.val (i 1).val * w (2304 * (i 0).val + y.val) (64 * (3 * (i 2).val + g.val) + (i 3).val) : ℝ) : EReal) := by
  rw [val_main_v117_apply, Finset.sum_comm]
  unfold val_main_v116
  simp only [Host.dotGeneral]
  rw [Ideal.dotGeneral_apply, ← Equiv.sum_comp (contrEquiv2 dot_S4x2x64x3x256_S4x2x3x256x256_S4x2x64x256_34_23_2_4_01_01 3 256 rfl rfl rfl).symm, Fintype.sum_prod_type, coe_sum]
  refine Finset.sum_congr rfl fun g _ => ?_
  rw [coe_sum]
  refine Finset.sum_congr rfl fun y _ => ?_
  have e0 := contrEquiv2_symm_val0 dot_S4x2x64x3x256_S4x2x3x256x256_S4x2x64x256_34_23_2_4_01_01 3 256 rfl rfl rfl (g, y)
  have e1 := contrEquiv2_symm_val1 dot_S4x2x64x3x256_S4x2x3x256x256_S4x2x64x256_34_23_2_4_01_01 3 256 rfl rfl rfl (g, y)
  have el : dot_S4x2x64x3x256_S4x2x3x256x256_S4x2x64x256_34_23_2_4_01_01.lhsIdx (idx_main_v117 i) ((contrEquiv2 dot_S4x2x64x3x256_S4x2x3x256x256_S4x2x64x256_34_23_2_4_01_01 3 256 rfl rfl rfl).symm (g, y))
      = ix5 (n0 := 4) (n1 := 2) (n2 := 64) (n3 := 3) (n4 := 256) (i 0) (i 2) (i 3) g y := funext fun a => Fin.ext (by
    match a with
    | ⟨0, _⟩ => rfl
    | ⟨1, _⟩ => rfl
    | ⟨2, _⟩ => rfl
    | ⟨3, _⟩ => exact e0
    | ⟨4, _⟩ => exact e1)
  have er : dot_S4x2x64x3x256_S4x2x3x256x256_S4x2x64x256_34_23_2_4_01_01.rhsIdx (idx_main_v117 i) ((contrEquiv2 dot_S4x2x64x3x256_S4x2x3x256x256_S4x2x64x256_34_23_2_4_01_01 3 256 rfl rfl rfl).symm (g, y))
      = ix5 (n0 := 4) (n1 := 2) (n2 := 3) (n3 := 256) (n4 := 256) (i 0) (i 2) g y (i 1) := funext fun a => Fin.ext (by
    match a with
    | ⟨0, _⟩ => rfl
    | ⟨1, _⟩ => rfl
    | ⟨2, _⟩ => exact e0
    | ⟨3, _⟩ => exact e1
    | ⟨4, _⟩ => rfl)
  rw [el, er, wc_real h3, probc_real h0 h1, ← EReal.coe_mul, mul_comm]
  rfl

/-- The cotangent of a row past the context, transposed. -/
theorem wl_real (h3 : Mat 9216 384 x3 w) (i : S4x2x64x3x2048.Idx) :
    val_main_v90 (F := Ideal) x3 i = ((w (2304 * (i 0).val + (256 + (i 4).val)) (64 * (3 * (i 1).val + (i 3).val) + (i 2).val) : ℝ) : EReal) := by
  rw [val_main_v90_apply, val_main_v89_apply]; exact w_real h3 _

/-- The cotangent of the weights of a row past the context. -/
theorem dprobl_real (h2 : Layer 9216 128 x2 v) (h3 : Mat 9216 384 x3 w) (i : S4x2x3x2048x2304.Idx) :
    val_main_v91 (F := Ideal) x2 x3 i = ((dprob v w (i 0).val (3 * (i 1).val + (i 2).val) (256 + (i 3).val) (i 4).val : ℝ) : EReal) := by
  have b2 : (i 2).val < 3 := (i 2).isLt
  rw [val_main_v91_apply]
  simp only [dprob, div3 b2]
  rw [coe_sum]
  refine Finset.sum_congr rfl fun d _ => ?_
  rw [vl_real h2, wl_real h3, ← EReal.coe_mul]

/-- The row sum of the exponentials of a row past the context, as a number. -/
def Zl (x0 : TQ) (x1 : TK) (q k : ℕ → ℕ → ℝ) (b j g n : ℕ) : ℝ :=
  ∑ y : Fin 2304, Real.exp (score q k b (3 * j + g) (256 + n) y - mxl x0 x1 b j g n)

theorem Zl_ne (b j g n : ℕ) : Zl x0 x1 q k b j g n ≠ 0 :=
  (sum_exp_pos (N := 2304) (by norm_num) fun y => score q k b (3 * j + g) (256 + n) y - mxl x0 x1 b j g n).ne'

/-- One over the square of the row sum. -/
theorem invl_real (h0 : Layer 9216 384 x0 q) (h1 : Layer 9216 128 x1 k) (i : S4x2x3x2048x1.Idx) :
    val_main_v81 (F := Ideal) x0 x1 i = ((1 / (Zl x0 x1 q k (i 0).val (i 1).val (i 2).val (i 3).val * Zl x0 x1 q k (i 0).val (i 1).val (i 2).val (i 3).val) : ℝ) : EReal) := by
  rw [val_main_v81_apply, val_main_v80_apply, val_main_v79_apply, val_main_v76_apply, suml_real h0 h1]
  refine (congrArg₂ Ideal.div oneR (EReal.coe_mul _ _).symm).trans ?_
  exact coe_div _ _ (mul_ne_zero (Zl_ne _ _ _ _) (Zl_ne _ _ _ _))

/-- The products the row sum of the softmax gradient runs over. -/
theorem terml_real (h0 : Layer 9216 384 x0 q) (h1 : Layer 9216 128 x1 k) (h2 : Layer 9216 128 x2 v) (h3 : Mat 9216 384 x3 w) (i : S4x2x3x2048x2304.Idx) :
    val_main_v96 (F := Ideal) x0 x1 x2 x3 i
      = ((dprob v w (i 0).val (3 * (i 1).val + (i 2).val) (256 + (i 3).val) (i 4).val
          * (1 / (Zl x0 x1 q k (i 0).val (i 1).val (i 2).val (i 3).val * Zl x0 x1 q k (i 0).val (i 1).val (i 2).val (i 3).val))
          * Real.exp (score q k (i 0).val (3 * (i 1).val + (i 2).val) (256 + (i 3).val) (i 4).val - mxl x0 x1 (i 0).val (i 1).val (i 2).val (i 3).val) : ℝ) : EReal) := by
  rw [val_main_v96_apply, val_main_v95_apply, val_main_v94_apply, invl_real h0 h1, dprobl_real h2 h3, expl_real h0 h1, EReal.coe_mul, EReal.coe_mul]
  rfl

/-- The row sum of the softmax gradient of a row past the context, its sign turned. -/
theorem negl_real (h0 : Layer 9216 384 x0 q) (h1 : Layer 9216 128 x1 k) (h2 : Layer 9216 128 x2 v) (h3 : Mat 9216 384 x3 w) (j : S4x2x3x2048.Idx) :
    val_main_v102 (F := Ideal) x0 x1 x2 x3 j
      = ((-(∑ y : Fin 2304, dprob v w (j 0).val (3 * (j 1).val + (j 2).val) (256 + (j 3).val) y
          * (1 / (Zl x0 x1 q k (j 0).val (j 1).val (j 2).val (j 3).val * Zl x0 x1 q k (j 0).val (j 1).val (j 2).val (j 3).val))
          * Real.exp (score q k (j 0).val (3 * (j 1).val + (j 2).val) (256 + (j 3).val) y - mxl x0 x1 (j 0).val (j 1).val (j 2).val (j 3).val)) : ℝ) : EReal) := by
  have b0 : (j 0).val < 4 := (j 0).isLt
  have b1 : (j 1).val < 2 := (j 1).isLt
  have b2 : (j 2).val < 3 := (j 2).isLt
  have b3 : (j 3).val < 2048 := (j 3).isLt
  have e : idx_main_v98 (idx_main_v102 j 0) = j := funext fun a => Fin.ext (by
    match a with
    | ⟨0, _⟩ => show ((((((j 0).val * 2 + (j 1).val) * 3 + (j 2).val) * 2048 + (j 3).val) * 1 + 0) / 12288 : ℕ) = (j 0).val; omega
    | ⟨1, _⟩ => show ((((((j 0).val * 2 + (j 1).val) * 3 + (j 2).val) * 2048 + (j 3).val) * 1 + 0) / 6144 % 2 : ℕ) = (j 1).val; omega
    | ⟨2, _⟩ => show ((((((j 0).val * 2 + (j 1).val) * 3 + (j 2).val) * 2048 + (j 3).val) * 1 + 0) / 2048 % 3 : ℕ) = (j 2).val; omega
    | ⟨3, _⟩ => show ((((((j 0).val * 2 + (j 1).val) * 3 + (j 2).val) * 2048 + (j 3).val) * 1 + 0) % 2048 : ℕ) = (j 3).val; omega)
  rw [val_main_v102_apply]
  refine (congrArg (fun z : EReal => z + _) zeroR).trans ?_
  rw [zero_add, Fin.sum_univ_one, val_main_v99_apply, val_main_v98_apply, e, val_main_v97_apply, EReal.coe_neg, coe_sum]
  refine congrArg (fun z : EReal => -z) ?_
  refine (congrArg (fun z : EReal => z + _) zeroR).trans ?_
  rw [zero_add]
  exact Finset.sum_congr rfl fun y _ => terml_real h0 h1 h2 h3 _

/-- The cotangent of the scores of a row past the context. -/
theorem dscorel_real (h0 : Layer 9216 384 x0 q) (h1 : Layer 9216 128 x1 k) (h2 : Layer 9216 128 x2 v) (h3 : Mat 9216 384 x3 w) (i : S4x2x3x2048x2304.Idx) :
    val_main_v105 (F := Ideal) x0 x1 x2 x3 i = ((dscore q k v w (i 0).val (3 * (i 1).val + (i 2).val) (256 + (i 3).val) (i 4).val : ℝ) : EReal) := by
  have b3 : (i 3).val < 2048 := (i 3).isLt
  have hk : keys (256 + (i 3).val) = 2304 := keys_ge _
  rw [val_main_v105_apply, val_main_v104_apply, val_main_v101_apply, val_main_v100_apply, val_main_v76_apply, val_main_v103_apply,
    suml_real h0 h1, negl_real h0 h1 h2 h3, dprobl_real h2 h3, expl_real h0 h1]
  refine (congrArg (fun z : EReal => (z + ((_ : ℝ) : EReal)) * ((_ : ℝ) : EReal)) (coe_div _ _ (Zl_ne (x0 := x0) (x1 := x1) (q := q) (k := k) (i 0).val (i 1).val (i 2).val (i 3).val))).trans ?_
  rw [← EReal.coe_add, ← EReal.coe_mul]
  refine congrArg Real.toEReal ?_
  unfold dscore
  rw [hk]
  exact softGrad_quotient (by norm_num) (score q k (i 0).val (3 * (i 1).val + (i 2).val) (256 + (i 3).val)) (dprob v w (i 0).val (3 * (i 1).val + (i 2).val) (256 + (i 3).val)) (mxl x0 x1 (i 0).val (i 1).val (i 2).val (i 3).val) (i 4).val

/-- The same, scaled and transposed. -/
theorem dsTl_real (h0 : Layer 9216 384 x0 q) (h1 : Layer 9216 128 x1 k) (h2 : Layer 9216 128 x2 v) (h3 : Mat 9216 384 x3 w) (i : S4x2x2304x2048x3.Idx) :
    val_main_v108 (F := Ideal) x0 x1 x2 x3 i = ((dscore q k v w (i 0).val (3 * (i 1).val + (i 4).val) (256 + (i 3).val) (i 2).val * (1 / 8) : ℝ) : EReal) := by
  rw [val_main_v108_apply, val_main_v107_apply, val_main_v106_apply, dscorel_real h0 h1 h2 h3, EReal.coe_mul]
  exact congrArg (fun z : EReal => _ * z) eighthR

/-- The queries' gradient, a row past the context. -/
theorem dql_real (h0 : Layer 9216 384 x0 q) (h1 : Layer 9216 128 x1 k) (h2 : Layer 9216 128 x2 v) (h3 : Mat 9216 384 x3 w) (i : S4x2048x2x3x64.Idx) :
    val_main_v110 (F := Ideal) x0 x1 x2 x3 i = ((gradQ q k v w (i 0).val (3 * (i 2).val + (i 3).val) (256 + (i 1).val) (i 4).val : ℝ) : EReal) := by
  have b1 : (i 1).val < 2048 := (i 1).isLt
  have b3 : (i 3).val < 3 := (i 3).isLt
  have hk : keys (256 + (i 1).val) = 2304 := keys_ge _
  rw [val_main_v110_apply, val_main_v109_apply]
  unfold gradQ
  rw [div3 b3, sum_keys hk fun y => dscore q k v w (i 0).val (3 * (i 2).val + (i 3).val) (256 + (i 1).val) y * k (2304 * (i 0).val + y) (64 * (i 2).val + (i 4).val), Finset.sum_mul, coe_sum]
  refine Finset.sum_congr rfl fun y _ => ?_
  rw [kl_real h1, dsTl_real h0 h1 h2 h3, ← EReal.coe_mul]
  exact congrArg Real.toEReal (mul_right_comm _ _ _)

/-- The keys' gradient through a row past the context. -/
theorem dkl_real (h0 : Layer 9216 384 x0 q) (h1 : Layer 9216 128 x1 k) (h2 : Layer 9216 128 x2 v) (h3 : Mat 9216 384 x3 w) (i : S4x2304x2x64.Idx) :
    val_main_v112 (F := Ideal) x0 x1 x2 x3 i
      = ((∑ y : Fin 2048, ∑ g : Fin 3, dscore q k v w (i 0).val (3 * (i 2).val + g.val) (256 + y.val) (i 1).val * (q (2304 * (i 0).val + (256 + y.val)) (64 * (3 * (i 2).val + g.val) + (i 3).val) * (1 / 8)) : ℝ) : EReal) := by
  rw [val_main_v112_apply]
  unfold val_main_v111
  simp only [Host.dotGeneral]
  rw [Ideal.dotGeneral_apply, ← Equiv.sum_comp (contrEquiv2 dot_S4x2x2304x2048x3_S4x2048x2x3x64_S4x2x2304x64_34_13_2_4_01_02 2048 3 rfl rfl rfl).symm, Fintype.sum_prod_type, coe_sum]
  refine Finset.sum_congr rfl fun y _ => ?_
  rw [coe_sum]
  refine Finset.sum_congr rfl fun g _ => ?_
  have e0 := contrEquiv2_symm_val0 dot_S4x2x2304x2048x3_S4x2048x2x3x64_S4x2x2304x64_34_13_2_4_01_02 2048 3 rfl rfl rfl (y, g)
  have e1 := contrEquiv2_symm_val1 dot_S4x2x2304x2048x3_S4x2048x2x3x64_S4x2x2304x64_34_13_2_4_01_02 2048 3 rfl rfl rfl (y, g)
  have el : dot_S4x2x2304x2048x3_S4x2048x2x3x64_S4x2x2304x64_34_13_2_4_01_02.lhsIdx (idx_main_v112 i) ((contrEquiv2 dot_S4x2x2304x2048x3_S4x2048x2x3x64_S4x2x2304x64_34_13_2_4_01_02 2048 3 rfl rfl rfl).symm (y, g))
      = ix5 (n0 := 4) (n1 := 2) (n2 := 2304) (n3 := 2048) (n4 := 3) (i 0) (i 2) (i 1) y g := funext fun a => Fin.ext (by
    match a with
    | ⟨0, _⟩ => rfl
    | ⟨1, _⟩ => rfl
    | ⟨2, _⟩ => rfl
    | ⟨3, _⟩ => exact e0
    | ⟨4, _⟩ => exact e1)
  have er : dot_S4x2x2304x2048x3_S4x2048x2x3x64_S4x2x2304x64_34_13_2_4_01_02.rhsIdx (idx_main_v112 i) ((contrEquiv2 dot_S4x2x2304x2048x3_S4x2048x2x3x64_S4x2x2304x64_34_13_2_4_01_02 2048 3 rfl rfl rfl).symm (y, g))
      = ix5 (n0 := 4) (n1 := 2048) (n2 := 2) (n3 := 3) (n4 := 64) (i 0) y (i 2) g (i 3) := funext fun a => Fin.ext (by
    match a with
    | ⟨0, _⟩ => rfl
    | ⟨1, _⟩ => exact e0
    | ⟨2, _⟩ => rfl
    | ⟨3, _⟩ => exact e1
    | ⟨4, _⟩ => rfl)
  rw [el, er, dsTl_real h0 h1 h2 h3, ql_real h0, ← EReal.coe_mul]
  exact congrArg Real.toEReal ((mul_assoc _ _ _).trans (congrArg (fun z => _ * z) (mul_comm _ _)))

/-- The values' gradient through a row past the context. -/
theorem dvl_real (h0 : Layer 9216 384 x0 q) (h1 : Layer 9216 128 x1 k) (h3 : Mat 9216 384 x3 w) (i : S4x2304x2x64.Idx) :
    val_main_v93 (F := Ideal) x0 x1 x3 i
      = ((∑ y : Fin 2048, ∑ g : Fin 3, prob q k (i 0).val (3 * (i 2).val + g.val) (256 + y.val) (i 1).val * w (2304 * (i 0).val + (256 + y.val)) (64 * (3 * (i 2).val + g.val) + (i 3).val) : ℝ) : EReal) := by
  rw [val_main_v93_apply, Finset.sum_comm]
  unfold val_main_v92
  simp only [Host.dotGeneral]
  rw [Ideal.dotGeneral_apply, ← Equiv.sum_comp (contrEquiv2 dot_S4x2x64x3x2048_S4x2x3x2048x2304_S4x2x64x2304_34_23_2_4_01_01 3 2048 rfl rfl rfl).symm, Fintype.sum_prod_type, coe_sum]
  refine Finset.sum_congr rfl fun g _ => ?_
  rw [coe_sum]
  refine Finset.sum_congr rfl fun y _ => ?_
  have e0 := contrEquiv2_symm_val0 dot_S4x2x64x3x2048_S4x2x3x2048x2304_S4x2x64x2304_34_23_2_4_01_01 3 2048 rfl rfl rfl (g, y)
  have e1 := contrEquiv2_symm_val1 dot_S4x2x64x3x2048_S4x2x3x2048x2304_S4x2x64x2304_34_23_2_4_01_01 3 2048 rfl rfl rfl (g, y)
  have el : dot_S4x2x64x3x2048_S4x2x3x2048x2304_S4x2x64x2304_34_23_2_4_01_01.lhsIdx (idx_main_v93 i) ((contrEquiv2 dot_S4x2x64x3x2048_S4x2x3x2048x2304_S4x2x64x2304_34_23_2_4_01_01 3 2048 rfl rfl rfl).symm (g, y))
      = ix5 (n0 := 4) (n1 := 2) (n2 := 64) (n3 := 3) (n4 := 2048) (i 0) (i 2) (i 3) g y := funext fun a => Fin.ext (by
    match a with
    | ⟨0, _⟩ => rfl
    | ⟨1, _⟩ => rfl
    | ⟨2, _⟩ => rfl
    | ⟨3, _⟩ => exact e0
    | ⟨4, _⟩ => exact e1)
  have er : dot_S4x2x64x3x2048_S4x2x3x2048x2304_S4x2x64x2304_34_23_2_4_01_01.rhsIdx (idx_main_v93 i) ((contrEquiv2 dot_S4x2x64x3x2048_S4x2x3x2048x2304_S4x2x64x2304_34_23_2_4_01_01 3 2048 rfl rfl rfl).symm (g, y))
      = ix5 (n0 := 4) (n1 := 2) (n2 := 3) (n3 := 2048) (n4 := 2304) (i 0) (i 2) g y (i 1) := funext fun a => Fin.ext (by
    match a with
    | ⟨0, _⟩ => rfl
    | ⟨1, _⟩ => rfl
    | ⟨2, _⟩ => exact e0
    | ⟨3, _⟩ => exact e1
    | ⟨4, _⟩ => rfl)
  rw [el, er, wl_real h3, probl_real h0 h1, ← EReal.coe_mul, mul_comm]
  rfl

end Cert.ReferenceIdeal.Read
end
end
-- ==== Proof.RefGrads.lean ====
module

public import proofs.«01_k».proof.Proof.RefBackward
public import Idealize.ShloMosaic.Lib.KernelVsHost
/-!
# The reference's three results on real inputs

The two kinds of row put together.
-/
@[expose] public section
set_option maxRecDepth 16384
noncomputable section
namespace Cert.ReferenceIdeal.Read
open Cert.ReferenceIdeal Cert.ReferenceIdeal.Gen Idealize.ShloMosaic Idealize.ShloMosaic.TcCoe Idealize.SL.Sem Idealize.ShloMosaic.StableHlo
open Cert.Attn

variable {x0 : TQ} {x1 x2 : TK} {x3 : TW} {q k v w : ℕ → ℕ → ℝ}

/-- A sum over a sample's rows is the sum over the context rows plus the sum over the others. -/
theorem sum_rows (f : ℕ → ℝ) : ∑ n : Fin 2304, f n = (∑ n : Fin 2048, f (256 + n)) + ∑ n : Fin 256, f n := by
  refine (Fin.sum_univ_add (a := 256) (b := 2048) fun n : Fin (256 + 2048) => f n).trans ?_
  rw [add_comm]
  rfl

/-- The gradient sums over all rows of a sample, the context rows' part taken only where they attend. -/
theorem split_rows (f : ℕ → ℕ → ℝ) (x : ℕ) (hx : x < 2304) :
    (∑ n : Fin 2304, ∑ g : Fin 3, if x < keys n then f n g else 0)
      = (∑ n : Fin 2048, ∑ g : Fin 3, f (256 + n) g) + if x < 256 then ∑ n : Fin 256, ∑ g : Fin 3, f n g else 0 := by
  rw [sum_rows fun n => ∑ g : Fin 3, if x < keys n then f n g else 0]
  refine congrArg₂ (fun a b : ℝ => a + b) ?_ ?_
  · refine Finset.sum_congr rfl fun n _ => Finset.sum_congr rfl fun g _ => ?_
    rw [keys_ge, if_pos hx]
  · split
    · rename_i h
      refine Finset.sum_congr rfl fun n _ => Finset.sum_congr rfl fun g _ => ?_
      rw [keys_lt n.isLt, if_pos h]
    · rename_i h
      refine Finset.sum_eq_zero fun n _ => Finset.sum_eq_zero fun g _ => ?_
      rw [keys_lt n.isLt, if_neg h]

/-- The keys' gradient of the context rows under zeros. -/
theorem dk_pad  (i : S4x2304x2x64.Idx) :
    val_main_v139 (F := Ideal) x0 x1 x2 x3 i = if h : (i 1).val < 256 then val_main_v136 (F := Ideal) x0 x1 x2 x3 (ix4 (n0 := 4) (n1 := 256) (n2 := 2) (n3 := 64) (i 0) ⟨(i 1).val, h⟩ (i 2) (i 3)) else 0 := by
  unfold val_main_v139
  split
  · rename_i h
    refine pad_apply_of_inside _ _ _ _ _ _ _ _ _ fun a => ?_
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
    | ⟨3, _⟩ => show (i 3).val = 0 + (i 3).val * (0 + 1); omega
  · rename_i h
    refine (pad_apply_of_not_inside _ _ _ _ _ _ _ _ (1 : Fin 4) ?_).trans zeroR
    show ¬(0 ≤ (i 1).val ∧ ((i 1).val - 0) % (0 + 1) = 0 ∧ ((i 1).val - 0) / (0 + 1) < 256)
    omega

/-- The keys' gradient. -/
theorem dk_real (h0 : Layer 9216 384 x0 q) (h1 : Layer 9216 128 x1 k) (h2 : Layer 9216 128 x2 v) (h3 : Mat 9216 384 x3 w) (i : S4x2304x2x64.Idx) :
    val_main_v140 (F := Ideal) x0 x1 x2 x3 i = ((gradK q k v w (i 0).val (i 1).val (i 2).val (i 3).val : ℝ) : EReal) := by
  have b1 : (i 1).val < 2304 := (i 1).isLt
  rw [val_main_v140_apply, dk_pad, dkl_real h0 h1 h2 h3]
  unfold gradK
  rw [split_rows (fun n g => dscore q k v w (i 0).val (3 * (i 2).val + g) n (i 1).val * (q (2304 * (i 0).val + n) (64 * (3 * (i 2).val + g) + (i 3).val) * (1 / 8))) _ b1, EReal.coe_add]
  refine congrArg (fun z : EReal => ((_ : ℝ) : EReal) + z) ?_
  split
  · rename_i h
    rw [dkc_real h0 h1 h2 h3]
    rfl
  · rfl

/-- The keys' gradient as the matrix of rows and lanes. -/
theorem dk_result (h0 : Layer 9216 384 x0 q) (h1 : Layer 9216 128 x1 k) (h2 : Layer 9216 128 x2 v) (h3 : Mat 9216 384 x3 w) (i : S9216x128.Idx) :
    val_main_v144 (F := Ideal) x0 x1 x2 x3 i = ((gradK q k v w ((i 0).val / 2304) ((i 0).val % 2304) ((i 1).val / 64) ((i 1).val % 64) : ℝ) : EReal) := by
  have b0 : (i 0).val < 9216 := (i 0).isLt
  have b1 : (i 1).val < 128 := (i 1).isLt
  rw [val_main_v144_apply, dk_real h0 h1 h2 h3]
  refine congrArg Real.toEReal ?_
  show gradK q k v w (((i 0).val * 128 + (i 1).val) / 294912) (((i 0).val * 128 + (i 1).val) / 128 % 2304) (((i 0).val * 128 + (i 1).val) / 64 % 2) (((i 0).val * 128 + (i 1).val) % 64) = _
  rw [show ((i 0).val * 128 + (i 1).val) / 294912 = (i 0).val / 2304 by omega,
    show ((i 0).val * 128 + (i 1).val) / 128 % 2304 = (i 0).val % 2304 by omega,
    show ((i 0).val * 128 + (i 1).val) / 64 % 2 = (i 1).val / 64 by omega,
    show ((i 0).val * 128 + (i 1).val) % 64 = (i 1).val % 64 by omega]

/-- The values' gradient of the context rows under zeros. -/
theorem dv_pad  (i : S4x2304x2x64.Idx) :
    val_main_v137 (F := Ideal) x0 x1 x3 i = if h : (i 1).val < 256 then val_main_v117 (F := Ideal) x0 x1 x3 (ix4 (n0 := 4) (n1 := 256) (n2 := 2) (n3 := 64) (i 0) ⟨(i 1).val, h⟩ (i 2) (i 3)) else 0 := by
  unfold val_main_v137
  split
  · rename_i h
    refine pad_apply_of_inside _ _ _ _ _ _ _ _ _ fun a => ?_
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
    | ⟨3, _⟩ => show (i 3).val = 0 + (i 3).val * (0 + 1); omega
  · rename_i h
    refine (pad_apply_of_not_inside _ _ _ _ _ _ _ _ (1 : Fin 4) ?_).trans zeroR
    show ¬(0 ≤ (i 1).val ∧ ((i 1).val - 0) % (0 + 1) = 0 ∧ ((i 1).val - 0) / (0 + 1) < 256)
    omega

/-- The values' gradient. -/
theorem dv_real (h0 : Layer 9216 384 x0 q) (h1 : Layer 9216 128 x1 k) (h3 : Mat 9216 384 x3 w) (i : S4x2304x2x64.Idx) :
    val_main_v138 (F := Ideal) x0 x1 x3 i = ((gradV q k w (i 0).val (i 1).val (i 2).val (i 3).val : ℝ) : EReal) := by
  have b1 : (i 1).val < 2304 := (i 1).isLt
  rw [val_main_v138_apply, dv_pad, dvl_real h0 h1 h3]
  unfold gradV
  rw [split_rows (fun n g => prob q k (i 0).val (3 * (i 2).val + g) n (i 1).val * w (2304 * (i 0).val + n) (64 * (3 * (i 2).val + g) + (i 3).val)) _ b1, EReal.coe_add]
  refine congrArg (fun z : EReal => ((_ : ℝ) : EReal) + z) ?_
  split
  · rename_i h
    rw [dvc_real h0 h1 h3]
    rfl
  · rfl

/-- The values' gradient as the matrix of rows and lanes. -/
theorem dv_result (h0 : Layer 9216 384 x0 q) (h1 : Layer 9216 128 x1 k) (h3 : Mat 9216 384 x3 w) (i : S9216x128.Idx) :
    val_main_v143 (F := Ideal) x0 x1 x3 i = ((gradV q k w ((i 0).val / 2304) ((i 0).val % 2304) ((i 1).val / 64) ((i 1).val % 64) : ℝ) : EReal) := by
  have b0 : (i 0).val < 9216 := (i 0).isLt
  have b1 : (i 1).val < 128 := (i 1).isLt
  rw [val_main_v143_apply, dv_real h0 h1 h3]
  refine congrArg Real.toEReal ?_
  show gradV q k w (((i 0).val * 128 + (i 1).val) / 294912) (((i 0).val * 128 + (i 1).val) / 128 % 2304) (((i 0).val * 128 + (i 1).val) / 64 % 2) (((i 0).val * 128 + (i 1).val) % 64) = _
  rw [show ((i 0).val * 128 + (i 1).val) / 294912 = (i 0).val / 2304 by omega,
    show ((i 0).val * 128 + (i 1).val) / 128 % 2304 = (i 0).val % 2304 by omega,
    show ((i 0).val * 128 + (i 1).val) / 64 % 2 = (i 1).val / 64 by omega,
    show ((i 0).val * 128 + (i 1).val) % 64 = (i 1).val % 64 by omega]

/-- The queries' gradient of the context rows under zeros. -/
theorem dq_pad_high (i : S4x2304x2x3x64.Idx) :
    val_main_v141 (F := Ideal) x0 x1 x2 x3 i = if h : (i 1).val < 256 then val_main_v134 (F := Ideal) x0 x1 x2 x3 (ix5 (n0 := 4) (n1 := 256) (n2 := 2) (n3 := 3) (n4 := 64) (i 0) ⟨(i 1).val, h⟩ (i 2) (i 3) (i 4)) else 0 := by
  unfold val_main_v141
  split
  · rename_i h
    refine pad_apply_of_inside _ _ _ _ _ _ _ _ _ fun a => ?_
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
    | ⟨3, _⟩ => show (i 3).val = 0 + (i 3).val * (0 + 1); omega
    | ⟨4, _⟩ => show (i 4).val = 0 + (i 4).val * (0 + 1); omega
  · rename_i h
    refine (pad_apply_of_not_inside _ _ _ _ _ _ _ _ (1 : Fin 5) ?_).trans zeroR
    show ¬(0 ≤ (i 1).val ∧ ((i 1).val - 0) % (0 + 1) = 0 ∧ ((i 1).val - 0) / (0 + 1) < 256)
    omega

/-- The queries' gradient of the other rows under zeros. -/
theorem dq_pad_low (i : S4x2304x2x3x64.Idx) :
    val_main_v113 (F := Ideal) x0 x1 x2 x3 i = if h : (i 1).val < 256 then 0 else val_main_v110 (F := Ideal) x0 x1 x2 x3 (ix5 (n0 := 4) (n1 := 2048) (n2 := 2) (n3 := 3) (n4 := 64) (i 0) ⟨(i 1).val - 256, by have h1 : (i 1).val < 2304 := (i 1).isLt; omega⟩ (i 2) (i 3) (i 4)) := by
  unfold val_main_v113
  split
  · rename_i h
    refine (pad_apply_of_not_inside _ _ _ _ _ _ _ _ (1 : Fin 5) ?_).trans zeroR
    show ¬(256 ≤ (i 1).val ∧ ((i 1).val - 256) % (0 + 1) = 0 ∧ ((i 1).val - 256) / (0 + 1) < 2048)
    omega
  · rename_i h
    refine pad_apply_of_inside _ _ _ _ _ _ _ _ _ fun a => ?_
    match a with
    | ⟨0, _⟩ => show (i 0).val = 0 + (i 0).val * (0 + 1); omega
    | ⟨1, _⟩ => show (i 1).val = 256 + ((i 1).val - 256) * (0 + 1); omega
    | ⟨2, _⟩ => show (i 2).val = 0 + (i 2).val * (0 + 1); omega
    | ⟨3, _⟩ => show (i 3).val = 0 + (i 3).val * (0 + 1); omega
    | ⟨4, _⟩ => show (i 4).val = 0 + (i 4).val * (0 + 1); omega

/-- The queries' gradient. -/
theorem dq_real (h0 : Layer 9216 384 x0 q) (h1 : Layer 9216 128 x1 k) (h2 : Layer 9216 128 x2 v) (h3 : Mat 9216 384 x3 w) (i : S4x2304x2x3x64.Idx) :
    val_main_v142 (F := Ideal) x0 x1 x2 x3 i = ((gradQ q k v w (i 0).val (3 * (i 2).val + (i 3).val) (i 1).val (i 4).val : ℝ) : EReal) := by
  rw [val_main_v142_apply, dq_pad_low, dq_pad_high]
  by_cases h : (i 1).val < 256
  · rw [dif_pos h, dif_pos h, dqc_real h0 h1 h2 h3]
    exact zero_add _
  · rw [dif_neg h, dif_neg h, dql_real h0 h1 h2 h3]
    refine (add_zero _).trans (congrArg Real.toEReal ?_)
    show gradQ q k v w (i 0).val (3 * (i 2).val + (i 3).val) (256 + ((i 1).val - 256)) (i 4).val = _
    rw [show 256 + ((i 1).val - 256) = (i 1).val by omega]

/-- The queries' gradient as the matrix of rows and lanes. -/
theorem dq_result (h0 : Layer 9216 384 x0 q) (h1 : Layer 9216 128 x1 k) (h2 : Layer 9216 128 x2 v) (h3 : Mat 9216 384 x3 w) (i : S9216x384.Idx) :
    val_main_v145 (F := Ideal) x0 x1 x2 x3 i = ((gradQ q k v w ((i 0).val / 2304) ((i 1).val / 64) ((i 0).val % 2304) ((i 1).val % 64) : ℝ) : EReal) := by
  have b0 : (i 0).val < 9216 := (i 0).isLt
  have b1 : (i 1).val < 384 := (i 1).isLt
  rw [val_main_v145_apply, dq_real h0 h1 h2 h3]
  refine congrArg Real.toEReal ?_
  show gradQ q k v w (((i 0).val * 384 + (i 1).val) / 884736) (3 * (((i 0).val * 384 + (i 1).val) / 192 % 2) + ((i 0).val * 384 + (i 1).val) / 64 % 3) (((i 0).val * 384 + (i 1).val) / 384 % 2304) (((i 0).val * 384 + (i 1).val) % 64) = _
  rw [show ((i 0).val * 384 + (i 1).val) / 884736 = (i 0).val / 2304 by omega,
    show 3 * (((i 0).val * 384 + (i 1).val) / 192 % 2) + ((i 0).val * 384 + (i 1).val) / 64 % 3 = (i 1).val / 64 by omega,
    show ((i 0).val * 384 + (i 1).val) / 384 % 2304 = (i 0).val % 2304 by omega,
    show ((i 0).val * 384 + (i 1).val) % 64 = (i 1).val % 64 by omega]

end Cert.ReferenceIdeal.Read
end
end
-- ==== Proof.Blocks.lean ====
module

public import proofs.«01_k».proof.Proof.Meet
public import proofs.«01_k».proof.Proof.Host
public import proofs.«01_k».proof.Proof.RefGrads

/-!
# The blocks of a point

What the blocks of each grid point hold when the arguments hold reals, and how they come of the queries, keys, values and cotangents.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

open Cert.ReferenceIdeal.Read (Layer TQ TK lseR exp_lse out_real)

variable (m : (ℓ : Loc nD τ sig) → Buf (Elt Ideal) ℓ) (c : Dev nD)

/-- Which block of the queries a point reads. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

/-- Which block of the keys a point reads. -/
theorem idx1 : ∀ t : Fin cfg0.N, win0_1.index t (0 : Fin 3) = 0 ∧ win0_1.index t (1 : Fin 3) = t.val / 18 ∧ win0_1.index t (2 : Fin 3) = 0 :=
  (by decide +kernel : ∀ t : Fin grid0.N, _)

/-- Which block of the values a point reads. -/
theorem idx2 : ∀ t : Fin cfg0.N, win0_2.index t (0 : Fin 3) = 0 ∧ win0_2.index t (1 : Fin 3) = t.val / 18 ∧ win0_2.index t (2 : Fin 3) = 0 :=
  (by decide +kernel : ∀ t : Fin grid0.N, _)

/-- Which block of the cotangents a point reads. -/
theorem idx3 : ∀ t : Fin cfg0.N, win0_3.index t (0 : Fin 2) = t.val ∧ win0_3.index t (1 : Fin 2) = 0 :=
  (by decide +kernel : ∀ t : Fin grid0.N, _)

/-- Which block of the outputs a point reads. -/
theorem idx4 : ∀ t : Fin cfg0.N, win0_4.index t (0 : Fin 2) = t.val ∧ win0_4.index t (1 : Fin 2) = 0 :=
  (by decide +kernel : ∀ t : Fin grid0.N, _)

/-- Which block of the logarithms a point reads. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

variable {m c} {q k v w : ℕ → ℕ → ℝ}

/-- The block of queries. -/
theorem blk0 (h : Layer 9216 384 (m ((c : Thread nD τ).loc main_arg0)) q) (t : Fin cfg0.N) : Is3 128 384 (iblk m c 0 t) fun r l => q (128 * t.val + r) l := by
  obtain ⟨e0, e1, e2⟩ := idx0 t
  intro r l
  show V m c main_arg0 (((cfg0.win 0).blk t).view.emb (ix3 0 r l)) = _
  refine (congrFun (V_main_arg0 m c) _).trans ((h _ ?_).trans (congrArg Real.toEReal (congrArg₂ q ?_ ?_)))
  · show win0_0.index t (0 : Fin 3) * 1 + 1 * 0 = 0
    omega
  · show win0_0.index t (1 : Fin 3) * 128 + 1 * r.val = _
    omega
  · show win0_0.index t (2 : Fin 3) * 384 + 1 * l.val = _
    omega

/-- The block of keys. -/
theorem blk1 (h : Layer 9216 128 (m ((c : Thread nD τ).loc main_arg1)) k) (t : Fin cfg0.N) : Is3 2304 128 (iblk m c 1 t) fun r l => k (2304 * (t.val / 18) + r) l := by
  obtain ⟨e0, e1, e2⟩ := idx1 t
  intro r l
  show V m c main_arg1 (((cfg0.win 1).blk t).view.emb (ix3 0 r l)) = _
  refine (congrFun (V_main_arg1 m c) _).trans ((h _ ?_).trans (congrArg Real.toEReal (congrArg₂ k ?_ ?_)))
  · show win0_1.index t (0 : Fin 3) * 1 + 1 * 0 = 0
    omega
  · show win0_1.index t (1 : Fin 3) * 2304 + 1 * r.val = _
    omega
  · show win0_1.index t (2 : Fin 3) * 128 + 1 * l.val = _
    omega

/-- The block of values. -/
theorem blk2 (h : Layer 9216 128 (m ((c : Thread nD τ).loc main_arg2)) v) (t : Fin cfg0.N) : Is3 2304 128 (iblk m c 2 t) fun r l => v (2304 * (t.val / 18) + r) l := by
  obtain ⟨e0, e1, e2⟩ := idx2 t
  intro r l
  show V m c main_arg2 (((cfg0.win 2).blk t).view.emb (ix3 0 r l)) = _
  refine (congrFun (V_main_arg2 m c) _).trans ((h _ ?_).trans (congrArg Real.toEReal (congrArg₂ v ?_ ?_)))
  · show win0_2.index t (0 : Fin 3) * 1 + 1 * 0 = 0
    omega
  · show win0_2.index t (1 : Fin 3) * 2304 + 1 * r.val = _
    omega
  · show win0_2.index t (2 : Fin 3) * 128 + 1 * l.val = _
    omega

/-- The block of cotangents. -/
theorem blk3 (h : Cert.ReferenceIdeal.Read.Mat 9216 384 (m ((c : Thread nD τ).loc main_arg3)) w) (t : Fin cfg0.N) : Is2 128 384 (iblk m c 3 t) fun r l => w (128 * t.val + r) l := by
  obtain ⟨e0, e1⟩ := idx3 t
  intro r l
  show V m c main_arg3 (((cfg0.win 3).blk t).view.emb (ix2 r l)) = _
  refine (congrFun (V_main_arg3 m c) _).trans ((h _).trans (congrArg Real.toEReal (congrArg₂ w ?_ ?_)))
  · show win0_3.index t (0 : Fin 2) * 128 + 1 * r.val = _
    omega
  · show win0_3.index t (1 : Fin 2) * 384 + 1 * l.val = _
    omega

/-- The block of outputs. -/
theorem blk4 (h0 : Layer 9216 384 (m ((c : Thread nD τ).loc main_arg0)) q) (h1 : Layer 9216 128 (m ((c : Thread nD τ).loc main_arg1)) k)
    (h2 : Layer 9216 128 (m ((c : Thread nD τ).loc main_arg2)) v) (t : Fin cfg0.N) :
    Is2 128 384 (iblk m c 4 t) fun r l => attn q k v (t.val / 18) (l / 64) (128 * (t.val % 18) + r) (l % 64) := by
  obtain ⟨e0, e1⟩ := idx4 t
  intro r l
  show V m c main_v51 (((cfg0.win 4).blk t).view.emb (ix2 r l)) = _
  refine (congrFun (V_out m c) _).trans ((out_real h0 h1 h2 _).trans (congrArg Real.toEReal ?_))
  have a0 : (((cfg0.win 4).blk t).view.emb (ix2 r l) (0 : Fin 2)).val = win0_4.index t (0 : Fin 2) * 128 + 1 * r.val := rfl
  have a1 : (((cfg0.win 4).blk t).view.emb (ix2 r l) (1 : Fin 2)).val = win0_4.index t (1 : Fin 2) * 384 + 1 * l.val := rfl
  have hr := r.isLt
  congr 1
  · refine (congrArg (· / 2304) a0).trans ?_
    show (win0_4.index t (0 : Fin 2) * 128 + 1 * r.val) / 2304 = _
    omega
  · refine (congrArg (· / 64) a1).trans ?_
    show (win0_4.index t (1 : Fin 2) * 384 + 1 * l.val) / 64 = _
    omega
  · refine (congrArg (· % 2304) a0).trans ?_
    show (win0_4.index t (0 : Fin 2) * 128 + 1 * r.val) % 2304 = _
    omega
  · refine (congrArg (· % 64) a1).trans ?_
    show (win0_4.index t (1 : Fin 2) * 384 + 1 * l.val) % 64 = _
    omega

/-- The logarithms of one row's sums, by sample, row among the 768 of a block, and block. -/
abbrev lrow (m : (ℓ : Loc nD τ sig) → Buf (Elt Ideal) ℓ) (c : Dev nD) (q k : ℕ → ℕ → ℝ) (b i R : ℕ) : ℝ :=
  lseR (m ((c : Thread nD τ).loc main_arg0)) (m ((c : Thread nD τ).loc main_arg1)) q k b (R / 384) (R / 128 % 3) (128 * i + R % 128)

/-- The block of logarithms. -/
theorem blk5 (h0 : Layer 9216 384 (m ((c : Thread nD τ).loc main_arg0)) q) (h1 : Layer 9216 128 (m ((c : Thread nD τ).loc main_arg1)) k) (t : Fin cfg0.N) :
    Is3 768 1 (iblk m c 5 t) fun R _ => lrow m c q k (t.val / 18) (t.val % 18) R := by
  obtain ⟨e0, e1, e2⟩ := idx5 t
  intro r l
  show V m c main_v86 (((cfg0.win 5).blk t).view.emb (ix3 0 r l)) = _
  refine (V_lse_real m c h0 h1 _).trans (congrArg Real.toEReal ?_)
  have a0 : (((cfg0.win 5).blk t).view.emb (ix3 0 r l) (0 : Fin 3)).val = t.val := by
    show win0_5.index t (0 : Fin 3) * 1 + 1 * 0 = _
    omega
  have a1 : (((cfg0.win 5).blk t).view.emb (ix3 0 r l) (1 : Fin 3)).val = r.val := by
    show win0_5.index t (1 : Fin 3) * 768 + 1 * r.val = _
    omega
  rw [a0, a1]

/-- The reals of the blocks of point `i` of batch entry `b`. -/
def rowOf (m : (ℓ : Loc nD τ sig) → Buf (Elt Ideal) ℓ) (c : Dev nD) (q k v w : ℕ → ℕ → ℝ) (b i : ℕ) : Row where
  A r l := q (2304 * b + (128 * i + r)) l
  K r l := k (2304 * b + r) l
  V r l := v (2304 * b + r) l
  W r l := w (2304 * b + (128 * i + r)) l
  O r l := attn q k v b (l / 64) (128 * i + r) (l % 64)
  L R := lrow m c q k b i R

/-- The blocks of point `i` of batch entry `b` hold those reals. -/
theorem blocks (h0 : Layer 9216 384 (m ((c : Thread nD τ).loc main_arg0)) q) (h1 : Layer 9216 128 (m ((c : Thread nD τ).loc main_arg1)) k)
    (h2 : Layer 9216 128 (m ((c : Thread nD τ).loc main_arg2)) v) (h3 : Cert.ReferenceIdeal.Read.Mat 9216 384 (m ((c : Thread nD τ).loc main_arg3)) w)
    (b i : ℕ) (hi : i < 18) (hn : 18 * b + i < cfg0.N) : Blocks m c ⟨18 * b + i, hn⟩ (rowOf m c q k v w b i) := by
  have hb : (18 * b + i) / 18 = b := by omega
  have hm : (18 * b + i) % 18 = i := by omega
  refine ⟨fun r l => (blk0 h0 _ r l).trans (congrArg Real.toEReal (congrArg (q · l.val) ?_)), fun r l => (blk1 h1 _ r l).trans (congrArg Real.toEReal (congrArg (k · l.val) ?_)),
    fun r l => (blk2 h2 _ r l).trans (congrArg Real.toEReal (congrArg (v · l.val) ?_)), fun r l => (blk3 h3 _ r l).trans (congrArg Real.toEReal (congrArg (w · l.val) ?_)),
    fun r l => (blk4 h0 h1 h2 _ r l).trans (congrArg Real.toEReal ?_), fun r l => (blk5 h0 h1 _ r l).trans (congrArg Real.toEReal ?_)⟩
  · show 128 * (18 * b + i) + r.val = 2304 * b + (128 * i + r.val)
    omega
  · show 2304 * ((18 * b + i) / 18) + r.val = 2304 * b + r.val
    omega
  · show 2304 * ((18 * b + i) / 18) + r.val = 2304 * b + r.val
    omega
  · show 128 * (18 * b + i) + r.val = 2304 * b + (128 * i + r.val)
    omega
  · show attn q k v ((18 * b + i) / 18) (l.val / 64) (128 * ((18 * b + i) % 18) + r.val) (l.val % 64) = attn q k v b (l.val / 64) (128 * i + r.val) (l.val % 64)
    rw [hb, hm]
  · show lrow m c q k ((18 * b + i) / 18) ((18 * b + i) % 18) r.val = lrow m c q k b i r.val
    rw [hb, hm]

/-- Those reals come of the queries, keys, values and cotangents. -/
theorem meets (b i : ℕ) : Meets q k v w b i (rowOf m c q k v w b i) where
  hA _ _ := rfl
  hK _ _ := rfl
  hV _ _ := rfl
  hW _ _ := rfl
  hO r h d hr hh hd := by
    show attn q k v b ((64 * h + d) / 64) (128 * i + r) ((64 * h + d) % 64) = _
    rw [show (64 * h + d) / 64 = h by omega, show (64 * h + d) % 64 = d by omega]
  hL j g r y hj hg hr := by
    show Real.exp (_ - lseR _ _ q k b ((384 * j + (128 * g + r)) / 384) ((384 * j + (128 * g + r)) / 128 % 3) (128 * i + (384 * j + (128 * g + r)) % 128)) = _
    rw [show (384 * j + (128 * g + r)) / 384 = j by omega, show (384 * j + (128 * g + r)) / 128 % 3 = g by omega, show (384 * j + (128 * g + r)) % 128 = r by omega]
    exact exp_lse _ _ q k b j g (128 * i + r) y

end Cert.KernelIdeal.Value
end
end
-- ==== Proof.Result.lean ====
module

public import proofs.«01_k».proof.Proof.Sweep
public import proofs.«01_k».proof.Proof.Blocks

/-!
# What the kernel leaves

The three arrays the kernel writes, when the arguments hold reals, entry by entry.
-/
@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

open Cert.ReferenceIdeal.Read (Layer)

variable {m : (ℓ : Loc nD τ sig) → Buf (Elt Ideal) ℓ} {c : Dev nD} {q k v w : ℕ → ℕ → ℝ}
  (h0 : Layer 9216 384 (m ((c : Thread nD τ).loc main_arg0)) q) (h1 : Layer 9216 128 (m ((c : Thread nD τ).loc main_arg1)) k)
  (h2 : Layer 9216 128 (m ((c : Thread nD τ).loc main_arg2)) v) (h3 : Cert.ReferenceIdeal.Read.Mat 9216 384 (m ((c : Thread nD τ).loc main_arg3)) w)

include h0 h1 h2 h3

/-- What the points of a batch entry leave. -/
theorem swept (b : ℕ) (hb : b < 4) (i : ℕ) (hi : i < 18) (hn : 18 * b + i < cfg0.N) :
    Is2 128 384 (outsAt0 m c (18 * b + i) hn).1 (unstack ((rowOf m c q k v w b i).dQ (width i) 0) ((rowOf m c q k v w b i).dQ (width i) 1))
    ∧ Is2 2304 128 (outsAt0 m c (18 * b + i) hn).2.1 (fun y l => if i = 17 then accum (fun s => (rowOf m c q k v w b s).gK) 17 l y else 0)
    ∧ Is2 2304 128 (outsAt0 m c (18 * b + i) hn).2.2.1 (fun y l => if i = 17 then accum (fun s => (rowOf m c q k v w b s).gV) 17 l y else 0) := by
  obtain ⟨a6, a7, a8, _⟩ := sweep (m := m) (c := c) b hb (rowOf m c q k v w b) (fun i hi => blocks h0 h1 h2 h3 b i hi _) i hi hn
  exact ⟨a6, a7, a8⟩

/-- The array of the gradients of the queries. -/
theorem G6_real (I : S9216x384.Idx) : G6 m c I = ((gradQ q k v w ((I 0).val / 2304) ((I 1).val / 64) ((I 0).val % 2304) ((I 1).val % 64) : ℝ) : EReal) := by
  have b0 : (I 0).val < 9216 := (I 0).isLt
  have b1 : (I 1).val < 384 := (I 1).isLt
  have hN : cfg0.N = 72 := N_0
  have key : ∀ n (hn : n < cfg0.N), n = 18 * ((I 0).val / 2304) + (I 0).val / 128 % 18 → (outsAt0 m c n hn).1 (loc6Of I)
      = ((gradQ q k v w ((I 0).val / 2304) ((I 1).val / 64) ((I 0).val % 2304) ((I 1).val % 64) : ℝ) : EReal) := by
    intro n hn e
    subst e
    have hs := (swept h0 h1 h2 h3 ((I 0).val / 2304) (by omega) ((I 0).val / 128 % 18) (by omega) hn).1 ⟨(I 0).val % 128, Nat.mod_lt _ (by decide)⟩ ⟨(I 1).val % 384, Nat.mod_lt _ (by decide)⟩
    have hl : loc6Of I = ix2 ⟨(I 0).val % 128, Nat.mod_lt _ (by decide)⟩ ⟨(I 1).val % 384, Nat.mod_lt _ (by decide)⟩ := by
      funext a
      match a with
      | ⟨0, _⟩ => rfl
      | ⟨1, _⟩ => rfl
    rw [hl]
    refine hs.trans (congrArg Real.toEReal (((meets ((I 0).val / 2304) ((I 0).val / 128 % 18)).dQ_eq ((I 0).val % 128) ((I 1).val % 384) (by omega) (by omega) (by omega)).trans ?_))
    rw [show 128 * ((I 0).val / 128 % 18) + (I 0).val % 128 = (I 0).val % 2304 by omega, show (I 1).val % 384 = (I 1).val by omega]
  have hp : pt6Of I < cfg0.N := by
    show 1 * ((I 0).val / 128 - 0) + 1 * ((I 1).val / 384 - 0) < cfg0.N
    omega
  unfold G6
  rw [dif_pos hp]
  refine (congrFun (congrArg Prod.fst (outsAt0_sweep m c (pt6Of I) hp)) (loc6Of I)).symm.trans (key _ hp ?_)
  show 1 * ((I 0).val / 128 - 0) + 1 * ((I 1).val / 384 - 0) = _
  omega

/-- The array of the gradients of the keys. -/
theorem G7_real (I : S9216x128.Idx) : G7 m c I = ((gradK q k v w ((I 0).val / 2304) ((I 0).val % 2304) ((I 1).val / 64) ((I 1).val % 64) : ℝ) : EReal) := by
  have b0 : (I 0).val < 9216 := (I 0).isLt
  have b1 : (I 1).val < 128 := (I 1).isLt
  have hN : cfg0.N = 72 := N_0
  have key : ∀ n (hn : n < cfg0.N), n = 18 * ((I 0).val / 2304) + 17 → (outsAt0 m c n hn).2.1 (loc7Of I)
      = ((gradK q k v w ((I 0).val / 2304) ((I 0).val % 2304) ((I 1).val / 64) ((I 1).val % 64) : ℝ) : EReal) := by
    intro n hn e
    subst e
    have hs := (swept h0 h1 h2 h3 ((I 0).val / 2304) (by omega) 17 (by omega) hn).2.1 ⟨(I 0).val % 2304, Nat.mod_lt _ (by decide)⟩ ⟨(I 1).val % 128, Nat.mod_lt _ (by decide)⟩
    have hl : loc7Of I = ix2 ⟨(I 0).val % 2304, Nat.mod_lt _ (by decide)⟩ ⟨(I 1).val % 128, Nat.mod_lt _ (by decide)⟩ := by
      funext a
      match a with
      | ⟨0, _⟩ => rfl
      | ⟨1, _⟩ => rfl
    rw [hl]
    have ha := accum_gK (X := rowOf m c q k v w ((I 0).val / 2304)) (q := q) (k := k) (v := v) (w := w) (b := (I 0).val / 2304) (fun i _ => meets ((I 0).val / 2304) i) ((I 0).val % 2304) ((I 1).val / 64) ((I 1).val % 64) (by omega) (by omega) (by omega)
    rw [show 64 * ((I 1).val / 64) + (I 1).val % 64 = (I 1).val % 128 by omega] at ha
    exact hs.trans (congrArg Real.toEReal ((if_pos rfl).trans ha))
  have hp : pt7Of I < cfg0.N := by
    show 18 * (1 * ((I 0).val / 2304 - 0) + 1 * ((I 1).val / 128 - 0)) + 17 < cfg0.N
    omega
  unfold G7
  rw [dif_pos hp]
  refine (congrFun (congrArg (fun p => p.2.1) (outsAt0_sweep m c (pt7Of I) hp)) (loc7Of I)).symm.trans (key _ hp ?_)
  show 18 * (1 * ((I 0).val / 2304 - 0) + 1 * ((I 1).val / 128 - 0)) + 17 = _
  omega

/-- The array of the gradients of the values. -/
theorem G8_real (I : S9216x128.Idx) : G8 m c I = ((gradV q k w ((I 0).val / 2304) ((I 0).val % 2304) ((I 1).val / 64) ((I 1).val % 64) : ℝ) : EReal) := by
  have b0 : (I 0).val < 9216 := (I 0).isLt
  have b1 : (I 1).val < 128 := (I 1).isLt
  have hN : cfg0.N = 72 := N_0
  have key : ∀ n (hn : n < cfg0.N), n = 18 * ((I 0).val / 2304) + 17 → (outsAt0 m c n hn).2.2.1 (loc8Of I)
      = ((gradV q k w ((I 0).val / 2304) ((I 0).val % 2304) ((I 1).val / 64) ((I 1).val % 64) : ℝ) : EReal) := by
    intro n hn e
    subst e
    have hs := (swept h0 h1 h2 h3 ((I 0).val / 2304) (by omega) 17 (by omega) hn).2.2 ⟨(I 0).val % 2304, Nat.mod_lt _ (by decide)⟩ ⟨(I 1).val % 128, Nat.mod_lt _ (by decide)⟩
    have hl : loc8Of I = ix2 ⟨(I 0).val % 2304, Nat.mod_lt _ (by decide)⟩ ⟨(I 1).val % 128, Nat.mod_lt _ (by decide)⟩ := by
      funext a
      match a with
      | ⟨0, _⟩ => rfl
      | ⟨1, _⟩ => rfl
    rw [hl]
    have ha := accum_gV (X := rowOf m c q k v w ((I 0).val / 2304)) (q := q) (k := k) (v := v) (w := w) (b := (I 0).val / 2304) (fun i _ => meets ((I 0).val / 2304) i) ((I 0).val % 2304) ((I 1).val / 64) ((I 1).val % 64) (by omega) (by omega) (by omega)
    rw [show 64 * ((I 1).val / 64) + (I 1).val % 64 = (I 1).val % 128 by omega] at ha
    exact hs.trans (congrArg Real.toEReal ((if_pos rfl).trans ha))
  have hp : pt8Of I < cfg0.N := by
    show 18 * (1 * ((I 0).val / 2304 - 0) + 1 * ((I 1).val / 128 - 0)) + 17 < cfg0.N
    omega
  unfold G8
  rw [dif_pos hp]
  refine (congrFun (congrArg (fun p => p.2.2.1) (outsAt0_sweep m c (pt8Of I) hp)) (loc8Of I)).symm.trans (key _ hp ?_)
  show 18 * (1 * ((I 0).val / 2304 - 0) + 1 * ((I 1).val / 128 - 0)) + 17 = _
  omega

end Cert.KernelIdeal.Value
end
end
-- ==== Proof.Finite.lean ====
module

public import proofs.«01_k».proof.Proof.RefGrads
public import proofs.«01_k».proof.Pre_finite
public import Idealize.ShloMosaic.Lib.ReduceAll
public import Idealize.ShloMosaic.Lib.Pointwise.Select

/-!
# What the precondition says

Inputs that pass `finite` are real numbers in the layer that is read.
-/
@[expose] public section
set_option maxRecDepth 16384
noncomputable section
namespace Cert.Pre_finite
open Idealize.ShloMosaic
open Cert.ReferenceIdeal.Read (Layer)

/-- The relations between shapes that `finite` relies on. -/
theorem facts : Facts where
  slices_S2x9216x384_S1x9216x384_0_0_0 := by decide
  shapeCasts_S1x9216x384_S9216x384 := by decide
  bcast_S_S9216x384 := by decide
  reducesTo_S9216x384_S_d0_1 := by decide
  h_S_ := by decide
  slices_S2x9216x128_S1x9216x128_0_0_0 := by decide
  shapeCasts_S1x9216x128_S9216x128 := by decide
  bcast_S_S9216x128 := by decide
  reducesTo_S9216x128_S_d0_1 := by decide

/-- The bound of the comparison is plus infinity. -/
theorem topR : Ideal.ofBits .bf16 0x7F80#16 = ⊤ := by
  simp [Ideal.ofBits, Ideal.ieee]

/-- A number whose absolute value is under plus infinity is real. -/
theorem real_of_abs_lt {x : EReal} (h : max x (-x) < ⊤) : x = ((x.toReal : ℝ) : EReal) := by
  refine (EReal.coe_toReal ?_ ?_).symm
  · intro e
    rw [e] at h
    simp at h
  · intro e
    rw [e] at h
    simp at h

/-- Every entry of an array passes the comparison, so every entry is real. -/
theorem real_of_all {s : Shape} {axes : List (Fin s.rank)} (x : FVec Ideal s .bf16) (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .bf16 0x7F80#16))) (constantI ⟨0, ![]⟩ 1 1#1) h hu j = 1#1)
    (i : s.Idx) : x i = (((x i : EReal).toReal : ℝ) : EReal) := by
  haveI : Subsingleton (⟨0, ![]⟩ : Shape).Idx := ⟨fun a b => funext fun k => k.elim0⟩
  have hi : Ideal.cmp .olt (max (x i : EReal) (-(x i : EReal))) (Ideal.ofBits .bf16 0x7F80#16) = 1#1 := Host.reduce_andi_all _ _ h hu j e i
  rw [topR] at hi
  exact real_of_abs_lt ((Ideal.cmp_olt_eq_one _ _).1 hi)

/-- The reals of a layer. -/
def part3 (n m : ℕ) (x : (⟨3, ![2, n, m]⟩ : Shape).Idx → EReal) (r l : ℕ) : ℝ :=
  if h : r < n ∧ l < m then (x (ix3 (0 : Fin 2) (⟨r, h.1⟩ : Fin n) (⟨l, h.2⟩ : Fin m))).toReal else 0

/-- The reals of a matrix. -/
def part2 (n m : ℕ) (x : (⟨2, ![n, m]⟩ : Shape).Idx → EReal) (r l : ℕ) : ℝ :=
  if h : r < n ∧ l < m then (x (ix2 (⟨r, h.1⟩ : Fin n) (⟨l, h.2⟩ : Fin m))).toReal else 0

/-- The first layer cut out of an array, read at an entry. -/
theorem cut384_apply [Facts] (x : FVec Ideal S2x9216x384 .bf16) (J : S2x9216x384.Idx) (hJ : (J 0).val = 0) :
    shapeCast S9216x384 (extractStridedSlice S1x9216x384 ![0, 0, 0] x Facts.slices_S2x9216x384_S1x9216x384_0_0_0) Facts.shapeCasts_S1x9216x384_S9216x384 (ix2 (⟨(J 1).val, (J 1).isLt⟩ : Fin 9216) (⟨(J 2).val, (J 2).isLt⟩ : Fin 384)) = x J := by
  have b1 : (J 1).val < 9216 := (J 1).isLt
  have b2 : (J 2).val < 384 := (J 2).isLt
  refine (shapeCast_apply _ _ (ix2 (⟨(J 1).val, (J 1).isLt⟩ : Fin 9216) (⟨(J 2).val, (J 2).isLt⟩ : Fin 384)) (ix3 (0 : Fin 1) (⟨(J 1).val, (J 1).isLt⟩ : Fin 9216) (⟨(J 2).val, (J 2).isLt⟩ : Fin 384)) ?_).trans ?_
  · rewrite [Shape.rowMajor_val_three, Shape.rowMajor_val_two]; show ((0 * 9216 + (J 1).val) * 384 + (J 2).val : ℕ) = (J 1).val * 384 + (J 2).val; omega
  · refine congrArg x ?_
    funext a
    apply Fin.ext
    match a with
    | ⟨0, _⟩ => exact (show 0 + 0 = (J 0).val by omega)
    | ⟨1, _⟩ => exact (show 0 + (J 1).val = (J 1).val by omega)
    | ⟨2, _⟩ => exact (show 0 + (J 2).val = (J 2).val by omega)

/-- A layer all of whose entries are real holds its reals. -/
theorem layer384 [Facts] (x : FVec Ideal S2x9216x384 .bf16)
    (h : ∀ i, shapeCast S9216x384 (extractStridedSlice S1x9216x384 ![0, 0, 0] x Facts.slices_S2x9216x384_S1x9216x384_0_0_0) Facts.shapeCasts_S1x9216x384_S9216x384 i
      = (((shapeCast S9216x384 (extractStridedSlice S1x9216x384 ![0, 0, 0] x Facts.slices_S2x9216x384_S1x9216x384_0_0_0) Facts.shapeCasts_S1x9216x384_S9216x384 i : EReal).toReal : ℝ) : EReal)) :
    Layer 9216 384 x (part3 9216 384 x) := by
  intro J hJ
  have hr := h (ix2 (⟨(J 1).val, (J 1).isLt⟩ : Fin 9216) (⟨(J 2).val, (J 2).isLt⟩ : Fin 384))
  rw [cut384_apply x J hJ] at hr
  refine hr.trans (congrArg Real.toEReal ?_)
  unfold part3
  rw [dif_pos ⟨(J 1).isLt, (J 2).isLt⟩]
  refine congrArg (fun j => EReal.toReal (x j)) ?_
  funext a
  apply Fin.ext
  match a with
  | ⟨0, _⟩ => exact hJ
  | ⟨1, _⟩ => rfl
  | ⟨2, _⟩ => rfl

/-- The first layer cut out of an array, read at an entry. -/
theorem cut128_apply [Facts] (x : FVec Ideal S2x9216x128 .bf16) (J : S2x9216x128.Idx) (hJ : (J 0).val = 0) :
    shapeCast S9216x128 (extractStridedSlice S1x9216x128 ![0, 0, 0] x Facts.slices_S2x9216x128_S1x9216x128_0_0_0) Facts.shapeCasts_S1x9216x128_S9216x128 (ix2 (⟨(J 1).val, (J 1).isLt⟩ : Fin 9216) (⟨(J 2).val, (J 2).isLt⟩ : Fin 128)) = x J := by
  have b1 : (J 1).val < 9216 := (J 1).isLt
  have b2 : (J 2).val < 128 := (J 2).isLt
  refine (shapeCast_apply _ _ (ix2 (⟨(J 1).val, (J 1).isLt⟩ : Fin 9216) (⟨(J 2).val, (J 2).isLt⟩ : Fin 128)) (ix3 (0 : Fin 1) (⟨(J 1).val, (J 1).isLt⟩ : Fin 9216) (⟨(J 2).val, (J 2).isLt⟩ : Fin 128)) ?_).trans ?_
  · rewrite [Shape.rowMajor_val_three, Shape.rowMajor_val_two]; show ((0 * 9216 + (J 1).val) * 128 + (J 2).val : ℕ) = (J 1).val * 128 + (J 2).val; omega
  · refine congrArg x ?_
    funext a
    apply Fin.ext
    match a with
    | ⟨0, _⟩ => exact (show 0 + 0 = (J 0).val by omega)
    | ⟨1, _⟩ => exact (show 0 + (J 1).val = (J 1).val by omega)
    | ⟨2, _⟩ => exact (show 0 + (J 2).val = (J 2).val by omega)

/-- A layer all of whose entries are real holds its reals. -/
theorem layer128 [Facts] (x : FVec Ideal S2x9216x128 .bf16)
    (h : ∀ i, shapeCast S9216x128 (extractStridedSlice S1x9216x128 ![0, 0, 0] x Facts.slices_S2x9216x128_S1x9216x128_0_0_0) Facts.shapeCasts_S1x9216x128_S9216x128 i
      = (((shapeCast S9216x128 (extractStridedSlice S1x9216x128 ![0, 0, 0] x Facts.slices_S2x9216x128_S1x9216x128_0_0_0) Facts.shapeCasts_S1x9216x128_S9216x128 i : EReal).toReal : ℝ) : EReal)) :
    Layer 9216 128 x (part3 9216 128 x) := by
  intro J hJ
  have hr := h (ix2 (⟨(J 1).val, (J 1).isLt⟩ : Fin 9216) (⟨(J 2).val, (J 2).isLt⟩ : Fin 128))
  rw [cut128_apply x J hJ] at hr
  refine hr.trans (congrArg Real.toEReal ?_)
  unfold part3
  rw [dif_pos ⟨(J 1).isLt, (J 2).isLt⟩]
  refine congrArg (fun j => EReal.toReal (x j)) ?_
  funext a
  apply Fin.ext
  match a with
  | ⟨0, _⟩ => exact hJ
  | ⟨1, _⟩ => rfl
  | ⟨2, _⟩ => rfl

/-- Inputs that pass `finite` hold reals: the first layers of the queries, keys and values, and the whole cotangent. -/
theorem reals [Facts] (x0 : FVec Ideal S2x9216x384 .bf16) (x1 x2 : FVec Ideal S2x9216x128 .bf16) (x3 : FVec Ideal S9216x384 .bf16)
    (h : fn (F := Ideal) x0 x1 x2 x3 = fun _ => 1#1) :
    Layer 9216 384 x0 (part3 9216 384 x0) ∧ Layer 9216 128 x1 (part3 9216 128 x1) ∧ Layer 9216 128 x2 (part3 9216 128 x2)
      ∧ Cert.ReferenceIdeal.Read.Mat 9216 384 x3 (part2 9216 384 x3) := by
  have e := congrFun h (fun k => k.elim0)
  obtain ⟨e, e3⟩ := IntOp.andi_eq_one.1 e
  obtain ⟨e, e2⟩ := IntOp.andi_eq_one.1 e
  obtain ⟨e0, e1⟩ := IntOp.andi_eq_one.1 e
  refine ⟨layer384 x0 (real_of_all _ _ _ _ _ e0), layer128 x1 (real_of_all _ _ _ _ _ e1), layer128 x2 (real_of_all _ _ _ _ _ e2), ?_⟩
  intro J
  refine (real_of_all x3 _ _ _ _ e3 J).trans (congrArg Real.toEReal ?_)
  unfold part2
  rw [dif_pos ⟨(J 0).isLt, (J 1).isLt⟩]
  refine congrArg (fun j => EReal.toReal (x3 j)) ?_
  funext a
  apply Fin.ext
  match a with
  | ⟨0, _⟩ => rfl
  | ⟨1, _⟩ => rfl

end Cert.Pre_finite
end
end
-- ==== Proof.Product.lean ====
module

public import Idealize.ShloMosaic.Lib.Pipeline.ValueKit
public import Idealize.ShloMosaic.PureOps.Ideal

/-!
# Products taken in chunks

The entries of a matrix, or of a stack of matrices, as a function of plain numbers, and a sum over chunks as one sum.
-/
@[expose] public section
noncomputable section
namespace Cert.Product
open Idealize.ShloMosaic

/-- The matrix `X` of `a` rows and `b` columns holds `f`. -/
def Holds2 (a b : ℕ) (X : (⟨2, ![a, b]⟩ : Shape).Idx → EReal) (f : ℕ → ℕ → EReal) : Prop :=
  ∀ (r : Fin a) (l : Fin b), X (ix2 r l) = f r l

/-- The stack `X` of one matrix of `a` rows and `b` columns holds `f`. -/
def Holds3 (a b : ℕ) (X : (⟨3, ![1, a, b]⟩ : Shape).Idx → EReal) (f : ℕ → ℕ → EReal) : Prop :=
  ∀ (r : Fin a) (l : Fin b), X (ix3 0 r l) = f r l

/-- The entries of a matrix, zero outside it. -/
def cell2 {a b : ℕ} (X : (⟨2, ![a, b]⟩ : Shape).Idx → EReal) (i j : ℕ) : EReal :=
  if h : i < a ∧ j < b then X (ix2 ⟨i, h.1⟩ ⟨j, h.2⟩) else 0

/-- The entries of a stack of matrices, zero outside it. -/
def cell3 {n a b : ℕ} (X : (⟨3, ![n, a, b]⟩ : Shape).Idx → EReal) (s i j : ℕ) : EReal :=
  if h : s < n ∧ i < a ∧ j < b then X (ix3 ⟨s, h.1⟩ ⟨i, h.2.1⟩ ⟨j, h.2.2⟩) else 0

/-- The matrix at an index. -/
theorem cell2_eq {a b : ℕ} (X : (⟨2, ![a, b]⟩ : Shape).Idx → EReal) (I : (⟨2, ![a, b]⟩ : Shape).Idx) {i j : ℕ} (hi : (I 0).val = i) (hj : (I 1).val = j) :
    X I = cell2 X i j := by
  subst hi hj
  have h : (I 0).val < a ∧ (I 1).val < b := ⟨(I 0).isLt, (I 1).isLt⟩
  unfold cell2
  rw [dif_pos h]
  exact congrArg X (eq_ix2 I)

/-- The stack at an index. -/
theorem cell3_eq {n a b : ℕ} (X : (⟨3, ![n, a, b]⟩ : Shape).Idx → EReal) (I : (⟨3, ![n, a, b]⟩ : Shape).Idx) {s i j : ℕ} (hs : (I 0).val = s) (hi : (I 1).val = i)
    (hj : (I 2).val = j) : X I = cell3 X s i j := by
  subst hs hi hj
  have h : (I 0).val < n ∧ (I 1).val < a ∧ (I 2).val < b := ⟨(I 0).isLt, (I 1).isLt, (I 2).isLt⟩
  unfold cell3
  rw [dif_pos h]
  exact congrArg X (eq_ix3 I)

/-- A matrix at any index. -/
theorem Holds2.at {a b : ℕ} {X : (⟨2, ![a, b]⟩ : Shape).Idx → EReal} {f : ℕ → ℕ → EReal} (h : Holds2 a b X f) (y : (⟨2, ![a, b]⟩ : Shape).Idx) : X y = f (y 0).val (y 1).val :=
  (congrArg X (eq_ix2 y)).trans (h (y 0) (y 1))

/-- An index of a stack of one matrix. -/
theorem eq_one {a b : ℕ} (i : (⟨3, ![1, a, b]⟩ : Shape).Idx) : i = ix3 0 (i 1) (i 2) :=
  (eq_ix3 i).trans (congrArg (fun s => ix3 s (i 1) (i 2)) (Fin.ext (Nat.lt_one_iff.mp (i 0).isLt)))

/-- A stack of one matrix at any index. -/
theorem Holds3.at {a b : ℕ} {X : (⟨3, ![1, a, b]⟩ : Shape).Idx → EReal} {f : ℕ → ℕ → EReal} (h : Holds3 a b X f) (y : (⟨3, ![1, a, b]⟩ : Shape).Idx) : X y = f (y 1).val (y 2).val :=
  (congrArg X (eq_one y)).trans (h (y 1) (y 2))

/-- The block at place `(p, q)` of a matrix cut into blocks of `a` rows and `b` columns. -/
theorem block2 {a b A B : ℕ} (X : (⟨2, ![A, B]⟩ : Shape).Idx → EReal) (e : (⟨2, ![a, b]⟩ : Shape).Idx → (⟨2, ![A, B]⟩ : Shape).Idx) {p q p' q' : ℕ} (h : p' = p ∧ q' = q)
    (e0 : ∀ y, (e y 0).val = p' * a + 1 * (y 0).val) (e1 : ∀ y, (e y 1).val = q' * b + 1 * (y 1).val) :
    Holds2 a b (fun y => X (e y)) fun r l => cell2 X (a * p + r) (b * q + l) := by
  obtain ⟨rfl, rfl⟩ := h
  intro r l
  refine cell2_eq X _ ((e0 _).trans ?_) ((e1 _).trans ?_)
  · show p' * a + 1 * r.val = a * p' + r.val
    rw [Nat.mul_comm, Nat.one_mul]
  · show q' * b + 1 * l.val = b * q' + l.val
    rw [Nat.mul_comm, Nat.one_mul]

/-- One matrix of a stack. -/
theorem block3 {n a b : ℕ} (X : (⟨3, ![n, a, b]⟩ : Shape).Idx → EReal) (e : (⟨3, ![1, a, b]⟩ : Shape).Idx → (⟨3, ![n, a, b]⟩ : Shape).Idx) {s s' p' q' : ℕ} (h : s' = s ∧ p' = 0 ∧ q' = 0)
    (e0 : ∀ y, (e y 0).val = s' * 1 + 1 * (y 0).val) (e1 : ∀ y, (e y 1).val = p' * a + 1 * (y 1).val) (e2 : ∀ y, (e y 2).val = q' * b + 1 * (y 2).val) :
    Holds3 a b (fun y => X (e y)) fun r l => cell3 X s r l := by
  obtain ⟨rfl, rfl, rfl⟩ := h
  intro r l
  refine cell3_eq X _ ((e0 _).trans ?_) ((e1 _).trans ?_) ((e2 _).trans ?_)
  · show s' * 1 + 1 * 0 = s'
    rw [Nat.mul_one, Nat.mul_zero, Nat.add_zero]
  · show 0 * a + 1 * r.val = r.val
    rw [Nat.zero_mul, Nat.one_mul, Nat.zero_add]
  · show 0 * b + 1 * l.val = l.val
    rw [Nat.zero_mul, Nat.one_mul, Nat.zero_add]

/-- A sum over `a` chunks of `b` terms each is one sum. -/
theorem sum_chunks (f : ℕ → EReal) (b a : ℕ) : ∑ s ∈ Finset.range a, ∑ l : Fin b, f (b * s + l) = ∑ k : Fin (b * a), f k := by
  rw [Fin.sum_univ_eq_sum_range f (b * a)]
  induction a with
  | zero => rfl
  | succ a ih => rw [Finset.sum_range_succ, ih, Nat.mul_succ, Finset.sum_range_add, Fin.sum_univ_eq_sum_range (fun l => f (b * a + l)) b]

/-- The first chunk. -/
theorem sum_first {n : ℕ} (hn : n % 4 = 0) (g : ℕ → EReal) : g (n % 4) = ∑ s ∈ Finset.range (n % 4 + 1), g s := by
  rw [hn]
  exact (Finset.sum_range_one g).symm

/-- One more chunk. -/
theorem sum_next {n : ℕ} (hn : n % 4 ≠ 0) (g : ℕ → EReal) : ∑ s ∈ Finset.range ((n - 1) % 4 + 1), g s + g (n % 4) = ∑ s ∈ Finset.range (n % 4 + 1), g s := by
  rw [Finset.sum_range_succ g (n % 4), show (n - 1) % 4 + 1 = n % 4 by omega]

/-- What is replaced at every fourth step and added to at the others is a sum over the steps since. -/
theorem sums {N a b : ℕ} (o : (n : ℕ) → n < N → Fin a → Fin b → EReal) (g : ℕ → ℕ → ℕ → ℕ → EReal)
    (first : ∀ n h r d, n % 4 = 0 → o n h r d = g (n / 4) r d (n % 4))
    (next : ∀ n h r d, (n + 1) % 4 ≠ 0 → o (n + 1) h r d = o n (Nat.lt_of_succ_lt h) r d + g ((n + 1) / 4) r d ((n + 1) % 4)) :
    ∀ n h r d, o n h r d = ∑ s ∈ Finset.range (n % 4 + 1), g (n / 4) r d s := by
  intro n
  induction n with
  | zero =>
    intro h r d
    exact (first 0 h r d rfl).trans (sum_first rfl fun s => g (0 / 4) r d s)
  | succ n ih =>
    intro h r d
    by_cases h0 : (n + 1) % 4 = 0
    · exact (first (n + 1) h r d h0).trans (sum_first h0 fun s => g ((n + 1) / 4) r d s)
    · refine (next n h r d h0).trans ((congrArg (· + _) (ih _ r d)).trans ?_)
      rw [show n / 4 = (n + 1) / 4 by omega]
      exact sum_next h0 fun s => g ((n + 1) / 4) r d s

/-- A block's corner is the origin. -/
theorem hz2 : (![0, 0] : Fin 2 → Nat) = fun _ => 0 := funext fun a => by fin_cases a <;> rfl

/-- And so of a stack of blocks. -/
theorem hz3 : (![0, 0, 0] : Fin 3 → Nat) = fun _ => 0 := funext fun a => by fin_cases a <;> rfl

end Cert.Product
end
end
-- ==== Proof.MixerGate.lean ====
module

public import proofs.«01_k».proof.Proof.Product
public import proofs.«01_k».proof.Proof.Gen.Kernel2Ideal.Value
public import proofs.«01_k».proof.Proof.Gen.Reference2Ideal.Read
public import Idealize.ShloMosaic.Lib.Tactic

/-!
# The gradient under the channel mixer's activation

The kernel multiplies a product by twice the positive part of what entered the activation.  The reference's derivative puts zero
where that is not positive.
-/
@[expose] public section
set_option maxRecDepth 16384
noncomputable section
namespace Cert.Kernel2Ideal.Value
open Cert.Kernel2Ideal Cert.Kernel2Ideal.Gen Idealize.ShloMosaic Idealize.ShloMosaic.TcCoe Idealize.SL.Sem
open Idealize.ShloMosaic.Pipeline (Dat)
open Cert.Product

/-- The body stores what it computes of its three blocks. -/
theorem out_eq {F : FTy → Type} [FloatOps F] (x : Vec F S1536x1024 .bf16) (y : Vec F S1x1024x1024 .bf16) (z : Vec F S1536x1024 .f32) : out0_3 x y z = k0_pay1 x y z := by
  unfold out0_3
  rw [View.canon_unit_zero hz2]
  simp only [View.ld_unit_zero (S := S1536x1024) hz2, View.ld_unit_zero (S := S1x1024x1024) hz3]

/-- The derivative of the squared positive part. -/
def slope (a : EReal) : EReal := Ideal.ofBits .f32 0x40000000#32 * max a 0

/-- It is zero where its argument is not positive. -/
theorem slope_eq {a : EReal} (h : ¬0 < a) : slope a = 0 := by
  unfold slope
  rw [max_eq_right (not_lt.mp h), mul_zero]

/-- What the body computes, entry by entry. -/
theorem prod_apply {x : FVec Ideal S1536x1024 .bf16} {y : FVec Ideal S1x1024x1024 .bf16} {z : FVec Ideal S1536x1024 .f32} {f g h : ℕ → ℕ → EReal} (hx : Holds2 1536 1024 x f)
    (hy : Holds3 1024 1024 y g) (hz : Holds2 1536 1024 z h) : Holds2 1536 1024 (k0_pay1 (F := Ideal) x y z) fun r d => (∑ l : Fin 1024, f r l * g d l) * slope (h r d) := by
  intro r d
  unfold k0_pay1
  pointwise
  simp only [hx _ _, hy _ _, hz _ _]
  rfl

variable (m : (ℓ : Loc nD τ sig) → Buf (Elt Ideal) ℓ) (c : Dev nD)

/-- Which block of the cotangents a point reads. -/
theorem idx0 : ∀ t : Fin cfg0.N, win0_0.index t (0 : Fin 2) = t.val / 4 ∧ win0_0.index t (1 : Fin 2) = 0 :=
  (by decide +kernel : ∀ t : Fin grid0.N, _)

/-- Which block of the weights a point reads. -/
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of what entered the activation a point reads. -/
theorem idx2 : ∀ t : Fin cfg0.N, win0_2.index t (0 : Fin 2) = t.val / 4 ∧ win0_2.index t (1 : Fin 2) = t.val % 4 :=
  (by decide +kernel : ∀ t : Fin grid0.N, _)

/-- Which block of the result a point writes. -/
theorem idx3 : ∀ t : Fin cfg0.N, win0_3.index t (0 : Fin 2) = t.val / 4 ∧ win0_3.index t (1 : Fin 2) = t.val % 4 :=
  (by decide +kernel : ∀ t : Fin grid0.N, _)

/-- The cotangents' entries. -/
abbrev X : ℕ → ℕ → EReal := cell2 (a := 9216) (b := 1024) (m ((c : Thread nD τ).loc main_arg0))

/-- The weights' entries. -/
abbrev W : ℕ → ℕ → ℕ → EReal := cell3 (n := 4) (a := 1024) (b := 1024) (m ((c : Thread nD τ).loc main_arg1))

/-- The entries of what entered the activation. -/
abbrev A : ℕ → ℕ → EReal := cell2 (a := 9216) (b := 4096) (m ((c : Thread nD τ).loc main_arg2))

/-- The block of cotangents. -/
theorem blk0 (t : Fin cfg0.N) : Holds2 1536 1024 (iblk m c 0 t) fun r l => X m c (1536 * (t.val / 4) + r) l := by
  have h := block2 (V m c main_arg0) ((cfg0.win 0).blk t).view.emb (idx0 t) (fun _ => rfl) (fun _ => rfl)
  rw [V_main_arg0] at h
  simp only [Nat.mul_zero, Nat.zero_add] at h
  exact h

/-- The block of weights. -/
theorem blk1 (t : Fin cfg0.N) : Holds3 1024 1024 (iblk m c 1 t) fun r l => W m c (t.val % 4) r l := by
  have h := block3 (V m c main_arg1) ((cfg0.win 1).blk t).view.emb (idx1 t) (fun _ => rfl) (fun _ => rfl) (fun _ => rfl)
  rw [V_main_arg1] at h
  exact h

/-- The block of what entered the activation. -/
theorem blk2 (t : Fin cfg0.N) : Holds2 1536 1024 (iblk m c 2 t) fun r l => A m c (1536 * (t.val / 4) + r) (1024 * (t.val % 4) + l) := by
  have h := block2 (V m c main_arg2) ((cfg0.win 2).blk t).view.emb (idx2 t) (fun _ => rfl) (fun _ => rfl)
  rw [V_main_arg2] at h
  exact h

/-- The gradient at row `i`, group `s` and column `j` of the group. -/
def entry (i s j : ℕ) : EReal := (∑ l : Fin 1024, X m c i l * W m c s j l) * slope (A m c i (1024 * s + j))

/-- The gradient: the cotangents times the transposed weights, times the slope. -/
def grad : S9216x4096.Idx → EReal := fun I => entry m c (I 0).val ((I 1).val / 1024) ((I 1).val % 1024)

/-- What a point writes back is its block of the gradient. -/
theorem flushed_eq (t : Fin cfg0.N) : (dats m 0 c).flushed 3 t = ((cfg0.win 3).blk t).view.read (Elt Ideal) (grad m c) := by
  obtain ⟨e0, e1⟩ := idx3 t
  rw [flushed3, out_eq]
  funext y
  rw [View.read_apply]
  show k0_pay1 (F := Ideal) (iblk m c 0 t) (iblk m c 1 t) (iblk m c 2 t) y = grad m c (((cfg0.win 3).blk t).view.emb y)
  have b1 : (y 1).val < 1024 := (y 1).isLt
  have a0 : (((cfg0.win 3).blk t).view.emb y (0 : Fin 2)).val = win0_3.index t (0 : Fin 2) * 1536 + 1 * (y 0).val := rfl
  have a1 : (((cfg0.win 3).blk t).view.emb y (1 : Fin 2)).val = win0_3.index t (1 : Fin 2) * 1024 + 1 * (y 1).val := rfl
  refine ((prod_apply (blk0 m c t) (blk1 m c t) (blk2 m c t)).at y).trans ?_
  show entry m c (1536 * (t.val / 4) + (y 0).val) (t.val % 4) (y 1).val = _
  unfold grad
  rw [a0, a1, e0, e1, show 1536 * (t.val / 4) + (y 0).val = t.val / 4 * 1536 + 1 * (y 0).val by omega, show (t.val % 4 * 1024 + 1 * (y 1).val) / 1024 = t.val % 4 by omega,
    show (t.val % 4 * 1024 + 1 * (y 1).val) % 1024 = (y 1).val by omega]

/-- The result array ends holding the gradient. -/
theorem final : (dats m 0 c).arrAt 3 cfg0.N = grad m c := by
  have hN : cfg0.N = 24 := N_0
  refine (dats m 0 c).arrAt_eq_of_cover 3 (grad m c) (fun t _ => flushed_eq m c t) fun i => ?_
  have b0 : (i 0 : Nat) < 9216 := (i 0).isLt
  have b1 : (i 1 : Nat) < 4096 := (i 1).isLt
  let t : Fin cfg0.N := ⟨4 * ((i 0 : Nat) / 1536) + (i 1 : Nat) / 1024, by omega⟩
  have ht : t.val = 4 * ((i 0 : Nat) / 1536) + (i 1 : Nat) / 1024 := rfl
  obtain ⟨e0, e1⟩ := idx3 t
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 2) * 1536 ≤ (i 0 : Nat) ∧ (i 0 : Nat) < win0_3.index t (0 : Fin 2) * 1536 + 1536
    omega
  | ⟨1, _⟩ =>
    show win0_3.index t (1 : Fin 2) * 1024 ≤ (i 1 : Nat) ∧ (i 1 : Nat) < win0_3.index t (1 : Fin 2) * 1024 + 1024
    omega

/-- The run, with the result array at the gradient. -/
theorem run (ρ : Dev nD → PrngReg) : θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

/-- The zero the reference compares with and puts in. -/
theorem bits_zero : Ideal.ofBits .f32 0x00000000#32 = 0 := by simp [Ideal.ofBits, Ideal.ieee]

open Cert.Reference2Ideal.Read in
/-- The reference's derivative is the same. -/
theorem reference_eq : val_main_v15 (F := Ideal) (m ((c : Thread nD τ).loc main_arg0)) (m ((c : Thread nD τ).loc main_arg1)) (m ((c : Thread nD τ).loc main_arg2)) = grad m c := by
  funext I
  have b0 : (I 0).val < 9216 := (I 0).isLt
  have b1 : (I 1).val < 4096 := (I 1).isLt
  have ha : m ((c : Thread nD τ).loc main_arg2) I = A m c (I 0).val (1024 * ((I 1).val / 1024) + (I 1).val % 1024) :=
    cell2_eq (a := 9216) (b := 4096) _ _ rfl (by omega)
  have hp : val_main_v11 (F := Ideal) (m ((c : Thread nD τ).loc main_arg0)) (m ((c : Thread nD τ).loc main_arg1)) I
      = ∑ l : Fin 1024, X m c (I 0).val l * W m c ((I 1).val / 1024) ((I 1).val % 1024) l := by
    rw [val_main_v11_apply]
    refine Finset.sum_congr rfl fun k _ => congrArg₂ (· * ·) ?_ ?_
    · exact cell2_eq (a := 9216) (b := 1024) _ _ rfl rfl
    · have bk : k.val < 1024 := k.isLt
      rw [val_main_v8_apply]
      refine cell3_eq (n := 4) (a := 1024) (b := 1024) _ _ ?_ ?_ ?_
      · show ((I 1).val * 1024 + k.val) / 1048576 = (I 1).val / 1024
        omega
      · show ((I 1).val * 1024 + k.val) / 1024 % 1024 = (I 1).val % 1024
        omega
      · show ((I 1).val * 1024 + k.val) % 1024 = k.val
        omega
  have hs : val_main_v6 (F := Ideal) (m ((c : Thread nD τ).loc main_arg2)) I = slope (m ((c : Thread nD τ).loc main_arg2) I) := by
    show Ideal.ofBits .f32 0x40000000#32 * max (α := EReal) (m ((c : Thread nD τ).loc main_arg2) I) (Ideal.ofBits .f32 0x00000000#32) = _
    rw [bits_zero]
    rfl
  show Scalar.select (Ideal.cmp .ogt (m ((c : Thread nD τ).loc main_arg2) I) (Ideal.ofBits .f32 0x00000000#32))
    (HMul.hMul (α := EReal) (val_main_v11 (F := Ideal) (m ((c : Thread nD τ).loc main_arg0)) (m ((c : Thread nD τ).loc main_arg1)) I)
      (val_main_v6 (F := Ideal) (m ((c : Thread nD τ).loc main_arg2)) I))
    (Ideal.ofBits .f32 0x00000000#32) = _
  rw [hs, hp, bits_zero, ha]
  unfold grad entry
  by_cases h : 0 < A m c (I 0).val (1024 * ((I 1).val / 1024) + (I 1).val % 1024)
  · rw [(Ideal.cmp_ogt_eq_one _ _).mpr h]
    rfl
  · rw [slope_eq h, mul_zero, Ideal.cmp_ogt, decide_eq_false h]
    rfl

end Cert.Kernel2Ideal.Value
end
end
-- ==== Proof.MixerInput.lean ====
module

public import proofs.«01_k».proof.Proof.Product
public import proofs.«01_k».proof.Proof.Gen.Kernel3Ideal.Value
public import proofs.«01_k».proof.Proof.Gen.Reference3Ideal.Read
public import Idealize.ShloMosaic.Lib.Tactic

/-!
# The gradient of the channel mixer's input

The kernel adds up four products, one for each quarter of the wide axis.  The reference takes one product over the whole axis.
-/
@[expose] public section
set_option maxRecDepth 16384
noncomputable section
namespace Cert.Kernel3Ideal.Value
open Cert.Kernel3Ideal Cert.Kernel3Ideal.Gen Idealize.ShloMosaic Idealize.ShloMosaic.TcCoe Idealize.SL.Sem
open Idealize.ShloMosaic.Pipeline (Dat)
open Cert.Product

section
variable {F : FTy → Type} [FloatOps F]

/-- At the first chunk the body stores the chunk's product. -/
theorem out_A (c : Dev nD) (i : grid0.Coords) (a3 : Memref sig .tc .vmem S2304x1024 .bf16) (h3 : a3.IsWhole) (a4 : Memref sig .tc .vmem S1x1024x1024 .bf16) (h4 : a4.IsWhole)
    (a5 : Memref sig .tc .vmem S2304x1024 .f32) (h5 : a5.IsWhole) (hc0 : cond0_0 i) (hc1 : ¬cond0_1 i) (x : Vec F S2304x1024 .bf16) (y : Vec F S1x1024x1024 .bf16) :
    out0_A_2 c i a3 h3 a4 h4 a5 h5 hc0 hc1 x y = k0_pay1 x y := by
  unfold out0_A_2
  rw [View.read_writes_eq_canon _ _ _ (cover0_A_2 c i a3 h3 a4 h4 a5 h5 hc0 hc1 x y)]
  unfold kernelRun0_A
  dsimp only
  rw [View.canon_unit_zero hz2]
  simp only [View.readAt_eq_ld, h3.read_unread, h4.read_unread, View.ld_unit_zero (S := S2304x1024) hz2, View.ld_unit_zero (S := S1x1024x1024) hz3]

/-- At a later chunk it adds the chunk's product to what is there. -/
theorem out_B (c : Dev nD) (i : grid0.Coords) (a3 : Memref sig .tc .vmem S2304x1024 .bf16) (h3 : a3.IsWhole) (a4 : Memref sig .tc .vmem S1x1024x1024 .bf16) (h4 : a4.IsWhole)
    (a5 : Memref sig .tc .vmem S2304x1024 .f32) (h5 : a5.IsWhole) (hc0 : ¬cond0_0 i) (hc1 : cond0_1 i) (x : Vec F S2304x1024 .bf16) (y : Vec F S1x1024x1024 .bf16)
    (z : Vec F S2304x1024 .f32) : out0_B_2 c i a3 h3 a4 h4 a5 h5 hc0 hc1 x y z = addf z (k0_pay1 x y) := by
  unfold out0_B_2
  rw [View.read_writes_eq_canon _ _ _ (cover0_B_2 c i a3 h3 a4 h4 a5 h5 hc0 hc1 x y z)]
  unfold kernelRun0_B
  dsimp only
  rw [View.canon_unit_zero hz2]
  unfold k0_pay2
  simp only [View.readAt_eq_ld, h3.read_unread, h4.read_unread, h5.read_unread, View.ld_unit_zero (S := S2304x1024) hz2, View.ld_unit_zero (S := S1x1024x1024) hz3, shapeCast_self]

end

/-- A chunk's product, entry by entry. -/
theorem prod_apply {x : FVec Ideal S2304x1024 .bf16} {y : FVec Ideal S1x1024x1024 .bf16} {f g : ℕ → ℕ → EReal} (hx : Holds2 2304 1024 x f) (hy : Holds3 1024 1024 y g) :
    Holds2 2304 1024 (k0_pay1 (F := Ideal) x y) fun r d => ∑ l : Fin 1024, f r l * g d l := by
  intro r d
  unfold k0_pay1
  pointwise
  simp only [hx _ _, hy _ _]

variable (m : (ℓ : Loc nD τ sig) → Buf (Elt Ideal) ℓ) (c : Dev nD)

/-- Which block of the cotangents a point reads. -/
theorem idx0 : ∀ t : Fin cfg0.N, win0_0.index t (0 : Fin 2) = t.val / 4 ∧ win0_0.index t (1 : Fin 2) = t.val % 4 :=
  (by decide +kernel : ∀ t : Fin grid0.N, _)

/-- Which block of the weights a point reads. -/
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of the result a point writes. -/
theorem idx2 : ∀ t : Fin cfg0.N, win0_2.index t (0 : Fin 2) = t.val / 4 ∧ win0_2.index t (1 : Fin 2) = 0 :=
  (by decide +kernel : ∀ t : Fin grid0.N, _)

/-- The cotangents' entries. -/
abbrev X : ℕ → ℕ → EReal := cell2 (a := 9216) (b := 4096) (m ((c : Thread nD τ).loc main_arg0))

/-- The weights' entries. -/
abbrev W : ℕ → ℕ → ℕ → EReal := cell3 (n := 4) (a := 1024) (b := 1024) (m ((c : Thread nD τ).loc main_arg1))

/-- The block of cotangents. -/
theorem blk0 (t : Fin cfg0.N) : Holds2 2304 1024 (iblk m c 0 t) fun r l => X m c (2304 * (t.val / 4) + r) (1024 * (t.val % 4) + l) := by
  have h := block2 (V m c main_arg0) ((cfg0.win 0).blk t).view.emb (idx0 t) (fun _ => rfl) (fun _ => rfl)
  rw [V_main_arg0] at h
  exact h

/-- The block of weights. -/
theorem blk1 (t : Fin cfg0.N) : Holds3 1024 1024 (iblk m c 1 t) fun r l => W m c (t.val % 4) r l := by
  have h := block3 (V m c main_arg1) ((cfg0.win 1).blk t).view.emb (idx1 t) (fun _ => rfl) (fun _ => rfl) (fun _ => rfl)
  rw [V_main_arg1] at h
  exact h

/-- One chunk's product at row `i` and column `j`. -/
def part (i j s : ℕ) : EReal := ∑ l : Fin 1024, X m c i (1024 * s + l) * W m c s j l

/-- The product of a point's blocks. -/
theorem chunk (t : Fin cfg0.N) : Holds2 2304 1024 (k0_pay1 (F := Ideal) (iblk m c 0 t) (iblk m c 1 t)) fun r d => part m c (2304 * (t.val / 4) + r) d (t.val % 4) :=
  prod_apply (blk0 m c t) (blk1 m c t)

/-- After a point the block holds the sum of the products so far. -/
theorem acc (n : ℕ) (h : n < cfg0.N) : Holds2 2304 1024 (outsAt0 m c n h) fun r d => ∑ s ∈ Finset.range (n % 4 + 1), part m c (2304 * (n / 4) + r) d s :=
  sums (fun n h r d => outsAt0 m c n h (ix2 r d)) (fun q r d s => part m c (2304 * q + r) d s)
    (fun n h r d h0 => by
      rw [outsAt0_A m c ⟨n, h⟩ h0 (by dsimp only; omega), out_A]
      exact chunk m c ⟨n, h⟩ r d)
    (fun n h r d h0 => by
      rw [outsAt0_B m c ⟨n + 1, h⟩ h0 (by dsimp only; omega), out_B]
      exact congrArg (_ + ·) (chunk m c ⟨n + 1, h⟩ r d)) n h

/-- The gradient: the cotangents times the transposed weights. -/
def grad : S9216x1024.Idx → EReal := fun I => ∑ s ∈ Finset.range 4, part m c (I 0).val (I 1).val s

/-- What a point writes back is its block of the gradient. -/
theorem flushed_eq (t : Fin cfg0.N) (hf : (cfg0.win 2).flush t = true) : (dats m 0 c).flushed 2 t = ((cfg0.win 2).blk t).view.read (Elt Ideal) (grad m c) := by
  have h3 : t.val % 4 = 3 := (flush0_2 t).mp hf
  obtain ⟨e0, e1⟩ := idx2 t
  rw [flushed2]
  funext y
  rw [View.read_apply]
  show outsAt0 m c t.val t.isLt y = grad m c (((cfg0.win 2).blk t).view.emb y)
  have a0 : (((cfg0.win 2).blk t).view.emb y (0 : Fin 2)).val = win0_2.index t (0 : Fin 2) * 2304 + 1 * (y 0).val := rfl
  have a1 : (((cfg0.win 2).blk t).view.emb y (1 : Fin 2)).val = win0_2.index t (1 : Fin 2) * 1024 + 1 * (y 1).val := rfl
  refine ((acc m c t.val t.isLt).at y).trans ?_
  unfold grad
  rw [h3, a0, a1, e0, e1]
  refine Finset.sum_congr rfl fun s _ => congrArg₂ (part m c · · s) ?_ ?_ <;> omega

/-- The result array ends holding the gradient. -/
theorem final : (dats m 0 c).arrAt 2 cfg0.N = grad m c := by
  have hN : cfg0.N = 16 := N_0
  refine (dats m 0 c).arrAt_eq_of_cover 2 (grad m c) (flushed_eq m c) fun i => ?_
  have b0 : (i 0 : Nat) < 9216 := (i 0).isLt
  have b1 : (i 1 : Nat) < 1024 := (i 1).isLt
  let t : Fin cfg0.N := ⟨4 * ((i 0 : Nat) / 2304) + 3, by omega⟩
  have ht : t.val = 4 * ((i 0 : Nat) / 2304) + 3 := rfl
  obtain ⟨e0, e1⟩ := idx2 t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 2304 ≤ (i 0 : Nat) ∧ (i 0 : Nat) < win0_2.index t (0 : Fin 2) * 2304 + 2304
    omega
  | ⟨1, _⟩ =>
    show win0_2.index t (1 : Fin 2) * 1024 ≤ (i 1 : Nat) ∧ (i 1 : Nat) < win0_2.index t (1 : Fin 2) * 1024 + 1024
    omega

/-- The run, with the result array at the gradient. -/
theorem run (ρ : Dev nD → PrngReg) : θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's product over the whole axis is the sum of the four. -/
theorem reference_eq : Cert.Reference3Ideal.Read.val_main_v6 (F := Ideal) (m ((c : Thread nD τ).loc main_arg0)) (m ((c : Thread nD τ).loc main_arg1)) = grad m c := by
  funext I
  have b1 : (I 1).val < 1024 := (I 1).isLt
  rw [Cert.Reference3Ideal.Read.val_main_v6_apply]
  refine Eq.trans ?_ (sum_chunks (fun k => X m c (I 0).val k * W m c (k / 1024) (I 1).val (k % 1024)) 1024 4).symm |>.trans ?_
  · refine Finset.sum_congr rfl fun k _ => congrArg₂ (· * ·) ?_ ?_
    · exact cell2_eq (a := 9216) (b := 4096) _ _ rfl rfl
    · have bk : k.val < 4096 := k.isLt
      rw [Cert.Reference3Ideal.Read.val_main_v3_apply, Cert.Reference3Ideal.Read.val_main_v2_apply]
      refine cell3_eq (n := 4) (a := 1024) (b := 1024) _ _ ?_ ?_ ?_
      · show ((I 1).val * 4096 + k.val) / 1024 % 4 = k.val / 1024
        omega
      · show ((I 1).val * 4096 + k.val) / 4096 = (I 1).val
        omega
      · show ((I 1).val * 4096 + k.val) % 1024 = k.val % 1024
        omega
  · refine Finset.sum_congr rfl fun s _ => Finset.sum_congr rfl fun l _ => ?_
    have hl : l.val < 1024 := l.isLt
    rw [show (1024 * s + l.val) / 1024 = s by omega, show (1024 * s + l.val) % 1024 = l.val by omega]

end Cert.Kernel3Ideal.Value
end
end
-- ==== Proof.MixerFirstWeights.lean ====
module

public import proofs.«01_k».proof.Proof.Product
public import proofs.«01_k».proof.Proof.Gen.Kernel4Ideal.Value
public import proofs.«01_k».proof.Proof.Gen.Reference4Ideal.Read
public import Idealize.ShloMosaic.Lib.Tactic

/-!
# The gradient of the channel mixer's first weights

The kernel adds up four products, one for each quarter of the rows, and keeps the sum in two formats.  The reference takes one product
over all rows.
-/
@[expose] public section
set_option maxRecDepth 16384
noncomputable section
namespace Cert.Kernel4Ideal.Value
open Cert.Kernel4Ideal Cert.Kernel4Ideal.Gen Idealize.ShloMosaic Idealize.ShloMosaic.TcCoe Idealize.SL.Sem
open Idealize.ShloMosaic.Pipeline (Dat)
open Cert.Product

section
variable {F : FTy → Type} [FloatOps F]
variable (c : Dev nD) (i : grid0.Coords) (a3 : Memref sig .tc .vmem S2304x1024 .bf16) (h3 : a3.IsWhole) (a4 : Memref sig .tc .vmem S2304x1024 .bf16) (h4 : a4.IsWhole)
    (a5 : Memref sig .tc .vmem S1x1024x1024 .f32) (h5 : a5.IsWhole) (a6 : Memref sig .tc .vmem S1x1024x1024 .bf16) (h6 : a6.IsWhole) (x y : Vec F S2304x1024 .bf16)

/-- At the first chunk the body stores the chunk's product. -/
theorem out_A (hc0 : cond0_0 i) (hc1 : ¬cond0_1 i) (hc2 : ¬cond0_2 i) : out0_A_2 c i a3 h3 a4 h4 a5 h5 a6 h6 hc0 hc1 hc2 x y = k0_pay2 x y := by
  unfold out0_A_2
  rw [View.read_writes_eq_canon _ _ _ (cover0_A_2 c i a3 h3 a4 h4 a5 h5 a6 h6 hc0 hc1 hc2 x y)]
  unfold kernelRun0_A
  dsimp only
  rw [View.canon_unit_zero hz3]
  simp only [View.readAt_eq_ld, h3.read_unread, h4.read_unread, View.ld_unit_zero (S := S2304x1024) hz2]

variable (z : Vec F S1x1024x1024 .f32)

/-- At a later chunk it adds the chunk's product to what is there. -/
theorem out_B (hc0 : ¬cond0_0 i) (hc1 : cond0_1 i) (hc2 : ¬cond0_2 i) : out0_B_2 c i a3 h3 a4 h4 a5 h5 a6 h6 hc0 hc1 hc2 x y z = k0_pay3 x y z := by
  unfold out0_B_2
  rw [View.read_writes_eq_canon _ _ _ (cover0_B_2 c i a3 h3 a4 h4 a5 h5 a6 h6 hc0 hc1 hc2 x y z)]
  unfold kernelRun0_B
  dsimp only
  rw [View.canon_unit_zero hz3]
  simp only [View.readAt_eq_ld, h3.read_unread, h4.read_unread, h5.read_unread, View.ld_unit_zero (S := S2304x1024) hz2, View.ld_unit_zero (S := S1x1024x1024) hz3]

/-- At the last chunk too. -/
theorem out_C (hc0 : ¬cond0_0 i) (hc1 : cond0_1 i) (hc2 : cond0_2 i) : out0_C_2 c i a3 h3 a4 h4 a5 h5 a6 h6 hc0 hc1 hc2 x y z = k0_pay3 x y z := by
  unfold out0_C_2
  rw [View.read_writes_eq_canon _ _ _ (cover0_C_2 c i a3 h3 a4 h4 a5 h5 a6 h6 hc0 hc1 hc2 x y z)]
  unfold kernelRun0_C
  dsimp only
  sl_unfold_words
  rw [View.canon_unit_zero hz3]
  simp only [View.readAt_eq_ld, h3.read_unread, h4.read_unread, h5.read_unread, View.ld_unit_zero (S := S2304x1024) hz2, View.ld_unit_zero (S := S1x1024x1024) hz3]

/-- The last chunk also stores the sum in the shorter format. -/
theorem short_C (hc0 : ¬cond0_0 i) (hc1 : cond0_1 i) (hc2 : cond0_2 i) : out0_C_3 c i a3 h3 a4 h4 a5 h5 a6 h6 hc0 hc1 hc2 x y z = k0_pay4 (k0_pay3 x y z) := by
  unfold out0_C_3
  rw [View.read_writes_eq_canon _ _ _ (cover0_C_3 c i a3 h3 a4 h4 a5 h5 a6 h6 hc0 hc1 hc2 x y z)]
  unfold kernelRun0_C
  dsimp only
  sl_unfold_words
  rw [View.canon_unit_zero hz3, View.readCov_unit_zero (S := S1x1024x1024) _ hz3]
  simp only [View.readAt_eq_ld, h3.read_unread, h4.read_unread, h5.read_unread, View.ld_unit_zero (S := S2304x1024) hz2, View.ld_unit_zero (S := S1x1024x1024) hz3]

end

section
variable {x y : FVec Ideal S2304x1024 .bf16} {f g : ℕ → ℕ → EReal} (hx : Holds2 2304 1024 x f) (hy : Holds2 2304 1024 y g)
include hx hy

/-- The first chunk's product, entry by entry. -/
theorem first_apply : Holds3 1024 1024 (k0_pay2 (F := Ideal) x y) fun r d => ∑ l : Fin 2304, f l r * g l d := by
  intro r d
  unfold k0_pay2 k0_pay1
  pointwise
  simp only [hx _ _, hy _ _]

/-- A later chunk's product added, entry by entry. -/
theorem next_apply (z : FVec Ideal S1x1024x1024 .f32) (r d : Fin 1024) : k0_pay3 (F := Ideal) x y z (ix3 0 r d) = z (ix3 0 r d) + ∑ l : Fin 2304, f l r * g l d := by
  unfold k0_pay3 k0_pay1
  pointwise
  simp only [hx _ _, hy _ _]

end

/-- The shorter format holds the same reals. -/
theorem short_apply (z : FVec Ideal S1x1024x1024 .f32) (i : S1x1024x1024.Idx) : k0_pay4 (F := Ideal) z i = z i := by
  rw [eq_one i]
  unfold k0_pay4
  pointwise
  exact congrArg z (eq_one i)

variable (m : (ℓ : Loc nD τ sig) → Buf (Elt Ideal) ℓ) (c : Dev nD)

/-- Which block of the inputs a point reads. -/
theorem idx0 : ∀ t : Fin cfg0.N, win0_0.index t (0 : Fin 2) = t.val % 4 ∧ win0_0.index t (1 : Fin 2) = 0 :=
  (by decide +kernel : ∀ t : Fin grid0.N, _)

/-- Which block of the cotangents a point reads. -/
theorem idx1 : ∀ t : Fin cfg0.N, win0_1.index t (0 : Fin 2) = t.val % 4 ∧ win0_1.index t (1 : Fin 2) = t.val / 4 :=
  (by decide +kernel : ∀ t : Fin grid0.N, _)

/-- Which block of the result a point writes. -/
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

/-- Which block of the short result a point writes. -/
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, _)

/-- The inputs' entries. -/
abbrev X : ℕ → ℕ → EReal := cell2 (a := 9216) (b := 1024) (m ((c : Thread nD τ).loc main_arg0))

/-- The cotangents' entries. -/
abbrev Y : ℕ → ℕ → EReal := cell2 (a := 9216) (b := 4096) (m ((c : Thread nD τ).loc main_arg1))

/-- The block of inputs. -/
theorem blk0 (t : Fin cfg0.N) : Holds2 2304 1024 (iblk m c 0 t) fun r l => X m c (2304 * (t.val % 4) + r) l := by
  have h := block2 (V m c main_arg0) ((cfg0.win 0).blk t).view.emb (idx0 t) (fun _ => rfl) (fun _ => rfl)
  rw [V_main_arg0] at h
  simp only [Nat.mul_zero, Nat.zero_add] at h
  exact h

/-- The block of cotangents. -/
theorem blk1 (t : Fin cfg0.N) : Holds2 2304 1024 (iblk m c 1 t) fun r l => Y m c (2304 * (t.val % 4) + r) (1024 * (t.val / 4) + l) := by
  have h := block2 (V m c main_arg1) ((cfg0.win 1).blk t).view.emb (idx1 t) (fun _ => rfl) (fun _ => rfl)
  rw [V_main_arg1] at h
  exact h

/-- One chunk's product at row `i` and column `j`. -/
def part (i j s : ℕ) : EReal := ∑ l : Fin 2304, X m c (2304 * s + l) i * Y m c (2304 * s + l) j

/-- After a point the block holds the sum of the products so far. -/
theorem acc (n : ℕ) (h : n < cfg0.N) : Holds3 1024 1024 (outsAt0 m c n h).1 fun r d => ∑ s ∈ Finset.range (n % 4 + 1), part m c r (1024 * (n / 4) + d) s :=
  sums (fun n h r d => (outsAt0 m c n h).1 (ix3 0 r d)) (fun q r d s => part m c r (1024 * q + d) s)
    (fun n h r d h0 => by
      rw [outsAt0_A m c ⟨n, h⟩ h0 (by dsimp only; omega) (by dsimp only; omega)]
      dsimp only
      rw [out_A]
      exact first_apply (blk0 m c ⟨n, h⟩) (blk1 m c ⟨n, h⟩) r d)
    (fun n h r d h0 => by
      refine Eq.trans ?_ (next_apply (blk0 m c ⟨n + 1, h⟩) (blk1 m c ⟨n + 1, h⟩) _ r d)
      by_cases h3 : (n + 1) % 4 = 3
      · rw [outsAt0_C m c ⟨n + 1, h⟩ h0 (by dsimp only; omega) h3]
        dsimp only
        rw [out_C]
        rfl
      · rw [outsAt0_B m c ⟨n + 1, h⟩ h0 (by dsimp only; omega) h3]
        dsimp only
        rw [out_B]
        rfl) n h

/-- At the last point of a block the two formats hold the same reals. -/
theorem short_eq (t : Fin cfg0.N) (h3 : t.val % 4 = 3) (y : S1x1024x1024.Idx) : (outsAt0 m c t.val t.isLt).2 y = (outsAt0 m c t.val t.isLt).1 y := by
  rw [outsAt0_C m c t (by omega) (by omega) h3]
  dsimp only
  rw [out_C, short_C]
  exact short_apply _ y

/-- The gradient: the transposed inputs times the cotangents, the columns in four groups. -/
def grad : S4x1024x1024.Idx → EReal := fun I => ∑ s ∈ Finset.range 4, part m c (I 1).val (1024 * (I 0).val + (I 2).val) s

/-- What a last point's block holds. -/
theorem block (t : Fin cfg0.N) (h3 : t.val % 4 = 3) (y : S1x1024x1024.Idx) : (outsAt0 m c t.val t.isLt).1 y = grad m c (((cfg0.win 2).blk t).view.emb y) := by
  obtain ⟨e0, e1, e2⟩ := idx2 t
  have hy : (y 0).val = 0 := Nat.lt_one_iff.mp (y 0).isLt
  have a0 : (((cfg0.win 2).blk t).view.emb y (0 : Fin 3)).val = win0_2.index t (0 : Fin 3) * 1 + 1 * (y 0).val := rfl
  have a1 : (((cfg0.win 2).blk t).view.emb y (1 : Fin 3)).val = win0_2.index t (1 : Fin 3) * 1024 + 1 * (y 1).val := rfl
  have a2 : (((cfg0.win 2).blk t).view.emb y (2 : Fin 3)).val = win0_2.index t (2 : Fin 3) * 1024 + 1 * (y 2).val := rfl
  refine ((acc m c t.val t.isLt).at y).trans ?_
  unfold grad
  rw [h3, a0, a1, a2, e0, e1, e2, hy]
  refine Finset.sum_congr rfl fun s _ => congrArg₂ (part m c · · s) ?_ ?_ <;> omega

/-- What a point writes back is its block of the gradient. -/
theorem flushed_eq (t : Fin cfg0.N) (hf : (cfg0.win 2).flush t = true) : (dats m 0 c).flushed 2 t = ((cfg0.win 2).blk t).view.read (Elt Ideal) (grad m c) := by
  rw [flushed2]
  funext y
  rw [View.read_apply]
  exact block m c t ((flush0_2 t).mp hf) y

/-- And so in the shorter format. -/
theorem flushed_short (t : Fin cfg0.N) (hf : (cfg0.win 3).flush t = true) : (dats m 0 c).flushed 3 t = ((cfg0.win 3).blk t).view.read (Elt Ideal) (grad m c) := by
  rw [flushed3]
  funext y
  rw [View.read_apply]
  exact (short_eq m c t ((flush0_3 t).mp hf) y).trans (block m c t ((flush0_3 t).mp hf) y)

/-- Every entry lies in the block of some last point. -/
theorem cover (i : S4x1024x1024.Idx) : ∃ t : Fin cfg0.N, t.val % 4 = 3 ∧ i ∈ (win0_2.rect t).set := by
  have hN : cfg0.N = 16 := N_0
  have b0 : (i 0 : Nat) < 4 := (i 0).isLt
  have b1 : (i 1 : Nat) < 1024 := (i 1).isLt
  have b2 : (i 2 : Nat) < 1024 := (i 2).isLt
  let t : Fin cfg0.N := ⟨4 * (i 0 : Nat) + 3, by omega⟩
  have ht : t.val = 4 * (i 0 : Nat) + 3 := rfl
  obtain ⟨e0, e1, e2⟩ := idx2 t
  refine ⟨t, by omega, (Rect.mem_set_unit ..).mpr fun a => ?_⟩
  match a with
  | ⟨0, _⟩ =>
    show win0_2.index t (0 : Fin 3) * 1 ≤ (i 0 : Nat) ∧ (i 0 : Nat) < win0_2.index t (0 : Fin 3) * 1 + 1
    omega
  | ⟨1, _⟩ =>
    show win0_2.index t (1 : Fin 3) * 1024 ≤ (i 1 : Nat) ∧ (i 1 : Nat) < win0_2.index t (1 : Fin 3) * 1024 + 1024
    omega
  | ⟨2, _⟩ =>
    show win0_2.index t (2 : Fin 3) * 1024 ≤ (i 2 : Nat) ∧ (i 2 : Nat) < win0_2.index t (2 : Fin 3) * 1024 + 1024
    omega

/-- The result array ends holding the gradient. -/
theorem final : (dats m 0 c).arrAt 2 cfg0.N = grad m c := by
  refine (dats m 0 c).arrAt_eq_of_cover 2 (grad m c) (flushed_eq m c) fun i => ?_
  obtain ⟨t, h3, h⟩ := cover i
  refine ⟨t, (flush0_2 t).mpr h3, ?_⟩
  show i ∈ ((View.whole main_v0_0).slice (win0_2.rect t)).set
  rw [View.set_slice_whole]
  exact h

/-- And so does the short one. -/
theorem final_short : (dats m 0 c).arrAt 3 cfg0.N = grad m c := by
  refine (dats m 0 c).arrAt_eq_of_cover 3 (grad m c) (flushed_short m c) fun i => ?_
  obtain ⟨t, h3, h⟩ := cover i
  refine ⟨t, (flush0_3 t).mpr h3, ?_⟩
  show i ∈ ((View.whole main_v0_1).slice (win0_3.rect t)).set
  rw [View.set_slice_whole]
  exact h

/-- The run, with the result arrays at the gradient. -/
theorem run (ρ : Dev nD → PrngReg) : θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2.1.trans (final_short m c), (h c).2.2⟩) (run_blocks m ρ)

/-- The reference's product over all rows is the sum of the four. -/
theorem reference_eq : Cert.Reference4Ideal.Read.val_main_v9 (F := Ideal) (m ((c : Thread nD τ).loc main_arg0)) (m ((c : Thread nD τ).loc main_arg1)) = grad m c := by
  funext I
  have b0 : (I 0 : Nat) < 4 := (I 0).isLt
  have b1 : (I 1 : Nat) < 1024 := (I 1).isLt
  have b2 : (I 2 : Nat) < 1024 := (I 2).isLt
  rw [Cert.Reference4Ideal.Read.val_main_v9_apply, Cert.Reference4Ideal.Read.val_main_v8_apply, Cert.Reference4Ideal.Read.val_main_v7_apply, Cert.Reference4Ideal.Read.val_main_v6_apply]
  refine Eq.trans (Finset.sum_congr rfl fun k _ => (congrArg₂ (· * ·) ?_ ?_).trans (mul_comm _ _))
    (sum_chunks (fun k => X m c k (I 1).val * Y m c k (1024 * (I 0).val + (I 2).val)) 2304 4).symm
  · refine cell2_eq (a := 9216) (b := 4096) _ _ rfl ?_
    show (((I 1).val * 4 + (I 0).val) * 1024 + (I 2).val) % 4096 = _
    omega
  · refine cell2_eq (a := 9216) (b := 1024) _ _ rfl ?_
    show (((I 1).val * 4 + (I 0).val) * 1024 + (I 2).val) / 4096 = _
    omega

end Cert.Kernel4Ideal.Value
end
end
-- ==== Proof.MixerSecondWeights.lean ====
module

public import proofs.«01_k».proof.Proof.Product
public import proofs.«01_k».proof.Proof.Gen.Kernel5Ideal.Value
public import proofs.«01_k».proof.Proof.Gen.Reference5Ideal.Read
public import Idealize.ShloMosaic.Lib.Tactic

/-!
# The gradient of the channel mixer's second weights

The kernel adds up four products, one for each quarter of the rows, and keeps the sum in two formats.  The reference takes one product
over all rows.
-/
@[expose] public section
set_option maxRecDepth 16384
noncomputable section
namespace Cert.Kernel5Ideal.Value
open Cert.Kernel5Ideal Cert.Kernel5Ideal.Gen Idealize.ShloMosaic Idealize.ShloMosaic.TcCoe Idealize.SL.Sem
open Idealize.ShloMosaic.Pipeline (Dat)
open Cert.Product

section
variable {F : FTy → Type} [FloatOps F]
variable (c : Dev nD) (i : grid0.Coords) (a3 : Memref sig .tc .vmem S2304x1024 .bf16) (h3 : a3.IsWhole) (a4 : Memref sig .tc .vmem S2304x1024 .bf16) (h4 : a4.IsWhole)
    (a5 : Memref sig .tc .vmem S1024x1024 .f32) (h5 : a5.IsWhole) (a6 : Memref sig .tc .vmem S1024x1024 .bf16) (h6 : a6.IsWhole) (x y : Vec F S2304x1024 .bf16)

/-- At the first chunk the body stores the chunk's product. -/
theorem out_A (hc0 : cond0_0 i) (hc1 : ¬cond0_1 i) (hc2 : ¬cond0_2 i) : out0_A_2 c i a3 h3 a4 h4 a5 h5 a6 h6 hc0 hc1 hc2 x y = k0_pay1 x y := by
  unfold out0_A_2
  rw [View.read_writes_eq_canon _ _ _ (cover0_A_2 c i a3 h3 a4 h4 a5 h5 a6 h6 hc0 hc1 hc2 x y)]
  unfold kernelRun0_A
  dsimp only
  rw [View.canon_unit_zero hz2]
  simp only [View.readAt_eq_ld, h3.read_unread, h4.read_unread, View.ld_unit_zero (S := S2304x1024) hz2]

variable (z : Vec F S1024x1024 .f32)

/-- At a later chunk it adds the chunk's product to what is there. -/
theorem out_B (hc0 : ¬cond0_0 i) (hc1 : cond0_1 i) (hc2 : ¬cond0_2 i) : out0_B_2 c i a3 h3 a4 h4 a5 h5 a6 h6 hc0 hc1 hc2 x y z = addf z (k0_pay1 x y) := by
  unfold out0_B_2
  rw [View.read_writes_eq_canon _ _ _ (cover0_B_2 c i a3 h3 a4 h4 a5 h5 a6 h6 hc0 hc1 hc2 x y z)]
  unfold kernelRun0_B
  dsimp only
  rw [View.canon_unit_zero hz2]
  unfold k0_pay2
  simp only [View.readAt_eq_ld, h3.read_unread, h4.read_unread, h5.read_unread, View.ld_unit_zero (S := S2304x1024) hz2, View.ld_unit_zero (S := S1024x1024) hz2, shapeCast_self]

/-- At the last chunk too. -/
theorem out_C (hc0 : ¬cond0_0 i) (hc1 : cond0_1 i) (hc2 : cond0_2 i) : out0_C_2 c i a3 h3 a4 h4 a5 h5 a6 h6 hc0 hc1 hc2 x y z = addf z (k0_pay1 x y) := by
  unfold out0_C_2
  rw [View.read_writes_eq_canon _ _ _ (cover0_C_2 c i a3 h3 a4 h4 a5 h5 a6 h6 hc0 hc1 hc2 x y z)]
  unfold kernelRun0_C
  dsimp only
  sl_unfold_words
  rw [View.canon_unit_zero hz2]
  unfold k0_pay2
  simp only [View.readAt_eq_ld, h3.read_unread, h4.read_unread, h5.read_unread, View.ld_unit_zero (S := S2304x1024) hz2, View.ld_unit_zero (S := S1024x1024) hz2, shapeCast_self]

/-- The last chunk also stores the sum in the shorter format. -/
theorem short_C (hc0 : ¬cond0_0 i) (hc1 : cond0_1 i) (hc2 : cond0_2 i) :
    out0_C_3 c i a3 h3 a4 h4 a5 h5 a6 h6 hc0 hc1 hc2 x y z = truncf .bf16 (addf z (k0_pay1 x y)) bitsLt_bf16_f32 := by
  unfold out0_C_3
  rw [View.read_writes_eq_canon _ _ _ (cover0_C_3 c i a3 h3 a4 h4 a5 h5 a6 h6 hc0 hc1 hc2 x y z)]
  unfold kernelRun0_C
  dsimp only
  sl_unfold_words
  rw [View.canon_unit_zero hz2, View.readCov_unit_zero (S := S1024x1024) _ hz2]
  unfold k0_pay3 k0_pay2
  simp only [View.readAt_eq_ld, h3.read_unread, h4.read_unread, h5.read_unread, View.ld_unit_zero (S := S2304x1024) hz2, View.ld_unit_zero (S := S1024x1024) hz2, shapeCast_self]

end

/-- A chunk's product, entry by entry. -/
theorem prod_apply {x y : FVec Ideal S2304x1024 .bf16} {f g : ℕ → ℕ → EReal} (hx : Holds2 2304 1024 x f) (hy : Holds2 2304 1024 y g) :
    Holds2 1024 1024 (k0_pay1 (F := Ideal) x y) fun r d => ∑ l : Fin 2304, f l r * g l d := by
  intro r d
  unfold k0_pay1
  pointwise
  simp only [hx _ _, hy _ _]

variable (m : (ℓ : Loc nD τ sig) → Buf (Elt Ideal) ℓ) (c : Dev nD)

/-- Which block of the activations a point reads. -/
theorem idx0 : ∀ t : Fin cfg0.N, win0_0.index t (0 : Fin 2) = t.val % 4 ∧ win0_0.index t (1 : Fin 2) = t.val / 4 :=
  (by decide +kernel : ∀ t : Fin grid0.N, _)

/-- Which block of the cotangents a point reads. -/
theorem idx1 : ∀ t : Fin cfg0.N, win0_1.index t (0 : Fin 2) = t.val % 4 ∧ win0_1.index t (1 : Fin 2) = 0 :=
  (by decide +kernel : ∀ t : Fin grid0.N, _)

/-- Which block of the result a point writes. -/
theorem idx2 : ∀ t : Fin cfg0.N, win0_2.index t (0 : Fin 2) = t.val / 4 ∧ win0_2.index t (1 : Fin 2) = 0 :=
  (by decide +kernel : ∀ t : Fin grid0.N, _)

/-- Which block of the short result a point writes. -/
theorem idx3 : ∀ t : Fin cfg0.N, win0_3.index t (0 : Fin 2) = t.val / 4 ∧ win0_3.index t (1 : Fin 2) = 0 :=
  (by decide +kernel : ∀ t : Fin grid0.N, _)

/-- The activations' entries. -/
abbrev X : ℕ → ℕ → EReal := cell2 (a := 9216) (b := 4096) (m ((c : Thread nD τ).loc main_arg0))

/-- The cotangents' entries. -/
abbrev Y : ℕ → ℕ → EReal := cell2 (a := 9216) (b := 1024) (m ((c : Thread nD τ).loc main_arg1))

/-- The block of activations. -/
theorem blk0 (t : Fin cfg0.N) : Holds2 2304 1024 (iblk m c 0 t) fun r l => X m c (2304 * (t.val % 4) + r) (1024 * (t.val / 4) + l) := by
  have h := block2 (V m c main_arg0) ((cfg0.win 0).blk t).view.emb (idx0 t) (fun _ => rfl) (fun _ => rfl)
  rw [V_main_arg0] at h
  exact h

/-- The block of cotangents. -/
theorem blk1 (t : Fin cfg0.N) : Holds2 2304 1024 (iblk m c 1 t) fun r l => Y m c (2304 * (t.val % 4) + r) l := by
  have h := block2 (V m c main_arg1) ((cfg0.win 1).blk t).view.emb (idx1 t) (fun _ => rfl) (fun _ => rfl)
  rw [V_main_arg1] at h
  simp only [Nat.mul_zero, Nat.zero_add] at h
  exact h

/-- One chunk's product at row `i` and column `j`. -/
def part (i j s : ℕ) : EReal := ∑ l : Fin 2304, X m c (2304 * s + l) i * Y m c (2304 * s + l) j

/-- The product of a point's blocks. -/
theorem chunk (t : Fin cfg0.N) : Holds2 1024 1024 (k0_pay1 (F := Ideal) (iblk m c 0 t) (iblk m c 1 t)) fun r d => part m c (1024 * (t.val / 4) + r) d (t.val % 4) :=
  prod_apply (blk0 m c t) (blk1 m c t)

/-- After a point the block holds the sum of the products so far. -/
theorem acc (n : ℕ) (h : n < cfg0.N) : Holds2 1024 1024 (outsAt0 m c n h).1 fun r d => ∑ s ∈ Finset.range (n % 4 + 1), part m c (1024 * (n / 4) + r) d s :=
  sums (fun n h r d => (outsAt0 m c n h).1 (ix2 r d)) (fun q r d s => part m c (1024 * q + r) d s)
    (fun n h r d h0 => by
      rw [outsAt0_A m c ⟨n, h⟩ h0 (by dsimp only; omega) (by dsimp only; omega)]
      dsimp only
      rw [out_A]
      exact chunk m c ⟨n, h⟩ r d)
    (fun n h r d h0 => by
      refine Eq.trans ?_ (congrArg (_ + ·) (chunk m c ⟨n + 1, h⟩ r d))
      by_cases h3 : (n + 1) % 4 = 3
      · rw [outsAt0_C m c ⟨n + 1, h⟩ h0 (by dsimp only; omega) h3]
        dsimp only
        rw [out_C]
        rfl
      · rw [outsAt0_B m c ⟨n + 1, h⟩ h0 (by dsimp only; omega) h3]
        dsimp only
        rw [out_B]
        rfl) n h

/-- At the last point of a block the two formats hold the same reals. -/
theorem short_eq (t : Fin cfg0.N) (h3 : t.val % 4 = 3) : ((outsAt0 m c t.val t.isLt).2 : S1024x1024.Idx → EReal) = (outsAt0 m c t.val t.isLt).1 := by
  rw [outsAt0_C m c t (by omega) (by omega) h3]
  dsimp only
  rw [out_C, short_C]
  rfl

/-- The gradient: the transposed activations times the cotangents. -/
def grad : S4096x1024.Idx → EReal := fun I => ∑ s ∈ Finset.range 4, part m c (I 0).val (I 1).val s

/-- What a last point's block holds. -/
theorem block (t : Fin cfg0.N) (h3 : t.val % 4 = 3) (y : S1024x1024.Idx) : (outsAt0 m c t.val t.isLt).1 y = grad m c (((cfg0.win 2).blk t).view.emb y) := by
  obtain ⟨e0, e1⟩ := idx2 t
  have a0 : (((cfg0.win 2).blk t).view.emb y (0 : Fin 2)).val = win0_2.index t (0 : Fin 2) * 1024 + 1 * (y 0).val := rfl
  have a1 : (((cfg0.win 2).blk t).view.emb y (1 : Fin 2)).val = win0_2.index t (1 : Fin 2) * 1024 + 1 * (y 1).val := rfl
  refine ((acc m c t.val t.isLt).at y).trans ?_
  unfold grad
  rw [h3, a0, a1, e0, e1]
  refine Finset.sum_congr rfl fun s _ => congrArg₂ (part m c · · s) ?_ ?_ <;> omega

/-- What a point writes back is its block of the gradient. -/
theorem flushed_eq (t : Fin cfg0.N) (hf : (cfg0.win 2).flush t = true) : (dats m 0 c).flushed 2 t = ((cfg0.win 2).blk t).view.read (Elt Ideal) (grad m c) := by
  rw [flushed2]
  funext y
  rw [View.read_apply]
  exact block m c t ((flush0_2 t).mp hf) y

/-- And so in the shorter format. -/
theorem flushed_short (t : Fin cfg0.N) (hf : (cfg0.win 3).flush t = true) : (dats m 0 c).flushed 3 t = ((cfg0.win 3).blk t).view.read (Elt Ideal) (grad m c) := by
  rw [flushed3]
  funext y
  rw [View.read_apply]
  exact (congrFun (short_eq m c t ((flush0_3 t).mp hf)) y).trans (block m c t ((flush0_3 t).mp hf) y)

/-- Every entry lies in the block of some last point. -/
theorem cover (i : S4096x1024.Idx) : ∃ t : Fin cfg0.N, t.val % 4 = 3 ∧ i ∈ (win0_2.rect t).set := by
  have hN : cfg0.N = 16 := N_0
  have b0 : (i 0 : Nat) < 4096 := (i 0).isLt
  have b1 : (i 1 : Nat) < 1024 := (i 1).isLt
  let t : Fin cfg0.N := ⟨4 * ((i 0 : Nat) / 1024) + 3, by omega⟩
  have ht : t.val = 4 * ((i 0 : Nat) / 1024) + 3 := rfl
  obtain ⟨e0, e1⟩ := idx2 t
  refine ⟨t, by omega, (Rect.mem_set_unit ..).mpr fun a => ?_⟩
  match a with
  | ⟨0, _⟩ =>
    show win0_2.index t (0 : Fin 2) * 1024 ≤ (i 0 : Nat) ∧ (i 0 : Nat) < win0_2.index t (0 : Fin 2) * 1024 + 1024
    omega
  | ⟨1, _⟩ =>
    show win0_2.index t (1 : Fin 2) * 1024 ≤ (i 1 : Nat) ∧ (i 1 : Nat) < win0_2.index t (1 : Fin 2) * 1024 + 1024
    omega

/-- The result array ends holding the gradient. -/
theorem final : (dats m 0 c).arrAt 2 cfg0.N = grad m c := by
  refine (dats m 0 c).arrAt_eq_of_cover 2 (grad m c) (flushed_eq m c) fun i => ?_
  obtain ⟨t, h3, h⟩ := cover i
  refine ⟨t, (flush0_2 t).mpr h3, ?_⟩
  show i ∈ ((View.whole main_v0_0).slice (win0_2.rect t)).set
  rw [View.set_slice_whole]
  exact h

/-- And so does the short one. -/
theorem final_short : (dats m 0 c).arrAt 3 cfg0.N = grad m c := by
  refine (dats m 0 c).arrAt_eq_of_cover 3 (grad m c) (flushed_short m c) fun i => ?_
  obtain ⟨t, h3, h⟩ := cover i
  refine ⟨t, (flush0_3 t).mpr h3, ?_⟩
  show i ∈ ((View.whole main_v0_1).slice (win0_3.rect t)).set
  rw [View.set_slice_whole]
  exact h

/-- The run, with the result arrays at the gradient. -/
theorem run (ρ : Dev nD → PrngReg) : θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2.1.trans (final_short m c), (h c).2.2⟩) (run_blocks m ρ)

/-- The reference's product over all rows is the sum of the four. -/
theorem reference_eq : Cert.Reference5Ideal.Read.val_main_v5 (F := Ideal) (m ((c : Thread nD τ).loc main_arg0)) (m ((c : Thread nD τ).loc main_arg1)) = grad m c := by
  funext I
  rw [Cert.Reference5Ideal.Read.val_main_v5_apply, Cert.Reference5Ideal.Read.val_main_v4_apply]
  refine Eq.trans (Finset.sum_congr rfl fun k _ => (congrArg₂ (· * ·) ?_ ?_).trans (mul_comm _ _))
    (sum_chunks (fun k => X m c k (I 0).val * Y m c k (I 1).val) 2304 4).symm
  · exact cell2_eq (a := 9216) (b := 1024) _ _ rfl rfl
  · exact cell2_eq (a := 9216) (b := 4096) _ _ rfl rfl

end Cert.Kernel5Ideal.Value
end
end
-- ==== Proof.MixerFirst.lean ====
module

public import proofs.«01_k».proof.Proof.Product
public import proofs.«01_k».proof.Proof.Gen.Kernel9Ideal.Value
public import proofs.«01_k».proof.Proof.Gen.Reference9Ideal.Read
public import Idealize.ShloMosaic.Lib.Tactic

/-!
# The channel mixer's first product and its activation

A point of the grid takes one product, of a sixth of the rows and a quarter of the columns, and keeps it and the square of its positive
part.  The reference takes the whole product.
-/
@[expose] public section
set_option maxRecDepth 16384
noncomputable section
namespace Cert.Kernel9Ideal.Value
open Cert.Kernel9Ideal Cert.Kernel9Ideal.Gen Idealize.ShloMosaic Idealize.ShloMosaic.TcCoe Idealize.SL.Sem
open Idealize.ShloMosaic.Pipeline (Dat)
open Cert.Product

/-- The body stores the product of its blocks. -/
theorem out_eq {F : FTy → Type} [FloatOps F] (x : Vec F S1536x1024 .bf16) (y : Vec F S1x1024x1024 .bf16) : out0_2 x y = k0_pay1 x y := by
  unfold out0_2
  rw [View.canon_unit_zero hz2]
  simp only [View.ld_unit_zero (S := S1536x1024) hz2, View.ld_unit_zero (S := S1x1024x1024) hz3]

/-- And the square of its positive part. -/
theorem act_out {F : FTy → Type} [FloatOps F] (x : Vec F S1536x1024 .bf16) (y : Vec F S1x1024x1024 .bf16) : out0_3 x y = k0_pay2 x y := by
  unfold out0_3
  rw [View.canon_unit_zero hz2]
  simp only [View.ld_unit_zero (S := S1536x1024) hz2, View.ld_unit_zero (S := S1x1024x1024) hz3]

/-- The square of the positive part. -/
def square (a : EReal) : EReal := max a (Ideal.ofBits .f32 0x00000000#32) * max a (Ideal.ofBits .f32 0x00000000#32)

/-- What the body stores second is that of what it stores first. -/
theorem act_apply (x : FVec Ideal S1536x1024 .bf16) (y : FVec Ideal S1x1024x1024 .bf16) (i : S1536x1024.Idx) : k0_pay2 (F := Ideal) x y i = square (k0_pay1 (F := Ideal) x y i) := rfl

/-- The product, entry by entry. -/
theorem prod_apply {x : FVec Ideal S1536x1024 .bf16} {y : FVec Ideal S1x1024x1024 .bf16} {f g : ℕ → ℕ → EReal} (hx : Holds2 1536 1024 x f) (hy : Holds3 1024 1024 y g) :
    Holds2 1536 1024 (k0_pay1 (F := Ideal) x y) fun r d => ∑ l : Fin 1024, f r l * g l d := by
  intro r d
  unfold k0_pay1
  pointwise
  simp only [hx _ _, hy _ _]

variable (m : (ℓ : Loc nD τ sig) → Buf (Elt Ideal) ℓ) (c : Dev nD)

/-- Which block of the inputs a point reads. -/
theorem idx0 : ∀ t : Fin cfg0.N, win0_0.index t (0 : Fin 2) = t.val / 4 ∧ win0_0.index t (1 : Fin 2) = 0 :=
  (by decide +kernel : ∀ t : Fin grid0.N, _)

/-- Which block of the weights a point reads. -/
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of the two results a point writes. -/
theorem idx2 : ∀ t : Fin cfg0.N, win0_2.index t (0 : Fin 2) = t.val / 4 ∧ win0_2.index t (1 : Fin 2) = t.val % 4 :=
  (by decide +kernel : ∀ t : Fin grid0.N, _)

/-- The inputs' entries. -/
abbrev X : ℕ → ℕ → EReal := cell2 (a := 9216) (b := 1024) (m ((c : Thread nD τ).loc main_arg0))

/-- The weights' entries. -/
abbrev W : ℕ → ℕ → ℕ → EReal := cell3 (n := 4) (a := 1024) (b := 1024) (m ((c : Thread nD τ).loc main_arg1))

/-- The block of inputs. -/
theorem blk0 (t : Fin cfg0.N) : Holds2 1536 1024 (iblk m c 0 t) fun r l => X m c (1536 * (t.val / 4) + r) l := by
  have h := block2 (V m c main_arg0) ((cfg0.win 0).blk t).view.emb (idx0 t) (fun _ => rfl) (fun _ => rfl)
  rw [V_main_arg0] at h
  simp only [Nat.mul_zero, Nat.zero_add] at h
  exact h

/-- The block of weights. -/
theorem blk1 (t : Fin cfg0.N) : Holds3 1024 1024 (iblk m c 1 t) fun r l => W m c (t.val % 4) r l := by
  have h := block3 (V m c main_arg1) ((cfg0.win 1).blk t).view.emb (idx1 t) (fun _ => rfl) (fun _ => rfl) (fun _ => rfl)
  rw [V_main_arg1] at h
  exact h

/-- The product at row `i`, group `s` and column `j` of the group. -/
def entry (i s j : ℕ) : EReal := ∑ l : Fin 1024, X m c i l * W m c s l j

/-- The product of the inputs and the weights. -/
def value : S9216x4096.Idx → EReal := fun I => entry m c (I 0).val ((I 1).val / 1024) ((I 1).val % 1024)

/-- The activation of the product. -/
def act : S9216x4096.Idx → EReal := fun I => square (value m c I)

/-- A point's block of the product. -/
theorem block (t : Fin cfg0.N) (y : S1536x1024.Idx) : k0_pay1 (F := Ideal) (iblk m c 0 t) (iblk m c 1 t) y = value m c (((cfg0.win 2).blk t).view.emb y) := by
  obtain ⟨e0, e1⟩ := idx2 t
  have b1 : (y 1).val < 1024 := (y 1).isLt
  have a0 : (((cfg0.win 2).blk t).view.emb y (0 : Fin 2)).val = win0_2.index t (0 : Fin 2) * 1536 + 1 * (y 0).val := rfl
  have a1 : (((cfg0.win 2).blk t).view.emb y (1 : Fin 2)).val = win0_2.index t (1 : Fin 2) * 1024 + 1 * (y 1).val := rfl
  refine ((prod_apply (blk0 m c t) (blk1 m c t)).at y).trans ?_
  show entry m c (1536 * (t.val / 4) + (y 0).val) (t.val % 4) (y 1).val = _
  unfold value
  rw [a0, a1, e0, e1, show 1536 * (t.val / 4) + (y 0).val = t.val / 4 * 1536 + 1 * (y 0).val by omega, show (t.val % 4 * 1024 + 1 * (y 1).val) / 1024 = t.val % 4 by omega,
    show (t.val % 4 * 1024 + 1 * (y 1).val) % 1024 = (y 1).val by omega]

/-- What a point writes back first is its block of the product. -/
theorem flushed_eq (t : Fin cfg0.N) : (dats m 0 c).flushed 2 t = ((cfg0.win 2).blk t).view.read (Elt Ideal) (value m c) := by
  rw [flushed2, out_eq]
  funext y
  rw [View.read_apply]
  exact block m c t y

/-- What a point writes back second is its block of the activation. -/
theorem flushed_act (t : Fin cfg0.N) : (dats m 0 c).flushed 3 t = ((cfg0.win 3).blk t).view.read (Elt Ideal) (act m c) := by
  rw [flushed3, act_out]
  funext y
  rw [View.read_apply]
  exact (act_apply (iblk m c 0 t) (iblk m c 1 t) y).trans (congrArg square (block m c t y))

/-- Every entry lies in the block of some point. -/
theorem cover (i : S9216x4096.Idx) : ∃ t : Fin cfg0.N, i ∈ (win0_2.rect t).set := by
  have hN : cfg0.N = 24 := N_0
  have b0 : (i 0 : Nat) < 9216 := (i 0).isLt
  have b1 : (i 1 : Nat) < 4096 := (i 1).isLt
  let t : Fin cfg0.N := ⟨4 * ((i 0 : Nat) / 1536) + (i 1 : Nat) / 1024, by omega⟩
  have ht : t.val = 4 * ((i 0 : Nat) / 1536) + (i 1 : Nat) / 1024 := rfl
  obtain ⟨e0, e1⟩ := idx2 t
  refine ⟨t, (Rect.mem_set_unit ..).mpr fun a => ?_⟩
  match a with
  | ⟨0, _⟩ =>
    show win0_2.index t (0 : Fin 2) * 1536 ≤ (i 0 : Nat) ∧ (i 0 : Nat) < win0_2.index t (0 : Fin 2) * 1536 + 1536
    omega
  | ⟨1, _⟩ =>
    show win0_2.index t (1 : Fin 2) * 1024 ≤ (i 1 : Nat) ∧ (i 1 : Nat) < win0_2.index t (1 : Fin 2) * 1024 + 1024
    omega

/-- The first array ends holding the product. -/
theorem final : (dats m 0 c).arrAt 2 cfg0.N = value m c := by
  refine (dats m 0 c).arrAt_eq_of_cover 2 (value m c) (fun t _ => flushed_eq m c t) fun i => ?_
  obtain ⟨t, h⟩ := cover i
  refine ⟨t, flush0_2 t, ?_⟩
  show i ∈ ((View.whole main_v0_0).slice (win0_2.rect t)).set
  rw [View.set_slice_whole]
  exact h

/-- The second ends holding the activation. -/
theorem final_act : (dats m 0 c).arrAt 3 cfg0.N = act m c := by
  refine (dats m 0 c).arrAt_eq_of_cover 3 (act m c) (fun t _ => flushed_act m c t) fun i => ?_
  obtain ⟨t, h⟩ := cover i
  refine ⟨t, flush0_3 t, ?_⟩
  show i ∈ ((View.whole main_v0_1).slice (win0_3.rect t)).set
  rw [View.set_slice_whole]
  exact h

/-- The run, with the result arrays at the product and its activation. -/
theorem run (ρ : Dev nD → PrngReg) : θ_run defs (onTc (τ := τ) (main (F := Ideal))) ⟨m, fun _ => 0, ρ⟩ fun r => ∀ c : Dev nD,
      r.2.mem ((c : Thread nD τ).loc main_v0_0) = value m c
      ∧ r.2.mem ((c : Thread nD τ).loc main_v0_1) = act m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2.1.trans (final_act m c), (h c).2.2⟩) (run_blocks m ρ)

/-- The reference's product is the same. -/
theorem reference_eq : Cert.Reference9Ideal.Read.val_main_v4 (F := Ideal) (m ((c : Thread nD τ).loc main_arg0)) (m ((c : Thread nD τ).loc main_arg1)) = value m c := by
  funext I
  have b1 : (I 1).val < 4096 := (I 1).isLt
  rw [Cert.Reference9Ideal.Read.val_main_v4_apply]
  show _ = ∑ l : Fin 1024, X m c (I 0).val l * W m c ((I 1).val / 1024) l ((I 1).val % 1024)
  refine Finset.sum_congr rfl fun k _ => congrArg₂ (· * ·) ?_ ?_
  · exact cell2_eq (a := 9216) (b := 1024) _ _ rfl rfl
  · have bk : k.val < 1024 := k.isLt
    rw [Cert.Reference9Ideal.Read.val_main_v3_apply, Cert.Reference9Ideal.Read.val_main_v2_apply]
    refine cell3_eq (n := 4) (a := 1024) (b := 1024) _ _ ?_ ?_ ?_
    · show (k.val * 4096 + (I 1).val) / 1024 % 4 = (I 1).val / 1024
      omega
    · show (k.val * 4096 + (I 1).val) / 4096 = k.val
      omega
    · show (k.val * 4096 + (I 1).val) % 1024 = (I 1).val % 1024
      omega

/-- And so is its activation. -/
theorem reference_act : Cert.Reference9Ideal.Read.val_main_v7 (F := Ideal) (m ((c : Thread nD τ).loc main_arg0)) (m ((c : Thread nD τ).loc main_arg1)) = act m c := by
  funext I
  exact congrArg square (congrFun (reference_eq m c) I)

end Cert.Kernel9Ideal.Value
end
end
-- ==== Proof.MixerSecond.lean ====
module

public import proofs.«01_k».proof.Proof.Product
public import proofs.«01_k».proof.Proof.Gen.Kernel10Ideal.Value
public import proofs.«01_k».proof.Proof.Gen.Reference10Ideal.Read
public import Idealize.ShloMosaic.Lib.Tactic

/-!
# The channel mixer's second product

The kernel adds up four products, one for each quarter of the wide axis.  The reference takes one product over the whole axis.
-/
@[expose] public section
set_option maxRecDepth 16384
noncomputable section
namespace Cert.Kernel10Ideal.Value
open Cert.Kernel10Ideal Cert.Kernel10Ideal.Gen Idealize.ShloMosaic Idealize.ShloMosaic.TcCoe Idealize.SL.Sem
open Idealize.ShloMosaic.Pipeline (Dat)
open Cert.Product

section
variable {F : FTy → Type} [FloatOps F]

/-- At the first chunk the body stores the chunk's product. -/
theorem out_A (c : Dev nD) (i : grid0.Coords) (a3 : Memref sig .tc .vmem S2304x1024 .bf16) (h3 : a3.IsWhole) (a4 : Memref sig .tc .vmem S1x1024x1024 .bf16) (h4 : a4.IsWhole)
    (a5 : Memref sig .tc .vmem S2304x1024 .f32) (h5 : a5.IsWhole) (hc0 : cond0_0 i) (hc1 : ¬cond0_1 i) (x : Vec F S2304x1024 .bf16) (y : Vec F S1x1024x1024 .bf16) :
    out0_A_2 c i a3 h3 a4 h4 a5 h5 hc0 hc1 x y = k0_pay1 x y := by
  unfold out0_A_2
  rw [View.read_writes_eq_canon _ _ _ (cover0_A_2 c i a3 h3 a4 h4 a5 h5 hc0 hc1 x y)]
  unfold kernelRun0_A
  dsimp only
  rw [View.canon_unit_zero hz2]
  simp only [View.readAt_eq_ld, h3.read_unread, h4.read_unread, View.ld_unit_zero (S := S2304x1024) hz2, View.ld_unit_zero (S := S1x1024x1024) hz3]

/-- At a later chunk it adds the chunk's product to what is there. -/
theorem out_B (c : Dev nD) (i : grid0.Coords) (a3 : Memref sig .tc .vmem S2304x1024 .bf16) (h3 : a3.IsWhole) (a4 : Memref sig .tc .vmem S1x1024x1024 .bf16) (h4 : a4.IsWhole)
    (a5 : Memref sig .tc .vmem S2304x1024 .f32) (h5 : a5.IsWhole) (hc0 : ¬cond0_0 i) (hc1 : cond0_1 i) (x : Vec F S2304x1024 .bf16) (y : Vec F S1x1024x1024 .bf16)
    (z : Vec F S2304x1024 .f32) : out0_B_2 c i a3 h3 a4 h4 a5 h5 hc0 hc1 x y z = addf z (k0_pay1 x y) := by
  unfold out0_B_2
  rw [View.read_writes_eq_canon _ _ _ (cover0_B_2 c i a3 h3 a4 h4 a5 h5 hc0 hc1 x y z)]
  unfold kernelRun0_B
  dsimp only
  rw [View.canon_unit_zero hz2]
  unfold k0_pay2
  simp only [View.readAt_eq_ld, h3.read_unread, h4.read_unread, h5.read_unread, View.ld_unit_zero (S := S2304x1024) hz2, View.ld_unit_zero (S := S1x1024x1024) hz3, shapeCast_self]

end

/-- A chunk's product, entry by entry. -/
theorem prod_apply {x : FVec Ideal S2304x1024 .bf16} {y : FVec Ideal S1x1024x1024 .bf16} {f g : ℕ → ℕ → EReal} (hx : Holds2 2304 1024 x f) (hy : Holds3 1024 1024 y g) :
    Holds2 2304 1024 (k0_pay1 (F := Ideal) x y) fun r d => ∑ l : Fin 1024, f r l * g l d := by
  intro r d
  unfold k0_pay1
  pointwise
  simp only [hx _ _, hy _ _]

variable (m : (ℓ : Loc nD τ sig) → Buf (Elt Ideal) ℓ) (c : Dev nD)

/-- Which block of the activations a point reads. -/
theorem idx0 : ∀ t : Fin cfg0.N, win0_0.index t (0 : Fin 2) = t.val / 4 ∧ win0_0.index t (1 : Fin 2) = t.val % 4 :=
  (by decide +kernel : ∀ t : Fin grid0.N, _)

/-- Which block of the weights a point reads. -/
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of the result a point writes. -/
theorem idx2 : ∀ t : Fin cfg0.N, win0_2.index t (0 : Fin 2) = t.val / 4 ∧ win0_2.index t (1 : Fin 2) = 0 :=
  (by decide +kernel : ∀ t : Fin grid0.N, _)

/-- The activations' entries. -/
abbrev X : ℕ → ℕ → EReal := cell2 (a := 9216) (b := 4096) (m ((c : Thread nD τ).loc main_arg0))

/-- The weights' entries. -/
abbrev W : ℕ → ℕ → ℕ → EReal := cell3 (n := 4) (a := 1024) (b := 1024) (m ((c : Thread nD τ).loc main_arg1))

/-- The block of activations. -/
theorem blk0 (t : Fin cfg0.N) : Holds2 2304 1024 (iblk m c 0 t) fun r l => X m c (2304 * (t.val / 4) + r) (1024 * (t.val % 4) + l) := by
  have h := block2 (V m c main_arg0) ((cfg0.win 0).blk t).view.emb (idx0 t) (fun _ => rfl) (fun _ => rfl)
  rw [V_main_arg0] at h
  exact h

/-- The block of weights. -/
theorem blk1 (t : Fin cfg0.N) : Holds3 1024 1024 (iblk m c 1 t) fun r l => W m c (t.val % 4) r l := by
  have h := block3 (V m c main_arg1) ((cfg0.win 1).blk t).view.emb (idx1 t) (fun _ => rfl) (fun _ => rfl) (fun _ => rfl)
  rw [V_main_arg1] at h
  exact h

/-- One chunk's product at row `i` and column `j`. -/
def part (i j s : ℕ) : EReal := ∑ l : Fin 1024, X m c i (1024 * s + l) * W m c s l j

/-- The product of a point's blocks. -/
theorem chunk (t : Fin cfg0.N) : Holds2 2304 1024 (k0_pay1 (F := Ideal) (iblk m c 0 t) (iblk m c 1 t)) fun r d => part m c (2304 * (t.val / 4) + r) d (t.val % 4) :=
  prod_apply (blk0 m c t) (blk1 m c t)

/-- After a point the block holds the sum of the products so far. -/
theorem acc (n : ℕ) (h : n < cfg0.N) : Holds2 2304 1024 (outsAt0 m c n h) fun r d => ∑ s ∈ Finset.range (n % 4 + 1), part m c (2304 * (n / 4) + r) d s :=
  sums (fun n h r d => outsAt0 m c n h (ix2 r d)) (fun q r d s => part m c (2304 * q + r) d s)
    (fun n h r d h0 => by
      rw [outsAt0_A m c ⟨n, h⟩ h0 (by dsimp only; omega), out_A]
      exact chunk m c ⟨n, h⟩ r d)
    (fun n h r d h0 => by
      rw [outsAt0_B m c ⟨n + 1, h⟩ h0 (by dsimp only; omega), out_B]
      exact congrArg (_ + ·) (chunk m c ⟨n + 1, h⟩ r d)) n h

/-- The product of the activations and the weights. -/
def value : S9216x1024.Idx → EReal := fun I => ∑ s ∈ Finset.range 4, part m c (I 0).val (I 1).val s

/-- What a point writes back is its block of the product. -/
theorem flushed_eq (t : Fin cfg0.N) (hf : (cfg0.win 2).flush t = true) : (dats m 0 c).flushed 2 t = ((cfg0.win 2).blk t).view.read (Elt Ideal) (value m c) := by
  have h3 : t.val % 4 = 3 := (flush0_2 t).mp hf
  obtain ⟨e0, e1⟩ := idx2 t
  rw [flushed2]
  funext y
  rw [View.read_apply]
  show outsAt0 m c t.val t.isLt y = value m c (((cfg0.win 2).blk t).view.emb y)
  have a0 : (((cfg0.win 2).blk t).view.emb y (0 : Fin 2)).val = win0_2.index t (0 : Fin 2) * 2304 + 1 * (y 0).val := rfl
  have a1 : (((cfg0.win 2).blk t).view.emb y (1 : Fin 2)).val = win0_2.index t (1 : Fin 2) * 1024 + 1 * (y 1).val := rfl
  refine ((acc m c t.val t.isLt).at y).trans ?_
  unfold value
  rw [h3, a0, a1, e0, e1]
  refine Finset.sum_congr rfl fun s _ => congrArg₂ (part m c · · s) ?_ ?_ <;> omega

/-- The result array ends holding the product. -/
theorem final : (dats m 0 c).arrAt 2 cfg0.N = value m c := by
  have hN : cfg0.N = 16 := N_0
  refine (dats m 0 c).arrAt_eq_of_cover 2 (value m c) (flushed_eq m c) fun i => ?_
  have b0 : (i 0 : Nat) < 9216 := (i 0).isLt
  have b1 : (i 1 : Nat) < 1024 := (i 1).isLt
  let t : Fin cfg0.N := ⟨4 * ((i 0 : Nat) / 2304) + 3, by omega⟩
  have ht : t.val = 4 * ((i 0 : Nat) / 2304) + 3 := rfl
  obtain ⟨e0, e1⟩ := idx2 t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 2304 ≤ (i 0 : Nat) ∧ (i 0 : Nat) < win0_2.index t (0 : Fin 2) * 2304 + 2304
    omega
  | ⟨1, _⟩ =>
    show win0_2.index t (1 : Fin 2) * 1024 ≤ (i 1 : Nat) ∧ (i 1 : Nat) < win0_2.index t (1 : Fin 2) * 1024 + 1024
    omega

/-- The run, with the result array at the product. -/
theorem run (ρ : Dev nD → PrngReg) : θ_run defs (onTc (τ := τ) (main (F := Ideal))) ⟨m, fun _ => 0, ρ⟩ fun r => ∀ c : Dev nD,
      r.2.mem ((c : Thread nD τ).loc main_v0) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's product over the whole axis is the sum of the four. -/
theorem reference_eq : Cert.Reference10Ideal.Read.val_main_v3 (F := Ideal) (m ((c : Thread nD τ).loc main_arg0)) (m ((c : Thread nD τ).loc main_arg1)) = value m c := by
  funext I
  have b1 : (I 1).val < 1024 := (I 1).isLt
  rw [Cert.Reference10Ideal.Read.val_main_v3_apply]
  refine Eq.trans ?_ (sum_chunks (fun k => X m c (I 0).val k * W m c (k / 1024) (k % 1024) (I 1).val) 1024 4).symm |>.trans ?_
  · refine Finset.sum_congr rfl fun k _ => congrArg₂ (· * ·) ?_ ?_
    · exact cell2_eq (a := 9216) (b := 4096) _ _ rfl rfl
    · have bk : k.val < 4096 := k.isLt
      rw [Cert.Reference10Ideal.Read.val_main_v2_apply]
      refine cell3_eq (n := 4) (a := 1024) (b := 1024) _ _ ?_ ?_ ?_
      · show (k.val * 1024 + (I 1).val) / 1048576 = k.val / 1024
        omega
      · show (k.val * 1024 + (I 1).val) / 1024 % 1024 = k.val % 1024
        omega
      · show (k.val * 1024 + (I 1).val) % 1024 = (I 1).val
        omega
  · refine Finset.sum_congr rfl fun s _ => Finset.sum_congr rfl fun l _ => ?_
    have hl : l.val < 1024 := l.isLt
    rw [show (1024 * s + l.val) / 1024 = s by omega, show (1024 * s + l.val) % 1024 = l.val by omega]

end Cert.Kernel10Ideal.Value
end
end
-- ==== Proof.ProjectIn.lean ====
module

public import proofs.«01_k».proof.Proof.Product
public import proofs.«01_k».proof.Proof.Gen.Kernel8Ideal.Value
public import proofs.«01_k».proof.Proof.Gen.Reference8Ideal.Read
public import Idealize.ShloMosaic.Lib.Tactic

/-!
# The projection in

A point of the grid takes one product, of a quarter of the rows and a quarter of the columns.  The reference takes the whole product.
-/
@[expose] public section
set_option maxRecDepth 16384
noncomputable section
namespace Cert.Kernel8Ideal.Value
open Cert.Kernel8Ideal Cert.Kernel8Ideal.Gen Idealize.ShloMosaic Idealize.ShloMosaic.TcCoe Idealize.SL.Sem
open Idealize.ShloMosaic.Pipeline (Dat)
open Cert.Product

/-- The body stores the product of its blocks. -/
theorem out_eq {F : FTy → Type} [FloatOps F] (x : Vec F S2304x1024 .bf16) (y : Vec F S1x1024x1152 .bf16) : out0_2 x y = k0_pay1 x y := by
  unfold out0_2
  rw [View.canon_unit_zero hz2]
  simp only [View.ld_unit_zero (S := S2304x1024) hz2, View.ld_unit_zero (S := S1x1024x1152) hz3]

/-- The product, entry by entry. -/
theorem prod_apply {x : FVec Ideal S2304x1024 .bf16} {y : FVec Ideal S1x1024x1152 .bf16} {f g : ℕ → ℕ → EReal} (hx : Holds2 2304 1024 x f) (hy : Holds3 1024 1152 y g) :
    Holds2 2304 1152 (k0_pay1 (F := Ideal) x y) fun r d => ∑ l : Fin 1024, f r l * g l d := by
  intro r d
  unfold k0_pay1
  pointwise
  simp only [hx _ _, hy _ _]

variable (m : (ℓ : Loc nD τ sig) → Buf (Elt Ideal) ℓ) (c : Dev nD)

/-- Which block of the inputs a point reads. -/
theorem idx0 : ∀ t : Fin cfg0.N, win0_0.index t (0 : Fin 2) = t.val / 4 ∧ win0_0.index t (1 : Fin 2) = 0 :=
  (by decide +kernel : ∀ t : Fin grid0.N, _)

/-- Which block of the weights a point reads. -/
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of the result a point writes. -/
theorem idx2 : ∀ t : Fin cfg0.N, win0_2.index t (0 : Fin 2) = t.val / 4 ∧ win0_2.index t (1 : Fin 2) = t.val % 4 :=
  (by decide +kernel : ∀ t : Fin grid0.N, _)

/-- The inputs' entries. -/
abbrev X : ℕ → ℕ → EReal := cell2 (a := 9216) (b := 1024) (m ((c : Thread nD τ).loc main_arg0))

/-- The weights' entries. -/
abbrev W : ℕ → ℕ → ℕ → EReal := cell3 (n := 4) (a := 1024) (b := 1152) (m ((c : Thread nD τ).loc main_arg1))

/-- The block of inputs. -/
theorem blk0 (t : Fin cfg0.N) : Holds2 2304 1024 (iblk m c 0 t) fun r l => X m c (2304 * (t.val / 4) + r) l := by
  have h := block2 (V m c main_arg0) ((cfg0.win 0).blk t).view.emb (idx0 t) (fun _ => rfl) (fun _ => rfl)
  rw [V_main_arg0] at h
  simp only [Nat.mul_zero, Nat.zero_add] at h
  exact h

/-- The block of weights. -/
theorem blk1 (t : Fin cfg0.N) : Holds3 1024 1152 (iblk m c 1 t) fun r l => W m c (t.val % 4) r l := by
  have h := block3 (V m c main_arg1) ((cfg0.win 1).blk t).view.emb (idx1 t) (fun _ => rfl) (fun _ => rfl) (fun _ => rfl)
  rw [V_main_arg1] at h
  exact h

/-- The product at row `i`, group `s` and column `j` of the group. -/
def entry (i s j : ℕ) : EReal := ∑ l : Fin 1024, X m c i l * W m c s l j

/-- The product of the inputs and the weights. -/
def value : S9216x4608.Idx → EReal := fun I => entry m c (I 0).val ((I 1).val / 1152) ((I 1).val % 1152)

/-- What a point writes back is its block of the product. -/
theorem flushed_eq (t : Fin cfg0.N) : (dats m 0 c).flushed 2 t = ((cfg0.win 2).blk t).view.read (Elt Ideal) (value m c) := by
  obtain ⟨e0, e1⟩ := idx2 t
  rw [flushed2, out_eq]
  funext y
  rw [View.read_apply]
  show k0_pay1 (F := Ideal) (iblk m c 0 t) (iblk m c 1 t) y = value m c (((cfg0.win 2).blk t).view.emb y)
  have b1 : (y 1).val < 1152 := (y 1).isLt
  have a0 : (((cfg0.win 2).blk t).view.emb y (0 : Fin 2)).val = win0_2.index t (0 : Fin 2) * 2304 + 1 * (y 0).val := rfl
  have a1 : (((cfg0.win 2).blk t).view.emb y (1 : Fin 2)).val = win0_2.index t (1 : Fin 2) * 1152 + 1 * (y 1).val := rfl
  refine ((prod_apply (blk0 m c t) (blk1 m c t)).at y).trans ?_
  show entry m c (2304 * (t.val / 4) + (y 0).val) (t.val % 4) (y 1).val = _
  unfold value
  rw [a0, a1, e0, e1, show 2304 * (t.val / 4) + (y 0).val = t.val / 4 * 2304 + 1 * (y 0).val by omega, show (t.val % 4 * 1152 + 1 * (y 1).val) / 1152 = t.val % 4 by omega,
    show (t.val % 4 * 1152 + 1 * (y 1).val) % 1152 = (y 1).val by omega]

/-- The result array ends holding the product. -/
theorem final : (dats m 0 c).arrAt 2 cfg0.N = value m c := by
  have hN : cfg0.N = 16 := N_0
  refine (dats m 0 c).arrAt_eq_of_cover 2 (value m c) (fun t _ => flushed_eq m c t) fun i => ?_
  have b0 : (i 0 : Nat) < 9216 := (i 0).isLt
  have b1 : (i 1 : Nat) < 4608 := (i 1).isLt
  let t : Fin cfg0.N := ⟨4 * ((i 0 : Nat) / 2304) + (i 1 : Nat) / 1152, by omega⟩
  have ht : t.val = 4 * ((i 0 : Nat) / 2304) + (i 1 : Nat) / 1152 := rfl
  obtain ⟨e0, e1⟩ := idx2 t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 2304 ≤ (i 0 : Nat) ∧ (i 0 : Nat) < win0_2.index t (0 : Fin 2) * 2304 + 2304
    omega
  | ⟨1, _⟩ =>
    show win0_2.index t (1 : Fin 2) * 1152 ≤ (i 1 : Nat) ∧ (i 1 : Nat) < win0_2.index t (1 : Fin 2) * 1152 + 1152
    omega

/-- The run, with the result array at the product. -/
theorem run (ρ : Dev nD → PrngReg) : θ_run defs (onTc (τ := τ) (main (F := Ideal))) ⟨m, fun _ => 0, ρ⟩ fun r => ∀ c : Dev nD,
      r.2.mem ((c : Thread nD τ).loc main_v0) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's product is the same. -/
theorem reference_eq : Cert.Reference8Ideal.Read.val_main_v4 (F := Ideal) (m ((c : Thread nD τ).loc main_arg0)) (m ((c : Thread nD τ).loc main_arg1)) = value m c := by
  funext I
  have b1 : (I 1).val < 4608 := (I 1).isLt
  rw [Cert.Reference8Ideal.Read.val_main_v4_apply]
  show _ = ∑ l : Fin 1024, X m c (I 0).val l * W m c ((I 1).val / 1152) l ((I 1).val % 1152)
  refine Finset.sum_congr rfl fun k _ => congrArg₂ (· * ·) ?_ ?_
  · exact cell2_eq (a := 9216) (b := 1024) _ _ rfl rfl
  · have bk : k.val < 1024 := k.isLt
    rw [Cert.Reference8Ideal.Read.val_main_v3_apply, Cert.Reference8Ideal.Read.val_main_v2_apply]
    refine cell3_eq (n := 4) (a := 1024) (b := 1152) _ _ ?_ ?_ ?_
    · show (k.val * 4608 + (I 1).val) / 1152 % 4 = (I 1).val / 1152
      omega
    · show (k.val * 4608 + (I 1).val) / 4608 = k.val
      omega
    · show (k.val * 4608 + (I 1).val) % 1152 = (I 1).val % 1152
      omega

end Cert.Kernel8Ideal.Value
end
end
-- ==== Proof.ProjectInInput.lean ====
module

public import proofs.«01_k».proof.Proof.Product
public import proofs.«01_k».proof.Proof.Gen.Kernel6Ideal.Value
public import proofs.«01_k».proof.Proof.Gen.Reference6Ideal.Read
public import Idealize.ShloMosaic.Lib.Tactic

/-!
# The gradient of the input of the projection in

The kernel adds up four products, one for each quarter of the wide axis.  The reference takes one product over the whole axis.
-/
@[expose] public section
set_option maxRecDepth 16384
noncomputable section
namespace Cert.Kernel6Ideal.Value
open Cert.Kernel6Ideal Cert.Kernel6Ideal.Gen Idealize.ShloMosaic Idealize.ShloMosaic.TcCoe Idealize.SL.Sem
open Idealize.ShloMosaic.Pipeline (Dat)
open Cert.Product

section
variable {F : FTy → Type} [FloatOps F]

/-- At the first chunk the body stores the chunk's product. -/
theorem out_A (c : Dev nD) (i : grid0.Coords) (a3 : Memref sig .tc .vmem S2304x1152 .bf16) (h3 : a3.IsWhole) (a4 : Memref sig .tc .vmem S1x1024x1152 .bf16) (h4 : a4.IsWhole)
    (a5 : Memref sig .tc .vmem S2304x1024 .f32) (h5 : a5.IsWhole) (hc0 : cond0_0 i) (hc1 : ¬cond0_1 i) (x : Vec F S2304x1152 .bf16) (y : Vec F S1x1024x1152 .bf16) :
    out0_A_2 c i a3 h3 a4 h4 a5 h5 hc0 hc1 x y = k0_pay1 x y := by
  unfold out0_A_2
  rw [View.read_writes_eq_canon _ _ _ (cover0_A_2 c i a3 h3 a4 h4 a5 h5 hc0 hc1 x y)]
  unfold kernelRun0_A
  dsimp only
  rw [View.canon_unit_zero hz2]
  simp only [View.readAt_eq_ld, h3.read_unread, h4.read_unread, View.ld_unit_zero (S := S2304x1152) hz2, View.ld_unit_zero (S := S1x1024x1152) hz3]

/-- At a later chunk it adds the chunk's product to what is there. -/
theorem out_B (c : Dev nD) (i : grid0.Coords) (a3 : Memref sig .tc .vmem S2304x1152 .bf16) (h3 : a3.IsWhole) (a4 : Memref sig .tc .vmem S1x1024x1152 .bf16) (h4 : a4.IsWhole)
    (a5 : Memref sig .tc .vmem S2304x1024 .f32) (h5 : a5.IsWhole) (hc0 : ¬cond0_0 i) (hc1 : cond0_1 i) (x : Vec F S2304x1152 .bf16) (y : Vec F S1x1024x1152 .bf16)
    (z : Vec F S2304x1024 .f32) : out0_B_2 c i a3 h3 a4 h4 a5 h5 hc0 hc1 x y z = addf z (k0_pay1 x y) := by
  unfold out0_B_2
  rw [View.read_writes_eq_canon _ _ _ (cover0_B_2 c i a3 h3 a4 h4 a5 h5 hc0 hc1 x y z)]
  unfold kernelRun0_B
  dsimp only
  rw [View.canon_unit_zero hz2]
  unfold k0_pay2
  simp only [View.readAt_eq_ld, h3.read_unread, h4.read_unread, h5.read_unread, View.ld_unit_zero (S := S2304x1152) hz2, View.ld_unit_zero (S := S1x1024x1152) hz3, View.ld_unit_zero (S := S2304x1024) hz2, shapeCast_self]

end

/-- A chunk's product, entry by entry. -/
theorem prod_apply {x : FVec Ideal S2304x1152 .bf16} {y : FVec Ideal S1x1024x1152 .bf16} {f g : ℕ → ℕ → EReal} (hx : Holds2 2304 1152 x f) (hy : Holds3 1024 1152 y g) :
    Holds2 2304 1024 (k0_pay1 (F := Ideal) x y) fun r d => ∑ l : Fin 1152, f r l * g d l := by
  intro r d
  unfold k0_pay1
  pointwise
  simp only [hx _ _, hy _ _]

variable (m : (ℓ : Loc nD τ sig) → Buf (Elt Ideal) ℓ) (c : Dev nD)

/-- Which block of the cotangents a point reads. -/
theorem idx0 : ∀ t : Fin cfg0.N, win0_0.index t (0 : Fin 2) = t.val / 4 ∧ win0_0.index t (1 : Fin 2) = t.val % 4 :=
  (by decide +kernel : ∀ t : Fin grid0.N, _)

/-- Which block of the weights a point reads. -/
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of the result a point writes. -/
theorem idx2 : ∀ t : Fin cfg0.N, win0_2.index t (0 : Fin 2) = t.val / 4 ∧ win0_2.index t (1 : Fin 2) = 0 :=
  (by decide +kernel : ∀ t : Fin grid0.N, _)

/-- The cotangents' entries. -/
abbrev X : ℕ → ℕ → EReal := cell2 (a := 9216) (b := 4608) (m ((c : Thread nD τ).loc main_arg0))

/-- The weights' entries. -/
abbrev W : ℕ → ℕ → ℕ → EReal := cell3 (n := 4) (a := 1024) (b := 1152) (m ((c : Thread nD τ).loc main_arg1))

/-- The block of cotangents. -/
theorem blk0 (t : Fin cfg0.N) : Holds2 2304 1152 (iblk m c 0 t) fun r l => X m c (2304 * (t.val / 4) + r) (1152 * (t.val % 4) + l) := by
  have h := block2 (V m c main_arg0) ((cfg0.win 0).blk t).view.emb (idx0 t) (fun _ => rfl) (fun _ => rfl)
  rw [V_main_arg0] at h
  exact h

/-- The block of weights. -/
theorem blk1 (t : Fin cfg0.N) : Holds3 1024 1152 (iblk m c 1 t) fun r l => W m c (t.val % 4) r l := by
  have h := block3 (V m c main_arg1) ((cfg0.win 1).blk t).view.emb (idx1 t) (fun _ => rfl) (fun _ => rfl) (fun _ => rfl)
  rw [V_main_arg1] at h
  exact h

/-- One chunk's product at row `i` and column `j`. -/
def part (i j s : ℕ) : EReal := ∑ l : Fin 1152, X m c i (1152 * s + l) * W m c s j l

/-- The product of a point's blocks. -/
theorem chunk (t : Fin cfg0.N) : Holds2 2304 1024 (k0_pay1 (F := Ideal) (iblk m c 0 t) (iblk m c 1 t)) fun r d => part m c (2304 * (t.val / 4) + r) d (t.val % 4) :=
  prod_apply (blk0 m c t) (blk1 m c t)

/-- After a point the block holds the sum of the products so far. -/
theorem acc (n : ℕ) (h : n < cfg0.N) : Holds2 2304 1024 (outsAt0 m c n h) fun r d => ∑ s ∈ Finset.range (n % 4 + 1), part m c (2304 * (n / 4) + r) d s :=
  sums (fun n h r d => outsAt0 m c n h (ix2 r d)) (fun q r d s => part m c (2304 * q + r) d s)
    (fun n h r d h0 => by
      rw [outsAt0_A m c ⟨n, h⟩ h0 (by dsimp only; omega), out_A]
      exact chunk m c ⟨n, h⟩ r d)
    (fun n h r d h0 => by
      rw [outsAt0_B m c ⟨n + 1, h⟩ h0 (by dsimp only; omega), out_B]
      exact congrArg (_ + ·) (chunk m c ⟨n + 1, h⟩ r d)) n h

/-- The gradient: the cotangents times the transposed weights. -/
def grad : S9216x1024.Idx → EReal := fun I => ∑ s ∈ Finset.range 4, part m c (I 0).val (I 1).val s

/-- What a point writes back is its block of the gradient. -/
theorem flushed_eq (t : Fin cfg0.N) (hf : (cfg0.win 2).flush t = true) : (dats m 0 c).flushed 2 t = ((cfg0.win 2).blk t).view.read (Elt Ideal) (grad m c) := by
  have h3 : t.val % 4 = 3 := (flush0_2 t).mp hf
  obtain ⟨e0, e1⟩ := idx2 t
  rw [flushed2]
  funext y
  rw [View.read_apply]
  show outsAt0 m c t.val t.isLt y = grad m c (((cfg0.win 2).blk t).view.emb y)
  have a0 : (((cfg0.win 2).blk t).view.emb y (0 : Fin 2)).val = win0_2.index t (0 : Fin 2) * 2304 + 1 * (y 0).val := rfl
  have a1 : (((cfg0.win 2).blk t).view.emb y (1 : Fin 2)).val = win0_2.index t (1 : Fin 2) * 1024 + 1 * (y 1).val := rfl
  refine ((acc m c t.val t.isLt).at y).trans ?_
  unfold grad
  rw [h3, a0, a1, e0, e1]
  refine Finset.sum_congr rfl fun s _ => congrArg₂ (part m c · · s) ?_ ?_ <;> omega

/-- The result array ends holding the gradient. -/
theorem final : (dats m 0 c).arrAt 2 cfg0.N = grad m c := by
  have hN : cfg0.N = 16 := N_0
  refine (dats m 0 c).arrAt_eq_of_cover 2 (grad m c) (flushed_eq m c) fun i => ?_
  have b0 : (i 0 : Nat) < 9216 := (i 0).isLt
  have b1 : (i 1 : Nat) < 1024 := (i 1).isLt
  let t : Fin cfg0.N := ⟨4 * ((i 0 : Nat) / 2304) + 3, by omega⟩
  have ht : t.val = 4 * ((i 0 : Nat) / 2304) + 3 := rfl
  obtain ⟨e0, e1⟩ := idx2 t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 2304 ≤ (i 0 : Nat) ∧ (i 0 : Nat) < win0_2.index t (0 : Fin 2) * 2304 + 2304
    omega
  | ⟨1, _⟩ =>
    show win0_2.index t (1 : Fin 2) * 1024 ≤ (i 1 : Nat) ∧ (i 1 : Nat) < win0_2.index t (1 : Fin 2) * 1024 + 1024
    omega

/-- The run, with the result array at the gradient. -/
theorem run (ρ : Dev nD → PrngReg) : θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's product over the whole axis is the sum of the four. -/
theorem reference_eq : Cert.Reference6Ideal.Read.val_main_v6 (F := Ideal) (m ((c : Thread nD τ).loc main_arg0)) (m ((c : Thread nD τ).loc main_arg1)) = grad m c := by
  funext I
  have b1 : (I 1).val < 1024 := (I 1).isLt
  rw [Cert.Reference6Ideal.Read.val_main_v6_apply]
  refine Eq.trans ?_ (sum_chunks (fun k => X m c (I 0).val k * W m c (k / 1152) (I 1).val (k % 1152)) 1152 4).symm |>.trans ?_
  · refine Finset.sum_congr rfl fun k _ => congrArg₂ (· * ·) ?_ ?_
    · exact cell2_eq (a := 9216) (b := 4608) _ _ rfl rfl
    · have bk : k.val < 4608 := k.isLt
      rw [Cert.Reference6Ideal.Read.val_main_v3_apply, Cert.Reference6Ideal.Read.val_main_v2_apply]
      refine cell3_eq (n := 4) (a := 1024) (b := 1152) _ _ ?_ ?_ ?_
      · show ((I 1).val * 4608 + k.val) / 1152 % 4 = k.val / 1152
        omega
      · show ((I 1).val * 4608 + k.val) / 4608 = (I 1).val
        omega
      · show ((I 1).val * 4608 + k.val) % 1152 = k.val % 1152
        omega
  · refine Finset.sum_congr rfl fun s _ => Finset.sum_congr rfl fun l _ => ?_
    have hl : l.val < 1152 := l.isLt
    rw [show (1152 * s + l.val) / 1152 = s by omega, show (1152 * s + l.val) % 1152 = l.val by omega]

end Cert.Kernel6Ideal.Value
end
end
-- ==== Proof.ProjectInWeights.lean ====
module

public import proofs.«01_k».proof.Proof.Product
public import proofs.«01_k».proof.Proof.Gen.Kernel7Ideal.Value
public import proofs.«01_k».proof.Proof.Gen.Reference7Ideal.Read
public import Idealize.ShloMosaic.Lib.Tactic

/-!
# The gradient of the weights of the projection in

The kernel adds up four products, one for each quarter of the rows, and keeps the sum in two formats.  The reference takes one product
over all rows.
-/
@[expose] public section
set_option maxRecDepth 16384
noncomputable section
namespace Cert.Kernel7Ideal.Value
open Cert.Kernel7Ideal Cert.Kernel7Ideal.Gen Idealize.ShloMosaic Idealize.ShloMosaic.TcCoe Idealize.SL.Sem
open Idealize.ShloMosaic.Pipeline (Dat)
open Cert.Product

section
variable {F : FTy → Type} [FloatOps F]
variable (c : Dev nD) (i : grid0.Coords) (a3 : Memref sig .tc .vmem S2304x1024 .bf16) (h3 : a3.IsWhole) (a4 : Memref sig .tc .vmem S2304x1152 .bf16) (h4 : a4.IsWhole)
    (a5 : Memref sig .tc .vmem S1x1024x1152 .f32) (h5 : a5.IsWhole) (a6 : Memref sig .tc .vmem S1x1024x1152 .bf16) (h6 : a6.IsWhole) (x : Vec F S2304x1024 .bf16) (y : Vec F S2304x1152 .bf16)

/-- At the first chunk the body stores the chunk's product. -/
theorem out_A (hc0 : cond0_0 i) (hc1 : ¬cond0_1 i) (hc2 : ¬cond0_2 i) : out0_A_2 c i a3 h3 a4 h4 a5 h5 a6 h6 hc0 hc1 hc2 x y = k0_pay2 x y := by
  unfold out0_A_2
  rw [View.read_writes_eq_canon _ _ _ (cover0_A_2 c i a3 h3 a4 h4 a5 h5 a6 h6 hc0 hc1 hc2 x y)]
  unfold kernelRun0_A
  dsimp only
  rw [View.canon_unit_zero hz3]
  simp only [View.readAt_eq_ld, h3.read_unread, h4.read_unread, View.ld_unit_zero (S := S2304x1024) hz2, View.ld_unit_zero (S := S2304x1152) hz2]

variable (z : Vec F S1x1024x1152 .f32)

/-- At a later chunk it adds the chunk's product to what is there. -/
theorem out_B (hc0 : ¬cond0_0 i) (hc1 : cond0_1 i) (hc2 : ¬cond0_2 i) : out0_B_2 c i a3 h3 a4 h4 a5 h5 a6 h6 hc0 hc1 hc2 x y z = k0_pay3 x y z := by
  unfold out0_B_2
  rw [View.read_writes_eq_canon _ _ _ (cover0_B_2 c i a3 h3 a4 h4 a5 h5 a6 h6 hc0 hc1 hc2 x y z)]
  unfold kernelRun0_B
  dsimp only
  rw [View.canon_unit_zero hz3]
  simp only [View.readAt_eq_ld, h3.read_unread, h4.read_unread, h5.read_unread, View.ld_unit_zero (S := S2304x1024) hz2, View.ld_unit_zero (S := S2304x1152) hz2, View.ld_unit_zero (S := S1x1024x1152) hz3]

/-- At the last chunk too. -/
theorem out_C (hc0 : ¬cond0_0 i) (hc1 : cond0_1 i) (hc2 : cond0_2 i) : out0_C_2 c i a3 h3 a4 h4 a5 h5 a6 h6 hc0 hc1 hc2 x y z = k0_pay3 x y z := by
  unfold out0_C_2
  rw [View.read_writes_eq_canon _ _ _ (cover0_C_2 c i a3 h3 a4 h4 a5 h5 a6 h6 hc0 hc1 hc2 x y z)]
  unfold kernelRun0_C
  dsimp only
  sl_unfold_words
  rw [View.canon_unit_zero hz3]
  simp only [View.readAt_eq_ld, h3.read_unread, h4.read_unread, h5.read_unread, View.ld_unit_zero (S := S2304x1024) hz2, View.ld_unit_zero (S := S2304x1152) hz2, View.ld_unit_zero (S := S1x1024x1152) hz3]

/-- The last chunk also stores the sum in the shorter format. -/
theorem short_C (hc0 : ¬cond0_0 i) (hc1 : cond0_1 i) (hc2 : cond0_2 i) : out0_C_3 c i a3 h3 a4 h4 a5 h5 a6 h6 hc0 hc1 hc2 x y z = k0_pay4 (k0_pay3 x y z) := by
  unfold out0_C_3
  rw [View.read_writes_eq_canon _ _ _ (cover0_C_3 c i a3 h3 a4 h4 a5 h5 a6 h6 hc0 hc1 hc2 x y z)]
  unfold kernelRun0_C
  dsimp only
  sl_unfold_words
  rw [View.canon_unit_zero hz3, View.readCov_unit_zero (S := S1x1024x1152) _ hz3]
  simp only [View.readAt_eq_ld, h3.read_unread, h4.read_unread, h5.read_unread, View.ld_unit_zero (S := S2304x1024) hz2, View.ld_unit_zero (S := S2304x1152) hz2, View.ld_unit_zero (S := S1x1024x1152) hz3]

end

section
variable {x : FVec Ideal S2304x1024 .bf16} {y : FVec Ideal S2304x1152 .bf16} {f g : ℕ → ℕ → EReal} (hx : Holds2 2304 1024 x f) (hy : Holds2 2304 1152 y g)
include hx hy

/-- The first chunk's product, entry by entry. -/
theorem first_apply : Holds3 1024 1152 (k0_pay2 (F := Ideal) x y) fun r d => ∑ l : Fin 2304, f l r * g l d := by
  intro r d
  unfold k0_pay2 k0_pay1
  pointwise
  simp only [hx _ _, hy _ _]

/-- A later chunk's product added, entry by entry. -/
theorem next_apply (z : FVec Ideal S1x1024x1152 .f32) (r : Fin 1024) (d : Fin 1152) : k0_pay3 (F := Ideal) x y z (ix3 0 r d) = z (ix3 0 r d) + ∑ l : Fin 2304, f l r * g l d := by
  unfold k0_pay3 k0_pay1
  pointwise
  simp only [hx _ _, hy _ _]

end

/-- The shorter format holds the same reals. -/
theorem short_apply (z : FVec Ideal S1x1024x1152 .f32) (i : S1x1024x1152.Idx) : k0_pay4 (F := Ideal) z i = z i := by
  rw [eq_one i]
  unfold k0_pay4
  pointwise
  exact congrArg z (eq_one i)

variable (m : (ℓ : Loc nD τ sig) → Buf (Elt Ideal) ℓ) (c : Dev nD)

/-- Which block of the inputs a point reads. -/
theorem idx0 : ∀ t : Fin cfg0.N, win0_0.index t (0 : Fin 2) = t.val % 4 ∧ win0_0.index t (1 : Fin 2) = 0 :=
  (by decide +kernel : ∀ t : Fin grid0.N, _)

/-- Which block of the cotangents a point reads. -/
theorem idx1 : ∀ t : Fin cfg0.N, win0_1.index t (0 : Fin 2) = t.val % 4 ∧ win0_1.index t (1 : Fin 2) = t.val / 4 :=
  (by decide +kernel : ∀ t : Fin grid0.N, _)

/-- Which block of the result a point writes. -/
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

/-- Which block of the short result a point writes. -/
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, _)

/-- The inputs' entries. -/
abbrev X : ℕ → ℕ → EReal := cell2 (a := 9216) (b := 1024) (m ((c : Thread nD τ).loc main_arg0))

/-- The cotangents' entries. -/
abbrev Y : ℕ → ℕ → EReal := cell2 (a := 9216) (b := 4608) (m ((c : Thread nD τ).loc main_arg1))

/-- The block of inputs. -/
theorem blk0 (t : Fin cfg0.N) : Holds2 2304 1024 (iblk m c 0 t) fun r l => X m c (2304 * (t.val % 4) + r) l := by
  have h := block2 (V m c main_arg0) ((cfg0.win 0).blk t).view.emb (idx0 t) (fun _ => rfl) (fun _ => rfl)
  rw [V_main_arg0] at h
  simp only [Nat.mul_zero, Nat.zero_add] at h
  exact h

/-- The block of cotangents. -/
theorem blk1 (t : Fin cfg0.N) : Holds2 2304 1152 (iblk m c 1 t) fun r l => Y m c (2304 * (t.val % 4) + r) (1152 * (t.val / 4) + l) := by
  have h := block2 (V m c main_arg1) ((cfg0.win 1).blk t).view.emb (idx1 t) (fun _ => rfl) (fun _ => rfl)
  rw [V_main_arg1] at h
  exact h

/-- One chunk's product at row `i` and column `j`. -/
def part (i j s : ℕ) : EReal := ∑ l : Fin 2304, X m c (2304 * s + l) i * Y m c (2304 * s + l) j

/-- After a point the block holds the sum of the products so far. -/
theorem acc (n : ℕ) (h : n < cfg0.N) : Holds3 1024 1152 (outsAt0 m c n h).1 fun r d => ∑ s ∈ Finset.range (n % 4 + 1), part m c r (1152 * (n / 4) + d) s :=
  sums (fun n h r d => (outsAt0 m c n h).1 (ix3 0 r d)) (fun q r d s => part m c r (1152 * q + d) s)
    (fun n h r d h0 => by
      rw [outsAt0_A m c ⟨n, h⟩ h0 (by dsimp only; omega) (by dsimp only; omega)]
      dsimp only
      rw [out_A]
      exact first_apply (blk0 m c ⟨n, h⟩) (blk1 m c ⟨n, h⟩) r d)
    (fun n h r d h0 => by
      refine Eq.trans ?_ (next_apply (blk0 m c ⟨n + 1, h⟩) (blk1 m c ⟨n + 1, h⟩) _ r d)
      by_cases h3 : (n + 1) % 4 = 3
      · rw [outsAt0_C m c ⟨n + 1, h⟩ h0 (by dsimp only; omega) h3]
        dsimp only
        rw [out_C]
        rfl
      · rw [outsAt0_B m c ⟨n + 1, h⟩ h0 (by dsimp only; omega) h3]
        dsimp only
        rw [out_B]
        rfl) n h

/-- At the last point of a block the two formats hold the same reals. -/
theorem short_eq (t : Fin cfg0.N) (h3 : t.val % 4 = 3) (y : S1x1024x1152.Idx) : (outsAt0 m c t.val t.isLt).2 y = (outsAt0 m c t.val t.isLt).1 y := by
  rw [outsAt0_C m c t (by omega) (by omega) h3]
  dsimp only
  rw [out_C, short_C]
  exact short_apply _ y

/-- The gradient: the transposed inputs times the cotangents, the columns in four groups. -/
def grad : S4x1024x1152.Idx → EReal := fun I => ∑ s ∈ Finset.range 4, part m c (I 1).val (1152 * (I 0).val + (I 2).val) s

/-- What a last point's block holds. -/
theorem block (t : Fin cfg0.N) (h3 : t.val % 4 = 3) (y : S1x1024x1152.Idx) : (outsAt0 m c t.val t.isLt).1 y = grad m c (((cfg0.win 2).blk t).view.emb y) := by
  obtain ⟨e0, e1, e2⟩ := idx2 t
  have hy : (y 0).val = 0 := Nat.lt_one_iff.mp (y 0).isLt
  have a0 : (((cfg0.win 2).blk t).view.emb y (0 : Fin 3)).val = win0_2.index t (0 : Fin 3) * 1 + 1 * (y 0).val := rfl
  have a1 : (((cfg0.win 2).blk t).view.emb y (1 : Fin 3)).val = win0_2.index t (1 : Fin 3) * 1024 + 1 * (y 1).val := rfl
  have a2 : (((cfg0.win 2).blk t).view.emb y (2 : Fin 3)).val = win0_2.index t (2 : Fin 3) * 1152 + 1 * (y 2).val := rfl
  refine ((acc m c t.val t.isLt).at y).trans ?_
  unfold grad
  rw [h3, a0, a1, a2, e0, e1, e2, hy]
  refine Finset.sum_congr rfl fun s _ => congrArg₂ (part m c · · s) ?_ ?_ <;> omega

/-- What a point writes back is its block of the gradient. -/
theorem flushed_eq (t : Fin cfg0.N) (hf : (cfg0.win 2).flush t = true) : (dats m 0 c).flushed 2 t = ((cfg0.win 2).blk t).view.read (Elt Ideal) (grad m c) := by
  rw [flushed2]
  funext y
  rw [View.read_apply]
  exact block m c t ((flush0_2 t).mp hf) y

/-- And so in the shorter format. -/
theorem flushed_short (t : Fin cfg0.N) (hf : (cfg0.win 3).flush t = true) : (dats m 0 c).flushed 3 t = ((cfg0.win 3).blk t).view.read (Elt Ideal) (grad m c) := by
  rw [flushed3]
  funext y
  rw [View.read_apply]
  exact (short_eq m c t ((flush0_3 t).mp hf) y).trans (block m c t ((flush0_3 t).mp hf) y)

/-- Every entry lies in the block of some last point. -/
theorem cover (i : S4x1024x1152.Idx) : ∃ t : Fin cfg0.N, t.val % 4 = 3 ∧ i ∈ (win0_2.rect t).set := by
  have hN : cfg0.N = 16 := N_0
  have b0 : (i 0 : Nat) < 4 := (i 0).isLt
  have b1 : (i 1 : Nat) < 1024 := (i 1).isLt
  have b2 : (i 2 : Nat) < 1152 := (i 2).isLt
  let t : Fin cfg0.N := ⟨4 * (i 0 : Nat) + 3, by omega⟩
  have ht : t.val = 4 * (i 0 : Nat) + 3 := rfl
  obtain ⟨e0, e1, e2⟩ := idx2 t
  refine ⟨t, by omega, (Rect.mem_set_unit ..).mpr fun a => ?_⟩
  match a with
  | ⟨0, _⟩ =>
    show win0_2.index t (0 : Fin 3) * 1 ≤ (i 0 : Nat) ∧ (i 0 : Nat) < win0_2.index t (0 : Fin 3) * 1 + 1
    omega
  | ⟨1, _⟩ =>
    show win0_2.index t (1 : Fin 3) * 1024 ≤ (i 1 : Nat) ∧ (i 1 : Nat) < win0_2.index t (1 : Fin 3) * 1024 + 1024
    omega
  | ⟨2, _⟩ =>
    show win0_2.index t (2 : Fin 3) * 1152 ≤ (i 2 : Nat) ∧ (i 2 : Nat) < win0_2.index t (2 : Fin 3) * 1152 + 1152
    omega

/-- The result array ends holding the gradient. -/
theorem final : (dats m 0 c).arrAt 2 cfg0.N = grad m c := by
  refine (dats m 0 c).arrAt_eq_of_cover 2 (grad m c) (flushed_eq m c) fun i => ?_
  obtain ⟨t, h3, h⟩ := cover i
  refine ⟨t, (flush0_2 t).mpr h3, ?_⟩
  show i ∈ ((View.whole main_v0_0).slice (win0_2.rect t)).set
  rw [View.set_slice_whole]
  exact h

/-- And so does the short one. -/
theorem final_short : (dats m 0 c).arrAt 3 cfg0.N = grad m c := by
  refine (dats m 0 c).arrAt_eq_of_cover 3 (grad m c) (flushed_short m c) fun i => ?_
  obtain ⟨t, h3, h⟩ := cover i
  refine ⟨t, (flush0_3 t).mpr h3, ?_⟩
  show i ∈ ((View.whole main_v0_1).slice (win0_3.rect t)).set
  rw [View.set_slice_whole]
  exact h

/-- The run, with the result arrays at the gradient. -/
theorem run (ρ : Dev nD → PrngReg) : θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2.1.trans (final_short m c), (h c).2.2⟩) (run_blocks m ρ)

/-- The reference's product over all rows is the sum of the four. -/
theorem reference_eq : Cert.Reference7Ideal.Read.val_main_v9 (F := Ideal) (m ((c : Thread nD τ).loc main_arg0)) (m ((c : Thread nD τ).loc main_arg1)) = grad m c := by
  funext I
  have b0 : (I 0 : Nat) < 4 := (I 0).isLt
  have b1 : (I 1 : Nat) < 1024 := (I 1).isLt
  have b2 : (I 2 : Nat) < 1152 := (I 2).isLt
  rw [Cert.Reference7Ideal.Read.val_main_v9_apply, Cert.Reference7Ideal.Read.val_main_v8_apply, Cert.Reference7Ideal.Read.val_main_v7_apply, Cert.Reference7Ideal.Read.val_main_v6_apply]
  refine Eq.trans (Finset.sum_congr rfl fun k _ => (congrArg₂ (· * ·) ?_ ?_).trans (mul_comm _ _))
    (sum_chunks (fun k => X m c k (I 1).val * Y m c k (1152 * (I 0).val + (I 2).val)) 2304 4).symm
  · refine cell2_eq (a := 9216) (b := 4608) _ _ rfl ?_
    show (((I 1).val * 4 + (I 0).val) * 1152 + (I 2).val) % 4608 = _
    omega
  · refine cell2_eq (a := 9216) (b := 1024) _ _ rfl ?_
    show (((I 1).val * 4 + (I 0).val) * 1152 + (I 2).val) / 4608 = _
    omega

end Cert.Kernel7Ideal.Value
end
end
-- ==== Proof.ProjectOut.lean ====
module

public import proofs.«01_k».proof.Proof.Product
public import proofs.«01_k».proof.Proof.Gen.Kernel11Ideal.Value
public import proofs.«01_k».proof.Proof.Gen.Reference11Ideal.Read
public import Idealize.ShloMosaic.Lib.Tactic

/-!
# The projection out

The kernel adds up four products, one for each quarter of the summed axis.  The reference takes one product over the whole axis.
-/
@[expose] public section
set_option maxRecDepth 16384
noncomputable section
namespace Cert.Kernel11Ideal.Value
open Cert.Kernel11Ideal Cert.Kernel11Ideal.Gen Idealize.ShloMosaic Idealize.ShloMosaic.TcCoe Idealize.SL.Sem
open Idealize.ShloMosaic.Pipeline (Dat)
open Cert.Product

section
variable {F : FTy → Type} [FloatOps F]

/-- At the first chunk the body stores the chunk's product. -/
theorem out_A (c : Dev nD) (i : grid0.Coords) (a3 : Memref sig .tc .vmem S2304x256 .bf16) (h3 : a3.IsWhole) (a4 : Memref sig .tc .vmem S1x256x1024 .bf16) (h4 : a4.IsWhole)
    (a5 : Memref sig .tc .vmem S2304x1024 .f32) (h5 : a5.IsWhole) (hc0 : cond0_0 i) (hc1 : ¬cond0_1 i) (x : Vec F S2304x256 .bf16) (y : Vec F S1x256x1024 .bf16) :
    out0_A_2 c i a3 h3 a4 h4 a5 h5 hc0 hc1 x y = k0_pay1 x y := by
  unfold out0_A_2
  rw [View.read_writes_eq_canon _ _ _ (cover0_A_2 c i a3 h3 a4 h4 a5 h5 hc0 hc1 x y)]
  unfold kernelRun0_A
  dsimp only
  rw [View.canon_unit_zero hz2]
  simp only [View.readAt_eq_ld, h3.read_unread, h4.read_unread, View.ld_unit_zero (S := S2304x256) hz2, View.ld_unit_zero (S := S1x256x1024) hz3]

/-- At a later chunk it adds the chunk's product to what is there. -/
theorem out_B (c : Dev nD) (i : grid0.Coords) (a3 : Memref sig .tc .vmem S2304x256 .bf16) (h3 : a3.IsWhole) (a4 : Memref sig .tc .vmem S1x256x1024 .bf16) (h4 : a4.IsWhole)
    (a5 : Memref sig .tc .vmem S2304x1024 .f32) (h5 : a5.IsWhole) (hc0 : ¬cond0_0 i) (hc1 : cond0_1 i) (x : Vec F S2304x256 .bf16) (y : Vec F S1x256x1024 .bf16)
    (z : Vec F S2304x1024 .f32) : out0_B_2 c i a3 h3 a4 h4 a5 h5 hc0 hc1 x y z = addf z (k0_pay1 x y) := by
  unfold out0_B_2
  rw [View.read_writes_eq_canon _ _ _ (cover0_B_2 c i a3 h3 a4 h4 a5 h5 hc0 hc1 x y z)]
  unfold kernelRun0_B
  dsimp only
  rw [View.canon_unit_zero hz2]
  unfold k0_pay2
  simp only [View.readAt_eq_ld, h3.read_unread, h4.read_unread, h5.read_unread, View.ld_unit_zero (S := S2304x256) hz2, View.ld_unit_zero (S := S1x256x1024) hz3, View.ld_unit_zero (S := S2304x1024) hz2, shapeCast_self]

end

/-- A chunk's product, entry by entry. -/
theorem prod_apply {x : FVec Ideal S2304x256 .bf16} {y : FVec Ideal S1x256x1024 .bf16} {f g : ℕ → ℕ → EReal} (hx : Holds2 2304 256 x f) (hy : Holds3 256 1024 y g) :
    Holds2 2304 1024 (k0_pay1 (F := Ideal) x y) fun r d => ∑ l : Fin 256, f r l * g l d := by
  intro r d
  unfold k0_pay1
  pointwise
  simp only [hx _ _, hy _ _]

variable (m : (ℓ : Loc nD τ sig) → Buf (Elt Ideal) ℓ) (c : Dev nD)

/-- Which block of the inputs a point reads. -/
theorem idx0 : ∀ t : Fin cfg0.N, win0_0.index t (0 : Fin 2) = t.val / 4 ∧ win0_0.index t (1 : Fin 2) = t.val % 4 :=
  (by decide +kernel : ∀ t : Fin grid0.N, _)

/-- Which block of the weights a point reads. -/
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of the result a point writes. -/
theorem idx2 : ∀ t : Fin cfg0.N, win0_2.index t (0 : Fin 2) = t.val / 4 ∧ win0_2.index t (1 : Fin 2) = 0 :=
  (by decide +kernel : ∀ t : Fin grid0.N, _)

/-- The inputs' entries. -/
abbrev X : ℕ → ℕ → EReal := cell2 (a := 9216) (b := 1024) (m ((c : Thread nD τ).loc main_arg0))

/-- The weights' entries. -/
abbrev W : ℕ → ℕ → ℕ → EReal := cell3 (n := 4) (a := 256) (b := 1024) (m ((c : Thread nD τ).loc main_arg1))

/-- The block of inputs. -/
theorem blk0 (t : Fin cfg0.N) : Holds2 2304 256 (iblk m c 0 t) fun r l => X m c (2304 * (t.val / 4) + r) (256 * (t.val % 4) + l) := by
  have h := block2 (V m c main_arg0) ((cfg0.win 0).blk t).view.emb (idx0 t) (fun _ => rfl) (fun _ => rfl)
  rw [V_main_arg0] at h
  exact h

/-- The block of weights. -/
theorem blk1 (t : Fin cfg0.N) : Holds3 256 1024 (iblk m c 1 t) fun r l => W m c (t.val % 4) r l := by
  have h := block3 (V m c main_arg1) ((cfg0.win 1).blk t).view.emb (idx1 t) (fun _ => rfl) (fun _ => rfl) (fun _ => rfl)
  rw [V_main_arg1] at h
  exact h

/-- One chunk's product at row `i` and column `j`. -/
def part (i j s : ℕ) : EReal := ∑ l : Fin 256, X m c i (256 * s + l) * W m c s l j

/-- The product of a point's blocks. -/
theorem chunk (t : Fin cfg0.N) : Holds2 2304 1024 (k0_pay1 (F := Ideal) (iblk m c 0 t) (iblk m c 1 t)) fun r d => part m c (2304 * (t.val / 4) + r) d (t.val % 4) :=
  prod_apply (blk0 m c t) (blk1 m c t)

/-- After a point the block holds the sum of the products so far. -/
theorem acc (n : ℕ) (h : n < cfg0.N) : Holds2 2304 1024 (outsAt0 m c n h) fun r d => ∑ s ∈ Finset.range (n % 4 + 1), part m c (2304 * (n / 4) + r) d s :=
  sums (fun n h r d => outsAt0 m c n h (ix2 r d)) (fun q r d s => part m c (2304 * q + r) d s)
    (fun n h r d h0 => by
      rw [outsAt0_A m c ⟨n, h⟩ h0 (by dsimp only; omega), out_A]
      exact chunk m c ⟨n, h⟩ r d)
    (fun n h r d h0 => by
      rw [outsAt0_B m c ⟨n + 1, h⟩ h0 (by dsimp only; omega), out_B]
      exact congrArg (_ + ·) (chunk m c ⟨n + 1, h⟩ r d)) n h

/-- The product of the inputs and the weights. -/
def value : S9216x1024.Idx → EReal := fun I => ∑ s ∈ Finset.range 4, part m c (I 0).val (I 1).val s

/-- What a point writes back is its block of the product. -/
theorem flushed_eq (t : Fin cfg0.N) (hf : (cfg0.win 2).flush t = true) : (dats m 0 c).flushed 2 t = ((cfg0.win 2).blk t).view.read (Elt Ideal) (value m c) := by
  have h3 : t.val % 4 = 3 := (flush0_2 t).mp hf
  obtain ⟨e0, e1⟩ := idx2 t
  rw [flushed2]
  funext y
  rw [View.read_apply]
  show outsAt0 m c t.val t.isLt y = value m c (((cfg0.win 2).blk t).view.emb y)
  have a0 : (((cfg0.win 2).blk t).view.emb y (0 : Fin 2)).val = win0_2.index t (0 : Fin 2) * 2304 + 1 * (y 0).val := rfl
  have a1 : (((cfg0.win 2).blk t).view.emb y (1 : Fin 2)).val = win0_2.index t (1 : Fin 2) * 1024 + 1 * (y 1).val := rfl
  refine ((acc m c t.val t.isLt).at y).trans ?_
  unfold value
  rw [h3, a0, a1, e0, e1]
  refine Finset.sum_congr rfl fun s _ => congrArg₂ (part m c · · s) ?_ ?_ <;> omega

/-- The result array ends holding the product. -/
theorem final : (dats m 0 c).arrAt 2 cfg0.N = value m c := by
  have hN : cfg0.N = 16 := N_0
  refine (dats m 0 c).arrAt_eq_of_cover 2 (value m c) (flushed_eq m c) fun i => ?_
  have b0 : (i 0 : Nat) < 9216 := (i 0).isLt
  have b1 : (i 1 : Nat) < 1024 := (i 1).isLt
  let t : Fin cfg0.N := ⟨4 * ((i 0 : Nat) / 2304) + 3, by omega⟩
  have ht : t.val = 4 * ((i 0 : Nat) / 2304) + 3 := rfl
  obtain ⟨e0, e1⟩ := idx2 t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 2304 ≤ (i 0 : Nat) ∧ (i 0 : Nat) < win0_2.index t (0 : Fin 2) * 2304 + 2304
    omega
  | ⟨1, _⟩ =>
    show win0_2.index t (1 : Fin 2) * 1024 ≤ (i 1 : Nat) ∧ (i 1 : Nat) < win0_2.index t (1 : Fin 2) * 1024 + 1024
    omega

/-- The run, with the result array at the product. -/
theorem run (ρ : Dev nD → PrngReg) : θ_run defs (onTc (τ := τ) (main (F := Ideal))) ⟨m, fun _ => 0, ρ⟩ fun r => ∀ c : Dev nD,
      r.2.mem ((c : Thread nD τ).loc main_v0) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's product over the whole axis is the sum of the four. -/
theorem reference_eq : Cert.Reference11Ideal.Read.val_main_v3 (F := Ideal) (m ((c : Thread nD τ).loc main_arg0)) (m ((c : Thread nD τ).loc main_arg1)) = value m c := by
  funext I
  have b1 : (I 1).val < 1024 := (I 1).isLt
  rw [Cert.Reference11Ideal.Read.val_main_v3_apply]
  refine Eq.trans ?_ (sum_chunks (fun k => X m c (I 0).val k * W m c (k / 256) (k % 256) (I 1).val) 256 4).symm |>.trans ?_
  · refine Finset.sum_congr rfl fun k _ => congrArg₂ (· * ·) ?_ ?_
    · exact cell2_eq (a := 9216) (b := 1024) _ _ rfl rfl
    · have bk : k.val < 1024 := k.isLt
      rw [Cert.Reference11Ideal.Read.val_main_v2_apply]
      refine cell3_eq (n := 4) (a := 256) (b := 1024) _ _ ?_ ?_ ?_
      · show (k.val * 1024 + (I 1).val) / 262144 = k.val / 256
        omega
      · show (k.val * 1024 + (I 1).val) / 1024 % 256 = k.val % 256
        omega
      · show (k.val * 1024 + (I 1).val) % 1024 = (I 1).val
        omega
  · refine Finset.sum_congr rfl fun s _ => Finset.sum_congr rfl fun l _ => ?_
    have hl : l.val < 256 := l.isLt
    rw [show (256 * s + l.val) / 256 = s by omega, show (256 * s + l.val) % 256 = l.val by omega]

end Cert.Kernel11Ideal.Value
end
end
-- ==== Proof.ProjectOutInput.lean ====
module

public import proofs.«01_k».proof.Proof.Product
public import proofs.«01_k».proof.Proof.Gen.Kernel12Ideal.Value
public import proofs.«01_k».proof.Proof.Gen.Reference12Ideal.Read
public import Idealize.ShloMosaic.Lib.Tactic

/-!
# The gradient of the input of the projection out

A point of the grid takes one product, of a quarter of the rows and a quarter of the columns.  The reference takes the whole product.
-/
@[expose] public section
set_option maxRecDepth 16384
noncomputable section
namespace Cert.Kernel12Ideal.Value
open Cert.Kernel12Ideal Cert.Kernel12Ideal.Gen Idealize.ShloMosaic Idealize.ShloMosaic.TcCoe Idealize.SL.Sem
open Idealize.ShloMosaic.Pipeline (Dat)
open Cert.Product

/-- The body stores the product of its blocks. -/
theorem out_eq {F : FTy → Type} [FloatOps F] (x : Vec F S2304x1024 .bf16) (y : Vec F S1x256x1024 .bf16) : out0_2 x y = k0_pay1 x y := by
  unfold out0_2
  rw [View.canon_unit_zero hz2]
  simp only [View.ld_unit_zero (S := S2304x1024) hz2, View.ld_unit_zero (S := S1x256x1024) hz3]

/-- The product, entry by entry. -/
theorem prod_apply {x : FVec Ideal S2304x1024 .bf16} {y : FVec Ideal S1x256x1024 .bf16} {f g : ℕ → ℕ → EReal} (hx : Holds2 2304 1024 x f) (hy : Holds3 256 1024 y g) :
    Holds2 2304 256 (k0_pay1 (F := Ideal) x y) fun r d => ∑ l : Fin 1024, f r l * g d l := by
  intro r d
  unfold k0_pay1
  pointwise
  simp only [hx _ _, hy _ _]

variable (m : (ℓ : Loc nD τ sig) → Buf (Elt Ideal) ℓ) (c : Dev nD)

/-- Which block of the cotangents a point reads. -/
theorem idx0 : ∀ t : Fin cfg0.N, win0_0.index t (0 : Fin 2) = t.val / 4 ∧ win0_0.index t (1 : Fin 2) = 0 :=
  (by decide +kernel : ∀ t : Fin grid0.N, _)

/-- Which block of the weights a point reads. -/
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of the result a point writes. -/
theorem idx2 : ∀ t : Fin cfg0.N, win0_2.index t (0 : Fin 2) = t.val / 4 ∧ win0_2.index t (1 : Fin 2) = t.val % 4 :=
  (by decide +kernel : ∀ t : Fin grid0.N, _)

/-- The cotangents' entries. -/
abbrev X : ℕ → ℕ → EReal := cell2 (a := 9216) (b := 1024) (m ((c : Thread nD τ).loc main_arg0))

/-- The weights' entries. -/
abbrev W : ℕ → ℕ → ℕ → EReal := cell3 (n := 4) (a := 256) (b := 1024) (m ((c : Thread nD τ).loc main_arg1))

/-- The block of cotangents. -/
theorem blk0 (t : Fin cfg0.N) : Holds2 2304 1024 (iblk m c 0 t) fun r l => X m c (2304 * (t.val / 4) + r) l := by
  have h := block2 (V m c main_arg0) ((cfg0.win 0).blk t).view.emb (idx0 t) (fun _ => rfl) (fun _ => rfl)
  rw [V_main_arg0] at h
  simp only [Nat.mul_zero, Nat.zero_add] at h
  exact h

/-- The block of weights. -/
theorem blk1 (t : Fin cfg0.N) : Holds3 256 1024 (iblk m c 1 t) fun r l => W m c (t.val % 4) r l := by
  have h := block3 (V m c main_arg1) ((cfg0.win 1).blk t).view.emb (idx1 t) (fun _ => rfl) (fun _ => rfl) (fun _ => rfl)
  rw [V_main_arg1] at h
  exact h

/-- The gradient at row `i`, group `s` and column `j` of the group. -/
def entry (i s j : ℕ) : EReal := ∑ l : Fin 1024, X m c i l * W m c s j l

/-- The cotangents times the transposed weights. -/
def grad : S9216x1024.Idx → EReal := fun I => entry m c (I 0).val ((I 1).val / 256) ((I 1).val % 256)

/-- What a point writes back is its block of the gradient. -/
theorem flushed_eq (t : Fin cfg0.N) : (dats m 0 c).flushed 2 t = ((cfg0.win 2).blk t).view.read (Elt Ideal) (grad m c) := by
  obtain ⟨e0, e1⟩ := idx2 t
  rw [flushed2, out_eq]
  funext y
  rw [View.read_apply]
  show k0_pay1 (F := Ideal) (iblk m c 0 t) (iblk m c 1 t) y = grad m c (((cfg0.win 2).blk t).view.emb y)
  have b1 : (y 1).val < 256 := (y 1).isLt
  have a0 : (((cfg0.win 2).blk t).view.emb y (0 : Fin 2)).val = win0_2.index t (0 : Fin 2) * 2304 + 1 * (y 0).val := rfl
  have a1 : (((cfg0.win 2).blk t).view.emb y (1 : Fin 2)).val = win0_2.index t (1 : Fin 2) * 256 + 1 * (y 1).val := rfl
  refine ((prod_apply (blk0 m c t) (blk1 m c t)).at y).trans ?_
  show entry m c (2304 * (t.val / 4) + (y 0).val) (t.val % 4) (y 1).val = _
  unfold grad
  rw [a0, a1, e0, e1, show 2304 * (t.val / 4) + (y 0).val = t.val / 4 * 2304 + 1 * (y 0).val by omega, show (t.val % 4 * 256 + 1 * (y 1).val) / 256 = t.val % 4 by omega,
    show (t.val % 4 * 256 + 1 * (y 1).val) % 256 = (y 1).val by omega]

/-- The result array ends holding the gradient. -/
theorem final : (dats m 0 c).arrAt 2 cfg0.N = grad m c := by
  have hN : cfg0.N = 16 := N_0
  refine (dats m 0 c).arrAt_eq_of_cover 2 (grad m c) (fun t _ => flushed_eq m c t) fun i => ?_
  have b0 : (i 0 : Nat) < 9216 := (i 0).isLt
  have b1 : (i 1 : Nat) < 1024 := (i 1).isLt
  let t : Fin cfg0.N := ⟨4 * ((i 0 : Nat) / 2304) + (i 1 : Nat) / 256, by omega⟩
  have ht : t.val = 4 * ((i 0 : Nat) / 2304) + (i 1 : Nat) / 256 := rfl
  obtain ⟨e0, e1⟩ := idx2 t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 2304 ≤ (i 0 : Nat) ∧ (i 0 : Nat) < win0_2.index t (0 : Fin 2) * 2304 + 2304
    omega
  | ⟨1, _⟩ =>
    show win0_2.index t (1 : Fin 2) * 256 ≤ (i 1 : Nat) ∧ (i 1 : Nat) < win0_2.index t (1 : Fin 2) * 256 + 256
    omega

/-- The run, with the result array at the gradient. -/
theorem run (ρ : Dev nD → PrngReg) : θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's gradient is the same. -/
theorem reference_eq : Cert.Reference12Ideal.Read.val_main_v5 (F := Ideal) (m ((c : Thread nD τ).loc main_arg0)) (m ((c : Thread nD τ).loc main_arg1)) = grad m c := by
  funext I
  have b1 : (I 1).val < 1024 := (I 1).isLt
  rw [Cert.Reference12Ideal.Read.val_main_v5_apply]
  show _ = ∑ l : Fin 1024, X m c (I 0).val l * W m c ((I 1).val / 256) ((I 1).val % 256) l
  refine Finset.sum_congr rfl fun k _ => congrArg₂ (· * ·) ?_ ?_
  · exact cell2_eq (a := 9216) (b := 1024) _ _ rfl rfl
  · have bk : k.val < 1024 := k.isLt
    rw [Cert.Reference12Ideal.Read.val_main_v2_apply]
    refine cell3_eq (n := 4) (a := 256) (b := 1024) _ _ ?_ ?_ ?_
    · show ((I 1).val * 1024 + k.val) / 262144 = (I 1).val / 256
      omega
    · show ((I 1).val * 1024 + k.val) / 1024 % 256 = (I 1).val % 256
      omega
    · show ((I 1).val * 1024 + k.val) % 1024 = k.val
      omega

end Cert.Kernel12Ideal.Value
end
end
-- ==== Proof.ProjectOutWeights.lean ====
module

public import proofs.«01_k».proof.Proof.Product
public import proofs.«01_k».proof.Proof.Gen.Kernel13Ideal.Value
public import proofs.«01_k».proof.Proof.Gen.Reference13Ideal.Read
public import Idealize.ShloMosaic.Lib.Tactic

/-!
# The gradient of the weights of the projection out

The kernel adds up four products, one for each quarter of the rows, and keeps the sum in two formats.  The reference takes one product
over all rows.
-/
@[expose] public section
set_option maxRecDepth 16384
noncomputable section
namespace Cert.Kernel13Ideal.Value
open Cert.Kernel13Ideal Cert.Kernel13Ideal.Gen Idealize.ShloMosaic Idealize.ShloMosaic.TcCoe Idealize.SL.Sem
open Idealize.ShloMosaic.Pipeline (Dat)
open Cert.Product

section
variable {F : FTy → Type} [FloatOps F]
variable (c : Dev nD) (i : grid0.Coords) (a3 : Memref sig .tc .vmem S2304x1024 .bf16) (h3 : a3.IsWhole) (a4 : Memref sig .tc .vmem S2304x1024 .bf16) (h4 : a4.IsWhole)
    (a5 : Memref sig .tc .vmem S1024x1024 .f32) (h5 : a5.IsWhole) (a6 : Memref sig .tc .vmem S1024x1024 .bf16) (h6 : a6.IsWhole) (x y : Vec F S2304x1024 .bf16)

/-- At the first chunk the body stores the chunk's product. -/
theorem out_A (hc0 : cond0_0 i) (hc1 : ¬cond0_1 i) (hc2 : ¬cond0_2 i) : out0_A_2 c i a3 h3 a4 h4 a5 h5 a6 h6 hc0 hc1 hc2 x y = k0_pay1 x y := by
  unfold out0_A_2
  rw [View.read_writes_eq_canon _ _ _ (cover0_A_2 c i a3 h3 a4 h4 a5 h5 a6 h6 hc0 hc1 hc2 x y)]
  unfold kernelRun0_A
  dsimp only
  rw [View.canon_unit_zero hz2]
  simp only [View.readAt_eq_ld, h3.read_unread, h4.read_unread, View.ld_unit_zero (S := S2304x1024) hz2]

variable (z : Vec F S1024x1024 .f32)

/-- At a later chunk it adds the chunk's product to what is there. -/
theorem out_B (hc0 : ¬cond0_0 i) (hc1 : cond0_1 i) (hc2 : ¬cond0_2 i) : out0_B_2 c i a3 h3 a4 h4 a5 h5 a6 h6 hc0 hc1 hc2 x y z = addf z (k0_pay1 x y) := by
  unfold out0_B_2
  rw [View.read_writes_eq_canon _ _ _ (cover0_B_2 c i a3 h3 a4 h4 a5 h5 a6 h6 hc0 hc1 hc2 x y z)]
  unfold kernelRun0_B
  dsimp only
  rw [View.canon_unit_zero hz2]
  unfold k0_pay2
  simp only [View.readAt_eq_ld, h3.read_unread, h4.read_unread, h5.read_unread, View.ld_unit_zero (S := S2304x1024) hz2, View.ld_unit_zero (S := S1024x1024) hz2, shapeCast_self]

/-- At the last chunk too. -/
theorem out_C (hc0 : ¬cond0_0 i) (hc1 : cond0_1 i) (hc2 : cond0_2 i) : out0_C_2 c i a3 h3 a4 h4 a5 h5 a6 h6 hc0 hc1 hc2 x y z = addf z (k0_pay1 x y) := by
  unfold out0_C_2
  rw [View.read_writes_eq_canon _ _ _ (cover0_C_2 c i a3 h3 a4 h4 a5 h5 a6 h6 hc0 hc1 hc2 x y z)]
  unfold kernelRun0_C
  dsimp only
  sl_unfold_words
  rw [View.canon_unit_zero hz2]
  unfold k0_pay2
  simp only [View.readAt_eq_ld, h3.read_unread, h4.read_unread, h5.read_unread, View.ld_unit_zero (S := S2304x1024) hz2, View.ld_unit_zero (S := S1024x1024) hz2, shapeCast_self]

/-- The last chunk also stores the sum in the shorter format. -/
theorem short_C (hc0 : ¬cond0_0 i) (hc1 : cond0_1 i) (hc2 : cond0_2 i) :
    out0_C_3 c i a3 h3 a4 h4 a5 h5 a6 h6 hc0 hc1 hc2 x y z = truncf .bf16 (addf z (k0_pay1 x y)) bitsLt_bf16_f32 := by
  unfold out0_C_3
  rw [View.read_writes_eq_canon _ _ _ (cover0_C_3 c i a3 h3 a4 h4 a5 h5 a6 h6 hc0 hc1 hc2 x y z)]
  unfold kernelRun0_C
  dsimp only
  sl_unfold_words
  rw [View.canon_unit_zero hz2, View.readCov_unit_zero (S := S1024x1024) _ hz2]
  unfold k0_pay3 k0_pay2
  simp only [View.readAt_eq_ld, h3.read_unread, h4.read_unread, h5.read_unread, View.ld_unit_zero (S := S2304x1024) hz2, View.ld_unit_zero (S := S1024x1024) hz2, shapeCast_self]

end

/-- A chunk's product, entry by entry. -/
theorem prod_apply {x y : FVec Ideal S2304x1024 .bf16} {f g : ℕ → ℕ → EReal} (hx : Holds2 2304 1024 x f) (hy : Holds2 2304 1024 y g) :
    Holds2 1024 1024 (k0_pay1 (F := Ideal) x y) fun r d => ∑ l : Fin 2304, f l r * g l d := by
  intro r d
  unfold k0_pay1
  pointwise
  simp only [hx _ _, hy _ _]

variable (m : (ℓ : Loc nD τ sig) → Buf (Elt Ideal) ℓ) (c : Dev nD)

/-- Which block of the inputs a point reads. -/
theorem idx0 : ∀ t : Fin cfg0.N, win0_0.index t (0 : Fin 2) = t.val % 4 ∧ win0_0.index t (1 : Fin 2) = t.val / 4 :=
  (by decide +kernel : ∀ t : Fin grid0.N, _)

/-- Which block of the cotangents a point reads. -/
theorem idx1 : ∀ t : Fin cfg0.N, win0_1.index t (0 : Fin 2) = t.val % 4 ∧ win0_1.index t (1 : Fin 2) = 0 :=
  (by decide +kernel : ∀ t : Fin grid0.N, _)

/-- Which block of the result a point writes. -/
theorem idx2 : ∀ t : Fin cfg0.N, win0_2.index t (0 : Fin 2) = t.val / 4 ∧ win0_2.index t (1 : Fin 2) = 0 :=
  (by decide +kernel : ∀ t : Fin grid0.N, _)

/-- Which block of the short result a point writes. -/
theorem idx3 : ∀ t : Fin cfg0.N, win0_3.index t (0 : Fin 2) = t.val / 4 ∧ win0_3.index t (1 : Fin 2) = 0 :=
  (by decide +kernel : ∀ t : Fin grid0.N, _)

/-- The inputs' entries. -/
abbrev X : ℕ → ℕ → EReal := cell2 (a := 9216) (b := 1024) (m ((c : Thread nD τ).loc main_arg0))

/-- The cotangents' entries. -/
abbrev Y : ℕ → ℕ → EReal := cell2 (a := 9216) (b := 1024) (m ((c : Thread nD τ).loc main_arg1))

/-- The block of inputs. -/
theorem blk0 (t : Fin cfg0.N) : Holds2 2304 1024 (iblk m c 0 t) fun r l => X m c (2304 * (t.val % 4) + r) (1024 * (t.val / 4) + l) := by
  have h := block2 (V m c main_arg0) ((cfg0.win 0).blk t).view.emb (idx0 t) (fun _ => rfl) (fun _ => rfl)
  rw [V_main_arg0] at h
  exact h

/-- The block of cotangents. -/
theorem blk1 (t : Fin cfg0.N) : Holds2 2304 1024 (iblk m c 1 t) fun r l => Y m c (2304 * (t.val % 4) + r) l := by
  have h := block2 (V m c main_arg1) ((cfg0.win 1).blk t).view.emb (idx1 t) (fun _ => rfl) (fun _ => rfl)
  rw [V_main_arg1] at h
  simp only [Nat.mul_zero, Nat.zero_add] at h
  exact h

/-- One chunk's product at row `i` and column `j`. -/
def part (i j s : ℕ) : EReal := ∑ l : Fin 2304, X m c (2304 * s + l) i * Y m c (2304 * s + l) j

/-- The product of a point's blocks. -/
theorem chunk (t : Fin cfg0.N) : Holds2 1024 1024 (k0_pay1 (F := Ideal) (iblk m c 0 t) (iblk m c 1 t)) fun r d => part m c (1024 * (t.val / 4) + r) d (t.val % 4) :=
  prod_apply (blk0 m c t) (blk1 m c t)

/-- After a point the block holds the sum of the products so far. -/
theorem acc (n : ℕ) (h : n < cfg0.N) : Holds2 1024 1024 (outsAt0 m c n h).1 fun r d => ∑ s ∈ Finset.range (n % 4 + 1), part m c (1024 * (n / 4) + r) d s :=
  sums (fun n h r d => (outsAt0 m c n h).1 (ix2 r d)) (fun q r d s => part m c (1024 * q + r) d s)
    (fun n h r d h0 => by
      have hN : cfg0.N = 4 := N_0
      rw [outsAt0_A m c ⟨n, h⟩ h0 (by dsimp only; omega) (by dsimp only; omega)]
      dsimp only
      rw [out_A]
      exact chunk m c ⟨n, h⟩ r d)
    (fun n h r d h0 => by
      have hN : cfg0.N = 4 := N_0
      refine Eq.trans ?_ (congrArg (_ + ·) (chunk m c ⟨n + 1, h⟩ r d))
      by_cases h3 : (n + 1) % 4 = 3
      · rw [outsAt0_C m c ⟨n + 1, h⟩ h0 (by dsimp only; omega) h3]
        dsimp only
        rw [out_C]
        rfl
      · rw [outsAt0_B m c ⟨n + 1, h⟩ h0 (by dsimp only; omega) h3]
        dsimp only
        rw [out_B]
        rfl) n h

/-- At the last point of a block the two formats hold the same reals. -/
theorem short_eq (t : Fin cfg0.N) (h3 : t.val % 4 = 3) : ((outsAt0 m c t.val t.isLt).2 : S1024x1024.Idx → EReal) = (outsAt0 m c t.val t.isLt).1 := by
  rw [outsAt0_C m c t (by omega) (by omega) h3]
  dsimp only
  rw [out_C, short_C]
  rfl

/-- The gradient: the transposed inputs times the cotangents. -/
def grad : S1024x1024.Idx → EReal := fun I => ∑ s ∈ Finset.range 4, part m c (I 0).val (I 1).val s

/-- What a last point's block holds. -/
theorem block (t : Fin cfg0.N) (h3 : t.val % 4 = 3) (y : S1024x1024.Idx) : (outsAt0 m c t.val t.isLt).1 y = grad m c (((cfg0.win 2).blk t).view.emb y) := by
  obtain ⟨e0, e1⟩ := idx2 t
  have a0 : (((cfg0.win 2).blk t).view.emb y (0 : Fin 2)).val = win0_2.index t (0 : Fin 2) * 1024 + 1 * (y 0).val := rfl
  have a1 : (((cfg0.win 2).blk t).view.emb y (1 : Fin 2)).val = win0_2.index t (1 : Fin 2) * 1024 + 1 * (y 1).val := rfl
  refine ((acc m c t.val t.isLt).at y).trans ?_
  unfold grad
  rw [h3, a0, a1, e0, e1]
  refine Finset.sum_congr rfl fun s _ => congrArg₂ (part m c · · s) ?_ ?_ <;> omega

/-- What a point writes back is its block of the gradient. -/
theorem flushed_eq (t : Fin cfg0.N) (hf : (cfg0.win 2).flush t = true) : (dats m 0 c).flushed 2 t = ((cfg0.win 2).blk t).view.read (Elt Ideal) (grad m c) := by
  rw [flushed2]
  funext y
  rw [View.read_apply]
  exact block m c t ((flush0_2 t).mp hf) y

/-- And so in the shorter format. -/
theorem flushed_short (t : Fin cfg0.N) (hf : (cfg0.win 3).flush t = true) : (dats m 0 c).flushed 3 t = ((cfg0.win 3).blk t).view.read (Elt Ideal) (grad m c) := by
  rw [flushed3]
  funext y
  rw [View.read_apply]
  exact (congrFun (short_eq m c t ((flush0_3 t).mp hf)) y).trans (block m c t ((flush0_3 t).mp hf) y)

/-- Every entry lies in the block of some last point. -/
theorem cover (i : S1024x1024.Idx) : ∃ t : Fin cfg0.N, t.val % 4 = 3 ∧ i ∈ (win0_2.rect t).set := by
  have hN : cfg0.N = 4 := N_0
  have b0 : (i 0 : Nat) < 1024 := (i 0).isLt
  have b1 : (i 1 : Nat) < 1024 := (i 1).isLt
  let t : Fin cfg0.N := ⟨4 * ((i 0 : Nat) / 1024) + 3, by omega⟩
  have ht : t.val = 4 * ((i 0 : Nat) / 1024) + 3 := rfl
  obtain ⟨e0, e1⟩ := idx2 t
  refine ⟨t, by omega, (Rect.mem_set_unit ..).mpr fun a => ?_⟩
  match a with
  | ⟨0, _⟩ =>
    show win0_2.index t (0 : Fin 2) * 1024 ≤ (i 0 : Nat) ∧ (i 0 : Nat) < win0_2.index t (0 : Fin 2) * 1024 + 1024
    omega
  | ⟨1, _⟩ =>
    show win0_2.index t (1 : Fin 2) * 1024 ≤ (i 1 : Nat) ∧ (i 1 : Nat) < win0_2.index t (1 : Fin 2) * 1024 + 1024
    omega

/-- The result array ends holding the gradient. -/
theorem final : (dats m 0 c).arrAt 2 cfg0.N = grad m c := by
  refine (dats m 0 c).arrAt_eq_of_cover 2 (grad m c) (flushed_eq m c) fun i => ?_
  obtain ⟨t, h3, h⟩ := cover i
  refine ⟨t, (flush0_2 t).mpr h3, ?_⟩
  show i ∈ ((View.whole main_v0_0).slice (win0_2.rect t)).set
  rw [View.set_slice_whole]
  exact h

/-- And so does the short one. -/
theorem final_short : (dats m 0 c).arrAt 3 cfg0.N = grad m c := by
  refine (dats m 0 c).arrAt_eq_of_cover 3 (grad m c) (flushed_short m c) fun i => ?_
  obtain ⟨t, h3, h⟩ := cover i
  refine ⟨t, (flush0_3 t).mpr h3, ?_⟩
  show i ∈ ((View.whole main_v0_1).slice (win0_3.rect t)).set
  rw [View.set_slice_whole]
  exact h

/-- The run, with the result arrays at the gradient. -/
theorem run (ρ : Dev nD → PrngReg) : θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2.1.trans (final_short m c), (h c).2.2⟩) (run_blocks m ρ)

/-- The reference's product over all rows is the sum of the four. -/
theorem reference_eq : Cert.Reference13Ideal.Read.val_main_v5 (F := Ideal) (m ((c : Thread nD τ).loc main_arg0)) (m ((c : Thread nD τ).loc main_arg1)) = grad m c := by
  funext I
  rw [Cert.Reference13Ideal.Read.val_main_v5_apply, Cert.Reference13Ideal.Read.val_main_v4_apply]
  refine Eq.trans (Finset.sum_congr rfl fun k _ => (congrArg₂ (· * ·) ?_ ?_).trans (mul_comm _ _))
    (sum_chunks (fun k => X m c k (I 0).val * Y m c k (I 1).val) 2304 4).symm
  · exact cell2_eq (a := 9216) (b := 1024) _ _ rfl rfl
  · exact cell2_eq (a := 9216) (b := 1024) _ _ rfl rfl

end Cert.Kernel13Ideal.Value
end
end
-- ==== Proof.Gate.lean ====
module

public import proofs.«01_k».proof.Proof.Product
public import Idealize.ShloMosaic.Lib.IdealHost

/-!
# The gates of the three branches

The gates are three strips of 1024 columns of one matrix, after its first 1536.  A branch's product is taken with weights that lie in four
groups of 256 columns.  The gradients of a branch and of its weights add up four parts.
-/
@[expose] public section
noncomputable section
namespace Cert.Product
open Idealize.ShloMosaic

/-- The function of the gates. -/
def gate (a : EReal) : EReal := Ideal.logistic a

/-- The reference writes it as a quotient. -/
theorem gate_eq (a : EReal) : Ideal.div (Ideal.ofBits .f32 0x3F800000#32) (Ideal.ofBits .f32 0x3F800000#32 + Ideal.exp (-a)) = gate a := by
  rw [Ideal.ofBits_one_f32]
  rfl

/-- The gates of branch `p`. -/
def gateOf (Z : ℕ → ℕ → EReal) (p i j : ℕ) : EReal := gate (Z i (1536 + 1024 * p + j))

/-- The product of a branch of width `k` with its weights. -/
def branch (k : ℕ) (O : ℕ → ℕ → EReal) (W : ℕ → ℕ → ℕ → EReal) (i j : ℕ) : EReal := ∑ l : Fin k, O i l * W (j / 256) l (j % 256)

/-- The gradient of a branch's product. -/
def throughGate (Y Z : ℕ → ℕ → EReal) (p i j : ℕ) : EReal := Y i j * gateOf Z p i j

/-- The gradient of a branch's gate. -/
def intoGate (k : ℕ) (Y O Z : ℕ → ℕ → EReal) (W : ℕ → ℕ → ℕ → EReal) (p i j : ℕ) : EReal :=
  Y i j * branch k O W i j * (gateOf Z p i j * (1 - gateOf Z p i j))

/-- A column of group `s`. -/
theorem branch_at {k : ℕ} (O : ℕ → ℕ → EReal) (W : ℕ → ℕ → ℕ → EReal) (i s : ℕ) {d : ℕ} (h : d < 256) :
    ∑ l : Fin k, O i l * W s l d = branch k O W i (256 * s + d) := by
  unfold branch
  rw [show (256 * s + d) / 256 = s by omega, show (256 * s + d) % 256 = d by omega]

/-- A matrix given by its entries. -/
def matrix (a b : ℕ) (g : ℕ → ℕ → EReal) : (⟨2, ![a, b]⟩ : Shape).Idx → EReal := fun I => g (I 0).val (I 1).val

/-- A block that holds the entries of its place is that block of the matrix. -/
theorem Holds2.block {a b A B : ℕ} {X : (⟨2, ![a, b]⟩ : Shape).Idx → EReal} {g : ℕ → ℕ → EReal} {p q p' q' : ℕ} (h : Holds2 a b X fun r l => g (a * p + r) (b * q + l))
    (e : (⟨2, ![a, b]⟩ : Shape).Idx → (⟨2, ![A, B]⟩ : Shape).Idx) (hp : p' = p ∧ q' = q) (e0 : ∀ y, (e y 0).val = p' * a + 1 * (y 0).val)
    (e1 : ∀ y, (e y 1).val = q' * b + 1 * (y 1).val) (y : (⟨2, ![a, b]⟩ : Shape).Idx) : X y = matrix A B g (e y) := by
  obtain ⟨rfl, rfl⟩ := hp
  refine (h.at y).trans ?_
  unfold matrix
  rw [e0, e1, Nat.mul_comm a, Nat.mul_comm b, Nat.one_mul, Nat.one_mul]

/-- And if the block is as wide as the matrix. -/
theorem Holds2.strip {a b A : ℕ} {X : (⟨2, ![a, b]⟩ : Shape).Idx → EReal} {g : ℕ → ℕ → EReal} {p p' q' : ℕ} (h : Holds2 a b X fun r l => g (a * p + r) l)
    (e : (⟨2, ![a, b]⟩ : Shape).Idx → (⟨2, ![A, b]⟩ : Shape).Idx) (hp : p' = p ∧ q' = 0) (e0 : ∀ y, (e y 0).val = p' * a + 1 * (y 0).val)
    (e1 : ∀ y, (e y 1).val = q' * b + 1 * (y 1).val) (y : (⟨2, ![a, b]⟩ : Shape).Idx) : X y = matrix A b g (e y) :=
  Holds2.block (q := 0) (fun r l => (h r l).trans (congrArg (g (a * p + r)) (by omega))) e hp e0 e1 y

/-- One of four parts of the gradient of a branch. -/
def backPart (Y : ℕ → ℕ → EReal) (W : ℕ → ℕ → ℕ → EReal) (i j s : ℕ) : EReal := ∑ l : Fin 256, Y i (256 * s + l) * W s j l

/-- The gradient of a branch. -/
def back (Y : ℕ → ℕ → EReal) (W : ℕ → ℕ → ℕ → EReal) (i j : ℕ) : EReal := ∑ s ∈ Finset.range 4, backPart Y W i j s

/-- It is one sum over all the columns. -/
theorem back_eq (Y : ℕ → ℕ → EReal) (W : ℕ → ℕ → ℕ → EReal) (i j : ℕ) : ∑ k : Fin 1024, Y i k * W (k / 256) j (k % 256) = back Y W i j := by
  refine (sum_chunks (fun k => Y i k * W (k / 256) j (k % 256)) 256 4).symm.trans ?_
  refine Finset.sum_congr rfl fun s _ => Finset.sum_congr rfl fun l _ => ?_
  have hl : l.val < 256 := l.isLt
  rw [show (256 * s + l.val) / 256 = s by omega, show (256 * s + l.val) % 256 = l.val by omega]

/-- One of four parts of the gradient of a branch's weights. -/
def weightPart (O Y : ℕ → ℕ → EReal) (i j s : ℕ) : EReal := ∑ l : Fin 2304, O (2304 * s + l) i * Y (2304 * s + l) j

/-- The gradient of a branch's weights, the columns in four groups. -/
def weights (k : ℕ) (O Y : ℕ → ℕ → EReal) : (⟨3, ![4, k, 256]⟩ : Shape).Idx → EReal := fun I => ∑ s ∈ Finset.range 4, weightPart O Y (I 1).val (256 * (I 0).val + (I 2).val) s

/-- It is one sum over all the rows. -/
theorem weights_eq (O Y : ℕ → ℕ → EReal) (i j : ℕ) : ∑ k : Fin 9216, Y k j * O k i = ∑ s ∈ Finset.range 4, weightPart O Y i j s :=
  (Finset.sum_congr rfl fun _ _ => mul_comm _ _).trans (sum_chunks (fun k => O k i * Y k j) 2304 4).symm

/-- A block of a stack of one that holds the entries of its place is that group of the gradient. -/
theorem Holds3.group {k : ℕ} {X : (⟨3, ![1, k, 256]⟩ : Shape).Idx → EReal} {O Y : ℕ → ℕ → EReal} {n p q r : ℕ}
    (h : Holds3 k 256 X fun i d => ∑ s ∈ Finset.range (n % 4 + 1), weightPart O Y i (256 * (n / 4) + d) s) (h3 : n % 4 = 3)
    (e : (⟨3, ![1, k, 256]⟩ : Shape).Idx → (⟨3, ![4, k, 256]⟩ : Shape).Idx) (hp : p = n / 4 ∧ q = 0 ∧ r = 0) (e0 : ∀ y, (e y 0).val = p * 1 + 1 * (y 0).val)
    (e1 : ∀ y, (e y 1).val = q * k + 1 * (y 1).val) (e2 : ∀ y, (e y 2).val = r * 256 + 1 * (y 2).val) (y : (⟨3, ![1, k, 256]⟩ : Shape).Idx) : X y = weights k O Y (e y) := by
  obtain ⟨rfl, rfl, rfl⟩ := hp
  have hy : (y 0).val = 0 := Nat.lt_one_iff.mp (y 0).isLt
  refine (h.at y).trans ?_
  unfold weights
  rw [h3, e0, e1, e2, hy]
  refine Finset.sum_congr rfl fun s _ => congrArg₂ (weightPart O Y · · s) ?_ ?_ <;> omega

end Cert.Product
end
end
-- ==== Proof.MergeBackward.lean ====
module

public import proofs.«01_k».proof.Proof.Gate
public import proofs.«01_k».proof.Proof.Gen.Kernel14Ideal.Value
public import proofs.«01_k».proof.Proof.Gen.Reference14Ideal.Read
public import Idealize.ShloMosaic.Lib.Tactic

/-!
# The gradients of the gated sum of the branches

A point of the grid takes a ninth of the rows and a quarter of the columns.  It takes each branch's product again, and writes the gradient of
each product and of each gate.
-/
@[expose] public section
set_option maxRecDepth 16384
noncomputable section
namespace Cert.Kernel14Ideal.Value
open Cert.Kernel14Ideal Cert.Kernel14Ideal.Gen Idealize.ShloMosaic Idealize.ShloMosaic.TcCoe Idealize.SL.Sem
open Idealize.ShloMosaic.Pipeline (Dat)
open Cert.Product

section
variable {y z : FVec Ideal S1024x256 .f32} {f h : ℕ → ℕ → EReal} {g : ℕ → ℕ → EReal} {w : ℕ → ℕ → ℕ → EReal} {i s p : ℕ}
  (hy : Holds2 1024 256 y fun r d => f (1024 * i + r) (256 * s + d)) (hz : Holds2 1024 256 z fun r d => h (1024 * i + r) (1536 + 1024 * p + (256 * s + d)))

include hy hz

/-- The gradient of a product, entry by entry. -/
theorem through_apply : Holds2 1024 256 (k0_pay6 (F := Ideal) y z) fun r d => throughGate f h p (1024 * i + r) (256 * s + d) := by
  intro r d
  unfold k0_pay6 k0_pay5
  pointwise
  rw [hy r d, hz r d]
  rfl

/-- The gradient of the gate of a branch of width 384, entry by entry. -/
theorem into_apply {x : FVec Ideal S1024x384 .bf16} {v : FVec Ideal S1x384x256 .bf16} (hx : Holds2 1024 384 x fun r l => g (1024 * i + r) l)
    (hv : Holds3 384 256 v fun l d => w s l d) :
    Holds2 1024 256 (k0_pay7 (F := Ideal) y z x v) fun r d => intoGate 384 f g h w p (1024 * i + r) (256 * s + d) := by
  intro r d
  unfold k0_pay7 k0_pay5 intoGate
  pointwise
  simp only [hx _ _, hv _ _, hy _ _, hz _ _, branch_at g w (1024 * i + r) s d.isLt]
  rfl

/-- The gradient of the gate of the branch of width 256, entry by entry. -/
theorem into_pool {x : FVec Ideal S1024x256 .bf16} {v : FVec Ideal S1x256x256 .bf16} (hx : Holds2 1024 256 x fun r l => g (1024 * i + r) l)
    (hv : Holds3 256 256 v fun l d => w s l d) :
    Holds2 1024 256 (k0_pay1 (F := Ideal) (k0_pay8 z) (k0_pay10 y x v) (k0_pay11 z)) fun r d => intoGate 256 f g h w p (1024 * i + r) (256 * s + d) := by
  intro r d
  unfold k0_pay1 k0_pay10 k0_pay11 k0_pay8 intoGate
  pointwise
  simp only [hx _ _, hv _ _, hy _ _, hz _ _, branch_at g w (1024 * i + r) s d.isLt]
  rfl

end

variable (m : (ℓ : Loc nD τ sig) → Buf (Elt Ideal) ℓ) (c : Dev nD)

/-- Which block of the incoming gradient, and of each result, a point reads or writes. -/
theorem idx0 : ∀ t : Fin cfg0.N, win0_0.index t (0 : Fin 2) = t.val / 4 ∧ win0_0.index t (1 : Fin 2) = t.val % 4 :=
  (by decide +kernel : ∀ t : Fin grid0.N, _)

/-- Which block of the first branch a point reads; the others read the same. -/
theorem idx1 : ∀ t : Fin cfg0.N, win0_1.index t (0 : Fin 2) = t.val / 4 ∧ win0_1.index t (1 : Fin 2) = 0 :=
  (by decide +kernel : ∀ t : Fin grid0.N, _)

/-- Which block of the gates a point reads for the first branch. -/
theorem idx4 : ∀ t : Fin cfg0.N, win0_4.index t (0 : Fin 2) = t.val / 4 ∧ win0_4.index t (1 : Fin 2) = 6 + 4 * 0 + t.val % 4 :=
  (by decide +kernel : ∀ t : Fin grid0.N, _)

/-- For the second. -/
theorem idx5 : ∀ t : Fin cfg0.N, win0_5.index t (0 : Fin 2) = t.val / 4 ∧ win0_5.index t (1 : Fin 2) = 6 + 4 * 1 + t.val % 4 :=
  (by decide +kernel : ∀ t : Fin grid0.N, _)

/-- For the third. -/
theorem idx6 : ∀ t : Fin cfg0.N, win0_6.index t (0 : Fin 2) = t.val / 4 ∧ win0_6.index t (1 : Fin 2) = 6 + 4 * 2 + t.val % 4 :=
  (by decide +kernel : ∀ t : Fin grid0.N, _)

/-- Which group of weights a point reads for the first branch; the others read the same. -/
theorem idx7 : ∀ t : Fin cfg0.N, win0_7.index t (0 : Fin 3) = t.val % 4 ∧ win0_7.index t (1 : Fin 3) = 0 ∧ win0_7.index t (2 : Fin 3) = 0 :=
  (by decide +kernel : ∀ t : Fin grid0.N, _)

/-- The incoming gradient's entries. -/
abbrev Y : ℕ → ℕ → EReal := cell2 (a := 9216) (b := 1024) (m ((c : Thread nD τ).loc main_arg0))

/-- The first branch's entries. -/
abbrev O1 : ℕ → ℕ → EReal := cell2 (a := 9216) (b := 384) (m ((c : Thread nD τ).loc main_arg1))

/-- The second branch's. -/
abbrev O2 : ℕ → ℕ → EReal := cell2 (a := 9216) (b := 256) (m ((c : Thread nD τ).loc main_arg2))

/-- The third branch's. -/
abbrev O3 : ℕ → ℕ → EReal := cell2 (a := 9216) (b := 384) (m ((c : Thread nD τ).loc main_arg3))

/-- The entries of the matrix with the gates. -/
abbrev Z : ℕ → ℕ → EReal := cell2 (a := 9216) (b := 4608) (m ((c : Thread nD τ).loc main_arg4))

/-- The first branch's weights. -/
abbrev W1 : ℕ → ℕ → ℕ → EReal := cell3 (n := 4) (a := 384) (b := 256) (m ((c : Thread nD τ).loc main_arg5))

/-- The second branch's. -/
abbrev W2 : ℕ → ℕ → ℕ → EReal := cell3 (n := 4) (a := 256) (b := 256) (m ((c : Thread nD τ).loc main_arg6))

/-- The third branch's. -/
abbrev W3 : ℕ → ℕ → ℕ → EReal := cell3 (n := 4) (a := 384) (b := 256) (m ((c : Thread nD τ).loc main_arg7))

/-- The block of the incoming gradient. -/
theorem blk0 (t : Fin cfg0.N) : Holds2 1024 256 (iblk m c 0 t) fun r d => Y m c (1024 * (t.val / 4) + r) (256 * (t.val % 4) + d) := by
  have h := block2 (V m c main_arg0) ((cfg0.win 0).blk t).view.emb (idx0 t) (fun _ => rfl) (fun _ => rfl)
  rw [V_main_arg0] at h
  exact h

/-- The block of the first branch. -/
theorem blk1 (t : Fin cfg0.N) : Holds2 1024 384 (iblk m c 1 t) fun r l => O1 m c (1024 * (t.val / 4) + r) l := by
  have h := block2 (V m c main_arg1) ((cfg0.win 1).blk t).view.emb (idx1 t) (fun _ => rfl) (fun _ => rfl)
  rw [V_main_arg1] at h
  simp only [Nat.mul_zero, Nat.zero_add] at h
  exact h

/-- The block of the second branch. -/
theorem blk2 (t : Fin cfg0.N) : Holds2 1024 256 (iblk m c 2 t) fun r l => O2 m c (1024 * (t.val / 4) + r) l := by
  have h := block2 (V m c main_arg2) ((cfg0.win 2).blk t).view.emb (idx1 t) (fun _ => rfl) (fun _ => rfl)
  rw [V_main_arg2] at h
  simp only [Nat.mul_zero, Nat.zero_add] at h
  exact h

/-- The block of the third branch. -/
theorem blk3 (t : Fin cfg0.N) : Holds2 1024 384 (iblk m c 3 t) fun r l => O3 m c (1024 * (t.val / 4) + r) l := by
  have h := block2 (V m c main_arg3) ((cfg0.win 3).blk t).view.emb (idx1 t) (fun _ => rfl) (fun _ => rfl)
  rw [V_main_arg3] at h
  simp only [Nat.mul_zero, Nat.zero_add] at h
  exact h

/-- A block of gates, by columns counted from where the branch's gates begin. -/
theorem gates_block {x : S1024x256.Idx → EReal} {i p s : ℕ} (h : Holds2 1024 256 x fun r d => Z m c (1024 * i + r) (256 * (6 + 4 * p + s) + d)) :
    Holds2 1024 256 x fun r d => Z m c (1024 * i + r) (1536 + 1024 * p + (256 * s + d)) :=
  fun r d => (h r d).trans (congrArg (Z m c (1024 * i + r)) (by omega))

/-- The block of the first branch's gates. -/
theorem blk4 (t : Fin cfg0.N) : Holds2 1024 256 (iblk m c 4 t) fun r d => Z m c (1024 * (t.val / 4) + r) (1536 + 1024 * 0 + (256 * (t.val % 4) + d)) := by
  have h := block2 (V m c main_arg4) ((cfg0.win 4).blk t).view.emb (idx4 t) (fun _ => rfl) (fun _ => rfl)
  rw [V_main_arg4] at h
  exact gates_block m c h

/-- The block of the second branch's gates. -/
theorem blk5 (t : Fin cfg0.N) : Holds2 1024 256 (iblk m c 5 t) fun r d => Z m c (1024 * (t.val / 4) + r) (1536 + 1024 * 1 + (256 * (t.val % 4) + d)) := by
  have h := block2 (V m c main_arg4) ((cfg0.win 5).blk t).view.emb (idx5 t) (fun _ => rfl) (fun _ => rfl)
  rw [V_main_arg4] at h
  exact gates_block m c h

/-- The block of the third branch's gates. -/
theorem blk6 (t : Fin cfg0.N) : Holds2 1024 256 (iblk m c 6 t) fun r d => Z m c (1024 * (t.val / 4) + r) (1536 + 1024 * 2 + (256 * (t.val % 4) + d)) := by
  have h := block2 (V m c main_arg4) ((cfg0.win 6).blk t).view.emb (idx6 t) (fun _ => rfl) (fun _ => rfl)
  rw [V_main_arg4] at h
  exact gates_block m c h

/-- The group of the first branch's weights. -/
theorem blk7 (t : Fin cfg0.N) : Holds3 384 256 (iblk m c 7 t) fun l d => W1 m c (t.val % 4) l d := by
  have h := block3 (V m c main_arg5) ((cfg0.win 7).blk t).view.emb (idx7 t) (fun _ => rfl) (fun _ => rfl) (fun _ => rfl)
  rw [V_main_arg5] at h
  exact h

/-- The group of the second branch's weights. -/
theorem blk8 (t : Fin cfg0.N) : Holds3 256 256 (iblk m c 8 t) fun l d => W2 m c (t.val % 4) l d := by
  have h := block3 (V m c main_arg6) ((cfg0.win 8).blk t).view.emb (idx7 t) (fun _ => rfl) (fun _ => rfl) (fun _ => rfl)
  rw [V_main_arg6] at h
  exact h

/-- The group of the third branch's weights. -/
theorem blk9 (t : Fin cfg0.N) : Holds3 384 256 (iblk m c 9 t) fun l d => W3 m c (t.val % 4) l d := by
  have h := block3 (V m c main_arg7) ((cfg0.win 9).blk t).view.emb (idx7 t) (fun _ => rfl) (fun _ => rfl) (fun _ => rfl)
  rw [V_main_arg7] at h
  exact h

/-- The gradient of branch `p`'s product. -/
def ofProduct (p : ℕ) : S9216x1024.Idx → EReal := matrix 9216 1024 (throughGate (Y m c) (Z m c) p)

/-- The gradient of the first branch's gate. -/
def ofGate1 : S9216x1024.Idx → EReal := matrix 9216 1024 (intoGate 384 (Y m c) (O1 m c) (Z m c) (W1 m c) 0)

/-- The gradient of the second branch's gate. -/
def ofGate2 : S9216x1024.Idx → EReal := matrix 9216 1024 (intoGate 256 (Y m c) (O2 m c) (Z m c) (W2 m c) 1)

/-- The gradient of the third branch's gate. -/
def ofGate3 : S9216x1024.Idx → EReal := matrix 9216 1024 (intoGate 384 (Y m c) (O3 m c) (Z m c) (W3 m c) 2)

/-- What a point writes back of the first branch's product's gradient. -/
theorem flushed_p1 (t : Fin cfg0.N) : (dats m 0 c).flushed 10 t = ((cfg0.win 10).blk t).view.read (Elt Ideal) (ofProduct m c 0) := by
  rw [flushed10]
  unfold out0_10
  rw [View.canon_unit_zero hz2]
  simp only [View.ld_unit_zero (S := S1024x256) hz2]
  funext y
  rw [View.read_apply]
  exact (through_apply (blk0 m c t) (blk4 m c t)).block ((cfg0.win 10).blk t).view.emb (idx0 t) (fun _ => rfl) (fun _ => rfl) y

/-- Of the second's. -/
theorem flushed_p2 (t : Fin cfg0.N) : (dats m 0 c).flushed 11 t = ((cfg0.win 11).blk t).view.read (Elt Ideal) (ofProduct m c 1) := by
  rw [flushed11]
  unfold out0_11
  rw [View.canon_unit_zero hz2]
  simp only [View.ld_unit_zero (S := S1024x256) hz2]
  funext y
  rw [View.read_apply]
  exact (through_apply (blk0 m c t) (blk5 m c t)).block ((cfg0.win 11).blk t).view.emb (idx0 t) (fun _ => rfl) (fun _ => rfl) y

/-- Of the third's. -/
theorem flushed_p3 (t : Fin cfg0.N) : (dats m 0 c).flushed 12 t = ((cfg0.win 12).blk t).view.read (Elt Ideal) (ofProduct m c 2) := by
  rw [flushed12]
  unfold out0_12
  rw [View.canon_unit_zero hz2]
  simp only [View.ld_unit_zero (S := S1024x256) hz2]
  funext y
  rw [View.read_apply]
  exact (through_apply (blk0 m c t) (blk6 m c t)).block ((cfg0.win 12).blk t).view.emb (idx0 t) (fun _ => rfl) (fun _ => rfl) y

/-- What a point writes back of the first branch's gate's gradient. -/
theorem flushed_g1 (t : Fin cfg0.N) : (dats m 0 c).flushed 13 t = ((cfg0.win 13).blk t).view.read (Elt Ideal) (ofGate1 m c) := by
  rw [flushed13]
  unfold out0_13
  rw [View.canon_unit_zero hz2]
  simp only [View.ld_unit_zero (S := S1024x256) hz2, View.ld_unit_zero (S := S1024x384) hz2, View.ld_unit_zero (S := S1x384x256) hz3]
  funext y
  rw [View.read_apply]
  exact (into_apply (blk0 m c t) (blk4 m c t) (blk1 m c t) (blk7 m c t)).block ((cfg0.win 13).blk t).view.emb (idx0 t) (fun _ => rfl) (fun _ => rfl) y

/-- Of the second's. -/
theorem flushed_g2 (t : Fin cfg0.N) : (dats m 0 c).flushed 14 t = ((cfg0.win 14).blk t).view.read (Elt Ideal) (ofGate2 m c) := by
  rw [flushed14]
  unfold out0_14
  rw [View.canon_unit_zero hz2]
  simp only [View.ld_unit_zero (S := S1024x256) hz2, View.ld_unit_zero (S := S1x256x256) hz3]
  funext y
  rw [View.read_apply]
  exact (into_pool (blk0 m c t) (blk5 m c t) (blk2 m c t) (blk8 m c t)).block ((cfg0.win 14).blk t).view.emb (idx0 t) (fun _ => rfl) (fun _ => rfl) y

/-- Of the third's. -/
theorem flushed_g3 (t : Fin cfg0.N) : (dats m 0 c).flushed 15 t = ((cfg0.win 15).blk t).view.read (Elt Ideal) (ofGate3 m c) := by
  rw [flushed15]
  unfold out0_15
  rw [View.canon_unit_zero hz2]
  simp only [View.ld_unit_zero (S := S1024x256) hz2, View.ld_unit_zero (S := S1024x384) hz2, View.ld_unit_zero (S := S1x384x256) hz3]
  funext y
  rw [View.read_apply]
  exact (into_apply (blk0 m c t) (blk6 m c t) (blk3 m c t) (blk9 m c t)).block ((cfg0.win 15).blk t).view.emb (idx0 t) (fun _ => rfl) (fun _ => rfl) y

/-- Every entry lies in the block of some point. -/
theorem cover (i : S9216x1024.Idx) : ∃ t : Fin cfg0.N, i ∈ (win0_10.rect t).set := by
  have hN : cfg0.N = 36 := N_0
  have b0 : (i 0 : Nat) < 9216 := (i 0).isLt
  have b1 : (i 1 : Nat) < 1024 := (i 1).isLt
  let t : Fin cfg0.N := ⟨4 * ((i 0 : Nat) / 1024) + (i 1 : Nat) / 256, by omega⟩
  have ht : t.val = 4 * ((i 0 : Nat) / 1024) + (i 1 : Nat) / 256 := rfl
  obtain ⟨e0, e1⟩ := idx0 t
  refine ⟨t, (Rect.mem_set_unit ..).mpr fun a => ?_⟩
  match a with
  | ⟨0, _⟩ =>
    show win0_0.index t (0 : Fin 2) * 1024 ≤ (i 0 : Nat) ∧ (i 0 : Nat) < win0_0.index t (0 : Fin 2) * 1024 + 1024
    omega
  | ⟨1, _⟩ =>
    show win0_0.index t (1 : Fin 2) * 256 ≤ (i 1 : Nat) ∧ (i 1 : Nat) < win0_0.index t (1 : Fin 2) * 256 + 256
    omega

/-- The first array ends holding the gradient of the first branch's product. -/
theorem final_p1 : (dats m 0 c).arrAt 10 cfg0.N = ofProduct m c 0 := by
  refine (dats m 0 c).arrAt_eq_of_cover 10 _ (fun t _ => flushed_p1 m c t) fun i => ?_
  obtain ⟨t, h⟩ := cover i
  refine ⟨t, flush0_10 t, ?_⟩
  show i ∈ ((View.whole main_v0_0).slice (win0_10.rect t)).set
  rw [View.set_slice_whole]
  exact h

/-- The second, of the second's. -/
theorem final_p2 : (dats m 0 c).arrAt 11 cfg0.N = ofProduct m c 1 := by
  refine (dats m 0 c).arrAt_eq_of_cover 11 _ (fun t _ => flushed_p2 m c t) fun i => ?_
  obtain ⟨t, h⟩ := cover i
  refine ⟨t, flush0_11 t, ?_⟩
  show i ∈ ((View.whole main_v0_1).slice (win0_11.rect t)).set
  rw [View.set_slice_whole]
  exact h

/-- The third, of the third's. -/
theorem final_p3 : (dats m 0 c).arrAt 12 cfg0.N = ofProduct m c 2 := by
  refine (dats m 0 c).arrAt_eq_of_cover 12 _ (fun t _ => flushed_p3 m c t) fun i => ?_
  obtain ⟨t, h⟩ := cover i
  refine ⟨t, flush0_12 t, ?_⟩
  show i ∈ ((View.whole main_v0_2).slice (win0_12.rect t)).set
  rw [View.set_slice_whole]
  exact h

/-- The fourth ends holding the gradient of the first branch's gate. -/
theorem final_g1 : (dats m 0 c).arrAt 13 cfg0.N = ofGate1 m c := by
  refine (dats m 0 c).arrAt_eq_of_cover 13 _ (fun t _ => flushed_g1 m c t) fun i => ?_
  obtain ⟨t, h⟩ := cover i
  refine ⟨t, flush0_13 t, ?_⟩
  show i ∈ ((View.whole main_v0_3).slice (win0_13.rect t)).set
  rw [View.set_slice_whole]
  exact h

/-- The fifth, of the second's. -/
theorem final_g2 : (dats m 0 c).arrAt 14 cfg0.N = ofGate2 m c := by
  refine (dats m 0 c).arrAt_eq_of_cover 14 _ (fun t _ => flushed_g2 m c t) fun i => ?_
  obtain ⟨t, h⟩ := cover i
  refine ⟨t, flush0_14 t, ?_⟩
  show i ∈ ((View.whole main_v0_4).slice (win0_14.rect t)).set
  rw [View.set_slice_whole]
  exact h

/-- The sixth, of the third's. -/
theorem final_g3 : (dats m 0 c).arrAt 15 cfg0.N = ofGate3 m c := by
  refine (dats m 0 c).arrAt_eq_of_cover 15 _ (fun t _ => flushed_g3 m c t) fun i => ?_
  obtain ⟨t, h⟩ := cover i
  refine ⟨t, flush0_15 t, ?_⟩
  show i ∈ ((View.whole main_v0_5).slice (win0_15.rect t)).set
  rw [View.set_slice_whole]
  exact h

/-- The run, with the six result arrays at the gradients. -/
theorem run (ρ : Dev nD → PrngReg) : θ_run defs (onTc (τ := τ) (main (F := Ideal))) ⟨m, fun _ => 0, ρ⟩ fun r => ∀ c : Dev nD,
      r.2.mem ((c : Thread nD τ).loc main_v0_0) = ofProduct m c 0
      ∧ r.2.mem ((c : Thread nD τ).loc main_v0_1) = ofProduct m c 1
      ∧ r.2.mem ((c : Thread nD τ).loc main_v0_2) = ofProduct m c 2
      ∧ r.2.mem ((c : Thread nD τ).loc main_v0_3) = ofGate1 m c
      ∧ r.2.mem ((c : Thread nD τ).loc main_v0_4) = ofGate2 m c
      ∧ r.2.mem ((c : Thread nD τ).loc main_v0_5) = ofGate3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
    obtain ⟨h0, h1, h2, h3, h4, h5, k⟩ := h c
    exact ⟨h0.trans (final_p1 m c), h1.trans (final_p2 m c), h2.trans (final_p3 m c), h3.trans (final_g1 m c), h4.trans (final_g2 m c), h5.trans (final_g3 m c), k⟩)
    (run_blocks m ρ)

end Cert.Kernel14Ideal.Value

namespace Cert.Reference14Ideal.Read
open Cert.Reference14Ideal Idealize.ShloMosaic Cert.Product

/-- The reference's product of a branch of width 384. -/
theorem product_wide (x : FVec Ideal S9216x384 .bf16) (w : FVec Ideal S4x384x256 .bf16) (I : S9216x1024.Idx) :
    val_main_v4 (F := Ideal) x w I = branch 384 (cell2 (a := 9216) (b := 384) x) (cell3 (n := 4) (a := 384) (b := 256) w) (I 0).val (I 1).val := by
  have b1 : (I 1).val < 1024 := (I 1).isLt
  rw [val_main_v4_apply]
  show _ = ∑ l : Fin 384, cell2 (a := 9216) (b := 384) x (I 0).val l * cell3 (n := 4) (a := 384) (b := 256) w ((I 1).val / 256) l ((I 1).val % 256)
  refine Finset.sum_congr rfl fun k _ => congrArg₂ (· * ·) (cell2_eq (a := 9216) (b := 384) _ _ rfl rfl) ?_
  have bk : k.val < 384 := k.isLt
  rw [val_main_v3_apply, val_main_v2_apply]
  refine cell3_eq (n := 4) (a := 384) (b := 256) _ _ ?_ ?_ ?_
  · show (k.val * 1024 + (I 1).val) / 256 % 4 = (I 1).val / 256
    omega
  · show (k.val * 1024 + (I 1).val) / 1024 = k.val
    omega
  · show (k.val * 1024 + (I 1).val) % 256 = (I 1).val % 256
    omega

/-- Of the branch of width 256. -/
theorem product_pool (x : FVec Ideal S9216x256 .bf16) (w : FVec Ideal S4x256x256 .bf16) (I : S9216x1024.Idx) :
    val_main_v9 (F := Ideal) x w I = branch 256 (cell2 (a := 9216) (b := 256) x) (cell3 (n := 4) (a := 256) (b := 256) w) (I 0).val (I 1).val := by
  have b1 : (I 1).val < 1024 := (I 1).isLt
  rw [val_main_v9_apply]
  show _ = ∑ l : Fin 256, cell2 (a := 9216) (b := 256) x (I 0).val l * cell3 (n := 4) (a := 256) (b := 256) w ((I 1).val / 256) l ((I 1).val % 256)
  refine Finset.sum_congr rfl fun k _ => congrArg₂ (· * ·) (cell2_eq (a := 9216) (b := 256) _ _ rfl rfl) ?_
  have bk : k.val < 256 := k.isLt
  rw [val_main_v8_apply, val_main_v7_apply]
  refine cell3_eq (n := 4) (a := 256) (b := 256) _ _ ?_ ?_ ?_
  · show (k.val * 1024 + (I 1).val) / 256 % 4 = (I 1).val / 256
    omega
  · show (k.val * 1024 + (I 1).val) / 1024 = k.val
    omega
  · show (k.val * 1024 + (I 1).val) % 256 = (I 1).val % 256
    omega

variable (z : FVec Ideal S9216x4608 .f32) (I : S9216x1024.Idx)

/-- The reference's gates of the first branch. -/
theorem gates1 : val_main_v23 (F := Ideal) z I = gateOf (cell2 (a := 9216) (b := 4608) z) 0 (I 0).val (I 1).val := by
  rw [val_main_v23_apply, val_main_v22_apply, val_main_v21_apply, val_main_v20_apply, val_main_v19_apply, val_main_v18_apply, val_main_v15_apply]
  exact (gate_eq _).trans (congrArg gate (cell2_eq (a := 9216) (b := 4608) _ _ rfl rfl))

/-- Of the second. -/
theorem gates2 : val_main_v33 (F := Ideal) z I = gateOf (cell2 (a := 9216) (b := 4608) z) 1 (I 0).val (I 1).val := by
  rw [val_main_v33_apply, val_main_v32_apply, val_main_v31_apply, val_main_v30_apply, val_main_v29_apply, val_main_v28_apply, val_main_v16_apply]
  exact (gate_eq _).trans (congrArg gate (cell2_eq (a := 9216) (b := 4608) _ _ rfl rfl))

/-- Of the third. -/
theorem gates3 : val_main_v44 (F := Ideal) z I = gateOf (cell2 (a := 9216) (b := 4608) z) 2 (I 0).val (I 1).val := by
  rw [val_main_v44_apply, val_main_v43_apply, val_main_v42_apply, val_main_v41_apply, val_main_v40_apply, val_main_v39_apply, val_main_v17_apply]
  exact (gate_eq _).trans (congrArg gate (cell2_eq (a := 9216) (b := 4608) _ _ rfl rfl))

/-- A gate's derivative. -/
theorem slope_eq {s g : EReal} (h : s = g) : s * (Ideal.ofBits .f32 0x3F800000#32 - s) = g * (1 - g) := by
  rw [h, Ideal.ofBits_one_f32]

/-- The reference's incoming gradient. -/
theorem incoming (y : FVec Ideal S9216x1024 .f32) : val_main_v50 (F := Ideal) y I = cell2 (a := 9216) (b := 1024) y (I 0).val (I 1).val := by
  have b1 : (I 1).val < 1024 := (I 1).isLt
  rw [val_main_v50_apply]
  refine cell2_eq (a := 9216) (b := 1024) _ _ ?_ ?_
  · show ((I 0).val * 1024 + (I 1).val) / 1024 = (I 0).val
    omega
  · show ((I 0).val * 1024 + (I 1).val) % 1024 = (I 1).val
    omega

end Cert.Reference14Ideal.Read

namespace Cert.Kernel14Ideal.Value
open Cert.Kernel14Ideal Idealize.ShloMosaic Idealize.ShloMosaic.TcCoe Idealize.SL.Sem Cert.Product
open Cert.Reference14Ideal.Read (val_main_v61 val_main_v62 val_main_v63 val_main_v64 val_main_v65 val_main_v66 product_wide product_pool gates1 gates2 gates3 incoming slope_eq)

variable (m : (ℓ : Loc nD τ sig) → Buf (Elt Ideal) ℓ) (c : Dev nD)

/-- The reference's gradient of the first branch's product is the kernel's. -/
theorem same_p1 : val_main_v61 (F := Ideal) (m ((c : Thread nD τ).loc main_arg0)) (m ((c : Thread nD τ).loc main_arg4)) = ofProduct m c 0 :=
  funext fun I => (congrArg₂ HMul.hMul (gates1 _ I) (incoming I _)).trans (mul_comm _ _)

/-- And of the second's. -/
theorem same_p2 : val_main_v62 (F := Ideal) (m ((c : Thread nD τ).loc main_arg0)) (m ((c : Thread nD τ).loc main_arg4)) = ofProduct m c 1 :=
  funext fun I => (congrArg₂ HMul.hMul (gates2 _ I) (incoming I _)).trans (mul_comm _ _)

/-- And of the third's. -/
theorem same_p3 : val_main_v63 (F := Ideal) (m ((c : Thread nD τ).loc main_arg0)) (m ((c : Thread nD τ).loc main_arg4)) = ofProduct m c 2 :=
  funext fun I => (congrArg₂ HMul.hMul (gates3 _ I) (incoming I _)).trans (mul_comm _ _)

/-- The reference's gradient of the first branch's gate is the kernel's. -/
theorem same_g1 : val_main_v64 (F := Ideal) (m ((c : Thread nD τ).loc main_arg0)) (m ((c : Thread nD τ).loc main_arg1)) (m ((c : Thread nD τ).loc main_arg4))
    (m ((c : Thread nD τ).loc main_arg5)) = ofGate1 m c :=
  funext fun I => congrArg₂ HMul.hMul (congrArg₂ HMul.hMul (incoming I _) (product_wide _ _ I)) (slope_eq (gates1 _ I))

/-- And of the second's. -/
theorem same_g2 : val_main_v65 (F := Ideal) (m ((c : Thread nD τ).loc main_arg0)) (m ((c : Thread nD τ).loc main_arg2)) (m ((c : Thread nD τ).loc main_arg4))
    (m ((c : Thread nD τ).loc main_arg6)) = ofGate2 m c :=
  funext fun I => congrArg₂ HMul.hMul (congrArg₂ HMul.hMul (incoming I _) (product_pool _ _ I)) (slope_eq (gates2 _ I))

/-- And of the third's. -/
theorem same_g3 : val_main_v66 (F := Ideal) (m ((c : Thread nD τ).loc main_arg0)) (m ((c : Thread nD τ).loc main_arg3)) (m ((c : Thread nD τ).loc main_arg4))
    (m ((c : Thread nD τ).loc main_arg7)) = ofGate3 m c :=
  funext fun I => congrArg₂ HMul.hMul (congrArg₂ HMul.hMul (incoming I _) (product_wide _ _ I)) (slope_eq (gates3 _ I))

end Cert.Kernel14Ideal.Value
end
end
-- ==== Proof.Merge.lean ====
module

public import proofs.«01_k».proof.Proof.MergeBackward
public import proofs.«01_k».proof.Proof.Gen.Kernel15Ideal.Value
public import proofs.«01_k».proof.Proof.Gen.Reference15Ideal.Read
public import Idealize.ShloMosaic.Lib.Tactic

/-!
# The gated sum of the branches

A point of the grid takes a ninth of the rows and a quarter of the columns.  It takes each branch's product, multiplies it by the branch's
gates, and adds the three.
-/
@[expose] public section
set_option maxRecDepth 16384
noncomputable section
namespace Cert.Kernel15Ideal.Value
open Cert.Kernel15Ideal Cert.Kernel15Ideal.Gen Idealize.ShloMosaic Idealize.ShloMosaic.TcCoe Idealize.SL.Sem
open Idealize.ShloMosaic.Pipeline (Dat)
open Cert.Product

/-- The gated sum at row `i` and column `j`. -/
def merged (A B C Z : ℕ → ℕ → EReal) (U V W : ℕ → ℕ → ℕ → EReal) (i j : ℕ) : EReal :=
  gateOf Z 0 i j * branch 384 A U i j + gateOf Z 1 i j * branch 256 B V i j + gateOf Z 2 i j * branch 384 C W i j

/-- A point's blocks give the gated sum of its place. -/
theorem merged_apply {x : FVec Ideal S1024x384 .bf16} {y : FVec Ideal S1024x256 .bf16} {z : FVec Ideal S1024x384 .bf16} {g0 g1 g2 : FVec Ideal S1024x256 .f32}
    {u : FVec Ideal S1x384x256 .bf16} {v : FVec Ideal S1x256x256 .bf16} {w : FVec Ideal S1x384x256 .bf16} {A B C Z : ℕ → ℕ → EReal} {U V W : ℕ → ℕ → ℕ → EReal} {i s : ℕ}
    (hx : Holds2 1024 384 x fun r l => A (1024 * i + r) l) (hy : Holds2 1024 256 y fun r l => B (1024 * i + r) l) (hz : Holds2 1024 384 z fun r l => C (1024 * i + r) l)
    (h0 : Holds2 1024 256 g0 fun r d => Z (1024 * i + r) (256 * (6 + s) + d)) (h1 : Holds2 1024 256 g1 fun r d => Z (1024 * i + r) (256 * (10 + s) + d))
    (h2 : Holds2 1024 256 g2 fun r d => Z (1024 * i + r) (256 * (14 + s) + d)) (hu : Holds3 384 256 u fun l d => U s l d) (hv : Holds3 256 256 v fun l d => V s l d)
    (hw : Holds3 384 256 w fun l d => W s l d) :
    Holds2 1024 256 (k0_pay1 (F := Ideal) g0 x u g1 y v g2 z w) fun r d => merged A B C Z U V W (1024 * i + r) (256 * s + d) := by
  intro r d
  unfold k0_pay1 merged gateOf
  pointwise
  simp only [hx _ _, hy _ _, hz _ _, h0 _ _, h1 _ _, h2 _ _, hu _ _, hv _ _, hw _ _, branch_at A U (1024 * i + r) s d.isLt, branch_at B V (1024 * i + r) s d.isLt,
    branch_at C W (1024 * i + r) s d.isLt]
  rw [show 1536 + 1024 * 0 + (256 * s + d.val) = 256 * (6 + s) + d.val by omega, show 1536 + 1024 * 1 + (256 * s + d.val) = 256 * (10 + s) + d.val by omega,
    show 1536 + 1024 * 2 + (256 * s + d.val) = 256 * (14 + s) + d.val by omega]
  rfl

variable (m : (ℓ : Loc nD τ sig) → Buf (Elt Ideal) ℓ) (c : Dev nD)

/-- Which block of a branch a point reads. -/
theorem idx0 : ∀ t : Fin cfg0.N, win0_0.index t (0 : Fin 2) = t.val / 4 ∧ win0_0.index t (1 : Fin 2) = 0 :=
  (by decide +kernel : ∀ t : Fin grid0.N, _)

/-- Which block of the first branch's gates. -/
theorem idx3 : ∀ t : Fin cfg0.N, win0_3.index t (0 : Fin 2) = t.val / 4 ∧ win0_3.index t (1 : Fin 2) = 6 + t.val % 4 :=
  (by decide +kernel : ∀ t : Fin grid0.N, _)

/-- Which block of the second's. -/
theorem idx4 : ∀ t : Fin cfg0.N, win0_4.index t (0 : Fin 2) = t.val / 4 ∧ win0_4.index t (1 : Fin 2) = 10 + t.val % 4 :=
  (by decide +kernel : ∀ t : Fin grid0.N, _)

/-- Which block of the third's. -/
theorem idx5 : ∀ t : Fin cfg0.N, win0_5.index t (0 : Fin 2) = t.val / 4 ∧ win0_5.index t (1 : Fin 2) = 14 + t.val % 4 :=
  (by decide +kernel : ∀ t : Fin grid0.N, _)

/-- Which group of a branch's weights. -/
theorem idx6 : ∀ t : Fin cfg0.N, win0_6.index t (0 : Fin 3) = t.val % 4 ∧ win0_6.index t (1 : Fin 3) = 0 ∧ win0_6.index t (2 : Fin 3) = 0 :=
  (by decide +kernel : ∀ t : Fin grid0.N, _)

/-- Which block of the result a point writes. -/
theorem idx9 : ∀ t : Fin cfg0.N, win0_9.index t (0 : Fin 2) = t.val / 4 ∧ win0_9.index t (1 : Fin 2) = t.val % 4 :=
  (by decide +kernel : ∀ t : Fin grid0.N, _)

/-- The first branch's entries. -/
abbrev O1 : ℕ → ℕ → EReal := cell2 (a := 9216) (b := 384) (m ((c : Thread nD τ).loc main_arg0))

/-- The second branch's. -/
abbrev O2 : ℕ → ℕ → EReal := cell2 (a := 9216) (b := 256) (m ((c : Thread nD τ).loc main_arg1))

/-- The third branch's. -/
abbrev O3 : ℕ → ℕ → EReal := cell2 (a := 9216) (b := 384) (m ((c : Thread nD τ).loc main_arg2))

/-- The entries of the matrix with the gates. -/
abbrev Z : ℕ → ℕ → EReal := cell2 (a := 9216) (b := 4608) (m ((c : Thread nD τ).loc main_arg3))

/-- The first branch's weights. -/
abbrev W1 : ℕ → ℕ → ℕ → EReal := cell3 (n := 4) (a := 384) (b := 256) (m ((c : Thread nD τ).loc main_arg4))

/-- The second branch's. -/
abbrev W2 : ℕ → ℕ → ℕ → EReal := cell3 (n := 4) (a := 256) (b := 256) (m ((c : Thread nD τ).loc main_arg5))

/-- The third branch's. -/
abbrev W3 : ℕ → ℕ → ℕ → EReal := cell3 (n := 4) (a := 384) (b := 256) (m ((c : Thread nD τ).loc main_arg6))

/-- The block of the first branch. -/
theorem blk0 (t : Fin cfg0.N) : Holds2 1024 384 (iblk m c 0 t) fun r l => O1 m c (1024 * (t.val / 4) + r) l := by
  have h := block2 (V m c main_arg0) ((cfg0.win 0).blk t).view.emb (idx0 t) (fun _ => rfl) (fun _ => rfl)
  rw [V_main_arg0] at h
  simp only [Nat.mul_zero, Nat.zero_add] at h
  exact h

/-- The block of the second branch. -/
theorem blk1 (t : Fin cfg0.N) : Holds2 1024 256 (iblk m c 1 t) fun r l => O2 m c (1024 * (t.val / 4) + r) l := by
  have h := block2 (V m c main_arg1) ((cfg0.win 1).blk t).view.emb (idx0 t) (fun _ => rfl) (fun _ => rfl)
  rw [V_main_arg1] at h
  simp only [Nat.mul_zero, Nat.zero_add] at h
  exact h

/-- The block of the third branch. -/
theorem blk2 (t : Fin cfg0.N) : Holds2 1024 384 (iblk m c 2 t) fun r l => O3 m c (1024 * (t.val / 4) + r) l := by
  have h := block2 (V m c main_arg2) ((cfg0.win 2).blk t).view.emb (idx0 t) (fun _ => rfl) (fun _ => rfl)
  rw [V_main_arg2] at h
  simp only [Nat.mul_zero, Nat.zero_add] at h
  exact h

/-- The block of the first branch's gates. -/
theorem blk3 (t : Fin cfg0.N) : Holds2 1024 256 (iblk m c 3 t) fun r d => Z m c (1024 * (t.val / 4) + r) (256 * (6 + t.val % 4) + d) := by
  have h := block2 (V m c main_arg3) ((cfg0.win 3).blk t).view.emb (idx3 t) (fun _ => rfl) (fun _ => rfl)
  rw [V_main_arg3] at h
  exact h

/-- The block of the second branch's gates. -/
theorem blk4 (t : Fin cfg0.N) : Holds2 1024 256 (iblk m c 4 t) fun r d => Z m c (1024 * (t.val / 4) + r) (256 * (10 + t.val % 4) + d) := by
  have h := block2 (V m c main_arg3) ((cfg0.win 4).blk t).view.emb (idx4 t) (fun _ => rfl) (fun _ => rfl)
  rw [V_main_arg3] at h
  exact h

/-- The block of the third branch's gates. -/
theorem blk5 (t : Fin cfg0.N) : Holds2 1024 256 (iblk m c 5 t) fun r d => Z m c (1024 * (t.val / 4) + r) (256 * (14 + t.val % 4) + d) := by
  have h := block2 (V m c main_arg3) ((cfg0.win 5).blk t).view.emb (idx5 t) (fun _ => rfl) (fun _ => rfl)
  rw [V_main_arg3] at h
  exact h

/-- The group of the first branch's weights. -/
theorem blk6 (t : Fin cfg0.N) : Holds3 384 256 (iblk m c 6 t) fun l d => W1 m c (t.val % 4) l d := by
  have h := block3 (V m c main_arg4) ((cfg0.win 6).blk t).view.emb (idx6 t) (fun _ => rfl) (fun _ => rfl) (fun _ => rfl)
  rw [V_main_arg4] at h
  exact h

/-- The group of the second branch's weights. -/
theorem blk7 (t : Fin cfg0.N) : Holds3 256 256 (iblk m c 7 t) fun l d => W2 m c (t.val % 4) l d := by
  have h := block3 (V m c main_arg5) ((cfg0.win 7).blk t).view.emb (idx6 t) (fun _ => rfl) (fun _ => rfl) (fun _ => rfl)
  rw [V_main_arg5] at h
  exact h

/-- The group of the third branch's weights. -/
theorem blk8 (t : Fin cfg0.N) : Holds3 384 256 (iblk m c 8 t) fun l d => W3 m c (t.val % 4) l d := by
  have h := block3 (V m c main_arg6) ((cfg0.win 8).blk t).view.emb (idx6 t) (fun _ => rfl) (fun _ => rfl) (fun _ => rfl)
  rw [V_main_arg6] at h
  exact h

/-- The gated sum. -/
def result : S9216x1024.Idx → EReal := matrix 9216 1024 (merged (O1 m c) (O2 m c) (O3 m c) (Z m c) (W1 m c) (W2 m c) (W3 m c))

/-- What a point writes back is its block of the gated sum. -/
theorem flushed_eq (t : Fin cfg0.N) : (dats m 0 c).flushed 9 t = ((cfg0.win 9).blk t).view.read (Elt Ideal) (result m c) := by
  rw [flushed9]
  unfold out0_9
  rw [View.canon_unit_zero hz2]
  simp only [View.ld_unit_zero (S := S1024x256) hz2, View.ld_unit_zero (S := S1024x384) hz2, View.ld_unit_zero (S := S1x384x256) hz3, View.ld_unit_zero (S := S1x256x256) hz3]
  funext y
  rw [View.read_apply]
  exact (merged_apply (blk0 m c t) (blk1 m c t) (blk2 m c t) (blk3 m c t) (blk4 m c t) (blk5 m c t) (blk6 m c t) (blk7 m c t) (blk8 m c t)).block
    ((cfg0.win 9).blk t).view.emb (idx9 t) (fun _ => rfl) (fun _ => rfl) y

/-- The result array ends holding the gated sum. -/
theorem final : (dats m 0 c).arrAt 9 cfg0.N = result m c := by
  have hN : cfg0.N = 36 := N_0
  refine (dats m 0 c).arrAt_eq_of_cover 9 _ (fun t _ => flushed_eq m c t) fun i => ?_
  have b0 : (i 0 : Nat) < 9216 := (i 0).isLt
  have b1 : (i 1 : Nat) < 1024 := (i 1).isLt
  let t : Fin cfg0.N := ⟨4 * ((i 0 : Nat) / 1024) + (i 1 : Nat) / 256, by omega⟩
  have ht : t.val = 4 * ((i 0 : Nat) / 1024) + (i 1 : Nat) / 256 := rfl
  obtain ⟨e0, e1⟩ := idx9 t
  refine ⟨t, flush0_9 t, ?_⟩
  show i ∈ ((View.whole main_v0).slice (win0_9.rect t)).set
  rw [View.set_slice_whole, Rect.mem_set_unit]
  intro a
  match a with
  | ⟨0, _⟩ =>
    show win0_9.index t (0 : Fin 2) * 1024 ≤ (i 0 : Nat) ∧ (i 0 : Nat) < win0_9.index t (0 : Fin 2) * 1024 + 1024
    omega
  | ⟨1, _⟩ =>
    show win0_9.index t (1 : Fin 2) * 256 ≤ (i 1 : Nat) ∧ (i 1 : Nat) < win0_9.index t (1 : Fin 2) * 256 + 256
    omega

/-- The run, with the result array at the gated sum. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

/-- The reference's gated sum is the kernel's. -/
theorem reference_eq : Cert.Reference15Ideal.Read.val_main_v41 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) = result m c :=
  funext fun I => congrArg₂ HAdd.hAdd
    (congrArg₂ HAdd.hAdd (congrArg₂ HMul.hMul (Cert.Reference14Ideal.Read.gates1 _ I) (Cert.Reference14Ideal.Read.product_wide _ _ I))
      (congrArg₂ HMul.hMul (Cert.Reference14Ideal.Read.gates2 _ I) (Cert.Reference14Ideal.Read.product_pool _ _ I)))
    (congrArg₂ HMul.hMul (Cert.Reference14Ideal.Read.gates3 _ I) (Cert.Reference14Ideal.Read.product_wide _ _ I))

end Cert.Kernel15Ideal.Value
end
end
-- ==== Proof.BranchInput.lean ====
module

public import proofs.«01_k».proof.Proof.Gate
public import proofs.«01_k».proof.Proof.Gen.Kernel16Ideal.Value
public import proofs.«01_k».proof.Proof.Gen.Reference16Ideal.Read
public import Idealize.ShloMosaic.Lib.Tactic

/-!
# The gradient of a branch of width 384

The kernel adds up four products, one for each group of columns, in a buffer that no result shares, and at the last stores the sum in the
shorter format.  The reference takes one product over all the columns.
-/
@[expose] public section
set_option maxRecDepth 16384
noncomputable section
namespace Cert.Kernel16Ideal.Value
open Cert.Kernel16Ideal Cert.Kernel16Ideal.Gen Idealize.ShloMosaic Idealize.ShloMosaic.TcCoe Idealize.SL.Sem
open Idealize.ShloMosaic.Pipeline (Dat)
open Cert.Product

section
variable {F : FTy → Type} [FloatOps F]
variable (c : Dev nD) (i : grid0.Coords) (a3 : Memref sig .tc .vmem S2304x256 .bf16) (h3 : a3.IsWhole) (a4 : Memref sig .tc .vmem S1x384x256 .bf16) (h4 : a4.IsWhole)
    (a5 : Memref sig .tc .vmem S2304x384 .bf16) (h5 : a5.IsWhole) (a6 : Memref sig .tc .vmem S2304x384 .f32) (h6 : a6.IsWhole) (x : Vec F S2304x256 .bf16)
    (y : Vec F S1x384x256 .bf16) (z : Vec F S2304x384 .f32)

/-- At the first group the body keeps the group's product. -/
theorem kept_A (hc0 : cond0_0 i) (hc1 : ¬cond0_1 i) (hc2 : ¬cond0_2 i) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz2]
  unfold k0_pay2
  simp only [View.readAt_eq_ld, h3.read_unread, h4.read_unread, View.ld_unit_zero (S := S2304x256) hz2, View.ld_unit_zero (S := S1x384x256) hz3, shapeCast_self]

/-- At a later group it adds the group's product to what it kept. -/
theorem kept_B (hc0 : ¬cond0_0 i) (hc1 : cond0_1 i) (hc2 : ¬cond0_2 i) : sout0_B_0 c i a3 h3 a4 h4 a5 h5 a6 h6 hc0 hc1 hc2 x y z = addf z (k0_pay1 x y) := by
  unfold sout0_B_0
  rw [View.read_writes_eq_canon _ _ _ (scover0_B_0 c i a3 h3 a4 h4 a5 h5 a6 h6 hc0 hc1 hc2 x y z)]
  unfold kernelRun0_B
  dsimp only
  rw [View.canon_unit_zero hz2]
  unfold k0_pay3
  simp only [View.readAt_eq_ld, h3.read_unread, h4.read_unread, h6.read_unread, View.ld_unit_zero (S := S2304x256) hz2, View.ld_unit_zero (S := S2304x384) hz2,
    View.ld_unit_zero (S := S1x384x256) hz3, shapeCast_self]

/-- At the last group too. -/
theorem kept_C (hc0 : ¬cond0_0 i) (hc1 : cond0_1 i) (hc2 : cond0_2 i) : sout0_C_0 c i a3 h3 a4 h4 a5 h5 a6 h6 hc0 hc1 hc2 x y z = addf z (k0_pay1 x y) := by
  unfold sout0_C_0
  rw [View.read_writes_eq_canon _ _ _ (scover0_C_0 c i a3 h3 a4 h4 a5 h5 a6 h6 hc0 hc1 hc2 x y z)]
  unfold kernelRun0_C
  dsimp only
  sl_unfold_words
  rw [View.canon_unit_zero hz2]
  unfold k0_pay3
  simp only [View.readAt_eq_ld, h3.read_unread, h4.read_unread, h6.read_unread, View.ld_unit_zero (S := S2304x256) hz2, View.ld_unit_zero (S := S2304x384) hz2,
    View.ld_unit_zero (S := S1x384x256) hz3, shapeCast_self]

/-- The last group also stores the sum. -/
theorem out_C (hc0 : ¬cond0_0 i) (hc1 : cond0_1 i) (hc2 : cond0_2 i) : out0_C_2 c i a3 h3 a4 h4 a5 h5 a6 h6 hc0 hc1 hc2 x y z = k0_pay4 (addf z (k0_pay1 x y)) := by
  unfold out0_C_2
  rw [View.read_writes_eq_canon _ _ _ (cover0_C_2 c i a3 h3 a4 h4 a5 h5 a6 h6 hc0 hc1 hc2 x y z)]
  unfold kernelRun0_C
  dsimp only
  sl_unfold_words
  rw [View.canon_unit_zero hz2, View.readCov_unit_zero (S := S2304x384) _ hz2]
  unfold k0_pay3
  simp only [View.readAt_eq_ld, h3.read_unread, h4.read_unread, h6.read_unread, View.ld_unit_zero (S := S2304x256) hz2, View.ld_unit_zero (S := S2304x384) hz2,
    View.ld_unit_zero (S := S1x384x256) hz3, shapeCast_self]

end

/-- A group's product, entry by entry. -/
theorem prod_apply {x : FVec Ideal S2304x256 .bf16} {y : FVec Ideal S1x384x256 .bf16} {f g : ℕ → ℕ → EReal} (hx : Holds2 2304 256 x f) (hy : Holds3 384 256 y g) :
    Holds2 2304 384 (k0_pay1 (F := Ideal) x y) fun r d => ∑ l : Fin 256, f r l * g d l := by
  intro r d
  unfold k0_pay1
  pointwise
  simp only [hx _ _, hy _ _]

variable (m : (ℓ : Loc nD τ sig) → Buf (Elt Ideal) ℓ) (c : Dev nD)

/-- Which block of the cotangents a point reads. -/
theorem idx0 : ∀ t : Fin cfg0.N, win0_0.index t (0 : Fin 2) = t.val / 4 ∧ win0_0.index t (1 : Fin 2) = t.val % 4 :=
  (by decide +kernel : ∀ t : Fin grid0.N, _)

/-- Which group of the weights a point reads. -/
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of the result a point writes. -/
theorem idx2 : ∀ t : Fin cfg0.N, win0_2.index t (0 : Fin 2) = t.val / 4 ∧ win0_2.index t (1 : Fin 2) = 0 :=
  (by decide +kernel : ∀ t : Fin grid0.N, _)

/-- The cotangents' entries. -/
abbrev Y : ℕ → ℕ → EReal := cell2 (a := 9216) (b := 1024) (m ((c : Thread nD τ).loc main_arg0))

/-- The weights' entries. -/
abbrev W : ℕ → ℕ → ℕ → EReal := cell3 (n := 4) (a := 384) (b := 256) (m ((c : Thread nD τ).loc main_arg1))

/-- The block of cotangents. -/
theorem blk0 (t : Fin cfg0.N) : Holds2 2304 256 (iblk m c 0 t) fun r l => Y m c (2304 * (t.val / 4) + r) (256 * (t.val % 4) + l) := by
  have h := block2 (V m c main_arg0) ((cfg0.win 0).blk t).view.emb (idx0 t) (fun _ => rfl) (fun _ => rfl)
  rw [V_main_arg0] at h
  exact h

/-- The group of weights. -/
theorem blk1 (t : Fin cfg0.N) : Holds3 384 256 (iblk m c 1 t) fun r l => W m c (t.val % 4) r l := by
  have h := block3 (V m c main_arg1) ((cfg0.win 1).blk t).view.emb (idx1 t) (fun _ => rfl) (fun _ => rfl) (fun _ => rfl)
  rw [V_main_arg1] at h
  exact h

/-- The product of a point's blocks. -/
theorem chunk (t : Fin cfg0.N) : Holds2 2304 384 (k0_pay1 (F := Ideal) (iblk m c 0 t) (iblk m c 1 t)) fun r d => backPart (Y m c) (W m c) (2304 * (t.val / 4) + r) d (t.val % 4) :=
  prod_apply (blk0 m c t) (blk1 m c t)

/-- After a point the body keeps the sum of the products so far. -/
theorem acc (n : ℕ) (h : n < cfg0.N) :
    Holds2 2304 384 (outsAt0 m c n h).2 fun r d => ∑ s ∈ Finset.range (n % 4 + 1), backPart (Y m c) (W m c) (2304 * (n / 4) + r) d s :=
  sums (fun n h r d => (outsAt0 m c n h).2 (ix2 r d)) (fun q r d s => backPart (Y m c) (W m c) (2304 * q + r) d s)
    (fun n h r d h0 => by
      rw [outsAt0_A m c ⟨n, h⟩ h0 (by dsimp only; omega) (by dsimp only; omega)]
      dsimp only
      rw [kept_A]
      exact chunk m c ⟨n, h⟩ r d)
    (fun n h r d h0 => by
      refine Eq.trans ?_ (congrArg (_ + ·) (chunk m c ⟨n + 1, h⟩ r d))
      by_cases h3 : (n + 1) % 4 = 3
      · rw [outsAt0_C m c ⟨n + 1, h⟩ h0 (by dsimp only; omega) h3]
        dsimp only
        rw [kept_C]
        rfl
      · rw [outsAt0_B m c ⟨n + 1, h⟩ h0 (by dsimp only; omega) h3]
        dsimp only
        rw [kept_B]
        rfl) n h

/-- At the last point of a block the stored result holds the same reals. -/
theorem stored_eq (t : Fin cfg0.N) (h3 : t.val % 4 = 3) (y : S2304x384.Idx) : (outsAt0 m c t.val t.isLt).1 y = (outsAt0 m c t.val t.isLt).2 y := by
  rw [outsAt0_C m c t (by omega) (by omega) h3]
  dsimp only
  rw [kept_C, out_C]
  rfl

/-- The gradient: the cotangents times the transposed weights. -/
def grad : S9216x384.Idx → EReal := matrix 9216 384 (back (Y m c) (W m c))

/-- What a point writes back is its block of the gradient. -/
theorem flushed_eq (t : Fin cfg0.N) (hf : (cfg0.win 2).flush t = true) : (dats m 0 c).flushed 2 t = ((cfg0.win 2).blk t).view.read (Elt Ideal) (grad m c) := by
  have h3 : t.val % 4 = 3 := (flush0_2 t).mp hf
  have h := acc m c t.val t.isLt
  rw [h3] at h
  rw [flushed2]
  funext y
  rw [View.read_apply]
  exact (stored_eq m c t h3 y).trans (h.strip (g := back (Y m c) (W m c)) ((cfg0.win 2).blk t).view.emb (idx2 t) (fun _ => rfl) (fun _ => rfl) y)

/-- The result array ends holding the gradient. -/
theorem final : (dats m 0 c).arrAt 2 cfg0.N = grad m c := by
  have hN : cfg0.N = 16 := N_0
  refine (dats m 0 c).arrAt_eq_of_cover 2 (grad m c) (flushed_eq m c) fun i => ?_
  have b0 : (i 0 : Nat) < 9216 := (i 0).isLt
  have b1 : (i 1 : Nat) < 384 := (i 1).isLt
  let t : Fin cfg0.N := ⟨4 * ((i 0 : Nat) / 2304) + 3, by omega⟩
  have ht : t.val = 4 * ((i 0 : Nat) / 2304) + 3 := rfl
  obtain ⟨e0, e1⟩ := idx2 t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 2304 ≤ (i 0 : Nat) ∧ (i 0 : Nat) < win0_2.index t (0 : Fin 2) * 2304 + 2304
    omega
  | ⟨1, _⟩ =>
    show win0_2.index t (1 : Fin 2) * 384 ≤ (i 1 : Nat) ∧ (i 1 : Nat) < win0_2.index t (1 : Fin 2) * 384 + 384
    omega

/-- The run, with the result array at the gradient. -/
theorem grad_run (ρ : Dev nD → PrngReg) : θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's product over all the columns is the sum of the four. -/
theorem reference_eq : Cert.Reference16Ideal.Read.val_main_v7 (F := Ideal) (m ((c : Thread nD τ).loc main_arg0)) (m ((c : Thread nD τ).loc main_arg1)) = grad m c := by
  funext I
  have b1 : (I 1).val < 384 := (I 1).isLt
  refine Eq.trans ?_ (back_eq (Y m c) (W m c) (I 0).val (I 1).val)
  rw [Cert.Reference16Ideal.Read.val_main_v7_apply, Cert.Reference16Ideal.Read.val_main_v6_apply]
  show ∑ k : Fin 1024, _ = _
  refine Finset.sum_congr rfl fun k _ => congrArg₂ (· * ·) (cell2_eq (a := 9216) (b := 1024) _ _ rfl rfl) ?_
  have bk : k.val < 1024 := k.isLt
  rw [Cert.Reference16Ideal.Read.val_main_v3_apply, Cert.Reference16Ideal.Read.val_main_v2_apply]
  refine cell3_eq (n := 4) (a := 384) (b := 256) _ _ ?_ ?_ ?_
  · show ((I 1).val * 1024 + k.val) / 256 % 4 = k.val / 256
    omega
  · show ((I 1).val * 1024 + k.val) / 1024 = (I 1).val
    omega
  · show ((I 1).val * 1024 + k.val) % 256 = k.val % 256
    omega

end Cert.Kernel16Ideal.Value
end
end
-- ==== Proof.PoolInput.lean ====
module

public import proofs.«01_k».proof.Proof.Gate
public import proofs.«01_k».proof.Proof.Gen.Kernel17Ideal.Value
public import proofs.«01_k».proof.Proof.Gen.Reference17Ideal.Read
public import Idealize.ShloMosaic.Lib.Tactic

/-!
# The gradient of the branch of width 256

The kernel adds up four products, one for each group of columns, in the result.  The reference takes one product over all the columns.
-/
@[expose] public section
set_option maxRecDepth 16384
noncomputable section
namespace Cert.Kernel17Ideal.Value
open Cert.Kernel17Ideal Cert.Kernel17Ideal.Gen Idealize.ShloMosaic Idealize.ShloMosaic.TcCoe Idealize.SL.Sem
open Idealize.ShloMosaic.Pipeline (Dat)
open Cert.Product

section
variable {F : FTy → Type} [FloatOps F]
variable (c : Dev nD) (i : grid0.Coords) (a3 : Memref sig .tc .vmem S2304x256 .bf16) (h3 : a3.IsWhole) (a4 : Memref sig .tc .vmem S1x256x256 .bf16) (h4 : a4.IsWhole)
    (a5 : Memref sig .tc .vmem S2304x256 .f32) (h5 : a5.IsWhole) (x : Vec F S2304x256 .bf16) (y : Vec F S1x256x256 .bf16)

/-- At the first group the body stores the group's product. -/
theorem out_A (hc0 : cond0_0 i) (hc1 : ¬cond0_1 i) : out0_A_2 c i a3 h3 a4 h4 a5 h5 hc0 hc1 x y = k0_pay1 x y := by
  unfold out0_A_2
  rw [View.read_writes_eq_canon _ _ _ (cover0_A_2 c i a3 h3 a4 h4 a5 h5 hc0 hc1 x y)]
  unfold kernelRun0_A
  dsimp only
  rw [View.canon_unit_zero hz2]
  simp only [View.readAt_eq_ld, h3.read_unread, h4.read_unread, View.ld_unit_zero (S := S2304x256) hz2, View.ld_unit_zero (S := S1x256x256) hz3]

/-- At a later group it adds the group's product to what is there. -/
theorem out_B (hc0 : ¬cond0_0 i) (hc1 : cond0_1 i) (z : Vec F S2304x256 .f32) : out0_B_2 c i a3 h3 a4 h4 a5 h5 hc0 hc1 x y z = addf z (k0_pay1 x y) := by
  unfold out0_B_2
  rw [View.read_writes_eq_canon _ _ _ (cover0_B_2 c i a3 h3 a4 h4 a5 h5 hc0 hc1 x y z)]
  unfold kernelRun0_B
  dsimp only
  rw [View.canon_unit_zero hz2]
  unfold k0_pay2
  simp only [View.readAt_eq_ld, h3.read_unread, h4.read_unread, h5.read_unread, View.ld_unit_zero (S := S2304x256) hz2, View.ld_unit_zero (S := S1x256x256) hz3, shapeCast_self]

end

/-- A group's product, entry by entry. -/
theorem prod_apply {x : FVec Ideal S2304x256 .bf16} {y : FVec Ideal S1x256x256 .bf16} {f g : ℕ → ℕ → EReal} (hx : Holds2 2304 256 x f) (hy : Holds3 256 256 y g) :
    Holds2 2304 256 (k0_pay1 (F := Ideal) x y) fun r d => ∑ l : Fin 256, f r l * g d l := by
  intro r d
  unfold k0_pay1
  pointwise
  simp only [hx _ _, hy _ _]

variable (m : (ℓ : Loc nD τ sig) → Buf (Elt Ideal) ℓ) (c : Dev nD)

/-- Which block of the cotangents a point reads. -/
theorem idx0 : ∀ t : Fin cfg0.N, win0_0.index t (0 : Fin 2) = t.val / 4 ∧ win0_0.index t (1 : Fin 2) = t.val % 4 :=
  (by decide +kernel : ∀ t : Fin grid0.N, _)

/-- Which group of the weights a point reads. -/
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of the result a point writes. -/
theorem idx2 : ∀ t : Fin cfg0.N, win0_2.index t (0 : Fin 2) = t.val / 4 ∧ win0_2.index t (1 : Fin 2) = 0 :=
  (by decide +kernel : ∀ t : Fin grid0.N, _)

/-- The cotangents' entries. -/
abbrev Y : ℕ → ℕ → EReal := cell2 (a := 9216) (b := 1024) (m ((c : Thread nD τ).loc main_arg0))

/-- The weights' entries. -/
abbrev W : ℕ → ℕ → ℕ → EReal := cell3 (n := 4) (a := 256) (b := 256) (m ((c : Thread nD τ).loc main_arg1))

/-- The block of cotangents. -/
theorem blk0 (t : Fin cfg0.N) : Holds2 2304 256 (iblk m c 0 t) fun r l => Y m c (2304 * (t.val / 4) + r) (256 * (t.val % 4) + l) := by
  have h := block2 (V m c main_arg0) ((cfg0.win 0).blk t).view.emb (idx0 t) (fun _ => rfl) (fun _ => rfl)
  rw [V_main_arg0] at h
  exact h

/-- The group of weights. -/
theorem blk1 (t : Fin cfg0.N) : Holds3 256 256 (iblk m c 1 t) fun r l => W m c (t.val % 4) r l := by
  have h := block3 (V m c main_arg1) ((cfg0.win 1).blk t).view.emb (idx1 t) (fun _ => rfl) (fun _ => rfl) (fun _ => rfl)
  rw [V_main_arg1] at h
  exact h

/-- The product of a point's blocks. -/
theorem chunk (t : Fin cfg0.N) : Holds2 2304 256 (k0_pay1 (F := Ideal) (iblk m c 0 t) (iblk m c 1 t)) fun r d => backPart (Y m c) (W m c) (2304 * (t.val / 4) + r) d (t.val % 4) :=
  prod_apply (blk0 m c t) (blk1 m c t)

/-- After a point the block holds the sum of the products so far. -/
theorem acc (n : ℕ) (h : n < cfg0.N) :
    Holds2 2304 256 (outsAt0 m c n h) fun r d => ∑ s ∈ Finset.range (n % 4 + 1), backPart (Y m c) (W m c) (2304 * (n / 4) + r) d s :=
  sums (fun n h r d => outsAt0 m c n h (ix2 r d)) (fun q r d s => backPart (Y m c) (W m c) (2304 * q + r) d s)
    (fun n h r d h0 => by
      rw [outsAt0_A m c ⟨n, h⟩ h0 (by dsimp only; omega), out_A]
      exact chunk m c ⟨n, h⟩ r d)
    (fun n h r d h0 => by
      rw [outsAt0_B m c ⟨n + 1, h⟩ h0 (by dsimp only; omega), out_B]
      exact congrArg (_ + ·) (chunk m c ⟨n + 1, h⟩ r d)) n h

/-- The gradient: the cotangents times the transposed weights. -/
def grad : S9216x256.Idx → EReal := matrix 9216 256 (back (Y m c) (W m c))

/-- What a point writes back is its block of the gradient. -/
theorem flushed_eq (t : Fin cfg0.N) (hf : (cfg0.win 2).flush t = true) : (dats m 0 c).flushed 2 t = ((cfg0.win 2).blk t).view.read (Elt Ideal) (grad m c) := by
  have h := acc m c t.val t.isLt
  rw [(flush0_2 t).mp hf] at h
  rw [flushed2]
  funext y
  rw [View.read_apply]
  exact h.strip (g := back (Y m c) (W m c)) ((cfg0.win 2).blk t).view.emb (idx2 t) (fun _ => rfl) (fun _ => rfl) y

/-- The result array ends holding the gradient. -/
theorem final : (dats m 0 c).arrAt 2 cfg0.N = grad m c := by
  have hN : cfg0.N = 16 := N_0
  refine (dats m 0 c).arrAt_eq_of_cover 2 (grad m c) (flushed_eq m c) fun i => ?_
  have b0 : (i 0 : Nat) < 9216 := (i 0).isLt
  have b1 : (i 1 : Nat) < 256 := (i 1).isLt
  let t : Fin cfg0.N := ⟨4 * ((i 0 : Nat) / 2304) + 3, by omega⟩
  have ht : t.val = 4 * ((i 0 : Nat) / 2304) + 3 := rfl
  obtain ⟨e0, e1⟩ := idx2 t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 2304 ≤ (i 0 : Nat) ∧ (i 0 : Nat) < win0_2.index t (0 : Fin 2) * 2304 + 2304
    omega
  | ⟨1, _⟩ =>
    show win0_2.index t (1 : Fin 2) * 256 ≤ (i 1 : Nat) ∧ (i 1 : Nat) < win0_2.index t (1 : Fin 2) * 256 + 256
    omega

/-- The run, with the result array at the gradient. -/
theorem grad_run (ρ : Dev nD → PrngReg) : θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's product over all the columns is the sum of the four. -/
theorem reference_eq : Cert.Reference17Ideal.Read.val_main_v6 (F := Ideal) (m ((c : Thread nD τ).loc main_arg0)) (m ((c : Thread nD τ).loc main_arg1)) = grad m c := by
  funext I
  have b1 : (I 1).val < 256 := (I 1).isLt
  refine Eq.trans ?_ (back_eq (Y m c) (W m c) (I 0).val (I 1).val)
  rw [Cert.Reference17Ideal.Read.val_main_v6_apply]
  refine Finset.sum_congr rfl fun k _ => congrArg₂ (· * ·) (cell2_eq (a := 9216) (b := 1024) _ _ rfl rfl) ?_
  have bk : k.val < 1024 := k.isLt
  rw [Cert.Reference17Ideal.Read.val_main_v3_apply, Cert.Reference17Ideal.Read.val_main_v2_apply]
  refine cell3_eq (n := 4) (a := 256) (b := 256) _ _ ?_ ?_ ?_
  · show ((I 1).val * 1024 + k.val) / 256 % 4 = k.val / 256
    omega
  · show ((I 1).val * 1024 + k.val) / 1024 = (I 1).val
    omega
  · show ((I 1).val * 1024 + k.val) % 256 = k.val % 256
    omega

end Cert.Kernel17Ideal.Value
end
end
-- ==== Proof.BranchWeights.lean ====
module

public import proofs.«01_k».proof.Proof.Gate
public import proofs.«01_k».proof.Proof.Gen.Kernel18Ideal.Value
public import proofs.«01_k».proof.Proof.Gen.Reference18Ideal.Read
public import Idealize.ShloMosaic.Lib.Tactic

/-!
# The gradient of the weights of a branch of width 384

The kernel adds up four products, one for each quarter of the rows, and keeps the sum in two formats.  The reference takes one product
over all rows.
-/
@[expose] public section
set_option maxRecDepth 16384
noncomputable section
namespace Cert.Kernel18Ideal.Value
open Cert.Kernel18Ideal Cert.Kernel18Ideal.Gen Idealize.ShloMosaic Idealize.ShloMosaic.TcCoe Idealize.SL.Sem
open Idealize.ShloMosaic.Pipeline (Dat)
open Cert.Product

section
variable {F : FTy → Type} [FloatOps F]
variable (c : Dev nD) (i : grid0.Coords) (a3 : Memref sig .tc .vmem S2304x384 .bf16) (h3 : a3.IsWhole) (a4 : Memref sig .tc .vmem S2304x256 .bf16) (h4 : a4.IsWhole)
    (a5 : Memref sig .tc .vmem S1x384x256 .f32) (h5 : a5.IsWhole) (a6 : Memref sig .tc .vmem S1x384x256 .bf16) (h6 : a6.IsWhole) (x : Vec F S2304x384 .bf16) (y : Vec F S2304x256 .bf16)

/-- At the first chunk the body stores the chunk's product. -/
theorem out_A (hc0 : cond0_0 i) (hc1 : ¬cond0_1 i) (hc2 : ¬cond0_2 i) : out0_A_2 c i a3 h3 a4 h4 a5 h5 a6 h6 hc0 hc1 hc2 x y = k0_pay2 x y := by
  unfold out0_A_2
  rw [View.read_writes_eq_canon _ _ _ (cover0_A_2 c i a3 h3 a4 h4 a5 h5 a6 h6 hc0 hc1 hc2 x y)]
  unfold kernelRun0_A
  dsimp only
  rw [View.canon_unit_zero hz3]
  simp only [View.readAt_eq_ld, h3.read_unread, h4.read_unread, View.ld_unit_zero (S := S2304x384) hz2, View.ld_unit_zero (S := S2304x256) hz2]

variable (z : Vec F S1x384x256 .f32)

/-- At a later chunk it adds the chunk's product to what is there. -/
theorem out_B (hc0 : ¬cond0_0 i) (hc1 : cond0_1 i) (hc2 : ¬cond0_2 i) : out0_B_2 c i a3 h3 a4 h4 a5 h5 a6 h6 hc0 hc1 hc2 x y z = k0_pay3 x y z := by
  unfold out0_B_2
  rw [View.read_writes_eq_canon _ _ _ (cover0_B_2 c i a3 h3 a4 h4 a5 h5 a6 h6 hc0 hc1 hc2 x y z)]
  unfold kernelRun0_B
  dsimp only
  rw [View.canon_unit_zero hz3]
  simp only [View.readAt_eq_ld, h3.read_unread, h4.read_unread, h5.read_unread, View.ld_unit_zero (S := S2304x384) hz2, View.ld_unit_zero (S := S2304x256) hz2,
    View.ld_unit_zero (S := S1x384x256) hz3]

/-- At the last chunk too. -/
theorem out_C (hc0 : ¬cond0_0 i) (hc1 : cond0_1 i) (hc2 : cond0_2 i) : out0_C_2 c i a3 h3 a4 h4 a5 h5 a6 h6 hc0 hc1 hc2 x y z = k0_pay3 x y z := by
  unfold out0_C_2
  rw [View.read_writes_eq_canon _ _ _ (cover0_C_2 c i a3 h3 a4 h4 a5 h5 a6 h6 hc0 hc1 hc2 x y z)]
  unfold kernelRun0_C
  dsimp only
  sl_unfold_words
  rw [View.canon_unit_zero hz3]
  simp only [View.readAt_eq_ld, h3.read_unread, h4.read_unread, h5.read_unread, View.ld_unit_zero (S := S2304x384) hz2, View.ld_unit_zero (S := S2304x256) hz2,
    View.ld_unit_zero (S := S1x384x256) hz3]

/-- The last chunk also stores the sum in the shorter format. -/
theorem short_C (hc0 : ¬cond0_0 i) (hc1 : cond0_1 i) (hc2 : cond0_2 i) : out0_C_3 c i a3 h3 a4 h4 a5 h5 a6 h6 hc0 hc1 hc2 x y z = k0_pay4 (k0_pay3 x y z) := by
  unfold out0_C_3
  rw [View.read_writes_eq_canon _ _ _ (cover0_C_3 c i a3 h3 a4 h4 a5 h5 a6 h6 hc0 hc1 hc2 x y z)]
  unfold kernelRun0_C
  dsimp only
  sl_unfold_words
  rw [View.canon_unit_zero hz3, View.readCov_unit_zero (S := S1x384x256) _ hz3]
  simp only [View.readAt_eq_ld, h3.read_unread, h4.read_unread, h5.read_unread, View.ld_unit_zero (S := S2304x384) hz2, View.ld_unit_zero (S := S2304x256) hz2,
    View.ld_unit_zero (S := S1x384x256) hz3]

end

section
variable {x : FVec Ideal S2304x384 .bf16} {y : FVec Ideal S2304x256 .bf16} {f g : ℕ → ℕ → EReal} (hx : Holds2 2304 384 x f) (hy : Holds2 2304 256 y g)
include hx hy

/-- The first chunk's product, entry by entry. -/
theorem first_apply : Holds3 384 256 (k0_pay2 (F := Ideal) x y) fun r d => ∑ l : Fin 2304, f l r * g l d := by
  intro r d
  unfold k0_pay2 k0_pay1
  pointwise
  simp only [hx _ _, hy _ _]

/-- A later chunk's product added, entry by entry. -/
theorem next_apply (z : FVec Ideal S1x384x256 .f32) (r : Fin 384) (d : Fin 256) : k0_pay3 (F := Ideal) x y z (ix3 0 r d) = z (ix3 0 r d) + ∑ l : Fin 2304, f l r * g l d := by
  unfold k0_pay3 k0_pay1
  pointwise
  simp only [hx _ _, hy _ _]

end

/-- The shorter format holds the same reals. -/
theorem short_apply (z : FVec Ideal S1x384x256 .f32) (i : S1x384x256.Idx) : k0_pay4 (F := Ideal) z i = z i := by
  rw [eq_one i]
  unfold k0_pay4
  pointwise
  exact congrArg z (eq_one i)

variable (m : (ℓ : Loc nD τ sig) → Buf (Elt Ideal) ℓ) (c : Dev nD)

/-- Which block of the branch a point reads. -/
theorem idx0 : ∀ t : Fin cfg0.N, win0_0.index t (0 : Fin 2) = t.val % 4 ∧ win0_0.index t (1 : Fin 2) = 0 :=
  (by decide +kernel : ∀ t : Fin grid0.N, _)

/-- Which block of the cotangents a point reads. -/
theorem idx1 : ∀ t : Fin cfg0.N, win0_1.index t (0 : Fin 2) = t.val % 4 ∧ win0_1.index t (1 : Fin 2) = t.val / 4 :=
  (by decide +kernel : ∀ t : Fin grid0.N, _)

/-- Which group of the result, in either format, a point writes. -/
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

/-- The branch's entries. -/
abbrev O : ℕ → ℕ → EReal := cell2 (a := 9216) (b := 384) (m ((c : Thread nD τ).loc main_arg0))

/-- The cotangents' entries. -/
abbrev Y : ℕ → ℕ → EReal := cell2 (a := 9216) (b := 1024) (m ((c : Thread nD τ).loc main_arg1))

/-- The block of the branch. -/
theorem blk0 (t : Fin cfg0.N) : Holds2 2304 384 (iblk m c 0 t) fun r l => O m c (2304 * (t.val % 4) + r) l := by
  have h := block2 (V m c main_arg0) ((cfg0.win 0).blk t).view.emb (idx0 t) (fun _ => rfl) (fun _ => rfl)
  rw [V_main_arg0] at h
  simp only [Nat.mul_zero, Nat.zero_add] at h
  exact h

/-- The block of cotangents. -/
theorem blk1 (t : Fin cfg0.N) : Holds2 2304 256 (iblk m c 1 t) fun r l => Y m c (2304 * (t.val % 4) + r) (256 * (t.val / 4) + l) := by
  have h := block2 (V m c main_arg1) ((cfg0.win 1).blk t).view.emb (idx1 t) (fun _ => rfl) (fun _ => rfl)
  rw [V_main_arg1] at h
  exact h

/-- After a point the block holds the sum of the products so far. -/
theorem acc (n : ℕ) (h : n < cfg0.N) :
    Holds3 384 256 (outsAt0 m c n h).1 fun r d => ∑ s ∈ Finset.range (n % 4 + 1), weightPart (O m c) (Y m c) r (256 * (n / 4) + d) s :=
  sums (fun n h r d => (outsAt0 m c n h).1 (ix3 0 r d)) (fun q r d s => weightPart (O m c) (Y m c) r (256 * q + d) s)
    (fun n h r d h0 => by
      rw [outsAt0_A m c ⟨n, h⟩ h0 (by dsimp only; omega) (by dsimp only; omega)]
      dsimp only
      rw [out_A]
      exact first_apply (blk0 m c ⟨n, h⟩) (blk1 m c ⟨n, h⟩) r d)
    (fun n h r d h0 => by
      refine Eq.trans ?_ (next_apply (blk0 m c ⟨n + 1, h⟩) (blk1 m c ⟨n + 1, h⟩) _ r d)
      by_cases h3 : (n + 1) % 4 = 3
      · rw [outsAt0_C m c ⟨n + 1, h⟩ h0 (by dsimp only; omega) h3]
        dsimp only
        rw [out_C]
        rfl
      · rw [outsAt0_B m c ⟨n + 1, h⟩ h0 (by dsimp only; omega) h3]
        dsimp only
        rw [out_B]
        rfl) n h

/-- At the last point of a block the two formats hold the same reals. -/
theorem short_eq (t : Fin cfg0.N) (h3 : t.val % 4 = 3) (y : S1x384x256.Idx) : (outsAt0 m c t.val t.isLt).2 y = (outsAt0 m c t.val t.isLt).1 y := by
  rw [outsAt0_C m c t (by omega) (by omega) h3]
  dsimp only
  rw [out_C, short_C]
  exact short_apply _ y

/-- The gradient: the transposed branch times the cotangents, the columns in four groups. -/
def grad : S4x384x256.Idx → EReal := weights 384 (O m c) (Y m c)

/-- What a last point's block holds. -/
theorem block (t : Fin cfg0.N) (h3 : t.val % 4 = 3) (y : S1x384x256.Idx) : (outsAt0 m c t.val t.isLt).1 y = grad m c (((cfg0.win 2).blk t).view.emb y) :=
  (acc m c t.val t.isLt).group h3 ((cfg0.win 2).blk t).view.emb (idx2 t) (fun _ => rfl) (fun _ => rfl) (fun _ => rfl) y

/-- What a point writes back is its group of the gradient. -/
theorem flushed_eq (t : Fin cfg0.N) (hf : (cfg0.win 2).flush t = true) : (dats m 0 c).flushed 2 t = ((cfg0.win 2).blk t).view.read (Elt Ideal) (grad m c) := by
  rw [flushed2]
  funext y
  rw [View.read_apply]
  exact block m c t ((flush0_2 t).mp hf) y

/-- And so in the shorter format. -/
theorem flushed_short (t : Fin cfg0.N) (hf : (cfg0.win 3).flush t = true) : (dats m 0 c).flushed 3 t = ((cfg0.win 3).blk t).view.read (Elt Ideal) (grad m c) := by
  rw [flushed3]
  funext y
  rw [View.read_apply]
  exact (short_eq m c t ((flush0_3 t).mp hf) y).trans (block m c t ((flush0_3 t).mp hf) y)

/-- Every entry lies in the group of some last point. -/
theorem cover (i : S4x384x256.Idx) : ∃ t : Fin cfg0.N, t.val % 4 = 3 ∧ i ∈ (win0_2.rect t).set := by
  have hN : cfg0.N = 16 := N_0
  have b0 : (i 0 : Nat) < 4 := (i 0).isLt
  have b1 : (i 1 : Nat) < 384 := (i 1).isLt
  have b2 : (i 2 : Nat) < 256 := (i 2).isLt
  let t : Fin cfg0.N := ⟨4 * (i 0 : Nat) + 3, by omega⟩
  have ht : t.val = 4 * (i 0 : Nat) + 3 := rfl
  obtain ⟨e0, e1, e2⟩ := idx2 t
  refine ⟨t, by omega, (Rect.mem_set_unit ..).mpr fun a => ?_⟩
  match a with
  | ⟨0, _⟩ =>
    show win0_2.index t (0 : Fin 3) * 1 ≤ (i 0 : Nat) ∧ (i 0 : Nat) < win0_2.index t (0 : Fin 3) * 1 + 1
    omega
  | ⟨1, _⟩ =>
    show win0_2.index t (1 : Fin 3) * 384 ≤ (i 1 : Nat) ∧ (i 1 : Nat) < win0_2.index t (1 : Fin 3) * 384 + 384
    omega
  | ⟨2, _⟩ =>
    show win0_2.index t (2 : Fin 3) * 256 ≤ (i 2 : Nat) ∧ (i 2 : Nat) < win0_2.index t (2 : Fin 3) * 256 + 256
    omega

/-- The result array ends holding the gradient. -/
theorem final : (dats m 0 c).arrAt 2 cfg0.N = grad m c := by
  refine (dats m 0 c).arrAt_eq_of_cover 2 (grad m c) (flushed_eq m c) fun i => ?_
  obtain ⟨t, h3, h⟩ := cover i
  refine ⟨t, (flush0_2 t).mpr h3, ?_⟩
  show i ∈ ((View.whole main_v0_0).slice (win0_2.rect t)).set
  rw [View.set_slice_whole]
  exact h

/-- And so does the short one. -/
theorem final_short : (dats m 0 c).arrAt 3 cfg0.N = grad m c := by
  refine (dats m 0 c).arrAt_eq_of_cover 3 (grad m c) (flushed_short m c) fun i => ?_
  obtain ⟨t, h3, h⟩ := cover i
  refine ⟨t, (flush0_3 t).mpr h3, ?_⟩
  show i ∈ ((View.whole main_v0_1).slice (win0_3.rect t)).set
  rw [View.set_slice_whole]
  exact h

/-- The run, with the result arrays at the gradient. -/
theorem run (ρ : Dev nD → PrngReg) : θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2.1.trans (final_short m c), (h c).2.2⟩) (run_blocks m ρ)

/-- The reference's product over all rows is the sum of the four. -/
theorem reference_eq : Cert.Reference18Ideal.Read.val_main_v9 (F := Ideal) (m ((c : Thread nD τ).loc main_arg0)) (m ((c : Thread nD τ).loc main_arg1)) = grad m c := by
  funext I
  have b0 : (I 0 : Nat) < 4 := (I 0).isLt
  have b1 : (I 1 : Nat) < 384 := (I 1).isLt
  have b2 : (I 2 : Nat) < 256 := (I 2).isLt
  rw [Cert.Reference18Ideal.Read.val_main_v9_apply, Cert.Reference18Ideal.Read.val_main_v8_apply, Cert.Reference18Ideal.Read.val_main_v7_apply, Cert.Reference18Ideal.Read.val_main_v6_apply]
  refine Eq.trans (Finset.sum_congr rfl fun k _ => congrArg₂ (· * ·) ?_ ?_) (weights_eq (O m c) (Y m c) (I 1).val (256 * (I 0).val + (I 2).val))
  · refine cell2_eq (a := 9216) (b := 1024) _ _ rfl ?_
    show (((I 1).val * 4 + (I 0).val) * 256 + (I 2).val) % 1024 = _
    omega
  · refine cell2_eq (a := 9216) (b := 384) _ _ rfl ?_
    show (((I 1).val * 4 + (I 0).val) * 256 + (I 2).val) / 1024 = _
    omega

end Cert.Kernel18Ideal.Value
end
end
-- ==== Proof.PoolWeights.lean ====
module

public import proofs.«01_k».proof.Proof.Gate
public import proofs.«01_k».proof.Proof.Gen.Kernel19Ideal.Value
public import proofs.«01_k».proof.Proof.Gen.Reference19Ideal.Read
public import Idealize.ShloMosaic.Lib.Tactic

/-!
# The gradient of the weights of the branch of width 256

The kernel adds up four products, one for each quarter of the rows, and keeps the sum in two formats.  The reference takes one product
over all rows.
-/
@[expose] public section
set_option maxRecDepth 16384
noncomputable section
namespace Cert.Kernel19Ideal.Value
open Cert.Kernel19Ideal Cert.Kernel19Ideal.Gen Idealize.ShloMosaic Idealize.ShloMosaic.TcCoe Idealize.SL.Sem
open Idealize.ShloMosaic.Pipeline (Dat)
open Cert.Product

section
variable {F : FTy → Type} [FloatOps F]
variable (c : Dev nD) (i : grid0.Coords) (a3 : Memref sig .tc .vmem S2304x256 .bf16) (h3 : a3.IsWhole) (a4 : Memref sig .tc .vmem S2304x256 .bf16) (h4 : a4.IsWhole)
    (a5 : Memref sig .tc .vmem S1x256x256 .f32) (h5 : a5.IsWhole) (a6 : Memref sig .tc .vmem S1x256x256 .bf16) (h6 : a6.IsWhole) (x y : Vec F S2304x256 .bf16)

/-- At the first chunk the body stores the chunk's product. -/
theorem out_A (hc0 : cond0_0 i) (hc1 : ¬cond0_1 i) (hc2 : ¬cond0_2 i) : out0_A_2 c i a3 h3 a4 h4 a5 h5 a6 h6 hc0 hc1 hc2 x y = k0_pay2 x y := by
  unfold out0_A_2
  rw [View.read_writes_eq_canon _ _ _ (cover0_A_2 c i a3 h3 a4 h4 a5 h5 a6 h6 hc0 hc1 hc2 x y)]
  unfold kernelRun0_A
  dsimp only
  rw [View.canon_unit_zero hz3]
  simp only [View.readAt_eq_ld, h3.read_unread, h4.read_unread, View.ld_unit_zero (S := S2304x256) hz2]

variable (z : Vec F S1x256x256 .f32)

/-- At a later chunk it adds the chunk's product to what is there. -/
theorem out_B (hc0 : ¬cond0_0 i) (hc1 : cond0_1 i) (hc2 : ¬cond0_2 i) : out0_B_2 c i a3 h3 a4 h4 a5 h5 a6 h6 hc0 hc1 hc2 x y z = k0_pay3 x y z := by
  unfold out0_B_2
  rw [View.read_writes_eq_canon _ _ _ (cover0_B_2 c i a3 h3 a4 h4 a5 h5 a6 h6 hc0 hc1 hc2 x y z)]
  unfold kernelRun0_B
  dsimp only
  rw [View.canon_unit_zero hz3]
  simp only [View.readAt_eq_ld, h3.read_unread, h4.read_unread, h5.read_unread, View.ld_unit_zero (S := S2304x256) hz2, View.ld_unit_zero (S := S1x256x256) hz3]

/-- At the last chunk too. -/
theorem out_C (hc0 : ¬cond0_0 i) (hc1 : cond0_1 i) (hc2 : cond0_2 i) : out0_C_2 c i a3 h3 a4 h4 a5 h5 a6 h6 hc0 hc1 hc2 x y z = k0_pay3 x y z := by
  unfold out0_C_2
  rw [View.read_writes_eq_canon _ _ _ (cover0_C_2 c i a3 h3 a4 h4 a5 h5 a6 h6 hc0 hc1 hc2 x y z)]
  unfold kernelRun0_C
  dsimp only
  sl_unfold_words
  rw [View.canon_unit_zero hz3]
  simp only [View.readAt_eq_ld, h3.read_unread, h4.read_unread, h5.read_unread, View.ld_unit_zero (S := S2304x256) hz2, View.ld_unit_zero (S := S1x256x256) hz3]

/-- The last chunk also stores the sum in the shorter format. -/
theorem short_C (hc0 : ¬cond0_0 i) (hc1 : cond0_1 i) (hc2 : cond0_2 i) : out0_C_3 c i a3 h3 a4 h4 a5 h5 a6 h6 hc0 hc1 hc2 x y z = k0_pay4 (k0_pay3 x y z) := by
  unfold out0_C_3
  rw [View.read_writes_eq_canon _ _ _ (cover0_C_3 c i a3 h3 a4 h4 a5 h5 a6 h6 hc0 hc1 hc2 x y z)]
  unfold kernelRun0_C
  dsimp only
  sl_unfold_words
  rw [View.canon_unit_zero hz3, View.readCov_unit_zero (S := S1x256x256) _ hz3]
  simp only [View.readAt_eq_ld, h3.read_unread, h4.read_unread, h5.read_unread, View.ld_unit_zero (S := S2304x256) hz2, View.ld_unit_zero (S := S1x256x256) hz3]

end

section
variable {x y : FVec Ideal S2304x256 .bf16} {f g : ℕ → ℕ → EReal} (hx : Holds2 2304 256 x f) (hy : Holds2 2304 256 y g)
include hx hy

/-- The first chunk's product, entry by entry. -/
theorem first_apply : Holds3 256 256 (k0_pay2 (F := Ideal) x y) fun r d => ∑ l : Fin 2304, f l r * g l d := by
  intro r d
  unfold k0_pay2 k0_pay1
  pointwise
  simp only [hx _ _, hy _ _]

/-- A later chunk's product added, entry by entry. -/
theorem next_apply (z : FVec Ideal S1x256x256 .f32) (r d : Fin 256) : k0_pay3 (F := Ideal) x y z (ix3 0 r d) = z (ix3 0 r d) + ∑ l : Fin 2304, f l r * g l d := by
  unfold k0_pay3 k0_pay1
  pointwise
  simp only [hx _ _, hy _ _]

end

/-- The shorter format holds the same reals. -/
theorem short_apply (z : FVec Ideal S1x256x256 .f32) (i : S1x256x256.Idx) : k0_pay4 (F := Ideal) z i = z i := by
  rw [eq_one i]
  unfold k0_pay4
  pointwise
  exact congrArg z (eq_one i)

variable (m : (ℓ : Loc nD τ sig) → Buf (Elt Ideal) ℓ) (c : Dev nD)

/-- Which block of the branch a point reads. -/
theorem idx0 : ∀ t : Fin cfg0.N, win0_0.index t (0 : Fin 2) = t.val % 4 ∧ win0_0.index t (1 : Fin 2) = 0 :=
  (by decide +kernel : ∀ t : Fin grid0.N, _)

/-- Which block of the cotangents a point reads. -/
theorem idx1 : ∀ t : Fin cfg0.N, win0_1.index t (0 : Fin 2) = t.val % 4 ∧ win0_1.index t (1 : Fin 2) = t.val / 4 :=
  (by decide +kernel : ∀ t : Fin grid0.N, _)

/-- Which group of the result, in either format, a point writes. -/
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

/-- The branch's entries. -/
abbrev O : ℕ → ℕ → EReal := cell2 (a := 9216) (b := 256) (m ((c : Thread nD τ).loc main_arg0))

/-- The cotangents' entries. -/
abbrev Y : ℕ → ℕ → EReal := cell2 (a := 9216) (b := 1024) (m ((c : Thread nD τ).loc main_arg1))

/-- The block of the branch. -/
theorem blk0 (t : Fin cfg0.N) : Holds2 2304 256 (iblk m c 0 t) fun r l => O m c (2304 * (t.val % 4) + r) l := by
  have h := block2 (V m c main_arg0) ((cfg0.win 0).blk t).view.emb (idx0 t) (fun _ => rfl) (fun _ => rfl)
  rw [V_main_arg0] at h
  simp only [Nat.mul_zero, Nat.zero_add] at h
  exact h

/-- The block of cotangents. -/
theorem blk1 (t : Fin cfg0.N) : Holds2 2304 256 (iblk m c 1 t) fun r l => Y m c (2304 * (t.val % 4) + r) (256 * (t.val / 4) + l) := by
  have h := block2 (V m c main_arg1) ((cfg0.win 1).blk t).view.emb (idx1 t) (fun _ => rfl) (fun _ => rfl)
  rw [V_main_arg1] at h
  exact h

/-- After a point the block holds the sum of the products so far. -/
theorem acc (n : ℕ) (h : n < cfg0.N) :
    Holds3 256 256 (outsAt0 m c n h).1 fun r d => ∑ s ∈ Finset.range (n % 4 + 1), weightPart (O m c) (Y m c) r (256 * (n / 4) + d) s :=
  sums (fun n h r d => (outsAt0 m c n h).1 (ix3 0 r d)) (fun q r d s => weightPart (O m c) (Y m c) r (256 * q + d) s)
    (fun n h r d h0 => by
      rw [outsAt0_A m c ⟨n, h⟩ h0 (by dsimp only; omega) (by dsimp only; omega)]
      dsimp only
      rw [out_A]
      exact first_apply (blk0 m c ⟨n, h⟩) (blk1 m c ⟨n, h⟩) r d)
    (fun n h r d h0 => by
      refine Eq.trans ?_ (next_apply (blk0 m c ⟨n + 1, h⟩) (blk1 m c ⟨n + 1, h⟩) _ r d)
      by_cases h3 : (n + 1) % 4 = 3
      · rw [outsAt0_C m c ⟨n + 1, h⟩ h0 (by dsimp only; omega) h3]
        dsimp only
        rw [out_C]
        rfl
      · rw [outsAt0_B m c ⟨n + 1, h⟩ h0 (by dsimp only; omega) h3]
        dsimp only
        rw [out_B]
        rfl) n h

/-- At the last point of a block the two formats hold the same reals. -/
theorem short_eq (t : Fin cfg0.N) (h3 : t.val % 4 = 3) (y : S1x256x256.Idx) : (outsAt0 m c t.val t.isLt).2 y = (outsAt0 m c t.val t.isLt).1 y := by
  rw [outsAt0_C m c t (by omega) (by omega) h3]
  dsimp only
  rw [out_C, short_C]
  exact short_apply _ y

/-- The gradient: the transposed branch times the cotangents, the columns in four groups. -/
def grad : S4x256x256.Idx → EReal := weights 256 (O m c) (Y m c)

/-- What a last point's block holds. -/
theorem block (t : Fin cfg0.N) (h3 : t.val % 4 = 3) (y : S1x256x256.Idx) : (outsAt0 m c t.val t.isLt).1 y = grad m c (((cfg0.win 2).blk t).view.emb y) :=
  (acc m c t.val t.isLt).group h3 ((cfg0.win 2).blk t).view.emb (idx2 t) (fun _ => rfl) (fun _ => rfl) (fun _ => rfl) y

/-- What a point writes back is its group of the gradient. -/
theorem flushed_eq (t : Fin cfg0.N) (hf : (cfg0.win 2).flush t = true) : (dats m 0 c).flushed 2 t = ((cfg0.win 2).blk t).view.read (Elt Ideal) (grad m c) := by
  rw [flushed2]
  funext y
  rw [View.read_apply]
  exact block m c t ((flush0_2 t).mp hf) y

/-- And so in the shorter format. -/
theorem flushed_short (t : Fin cfg0.N) (hf : (cfg0.win 3).flush t = true) : (dats m 0 c).flushed 3 t = ((cfg0.win 3).blk t).view.read (Elt Ideal) (grad m c) := by
  rw [flushed3]
  funext y
  rw [View.read_apply]
  exact (short_eq m c t ((flush0_3 t).mp hf) y).trans (block m c t ((flush0_3 t).mp hf) y)

/-- Every entry lies in the group of some last point. -/
theorem cover (i : S4x256x256.Idx) : ∃ t : Fin cfg0.N, t.val % 4 = 3 ∧ i ∈ (win0_2.rect t).set := by
  have hN : cfg0.N = 16 := N_0
  have b0 : (i 0 : Nat) < 4 := (i 0).isLt
  have b1 : (i 1 : Nat) < 256 := (i 1).isLt
  have b2 : (i 2 : Nat) < 256 := (i 2).isLt
  let t : Fin cfg0.N := ⟨4 * (i 0 : Nat) + 3, by omega⟩
  have ht : t.val = 4 * (i 0 : Nat) + 3 := rfl
  obtain ⟨e0, e1, e2⟩ := idx2 t
  refine ⟨t, by omega, (Rect.mem_set_unit ..).mpr fun a => ?_⟩
  match a with
  | ⟨0, _⟩ =>
    show win0_2.index t (0 : Fin 3) * 1 ≤ (i 0 : Nat) ∧ (i 0 : Nat) < win0_2.index t (0 : Fin 3) * 1 + 1
    omega
  | ⟨1, _⟩ =>
    show win0_2.index t (1 : Fin 3) * 256 ≤ (i 1 : Nat) ∧ (i 1 : Nat) < win0_2.index t (1 : Fin 3) * 256 + 256
    omega
  | ⟨2, _⟩ =>
    show win0_2.index t (2 : Fin 3) * 256 ≤ (i 2 : Nat) ∧ (i 2 : Nat) < win0_2.index t (2 : Fin 3) * 256 + 256
    omega

/-- The result array ends holding the gradient. -/
theorem final : (dats m 0 c).arrAt 2 cfg0.N = grad m c := by
  refine (dats m 0 c).arrAt_eq_of_cover 2 (grad m c) (flushed_eq m c) fun i => ?_
  obtain ⟨t, h3, h⟩ := cover i
  refine ⟨t, (flush0_2 t).mpr h3, ?_⟩
  show i ∈ ((View.whole main_v0_0).slice (win0_2.rect t)).set
  rw [View.set_slice_whole]
  exact h

/-- And so does the short one. -/
theorem final_short : (dats m 0 c).arrAt 3 cfg0.N = grad m c := by
  refine (dats m 0 c).arrAt_eq_of_cover 3 (grad m c) (flushed_short m c) fun i => ?_
  obtain ⟨t, h3, h⟩ := cover i
  refine ⟨t, (flush0_3 t).mpr h3, ?_⟩
  show i ∈ ((View.whole main_v0_1).slice (win0_3.rect t)).set
  rw [View.set_slice_whole]
  exact h

/-- The run, with the result arrays at the gradient. -/
theorem run (ρ : Dev nD → PrngReg) : θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2.1.trans (final_short m c), (h c).2.2⟩) (run_blocks m ρ)

/-- The reference's product over all rows is the sum of the four. -/
theorem reference_eq : Cert.Reference19Ideal.Read.val_main_v9 (F := Ideal) (m ((c : Thread nD τ).loc main_arg0)) (m ((c : Thread nD τ).loc main_arg1)) = grad m c := by
  funext I
  have b0 : (I 0 : Nat) < 4 := (I 0).isLt
  have b1 : (I 1 : Nat) < 256 := (I 1).isLt
  have b2 : (I 2 : Nat) < 256 := (I 2).isLt
  rw [Cert.Reference19Ideal.Read.val_main_v9_apply, Cert.Reference19Ideal.Read.val_main_v8_apply, Cert.Reference19Ideal.Read.val_main_v7_apply, Cert.Reference19Ideal.Read.val_main_v6_apply]
  refine Eq.trans (Finset.sum_congr rfl fun k _ => congrArg₂ (· * ·) ?_ ?_) (weights_eq (O m c) (Y m c) (I 1).val (256 * (I 0).val + (I 2).val))
  · refine cell2_eq (a := 9216) (b := 1024) _ _ rfl ?_
    show (((I 1).val * 4 + (I 0).val) * 256 + (I 2).val) % 1024 = _
    omega
  · refine cell2_eq (a := 9216) (b := 256) _ _ rfl ?_
    show (((I 1).val * 4 + (I 0).val) * 256 + (I 2).val) / 1024 = _
    omega

end Cert.Kernel19Ideal.Value
end
end
-- ==== Proof.Online.lean ====
module

public import proofs.«01_k».proof.Proof.Pieces
public import proofs.«01_k».proof.Proof.Gen.Kernel20Ideal.Frame
public import proofs.«01_k».proof.Proof.RefLse
public import Idealize.ShloMosaic.Lib.Pipeline.ReadBack

/-!
# The forward attention's softmax, chunk by chunk

The kernel goes through the keys in chunks of 256. It keeps the largest score so far, the sum of the exponentials of the scores less
it, and the sum of the values weighted by them. One step is proved here, and reused for every chunk of both key heads.
-/
@[expose] public section
set_option maxRecDepth 16384
noncomputable section
namespace Cert.Kernel20Ideal.Value
open Cert.Kernel20Ideal Cert.Kernel20Ideal.Gen Idealize.ShloMosaic Idealize.ShloMosaic.TcCoe Idealize.SL.Sem
open Cert.Attn
open Cert.ReferenceIdeal.Read (fold_max_real botR oneR zeroR log_sum)
open Cert.KernelIdeal.Value (Is2 Is3 stack dots select_slt select_sge eighth ld3 emb2 not_mem2)

/-- The entries of a matrix are `a`. -/
abbrev E2 (n m : ℕ) (x : (⟨2, ![n, m]⟩ : Shape).Idx → EReal) (a : ℕ → ℕ → EReal) : Prop :=
  ∀ (r : Fin n) (l : Fin m), x (ix2 r l) = a r l

/-- The entries of a matrix under a leading axis of one are `a`. -/
abbrev E3 (n m : ℕ) (x : (⟨3, ![1, n, m]⟩ : Shape).Idx → EReal) (a : ℕ → ℕ → EReal) : Prop :=
  ∀ (r : Fin n) (l : Fin m), x (ix3 0 r l) = a r l

/-- A sum times a factor that is a nonnegative real. -/
theorem sum_mul_coe {ι : Type*} (t : Finset ι) (f : ι → EReal) {c : ℝ} (hc : 0 ≤ c) : (∑ i ∈ t, f i) * (c : EReal) = ∑ i ∈ t, f i * (c : EReal) := by
  classical
  induction t using Finset.induction_on with
  | empty => simp
  | insert a t ha ih =>
    rw [Finset.sum_insert ha, Finset.sum_insert ha, EReal.right_distrib_of_nonneg_of_ne_top (EReal.coe_nonneg.mpr hc) (EReal.coe_ne_top c), ih]

/-- A column of reals is the values of a function. -/
theorem col_real {x : (⟨2, ![384, 1]⟩ : Shape).Idx → EReal} (h : ∀ R : Fin 384, ∃ r : ℝ, x (ix2 R 0) = (r : EReal)) : ∃ μ : ℕ → ℝ, Is2 384 1 x fun R _ => μ R := by
  choose f hf using h
  refine ⟨fun R => if hR : R < 384 then f ⟨R, hR⟩ else 0, fun R l => ?_⟩
  rw [show l = 0 from Subsingleton.elim _ _, hf R]
  show ((f R : ℝ) : EReal) = ((if hR : R.val < 384 then f ⟨R.val, hR⟩ else 0 : ℝ) : EReal)
  rw [dif_pos R.isLt]

/-- A number added to the logarithm of a sum of exponentials less it. -/
theorem log_sum_shift {N : ℕ} (hN : 0 < N) (s : ℕ → ℝ) (μ : ℝ) : μ + Real.log (∑ k : Fin N, Real.exp (s k - μ)) = Real.log (∑ k : Fin N, Real.exp (s k)) := by
  simp only [Real.exp_sub]
  rw [← Finset.sum_div, Real.log_div (sum_exp_pos hN s).ne' (Real.exp_pos μ).ne', Real.log_exp]
  ring

/-- The next largest score. -/
def nextMax (q : FVec Ideal S384x128 .bf16) (m : FVec Ideal S384x1 .f32) (k : Vec Ideal S1x256x128 .bf16) : FVec Ideal S384x1 .f32 := k0_pay76 q m k
/-- The next sum of the exponentials. -/
def nextSum (q : FVec Ideal S384x128 .bf16) (m l : FVec Ideal S384x1 .f32) (k : Vec Ideal S1x256x128 .bf16) : FVec Ideal S384x1 .f32 := k0_pay90 q m l k
/-- The next weighted sum of the values. -/
def nextAcc (q : FVec Ideal S384x128 .bf16) (m : FVec Ideal S384x1 .f32) (a : FVec Ideal S384x128 .f32) (k v : Vec Ideal S1x256x128 .bf16) : FVec Ideal S384x128 .f32 :=
  addf (mulf a (broadcastTo S384x128 (k0_pay77 q m k) broadcasts_S384x1_S384x128))
    (matmul dot_S384x256_S256x128_S384x128_1_0_0_1_n_n none (truncf .bf16 (k0_pay78 q m k) bitsLt_bf16_f32 : FVec Ideal S384x256 .bf16)
      (shapeCast S256x128 v shapeCasts_S1x256x128_S256x128 : FVec Ideal S256x128 .bf16) (constant S384x128 .f32 0x00000000#32))

/-- What is kept after `N` keys: queries `a`, keys `K`, values `V`. -/
def Kept (N : ℕ) (a K : ℕ → ℕ → ℝ) (V : ℕ → ℕ → EReal) (m l : FVec Ideal S384x1 .f32) (acc : FVec Ideal S384x128 .f32) : Prop :=
  ∃ μ : ℕ → ℝ, Is2 384 1 m (fun R _ => μ R) ∧ Is2 384 1 l (fun R _ => ∑ k : Fin N, Real.exp (dots a K R k - μ R))
    ∧ E2 384 128 acc fun R d => ∑ k : Fin N, ((Real.exp (dots a K R k - μ R) : ℝ) : EReal) * V k d

section
variable {N : ℕ} {a K : ℕ → ℕ → ℝ} {V : ℕ → ℕ → EReal} {q : FVec Ideal S384x128 .bf16} {m l : FVec Ideal S384x1 .f32} {acc : FVec Ideal S384x128 .f32}
  {kc vc : Vec Ideal S1x256x128 .bf16}

/-- The scores of a chunk. -/
theorem scores (hq : Is2 384 128 q a) (hk : Is3 256 128 kc fun k l => K (N + k) l) : Is2 384 256 (k0_pay75 (F := Ideal) q kc) fun R k => dots a K R (N + k) := by
  intro R k
  unfold k0_pay75
  pointwise
  simp only [hq _ _, hk _ _, ← EReal.coe_mul, ← coe_sum, dots]

/-- The next largest score is a real. -/
theorem nextMax_real {μ : ℕ → ℝ} (hq : Is2 384 128 q a) (hk : Is3 256 128 kc fun k l => K (N + k) l) (hm : Is2 384 1 m fun R _ => μ R) :
    ∃ μ' : ℕ → ℝ, Is2 384 1 (k0_pay76 (F := Ideal) q m kc) fun R _ => μ' R := by
  refine col_real fun R => ?_
  have hs := scores hq hk
  unfold k0_pay76
  pointwise
  obtain ⟨r, e⟩ := fold_max_real (n := 256) (by norm_num) _ _ fun y => hs R y
  refine ⟨max (μ R) r, ?_⟩
  rw [botR, EReal.coe_strictMono.monotone.map_max]
  exact congrArg₂ _ (hm R 0) e

/-- One chunk of keys. -/
theorem step (hq : Is2 384 128 q a) (hk : Is3 256 128 kc fun k l => K (N + k) l) (hv : E3 256 128 vc fun k l => V (N + k) l) (h : Kept N a K V m l acc) :
    Kept (N + 256) a K V (nextMax q m kc) (nextSum q m l kc) (nextAcc q m acc kc vc) := by
  obtain ⟨μ, hm, hl, ha⟩ := h
  obtain ⟨μ', hm'⟩ := nextMax_real hq hk hm
  have hs := scores hq hk
  have hal : Is2 384 1 (k0_pay77 (F := Ideal) q m kc) fun R _ => Real.exp (μ R - μ' R) := by
    intro R z
    unfold k0_pay77
    pointwise
    simp only [hm _ _, hm' _ _, ← EReal.coe_sub, Ideal.exp_coe]
  have hp : Is2 384 256 (k0_pay78 (F := Ideal) q m kc) fun R k => Real.exp (dots a K R (N + k) - μ' R) := by
    intro R z
    unfold k0_pay78
    pointwise
    simp only [hs _ _, hm' _ _, ← EReal.coe_sub, Ideal.exp_coe]
  have he : ∀ R k : ℕ, Real.exp (dots a K R k - μ R) * Real.exp (μ R - μ' R) = Real.exp (dots a K R k - μ' R) := fun R k => by
    rw [← Real.exp_add]; congr 1; ring
  refine ⟨μ', hm', ?_, ?_⟩
  · intro R z
    have hal' : Is2 384 1 (k0_pay88 (F := Ideal) q m kc) fun R _ => Real.exp (μ R - μ' R) := hal
    have hp' : Is2 384 256 (k0_pay89 (F := Ideal) q m kc) fun R k => Real.exp (dots a K R (N + k) - μ' R) := hp
    unfold nextSum k0_pay90
    pointwise
    simp only [hl _ _, hal' _ _, hp' _ _]
    rw [Fin.sum_univ_add, EReal.coe_add, ← EReal.coe_mul, Finset.sum_mul, ← coe_sum]
    simp only [he]
    rfl
  · intro R d
    unfold nextAcc
    pointwise
    simp only [ha _ _, hal _ _, hp _ _, hv _ _]
    rw [Fin.sum_univ_add, sum_mul_coe _ _ (Real.exp_pos _).le]
    refine congrArg₂ _ (Finset.sum_congr rfl fun k _ => ?_) rfl
    rw [mul_right_comm, ← EReal.coe_mul, he]
    rfl

/-- Before any key: the largest score is a large negative number, the sums are zero. -/
theorem start : Kept 0 a K V (k0_pay5 (F := Ideal)) (k0_pay6 (F := Ideal)) (k0_pay7 (F := Ideal)) := by
  obtain ⟨r, e⟩ : ∃ r : ℝ, Ideal.ofBits .f32 0xF149F2CA#32 = ((r : ℝ) : EReal) := by
    simp [Ideal.ofBits, Ideal.ieee]
    exact ⟨-(13234890 * 2 ^ 76), by push_cast; rfl⟩
  refine ⟨fun _ => r, fun R z => e, fun R z => ?_, fun R d => ?_⟩
  · unfold k0_pay6
    pointwise
    simp
  · unfold k0_pay7
    pointwise
    simp

/-- The sum of the values weighted, divided by the sum of the weights. -/
def settle (l : FVec Ideal S384x1 .f32) (acc : FVec Ideal S384x128 .f32) : FVec Ideal S384x128 .f32 :=
  mulf acc (broadcastTo S384x128 (divf (broadcast S384x1 (Scalar.ofBits .f32 0x3F800000#32 : Ideal .f32)) l : FVec Ideal S384x1 .f32) broadcasts_S384x1_S384x128)

/-- The attention's output over `N` keys. -/
theorem settle_apply (hN : 0 < N) (h : Kept N a K V m l acc) :
    E2 384 128 (settle l acc) fun R d => ∑ k : Fin N, ((soft N (dots a K R) k : ℝ) : EReal) * V k d := by
  obtain ⟨μ, hm, hl, ha⟩ := h
  intro R d
  have hZ := sum_exp_pos hN fun k => dots a K R k - μ R
  unfold settle
  pointwise
  simp only [ha _ _, hl _ _]
  rw [← EReal.coe_one, coe_div _ _ hZ.ne', sum_mul_coe _ _ (one_div_pos.mpr hZ).le]
  refine Finset.sum_congr rfl fun k _ => ?_
  rw [mul_right_comm, ← EReal.coe_mul, mul_one_div, soft_shift]

/-- The logarithm of the sum of the exponentials of `N` scores. -/
theorem lse_apply (hN : 0 < N) (h : Kept N a K V m l acc) :
    Is3 384 1 (shapeCast S1x384x1 (addf m (log l)) shapeCasts_S384x1_S1x384x1) fun R _ => Real.log (∑ k : Fin N, Real.exp (dots a K R k)) := by
  obtain ⟨μ, hm, hl, ha⟩ := h
  intro R z
  pointwise
  simp only [hm _ _, hl _ _]
  rw [log_sum hN fun k => dots a K R k - μ R, ← EReal.coe_add, log_sum_shift hN (dots a K R)]
end
end Cert.Kernel20Ideal.Value
end
end
-- ==== Proof.ForwardPoint.lean ====
module

public import proofs.«01_k».proof.Proof.Online

/-!
# A point of the forward attention's grid

The stacks of the queries, the output taken apart into heads, and what the body leaves in its three output blocks.
-/
@[expose] public section
set_option maxRecDepth 16384
noncomputable section
namespace Cert.Kernel20Ideal.Value
open Cert.Kernel20Ideal Cert.Kernel20Ideal.Gen Idealize.ShloMosaic Idealize.ShloMosaic.TcCoe Idealize.SL.Sem
open Cert.Attn
open Cert.KernelIdeal.Value (Is2 Is3 Mat stack dots select_slt select_sge eighth ld3 emb2 not_mem2)

/-- The stack of the scaled queries of key head `j`. -/
def sq (A : ℕ → ℕ → ℝ) (j R l : ℕ) : ℝ := stack A j R l * (1 / 8)

/-- The stack of key head 0. -/
theorem q0_apply {A : ℕ → ℕ → ℝ} {x0 x1 x2 : Vec Ideal S1x128x128 .bf16} (h0 : Is3 128 128 x0 A) (h1 : Is3 128 128 x1 A)
    (h2 : Is3 128 128 x2 fun r l => A r (128 + l)) : Is2 384 128 (k0_pay40 (F := Ideal) x0 x1 x2) (sq A 0) := by
  intro R l
  have hR := R.isLt; have hl := l.isLt
  unfold k0_pay40
  pointwise
  simp only [select_slt, h0 _ _, h1 _ _, h2 _ _, eighth, sq, stack]
  rw [EReal.coe_mul]
  congr 1
  split_ifs <;> first | rfl | (exfalso; omega) | (exfalso; dsimp only at *; omega) | (refine congrArg _ (congrArg₂ _ ?_ ?_) <;> (try dsimp only) <;> omega) | (refine congrArg _ (congrArg _ ?_) <;> (try dsimp only) <;> omega)

/-- The stack of key head 1. -/
theorem q1_apply {A : ℕ → ℕ → ℝ} {x0 x1 x2 : Vec Ideal S1x128x128 .bf16} (h0 : Is3 128 128 x0 fun r l => A r (128 + l))
    (h1 : Is3 128 128 x1 fun r l => A r (256 + l)) (h2 : Is3 128 128 x2 fun r l => A r (256 + l)) :
    Is2 384 128 (k0_pay94 (F := Ideal) (k0_pay93 x0) x1 x2) (sq A 1) := by
  intro R l
  have hR := R.isLt; have hl := l.isLt
  unfold k0_pay94 k0_pay93
  pointwise
  simp only [select_sge, h0 _ _, h1 _ _, h2 _ _, eighth, sq, stack]
  rw [EReal.coe_mul]
  congr 1
  split_ifs <;> first | rfl | (exfalso; omega) | (exfalso; dsimp only at *; omega) | (refine congrArg _ (congrArg₂ _ ?_ ?_) <;> (try dsimp only) <;> omega) | (refine congrArg _ (congrArg _ ?_) <;> (try dsimp only) <;> omega)

/-- Two stacks of heads taken apart: row `r` and column `c` of the block. -/
def heads (Q0 Q1 : ℕ → ℕ → EReal) (r c : ℕ) : EReal :=
  (if c / 64 / 3 = 0 then Q0 else Q1) (128 * (c / 64 % 3) + r) (64 * (c / 64 / 3) + c % 64)

/-- Columns 0 to 127. -/
def tile0 (x : FVec Ideal S384x128 .f32) : FVec Ideal S128x128 .f32 := addf (k0_pay36 x) (k0_pay37 x)
/-- Columns 128 to 255. -/
def tile1 (x y : FVec Ideal S384x128 .f32) : FVec Ideal S128x128 .f32 := addf (k0_pay38 x) (k0_pay39 y)
/-- Columns 256 to 383. -/
def tile2 (y : FVec Ideal S384x128 .f32) : FVec Ideal S128x128 .f32 := k0_pay3 y

section
variable {Q0 Q1 : ℕ → ℕ → EReal} {x y : FVec Ideal S384x128 .f32}

/-- A column of a head of key head 0. -/
theorem heads_low {r c : ℕ} (h : c < 192) : heads Q0 Q1 r c = Q0 (128 * (c / 64) + r) (c % 64) := by
  unfold heads
  rw [if_pos (by omega)]
  congr 1 <;> omega

/-- A column of a head of key head 1. -/
theorem heads_high {r c : ℕ} (h : 192 ≤ c) (h' : c < 384) : heads Q0 Q1 r c = Q1 (128 * (c / 64 - 3) + r) (64 + c % 64) := by
  unfold heads
  rw [if_neg (by omega)]
  congr 1 <;> omega

/-- The first tile. -/
theorem tile0_apply (hx : E2 384 128 x Q0) : E2 128 128 (tile0 x) fun r l => heads Q0 Q1 r l := by
  intro r l
  have hr := r.isLt; have hl := l.isLt
  unfold tile0 k0_pay36 k0_pay37
  pointwise
  simp only [select_slt, select_sge, hx _ _]
  rw [heads_low (by omega)]
  by_cases h : l.val < 64
  · simp only [if_pos h, add_zero]
    congr 1 <;> (try dsimp only) <;> omega
  · simp only [if_neg h, zero_add]
    congr 1 <;> (try dsimp only) <;> omega

/-- The second tile. -/
theorem tile1_apply (hx : E2 384 128 x Q0) (hy : E2 384 128 y Q1) : E2 128 128 (tile1 x y) fun r l => heads Q0 Q1 r (128 + l) := by
  intro r l
  have hr := r.isLt; have hl := l.isLt
  unfold tile1 k0_pay38 k0_pay39
  pointwise
  simp only [select_slt, select_sge, hx _ _, hy _ _]
  by_cases h : l.val < 64
  · rw [heads_low (by omega)]
    simp only [if_pos h, add_zero]
    congr 1 <;> (try dsimp only) <;> omega
  · rw [heads_high (by omega) (by omega)]
    simp only [if_neg h, zero_add]
    congr 1 <;> (try dsimp only) <;> omega

/-- The third tile. -/
theorem tile2_apply (hy : E2 384 128 y Q1) : E2 128 128 (tile2 y) fun r l => heads Q0 Q1 r (256 + l) := by
  intro r l
  have hr := r.isLt; have hl := l.isLt
  unfold tile2 k0_pay3
  pointwise
  simp only [select_slt, select_sge, hy _ _]
  rw [heads_high (by omega) (by omega)]
  by_cases h : l.val < 64
  · simp only [if_pos h, add_zero]
    congr 1 <;> (try dsimp only) <;> omega
  · simp only [if_neg h, zero_add]
    congr 1 <;> (try dsimp only) <;> omega
end

section
variable {e : EltTy} {n m N M r0 c0 : ℕ} {inb : ∀ i, (![r0, c0] : Fin 2 → ℕ) i + (![n, m] : Fin 2 → ℕ) i ≤ (Mat N M).size i} {w : (Mat n m).Idx → Elt Ideal e}

/-- What stores leave, in the columns of the last store. -/
theorem canon_at {a : ℕ → ℕ → Elt Ideal e} (L : List (View.Piece (Elt Ideal) (Mat N M) e)) (r : Fin N) (c : Fin M) (hw : ∀ (r : Fin n) (l : Fin m), w (ix2 r l) = a r l)
    (h0 : r0 ≤ r.val) (h1 : r.val < r0 + n) (h2 : c0 ≤ c.val) (h3 : c.val < c0 + m) :
    View.canon ((⟨Rect.unit (s := Mat N M) ![r0, c0] ![n, m] inb, w⟩ : View.Piece (Elt Ideal) (Mat N M) e) :: L) (ix2 r c) = a (r.val - r0) (c.val - c0) := by
  rw [← emb2 inb r c h0 h1 h2 h3]
  exact (View.canon_cons_emb (Rect.unit (s := Mat N M) ![r0, c0] ![n, m] inb) w L _).trans (hw _ _)

/-- What stores leave, off the columns of the last store. -/
theorem canon_past (L : List (View.Piece (Elt Ideal) (Mat N M) e)) (r : Fin N) (c : Fin M) (h : ¬(c0 ≤ c.val ∧ c.val < c0 + m)) :
    View.canon ((⟨Rect.unit (s := Mat N M) ![r0, c0] ![n, m] inb, w⟩ : View.Piece (Elt Ideal) (Mat N M) e) :: L) (ix2 r c) = View.canon L (ix2 r c) :=
  View.canon_cons_of_not_mem _ L (not_mem2 inb r c h)
end

/-- Three tiles side by side. -/
theorem canon_tiles {e : EltTy} {w2 w1 w0 : (Mat 128 128).Idx → Elt Ideal e} {u : ℕ → ℕ → Elt Ideal e} (h2 : ∀ r l : Fin 128, w2 (ix2 r l) = u r (256 + l))
    (h1 : ∀ r l : Fin 128, w1 (ix2 r l) = u r (128 + l)) (h0 : ∀ r l : Fin 128, w0 (ix2 r l) = u r l)
    (i2 : ∀ i, (![0, 256] : Fin 2 → ℕ) i + (![128, 128] : Fin 2 → ℕ) i ≤ (Mat 128 384).size i)
    (i1 : ∀ i, (![0, 128] : Fin 2 → ℕ) i + (![128, 128] : Fin 2 → ℕ) i ≤ (Mat 128 384).size i)
    (i0 : ∀ i, (![0, 0] : Fin 2 → ℕ) i + (![128, 128] : Fin 2 → ℕ) i ≤ (Mat 128 384).size i) (r : Fin 128) (c : Fin 384) :
    View.canon ([⟨Rect.unit (s := Mat 128 384) ![0, 256] ![128, 128] i2, w2⟩, ⟨Rect.unit (s := Mat 128 384) ![0, 128] ![128, 128] i1, w1⟩,
      ⟨Rect.unit (s := Mat 128 384) ![0, 0] ![128, 128] i0, w0⟩] : List (View.Piece (Elt Ideal) (Mat 128 384) e)) (ix2 r c) = u r c := by
  have hr := r.isLt; have hc := c.isLt
  by_cases e2 : 256 ≤ c.val
  · rw [canon_at (a := fun r l => u r (256 + l)) _ r c h2 (by omega) (by omega) e2 (by omega)]
    exact congrArg₂ u (by omega) (by omega)
  rw [canon_past _ r c (by omega)]
  by_cases e1 : 128 ≤ c.val
  · rw [canon_at (a := fun r l => u r (128 + l)) _ r c h1 (by omega) (by omega) e1 (by omega)]
    exact congrArg₂ u (by omega) (by omega)
  rw [canon_past _ r c (by omega), canon_at (a := u) _ r c h0 (by omega) (by omega) (by omega) (by omega)]
  exact congrArg₂ u (by omega) (by omega)

/-- Two columns one after the other, under a leading axis of one. -/
theorem canon_cols {w1 w0 : (⟨3, ![1, 384, 1]⟩ : Shape).Idx → EReal} {L1 L0 : ℕ → ℝ} (h1 : Is3 384 1 w1 fun R _ => L1 R) (h0 : Is3 384 1 w0 fun R _ => L0 R)
    (i1 : ∀ i, (![0, 384, 0] : Fin 3 → ℕ) i + (![1, 384, 1] : Fin 3 → ℕ) i ≤ (⟨3, ![1, 768, 1]⟩ : Shape).size i)
    (i0 : ∀ i, (![0, 0, 0] : Fin 3 → ℕ) i + (![1, 384, 1] : Fin 3 → ℕ) i ≤ (⟨3, ![1, 768, 1]⟩ : Shape).size i) :
    Is3 768 1 (View.canon ([⟨Rect.unit (s := ⟨3, ![1, 768, 1]⟩) ![0, 384, 0] ![1, 384, 1] i1, w1⟩,
      ⟨Rect.unit (s := ⟨3, ![1, 768, 1]⟩) ![0, 0, 0] ![1, 384, 1] i0, w0⟩] : List (View.Piece (Elt Ideal) (⟨3, ![1, 768, 1]⟩ : Shape) .f32)))
      fun R _ => if R < 384 then L0 R else L1 (R - 384) := by
  intro R z
  have hR := R.isLt
  have hz : z = 0 := Subsingleton.elim _ _
  subst hz
  by_cases h : R.val < 384
  · have e : (Rect.unit (s := ⟨3, ![1, 768, 1]⟩) ![0, 0, 0] ![1, 384, 1] i0).emb (ix3 (0 : Fin 1) (⟨R.val, h⟩ : Fin 384) (0 : Fin 1)) = ix3 (0 : Fin 1) R (0 : Fin 1) := by
      refine funext fun i => Fin.ext ?_
      refine (Rect.idx_unit_val _ _ i0 (ix3 (0 : Fin 1) (⟨R.val, h⟩ : Fin 384) (0 : Fin 1)) i).trans ?_
      fin_cases i
      · rfl
      · show 0 + R.val = R.val; omega
      · rfl
    rw [View.canon_cons_of_not_mem _ _ ?_, ← e]
    · refine (View.canon_cons_emb (Val := Elt Ideal) (e := .f32) (Rect.unit (s := ⟨3, ![1, 768, 1]⟩) ![0, 0, 0] ![1, 384, 1] i0) w0 [] _).trans ((h0 _ _).trans ?_)
      exact congrArg Real.toEReal (if_pos h).symm
    · intro hm
      obtain ⟨x, hx⟩ := (Rect.unit (s := ⟨3, ![1, 768, 1]⟩) ![0, 384, 0] ![1, 384, 1] i1).exists_idx_of_mem hm
      have h2 : 384 + (x 1).val = R.val := (Rect.idx_unit_val _ _ i1 x 1).symm.trans (congrArg (fun y : (⟨3, ![1, 768, 1]⟩ : Shape).Idx => (y 1).val) hx)
      omega
  · have e : (Rect.unit (s := ⟨3, ![1, 768, 1]⟩) ![0, 384, 0] ![1, 384, 1] i1).emb (ix3 (0 : Fin 1) (⟨R.val - 384, by omega⟩ : Fin 384) (0 : Fin 1)) = ix3 (0 : Fin 1) R (0 : Fin 1) := by
      refine funext fun i => Fin.ext ?_
      refine (Rect.idx_unit_val _ _ i1 (ix3 (0 : Fin 1) (⟨R.val - 384, by omega⟩ : Fin 384) (0 : Fin 1)) i).trans ?_
      fin_cases i
      · rfl
      · show 384 + (R.val - 384) = R.val; omega
      · rfl
    rw [← e]
    refine (View.canon_cons_emb (Val := Elt Ideal) (e := .f32) (Rect.unit (s := ⟨3, ![1, 768, 1]⟩) ![0, 384, 0] ![1, 384, 1] i1) w1 _ _).trans ((h1 _ _).trans ?_)
    exact congrArg Real.toEReal (if_neg h).symm

/-- The output of stacked row `R` of key head `j` over `N` keys. -/
def outR (N : ℕ) (A K : ℕ → ℕ → ℝ) (V : ℕ → ℕ → EReal) (j R d : ℕ) : EReal := ∑ k : Fin N, ((soft N (dots (sq A j) K R) k : ℝ) : EReal) * V k d
/-- The logarithm of the sum of stacked row `R` of key head `j` over `N` keys. -/
def lseK (N : ℕ) (A K : ℕ → ℕ → ℝ) (j R : ℕ) : ℝ := Real.log (∑ k : Fin N, Real.exp (dots (sq A j) K R k))

variable (m : (ℓ : Loc nD τ sig) → Buf (Elt Ideal) ℓ)

/-- The blocks of point `t`: the queries and the keys hold reals. -/
structure Blocks (c : Dev nD) (t : Fin cfg0.N) (A K : ℕ → ℕ → ℝ) (V : ℕ → ℕ → EReal) : Prop where
  /-- queries -/
  hA : Is3 128 384 (iblk m c 0 t) A
  /-- keys -/
  hK : Is3 2304 128 (iblk m c 1 t) K
  /-- values -/
  hV : E3 2304 128 (iblk m c 2 t) V

/-- A part of a matrix under a leading axis of one. -/
theorem ldE {n m N M r0 c0 : ℕ} {x : (⟨3, ![1, N, M]⟩ : Shape).Idx → EReal} {a : ℕ → ℕ → EReal} (hx : E3 N M x a)
    (inb : ∀ i, (![0, r0, c0] : Fin 3 → ℕ) i + (![1, n, m] : Fin 3 → ℕ) i ≤ (⟨3, ![1, N, M]⟩ : Shape).size i) :
    E3 n m (fun i => x ((Rect.unit (s := ⟨3, ![1, N, M]⟩) ![0, r0, c0] ![1, n, m] inb).idx i)) fun r l => a (r0 + r) (c0 + l) := by
  intro r l
  have h0 : r0 + n ≤ N := inb 1
  have h1 : c0 + m ≤ M := inb 2
  have hr := r.isLt; have hl := l.isLt
  refine Eq.trans (congrArg x (funext fun i => Fin.ext ?_)) (hx ⟨r0 + r, by omega⟩ ⟨c0 + l, by omega⟩)
  refine (Rect.idx_unit_val _ _ inb (ix3 0 r l) i).trans ?_
  fin_cases i <;> rfl

namespace Blocks
variable {m} {c : Dev nD} {t : Fin cfg0.N} {A K : ℕ → ℕ → ℝ} {V : ℕ → ℕ → EReal} (B : Blocks m c t A K V)
include B
/-- Tile 0 of the queries. -/
theorem a0 : Is3 128 128 (View.ld (Val := Elt Ideal) (e' := .bf16) (iblk m c 0 t) (Rect.unit (s := S1x128x384) ![0, 0, 0] ![1, 128, 128] inb_S1x128x384_S1x128x128_0_0_0)) A :=
  fun r l => by simpa only [zero_add] using ld3 B.hA inb_S1x128x384_S1x128x128_0_0_0 r l
/-- Tile 1 of the queries. -/
theorem a1 : Is3 128 128 (View.ld (Val := Elt Ideal) (e' := .bf16) (iblk m c 0 t) (Rect.unit (s := S1x128x384) ![0, 0, 128] ![1, 128, 128] inb_S1x128x384_S1x128x128_0_0_128)) fun r l => A r (128 + l) :=
  fun r l => by simpa only [zero_add] using ld3 B.hA inb_S1x128x384_S1x128x128_0_0_128 r l
/-- Tile 2 of the queries. -/
theorem a2 : Is3 128 128 (View.ld (Val := Elt Ideal) (e' := .bf16) (iblk m c 0 t) (Rect.unit (s := S1x128x384) ![0, 0, 256] ![1, 128, 128] inb_S1x128x384_S1x128x128_0_0_256)) fun r l => A r (256 + l) :=
  fun r l => by simpa only [zero_add] using ld3 B.hA inb_S1x128x384_S1x128x128_0_0_256 r l
/-- A chunk of the keys. -/
theorem k {N : ℕ} (inb : ∀ i, (![0, N, 0] : Fin 3 → ℕ) i + (![1, 256, 128] : Fin 3 → ℕ) i ≤ S1x2304x128.size i) :
    Is3 256 128 (View.ld (Val := Elt Ideal) (e' := .bf16) (iblk m c 1 t) (Rect.unit (s := S1x2304x128) ![0, N, 0] ![1, 256, 128] inb)) fun k l => K (N + k) l :=
  fun r l => by simpa only [zero_add] using ld3 B.hK inb r l
/-- A chunk of the values. -/
theorem v {N : ℕ} (inb : ∀ i, (![0, N, 0] : Fin 3 → ℕ) i + (![1, 256, 128] : Fin 3 → ℕ) i ≤ S1x2304x128.size i) :
    E3 256 128 (View.ld (Val := Elt Ideal) (e' := .bf16) (iblk m c 2 t) (Rect.unit (s := S1x2304x128) ![0, N, 0] ![1, 256, 128] inb)) fun k l => V (N + k) l :=
  fun r l => by simpa only [zero_add] using ldE B.hV inb r l
end Blocks

/-- What the body leaves, from what is kept at the end for the two key heads: the output twice, and the logarithms. -/
theorem leaves {N : ℕ} (hN : 0 < N) {A K : ℕ → ℕ → ℝ} {V : ℕ → ℕ → EReal} {m0 l0 m1 l1 : FVec Ideal S384x1 .f32} {b0 b1 : FVec Ideal S384x128 .f32}
    (r0 : Kept N (sq A 0) K V m0 l0 b0) (r1 : Kept N (sq A 1) K V m1 l1 b1) :
    (∀ (r : Fin 128) (l : Fin 384), View.canon ([⟨Rect.unit (s := S128x384) ![0, 256] ![128, 128] inb_S128x384_S128x128_0_256, (truncf .bf16 (tile2 (settle l1 b1)) bitsLt_bf16_f32 : FVec Ideal S128x128 .bf16)⟩,
        ⟨Rect.unit (s := S128x384) ![0, 128] ![128, 128] inb_S128x384_S128x128_0_128, (truncf .bf16 (tile1 (settle l0 b0) (settle l1 b1)) bitsLt_bf16_f32 : FVec Ideal S128x128 .bf16)⟩,
        ⟨Rect.unit (s := S128x384) ![0, 0] ![128, 128] inb_S128x384_S128x128_0_0, (truncf .bf16 (tile0 (settle l0 b0)) bitsLt_bf16_f32 : FVec Ideal S128x128 .bf16)⟩] : List (View.Piece (Elt Ideal) S128x384 .bf16)) (ix2 r l)
        = heads (outR N A K V 0) (outR N A K V 1) r l)
    ∧ (∀ (r : Fin 128) (l : Fin 384), View.canon ([⟨Rect.unit (s := S128x384) ![0, 256] ![128, 128] inb_S128x384_S128x128_0_256, tile2 (settle l1 b1)⟩,
        ⟨Rect.unit (s := S128x384) ![0, 128] ![128, 128] inb_S128x384_S128x128_0_128, tile1 (settle l0 b0) (settle l1 b1)⟩,
        ⟨Rect.unit (s := S128x384) ![0, 0] ![128, 128] inb_S128x384_S128x128_0_0, tile0 (settle l0 b0)⟩] : List (View.Piece (Elt Ideal) S128x384 .f32)) (ix2 r l)
        = heads (outR N A K V 0) (outR N A K V 1) r l)
    ∧ Is3 768 1 (View.canon ([⟨Rect.unit (s := S1x768x1) ![0, 384, 0] ![1, 384, 1] inb_S1x768x1_S1x384x1_0_384_0, shapeCast S1x384x1 (addf m1 (log l1)) shapeCasts_S384x1_S1x384x1⟩,
        ⟨Rect.unit (s := S1x768x1) ![0, 0, 0] ![1, 384, 1] inb_S1x768x1_S1x384x1_0_0_0, shapeCast S1x384x1 (addf m0 (log l0)) shapeCasts_S384x1_S1x384x1⟩] : List (View.Piece (Elt Ideal) S1x768x1 .f32)))
        fun R _ => if R < 384 then lseK N A K 0 R else lseK N A K 1 (R - 384) := by
  have o0 := settle_apply hN r0
  have o1 := settle_apply hN r1
  have t2 : E2 128 128 (tile2 (settle l1 b1)) fun r l => heads (outR N A K V 0) (outR N A K V 1) r (256 + l) := tile2_apply o1
  have t1 : E2 128 128 (tile1 (settle l0 b0) (settle l1 b1)) fun r l => heads (outR N A K V 0) (outR N A K V 1) r (128 + l) := tile1_apply o0 o1
  have t0 : E2 128 128 (tile0 (settle l0 b0)) fun r l => heads (outR N A K V 0) (outR N A K V 1) r l := tile0_apply o0
  exact ⟨fun r l => canon_tiles (e := .bf16) (u := heads (outR N A K V 0) (outR N A K V 1)) t2 t1 t0 _ _ _ r l, fun r l => canon_tiles (e := .f32) (u := heads (outR N A K V 0) (outR N A K V 1)) t2 t1 t0 _ _ _ r l,
    canon_cols (L1 := lseK N A K 1) (L0 := lseK N A K 0) (lse_apply hN r1) (lse_apply hN r0) _ _⟩

end Cert.Kernel20Ideal.Value
end
end
-- ==== Proof.ForwardCases.lean ====
module

public import proofs.«01_k».proof.Proof.ForwardPoint

/-!
# The two cases of the forward attention's body

A point of context rows goes through one chunk of keys, any other through nine.
-/
@[expose] public section
set_option maxRecDepth 16384
noncomputable section
namespace Cert.Kernel20Ideal.Value
open Cert.Kernel20Ideal Cert.Kernel20Ideal.Gen Idealize.ShloMosaic Idealize.ShloMosaic.TcCoe Idealize.SL.Sem
open Cert.Attn
open Cert.KernelIdeal.Value (Is2 Is3 Mat stack dots)

variable {m : (ℓ : Loc nD τ sig) → Buf (Elt Ideal) ℓ} {c : Dev nD} {t : Fin cfg0.N} {A K : ℕ → ℕ → ℝ} {V : ℕ → ℕ → EReal}

/-- A point of context rows. -/
theorem caseA (B : Blocks m c t A K V) (h0 : t.val % 18 ≤ 1) (h1 : ¬2 ≤ t.val % 18) :
    E2 128 384 (outsAt0 m c t.val t.isLt).1 (heads (outR 256 A K V 0) (outR 256 A K V 1))
    ∧ E2 128 384 (outsAt0 m c t.val t.isLt).2.1 (heads (outR 256 A K V 0) (outR 256 A K V 1))
    ∧ Is3 768 1 (outsAt0 m c t.val t.isLt).2.2 fun R _ => if R < 384 then lseK 256 A K 0 R else lseK 256 A K 1 (R - 384) := by
  have hq0 := q0_apply B.a0 B.a0 B.a1
  have hq1 := q1_apply B.a1 B.a2 B.a2
  have r0 := step hq0 (B.k inb_S1x2304x128_S1x256x128_0_0_0) (B.v inb_S1x2304x128_S1x256x128_0_0_0) start
  have r1 := step hq1 (B.k inb_S1x2304x128_S1x256x128_0_0_0) (B.v inb_S1x2304x128_S1x256x128_0_0_0) start
  obtain ⟨p3, p4, p5⟩ := leaves (by norm_num) r0 r1
  refine ⟨fun r l => ?_, fun r l => ?_, fun r l => ?_⟩
  · rw [outsAt0_A m c t h0 h1]; frame_out; exact p3 r l
  · rw [outsAt0_A m c t h0 h1]; frame_out; exact p4 r l
  · rw [outsAt0_A m c t h0 h1]; frame_out; exact p5 r l

/-- A point of latent rows. -/
theorem caseB (B : Blocks m c t A K V) (h0 : ¬t.val % 18 ≤ 1) (h1 : 2 ≤ t.val % 18) :
    E2 128 384 (outsAt0 m c t.val t.isLt).1 (heads (outR 2304 A K V 0) (outR 2304 A K V 1))
    ∧ E2 128 384 (outsAt0 m c t.val t.isLt).2.1 (heads (outR 2304 A K V 0) (outR 2304 A K V 1))
    ∧ Is3 768 1 (outsAt0 m c t.val t.isLt).2.2 fun R _ => if R < 384 then lseK 2304 A K 0 R else lseK 2304 A K 1 (R - 384) := by
  have hq0 := q0_apply B.a0 B.a0 B.a1
  have hq1 := q1_apply B.a1 B.a2 B.a2
  have s00 := step hq0 (B.k inb_S1x2304x128_S1x256x128_0_0_0) (B.v inb_S1x2304x128_S1x256x128_0_0_0) start
  have s01 := step hq0 (B.k inb_S1x2304x128_S1x256x128_0_256_0) (B.v inb_S1x2304x128_S1x256x128_0_256_0) s00
  have s02 := step hq0 (B.k inb_S1x2304x128_S1x256x128_0_512_0) (B.v inb_S1x2304x128_S1x256x128_0_512_0) s01
  have s03 := step hq0 (B.k inb_S1x2304x128_S1x256x128_0_768_0) (B.v inb_S1x2304x128_S1x256x128_0_768_0) s02
  have s04 := step hq0 (B.k inb_S1x2304x128_S1x256x128_0_1024_0) (B.v inb_S1x2304x128_S1x256x128_0_1024_0) s03
  have s05 := step hq0 (B.k inb_S1x2304x128_S1x256x128_0_1280_0) (B.v inb_S1x2304x128_S1x256x128_0_1280_0) s04
  have s06 := step hq0 (B.k inb_S1x2304x128_S1x256x128_0_1536_0) (B.v inb_S1x2304x128_S1x256x128_0_1536_0) s05
  have s07 := step hq0 (B.k inb_S1x2304x128_S1x256x128_0_1792_0) (B.v inb_S1x2304x128_S1x256x128_0_1792_0) s06
  have r0 := step hq0 (B.k inb_S1x2304x128_S1x256x128_0_2048_0) (B.v inb_S1x2304x128_S1x256x128_0_2048_0) s07
  have s10 := step hq1 (B.k inb_S1x2304x128_S1x256x128_0_0_0) (B.v inb_S1x2304x128_S1x256x128_0_0_0) start
  have s11 := step hq1 (B.k inb_S1x2304x128_S1x256x128_0_256_0) (B.v inb_S1x2304x128_S1x256x128_0_256_0) s10
  have s12 := step hq1 (B.k inb_S1x2304x128_S1x256x128_0_512_0) (B.v inb_S1x2304x128_S1x256x128_0_512_0) s11
  have s13 := step hq1 (B.k inb_S1x2304x128_S1x256x128_0_768_0) (B.v inb_S1x2304x128_S1x256x128_0_768_0) s12
  have s14 := step hq1 (B.k inb_S1x2304x128_S1x256x128_0_1024_0) (B.v inb_S1x2304x128_S1x256x128_0_1024_0) s13
  have s15 := step hq1 (B.k inb_S1x2304x128_S1x256x128_0_1280_0) (B.v inb_S1x2304x128_S1x256x128_0_1280_0) s14
  have s16 := step hq1 (B.k inb_S1x2304x128_S1x256x128_0_1536_0) (B.v inb_S1x2304x128_S1x256x128_0_1536_0) s15
  have s17 := step hq1 (B.k inb_S1x2304x128_S1x256x128_0_1792_0) (B.v inb_S1x2304x128_S1x256x128_0_1792_0) s16
  have r1 := step hq1 (B.k inb_S1x2304x128_S1x256x128_0_2048_0) (B.v inb_S1x2304x128_S1x256x128_0_2048_0) s17
  obtain ⟨p3, p4, p5⟩ := leaves (by norm_num) r0 r1
  refine ⟨fun r l => ?_, fun r l => ?_, fun r l => ?_⟩
  · rw [outsAt0_B m c t h0 h1]; frame_out; exact p3 r l
  · rw [outsAt0_B m c t h0 h1]; frame_out; exact p4 r l
  · rw [outsAt0_B m c t h0 h1]; frame_out; exact p5 r l

end Cert.Kernel20Ideal.Value
end
end
-- ==== Proof.ForwardReference.lean ====
module

public import proofs.«01_k».proof.Proof.Online
public import proofs.«01_k».proof.Proof.Host
public import proofs.«01_k».proof.Proof.Gen.Reference20Ideal.Read
public import proofs.«01_k».proof.Pre_finite20
public import proofs.«01_k».proof.Proof.Finite

/-!
# The reference of the forward attention

Its output for values of any kind, and its logarithms, when the queries and the keys hold reals.
-/
@[expose] public section
set_option maxRecDepth 16384
noncomputable section
namespace Cert.Reference20Ideal.Read
open Idealize.ShloMosaic Idealize.ShloMosaic.TcCoe Idealize.SL.Sem Idealize.ShloMosaic.StableHlo
open Cert.ReferenceIdeal
open Cert.Attn
open Cert.ReferenceIdeal.Read (Layer TQ TK lsec lsel lseR lsec_real lsel_real probc_real probl_real div3 keys_lt keys_ge mxc mxl)
open Cert.KernelIdeal.Value (laid laid_congr laid_apply join_out)
open Cert.Kernel20Ideal.Value (log_sum_shift)

/-- The output of the attention of head `h`, row `n`, for values of any kind. -/
def attnE (q k : ℕ → ℕ → ℝ) (v : ℕ → ℕ → EReal) (b h n d : ℕ) : EReal :=
  ∑ x : Fin (keys n), ((prob q k b h n x : ℝ) : EReal) * v (2304 * b + x) (64 * (h / 3) + d)

/-- The logarithm of the sum of the exponentials of a row's scores. -/
def lseE (q k : ℕ → ℕ → ℝ) (b h n : ℕ) : ℝ := Real.log (∑ y : Fin (keys n), Real.exp (score q k b h n y))

/-- A sum over the rows attended to, their number named. -/
theorem sum_keysE {n N : ℕ} (h : keys n = N) (f : ℕ → EReal) : ∑ x : Fin (keys n), f x = ∑ x : Fin N, f x := by subst h; rfl

/-- The first layer of an array of two. -/
abbrev LayerE (n m : ℕ) (x : (⟨3, ![2, n, m]⟩ : Shape).Idx → EReal) (a : ℕ → ℕ → EReal) : Prop :=
  ∀ j : (⟨3, ![2, n, m]⟩ : Shape).Idx, (j 0).val = 0 → x j = a (j 1).val (j 2).val

/-- The entries of the first layer of an array of two. -/
def entries (n m : ℕ) (x : (⟨3, ![2, n, m]⟩ : Shape).Idx → EReal) (r l : ℕ) : EReal :=
  if h : r < n ∧ l < m then x (ix3 (0 : Fin 2) (⟨r, h.1⟩ : Fin n) (⟨l, h.2⟩ : Fin m)) else 0

theorem entries_layer (n m : ℕ) (x : (⟨3, ![2, n, m]⟩ : Shape).Idx → EReal) : LayerE n m x (entries n m x) := by
  intro J hJ
  unfold entries
  rw [dif_pos ⟨(J 1).isLt, (J 2).isLt⟩]
  refine congrArg x ?_
  funext a
  apply Fin.ext
  match a with
  | ⟨0, _⟩ => exact hJ
  | ⟨1, _⟩ => rfl
  | ⟨2, _⟩ => rfl

variable {x0 : TQ} {x1 x2 : TK} {q k : ℕ → ℕ → ℝ} {v : ℕ → ℕ → EReal}

/-- The values by sample, row, key head and lane. -/
theorem v_entries (h2 : LayerE 9216 128 x2 v) (i : S4x2304x2x64.Idx) :
    Cert.ReferenceIdeal.Read.val_main_v11 (F := Ideal) x2 i = v (2304 * (i 0).val + (i 1).val) (64 * (i 2).val + (i 3).val) := by
  have b0 : (i 0).val < 4 := (i 0).isLt
  have b1 : (i 1).val < 2304 := (i 1).isLt
  have b2 : (i 2).val < 2 := (i 2).isLt
  have b3 : (i 3).val < 64 := (i 3).isLt
  rw [Cert.ReferenceIdeal.Read.val_main_v11_apply, Cert.ReferenceIdeal.Read.val_main_v8_apply, Cert.ReferenceIdeal.Read.val_main_v7_apply, Cert.ReferenceIdeal.Read.val_main_v6_apply]
  refine (h2 _ ?_).trans ?_
  · show ((_ : ℕ) : ℕ) = 0
    first | rfl | omega
  · refine congrArg₂ v ?_ ?_
    · show (((((i 0).val * 2304 + (i 1).val) * 2 + (i 2).val) * 64 + (i 3).val) / 128 * 128 + ((((i 0).val * 2304 + (i 1).val) * 2 + (i 2).val) * 64 + (i 3).val) % 128) / 128 % 9216 = _
      omega
    · show (((((i 0).val * 2304 + (i 1).val) * 2 + (i 2).val) * 64 + (i 3).val) / 128 * 128 + ((((i 0).val * 2304 + (i 1).val) * 2 + (i 2).val) * 64 + (i 3).val) % 128) % 128 = _
      omega

/-- The output of a context row. -/
theorem attnc_entries (h0 : Layer 9216 384 x0 q) (h1 : Layer 9216 128 x1 k) (h2 : LayerE 9216 128 x2 v) (i : S4x256x2x3x64.Idx) :
    Cert.ReferenceIdeal.Read.val_main_v48 (F := Ideal) x0 x1 x2 i = attnE q k v (i 0).val (3 * (i 2).val + (i 3).val) (i 1).val (i 4).val := by
  have b1 : (i 1).val < 256 := (i 1).isLt
  have b3 : (i 3).val < 3 := (i 3).isLt
  have hk : keys (i 1).val = 256 := keys_lt b1
  rw [Cert.ReferenceIdeal.Read.val_main_v48_apply, Cert.ReferenceIdeal.Read.val_main_v47_apply]
  unfold attnE
  rw [div3 b3, sum_keysE hk fun y => ((prob q k (i 0).val (3 * (i 2).val + (i 3).val) (i 1).val y : ℝ) : EReal) * v (2304 * (i 0).val + y) (64 * (i 2).val + (i 4).val)]
  refine Finset.sum_congr rfl fun y _ => ?_
  rw [Cert.ReferenceIdeal.Read.val_main_v14_apply, v_entries h2, probc_real h0 h1, mul_comm]

/-- The output of a row past the context. -/
theorem attnl_entries (h0 : Layer 9216 384 x0 q) (h1 : Layer 9216 128 x1 k) (h2 : LayerE 9216 128 x2 v) (i : S4x2048x2x3x64.Idx) :
    Cert.ReferenceIdeal.Read.val_main_v83 (F := Ideal) x0 x1 x2 i = attnE q k v (i 0).val (3 * (i 2).val + (i 3).val) (256 + (i 1).val) (i 4).val := by
  have b1 : (i 1).val < 2048 := (i 1).isLt
  have b3 : (i 3).val < 3 := (i 3).isLt
  have hk : keys (256 + (i 1).val) = 2304 := keys_ge _
  rw [Cert.ReferenceIdeal.Read.val_main_v83_apply, Cert.ReferenceIdeal.Read.val_main_v82_apply]
  unfold attnE
  rw [div3 b3, sum_keysE hk fun y => ((prob q k (i 0).val (3 * (i 2).val + (i 3).val) (256 + (i 1).val) y : ℝ) : EReal) * v (2304 * (i 0).val + y) (64 * (i 2).val + (i 4).val)]
  refine Finset.sum_congr rfl fun y _ => ?_
  rw [v_entries h2, probl_real h0 h1, mul_comm]

/-- The attention's output, all rows. -/
theorem attn_entries (h0 : Layer 9216 384 x0 q) (h1 : Layer 9216 128 x1 k) (h2 : LayerE 9216 128 x2 v) (i : S4x2304x2x3x64.Idx) :
    Cert.ReferenceIdeal.Read.val_main_v84 (F := Ideal) x0 x1 x2 i = attnE q k v (i 0).val (3 * (i 2).val + (i 3).val) (i 1).val (i 4).val := by
  unfold Cert.ReferenceIdeal.Read.val_main_v84
  rw [concatenate_pair_apply]
  split
  · rw [attnc_entries h0 h1 h2]
    rfl
  · rename_i h
    have h : ¬(i 1).val < 256 := h
    rw [attnl_entries h0 h1 h2]
    show attnE q k v (i 0).val (3 * (i 2).val + (i 3).val) (256 + ((i 1).val - 256)) (i 4).val = _
    rw [show 256 + ((i 1).val - 256) = (i 1).val by omega]

/-- The reference's output is the one its gradients' reference computes. -/
theorem out_same (x0 : TQ) (x1 x2 : TK) : val_main_v51 (F := Ideal) x0 x1 x2 = Cert.ReferenceIdeal.Read.val_main_v85 (F := Ideal) x0 x1 x2 :=
  join_out rfl rfl

/-- The reference's output as the matrix of rows and lanes. -/
theorem out_entries (h0 : Layer 9216 384 x0 q) (h1 : Layer 9216 128 x1 k) (h2 : LayerE 9216 128 x2 v) (i : S9216x384.Idx) :
    val_main_v51 (F := Ideal) x0 x1 x2 i = attnE q k v ((i 0).val / 2304) ((i 1).val / 64) ((i 0).val % 2304) ((i 1).val % 64) := by
  have b0 : (i 0).val < 9216 := (i 0).isLt
  have b1 : (i 1).val < 384 := (i 1).isLt
  rw [out_same, Cert.ReferenceIdeal.Read.val_main_v85_apply, attn_entries h0 h1 h2]
  show attnE q k v (((i 0).val * 384 + (i 1).val) / 884736) (3 * (((i 0).val * 384 + (i 1).val) / 192 % 2) + ((i 0).val * 384 + (i 1).val) / 64 % 3) (((i 0).val * 384 + (i 1).val) / 384 % 2304) (((i 0).val * 384 + (i 1).val) % 64) = _
  rw [show ((i 0).val * 384 + (i 1).val) / 884736 = (i 0).val / 2304 by omega,
    show 3 * (((i 0).val * 384 + (i 1).val) / 192 % 2) + ((i 0).val * 384 + (i 1).val) / 64 % 3 = (i 1).val / 64 by omega,
    show ((i 0).val * 384 + (i 1).val) / 384 % 2304 = (i 0).val % 2304 by omega,
    show ((i 0).val * 384 + (i 1).val) % 64 = (i 1).val % 64 by omega]

/-- The reference's logarithms are those its gradients' reference starts from. -/
theorem lse_same (x0 : TQ) (x1 : TK) : val_main_v87 (F := Ideal) x0 x1 = laid (lsec x0 x1) (lsel x0 x1) :=
  laid_congr rfl rfl

/-- The logarithm of the sum, without the largest score. -/
theorem lse_plain (x0 : TQ) (x1 : TK) (q k : ℕ → ℕ → ℝ) (b j g n : ℕ) : lseR x0 x1 q k b j g n = lseE q k b (3 * j + g) n := by
  unfold lseR lseE
  by_cases h : n < 256
  · rw [if_pos h, log_sum_shift (by norm_num) (score q k b (3 * j + g) n), Cert.ReferenceIdeal.Read.sum_keys (keys_lt h) fun y => Real.exp (score q k b (3 * j + g) n y)]
  · have hk : keys n = 2304 := if_neg h
    rw [if_neg h, log_sum_shift (by norm_num) (score q k b (3 * j + g) n), Cert.ReferenceIdeal.Read.sum_keys hk fun y => Real.exp (score q k b (3 * j + g) n y)]

/-- The reference's logarithms, by blocks of 128 rows. -/
theorem lse_entries (h0 : Layer 9216 384 x0 q) (h1 : Layer 9216 128 x1 k) (J : S72x768x1.Idx) :
    val_main_v87 (F := Ideal) x0 x1 J = ((lseE q k ((J 0).val / 18) (3 * ((J 1).val / 384) + (J 1).val / 128 % 3) (128 * ((J 0).val % 18) + (J 1).val % 128) : ℝ) : EReal) := by
  rw [lse_same]
  refine laid_apply _ _ (fun b j g n => lseE q k b (3 * j + g) n) ?_ ?_ J
  · intro i
    refine (lsec_real h0 h1 i).trans (congrArg Real.toEReal ?_)
    have b3 : (i 3).val < 256 := (i 3).isLt
    rw [← lse_plain x0 x1]
    unfold lseR
    rw [if_pos b3]
  · intro i
    refine (lsel_real h0 h1 i).trans (congrArg Real.toEReal ?_)
    rw [← lse_plain x0 x1]
    unfold lseR
    rw [if_neg (by omega)]
    simp only [show 256 + (i 3).val - 256 = (i 3).val by omega]

/-- The relations between shapes that `finite20` relies on. -/
theorem facts20 : Cert.Pre_finite20.Facts where
  slices_S2x9216x384_S1x9216x384_0_0_0 := by decide
  shapeCasts_S1x9216x384_S9216x384 := by decide
  bcast_S_S9216x384 := by decide
  reducesTo_S9216x384_S_d0_1 := by decide
  h_S_ := by decide
  slices_S2x9216x128_S1x9216x128_0_0_0 := by decide
  shapeCasts_S1x9216x128_S9216x128 := by decide
  bcast_S_S9216x128 := by decide
  reducesTo_S9216x128_S_d0_1 := by decide

/-- Queries and keys that pass `finite20` hold reals in the layer that is read. -/
theorem reals20 (x0 : TQ) (x1 x2 : TK) (h : @Cert.Pre_finite20.fn facts20 Ideal _ x0 x1 x2 = fun _ => 1#1) :
    Layer 9216 384 x0 (Cert.Pre_finite.part3 9216 384 x0) ∧ Layer 9216 128 x1 (Cert.Pre_finite.part3 9216 128 x1) := by
  have e := congrFun h (fun k => k.elim0)
  obtain ⟨e0, e1⟩ := IntOp.andi_eq_one.1 e
  exact ⟨@Cert.Pre_finite.layer384 Cert.Pre_finite.facts x0 (Cert.Pre_finite.real_of_all _ _ _ _ _ e0), @Cert.Pre_finite.layer128 Cert.Pre_finite.facts x1 (Cert.Pre_finite.real_of_all _ _ _ _ _ e1)⟩

end Cert.Reference20Ideal.Read
end
end
-- ==== Proof.ForwardResult.lean ====
module

public import proofs.«01_k».proof.Proof.ForwardCases
public import proofs.«01_k».proof.Proof.ForwardReference
public import proofs.«01_k».proof.Proof.Meet
public import proofs.«01_k».proof.Proof.Gen.Kernel20Ideal.Value

/-!
# What the forward attention leaves

The three arrays it writes are the reference's, when the queries and the keys hold reals.
-/
@[expose] public section
set_option maxRecDepth 16384
noncomputable section
namespace Cert.Kernel20Ideal.Value
open Cert.Kernel20Ideal Cert.Kernel20Ideal.Gen Idealize.ShloMosaic Idealize.ShloMosaic.TcCoe Idealize.SL.Sem
open Cert.Attn
open Cert.KernelIdeal.Value (Is2 Is3 stack dots sum_stack)
open Cert.ReferenceIdeal.Read (Layer keys_lt)
open Cert.Reference20Ideal.Read (attnE lseE LayerE entries entries_layer out_entries lse_entries)

/-- The kernel's scores. -/
theorem dots_sq (q k : ℕ → ℕ → ℝ) (b i j g r y : ℕ) (hj : j < 2) (hg : g < 3) (hr : r < 128) :
    dots (sq (fun r l => q (2304 * b + (128 * i + r)) l) j) (fun r l => k (2304 * b + r) l) (128 * g + r) y = score q k b (3 * j + g) (128 * i + r) y := by
  unfold dots score sq
  have e : ∀ l : Fin 128, stack (fun r l => q (2304 * b + (128 * i + r)) l) j (128 * g + r) l * (1 / 8) * k (2304 * b + y) l
      = stack (fun r l => q (2304 * b + (128 * i + r)) l) j (128 * g + r) l * (1 / 8 * k (2304 * b + y) l) := fun l => mul_assoc _ _ _
  simp only [e]
  rw [sum_stack _ j _ hj fun l => 1 / 8 * k (2304 * b + y) l, Finset.sum_mul, show (128 * g + r) % 128 = r by omega, show (128 * g + r) / 128 = g by omega, show (3 * j + g) / 3 = j by omega]
  refine Finset.sum_congr rfl fun d _ => ?_
  ring

section
variable (q k : ℕ → ℕ → ℝ) (v : ℕ → ℕ → EReal) (b i : ℕ) {N : ℕ}

/-- The kernel's output of a row of a head. -/
theorem outR_eq (j g r d : ℕ) (hN : keys (128 * i + r) = N) (hj : j < 2) (hg : g < 3) (hr : r < 128) :
    outR N (fun r l => q (2304 * b + (128 * i + r)) l) (fun r l => k (2304 * b + r) l) (fun r l => v (2304 * b + r) l) j (128 * g + r) (64 * j + d)
      = attnE q k v b (3 * j + g) (128 * i + r) d := by
  have hd : dots (sq (fun r l => q (2304 * b + (128 * i + r)) l) j) (fun r l => k (2304 * b + r) l) (128 * g + r) = score q k b (3 * j + g) (128 * i + r) :=
    funext fun y => dots_sq q k b i j g r y hj hg hr
  unfold outR attnE prob
  rw [hd, hN, show (3 * j + g) / 3 = j by omega]

/-- The kernel's logarithm of a row of a head. -/
theorem lseK_eq (j g r : ℕ) (hN : keys (128 * i + r) = N) (hj : j < 2) (hg : g < 3) (hr : r < 128) :
    lseK N (fun r l => q (2304 * b + (128 * i + r)) l) (fun r l => k (2304 * b + r) l) j (128 * g + r) = lseE q k b (3 * j + g) (128 * i + r) := by
  have hd : dots (sq (fun r l => q (2304 * b + (128 * i + r)) l) j) (fun r l => k (2304 * b + r) l) (128 * g + r) = score q k b (3 * j + g) (128 * i + r) :=
    funext fun y => dots_sq q k b i j g r y hj hg hr
  unfold lseK lseE
  rw [hd, hN]

/-- The block of outputs, by column. -/
theorem heads_eq (r l : ℕ) (hN : keys (128 * i + r) = N) (hr : r < 128) (hl : l < 384) :
    heads (outR N (fun r l => q (2304 * b + (128 * i + r)) l) (fun r l => k (2304 * b + r) l) (fun r l => v (2304 * b + r) l) 0)
      (outR N (fun r l => q (2304 * b + (128 * i + r)) l) (fun r l => k (2304 * b + r) l) (fun r l => v (2304 * b + r) l) 1) r l
      = attnE q k v b (l / 64) (128 * i + r) (l % 64) := by
  by_cases h : l < 192
  · rw [heads_low h]
    have e := outR_eq q k v b i 0 (l / 64) r (l % 64) hN (by omega) (by omega) hr
    rw [show 64 * 0 + l % 64 = l % 64 by omega, show 3 * 0 + l / 64 = l / 64 by omega] at e
    exact e
  · rw [heads_high (by omega) hl]
    have e := outR_eq q k v b i 1 (l / 64 - 3) r (l % 64) hN (by omega) (by omega) hr
    rw [show 64 * 1 + l % 64 = 64 + l % 64 by omega, show 3 * 1 + (l / 64 - 3) = l / 64 by omega] at e
    exact e

/-- The block of logarithms, by stacked row. -/
theorem lses_eq (R : ℕ) (hN : keys (128 * i + R % 128) = N) (hR : R < 768) :
    (if R < 384 then lseK N (fun r l => q (2304 * b + (128 * i + r)) l) (fun r l => k (2304 * b + r) l) 0 R
      else lseK N (fun r l => q (2304 * b + (128 * i + r)) l) (fun r l => k (2304 * b + r) l) 1 (R - 384))
      = lseE q k b (3 * (R / 384) + R / 128 % 3) (128 * i + R % 128) := by
  by_cases h : R < 384
  · rw [if_pos h, show R / 384 = 0 by omega]
    have e := lseK_eq q k b i 0 (R / 128 % 3) (R % 128) hN (by omega) (by omega) (by omega)
    rw [show 128 * (R / 128 % 3) + R % 128 = R by omega] at e
    exact e
  · rw [if_neg h, show R / 384 = 1 by omega]
    have e := lseK_eq q k b i 1 (R / 128 % 3) (R % 128) hN (by omega) (by omega) (by omega)
    rw [show 128 * (R / 128 % 3) + R % 128 = R - 384 by omega] at e
    exact e
end

/-- Which block of the queries a point reads. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

/-- Which block of the keys a point reads. -/
theorem idx1 : ∀ t : Fin cfg0.N, win0_1.index t (0 : Fin 3) = 0 ∧ win0_1.index t (1 : Fin 3) = t.val / 18 ∧ win0_1.index t (2 : Fin 3) = 0 :=
  (by decide +kernel : ∀ t : Fin grid0.N, _)

/-- Which block of the values a point reads. -/
theorem idx2 : ∀ t : Fin cfg0.N, win0_2.index t (0 : Fin 3) = 0 ∧ win0_2.index t (1 : Fin 3) = t.val / 18 ∧ win0_2.index t (2 : Fin 3) = 0 :=
  (by decide +kernel : ∀ t : Fin grid0.N, _)

/-- Which block of the first output a point writes. -/
theorem idx3 : ∀ t : Fin cfg0.N, win0_3.index t (0 : Fin 2) = t.val ∧ win0_3.index t (1 : Fin 2) = 0 :=
  (by decide +kernel : ∀ t : Fin grid0.N, _)

/-- Which block of the second output a point writes. -/
theorem idx4 : ∀ t : Fin cfg0.N, win0_4.index t (0 : Fin 2) = t.val ∧ win0_4.index t (1 : Fin 2) = 0 :=
  (by decide +kernel : ∀ t : Fin grid0.N, _)

/-- Which block of the logarithms a point writes. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

variable (m : (ℓ : Loc nD τ sig) → Buf (Elt Ideal) ℓ) (c : Dev nD)

/-- The queries. -/
abbrev argQ : Cert.ReferenceIdeal.Read.TQ := m ((c : Thread nD τ).loc main_arg0)
/-- The keys. -/
abbrev argK : Cert.ReferenceIdeal.Read.TK := m ((c : Thread nD τ).loc main_arg1)
/-- The values. -/
abbrev argV : Cert.ReferenceIdeal.Read.TK := m ((c : Thread nD τ).loc main_arg2)

variable {m c} {q k : ℕ → ℕ → ℝ} {v : ℕ → ℕ → EReal}
  (h0 : Layer 9216 384 (argQ m c) q) (h1 : Layer 9216 128 (argK m c) k) (h2 : LayerE 9216 128 (argV m c) v)

include h0 h1 h2

/-- The blocks of a point. -/
theorem blocks (t : Fin cfg0.N) : Blocks m c t (fun r l => q (2304 * (t.val / 18) + (128 * (t.val % 18) + r)) l)
    (fun r l => k (2304 * (t.val / 18) + r) l) (fun r l => v (2304 * (t.val / 18) + r) l) := by
  constructor
  · obtain ⟨e0, e1, e2⟩ := idx0 t
    intro r l
    show V m c main_arg0 (((cfg0.win 0).blk t).view.emb (ix3 0 r l)) = _
    refine (congrFun (V_main_arg0 m c) _).trans ((h0 _ ?_).trans (congrArg Real.toEReal (congrArg₂ q ?_ ?_)))
    · show win0_0.index t (0 : Fin 3) * 1 + 1 * 0 = 0
      omega
    · show win0_0.index t (1 : Fin 3) * 128 + 1 * r.val = _
      omega
    · show win0_0.index t (2 : Fin 3) * 384 + 1 * l.val = _
      omega
  · obtain ⟨e0, e1, e2⟩ := idx1 t
    intro r l
    show V m c main_arg1 (((cfg0.win 1).blk t).view.emb (ix3 0 r l)) = _
    refine (congrFun (V_main_arg1 m c) _).trans ((h1 _ ?_).trans (congrArg Real.toEReal (congrArg₂ k ?_ ?_)))
    · show win0_1.index t (0 : Fin 3) * 1 + 1 * 0 = 0
      omega
    · show win0_1.index t (1 : Fin 3) * 2304 + 1 * r.val = _
      omega
    · show win0_1.index t (2 : Fin 3) * 128 + 1 * l.val = _
      omega
  · obtain ⟨e0, e1, e2⟩ := idx2 t
    intro r l
    show V m c main_arg2 (((cfg0.win 2).blk t).view.emb (ix3 0 r l)) = _
    refine (congrFun (V_main_arg2 m c) _).trans ((h2 _ ?_).trans (congrArg₂ v ?_ ?_))
    · show win0_2.index t (0 : Fin 3) * 1 + 1 * 0 = 0
      omega
    · show win0_2.index t (1 : Fin 3) * 2304 + 1 * r.val = _
      omega
    · show win0_2.index t (2 : Fin 3) * 128 + 1 * l.val = _
      omega

/-- What a point leaves, of either kind. -/
theorem point (t : Fin cfg0.N) :
    E2 128 384 (outsAt0 m c t.val t.isLt).1 (fun r l => attnE q k v (t.val / 18) (l / 64) (128 * (t.val % 18) + r) (l % 64))
    ∧ E2 128 384 (outsAt0 m c t.val t.isLt).2.1 (fun r l => attnE q k v (t.val / 18) (l / 64) (128 * (t.val % 18) + r) (l % 64))
    ∧ Is3 768 1 (outsAt0 m c t.val t.isLt).2.2 fun R _ => lseE q k (t.val / 18) (3 * (R / 384) + R / 128 % 3) (128 * (t.val % 18) + R % 128) := by
  have B := blocks h0 h1 h2 t
  by_cases h : t.val % 18 ≤ 1
  · have hN : ∀ r, r < 128 → keys (128 * (t.val % 18) + r) = 256 := fun r hr => keys_lt (by omega)
    obtain ⟨p3, p4, p5⟩ := caseA B h (by omega)
    exact ⟨fun r l => (p3 r l).trans (heads_eq q k v _ _ r l (hN r r.isLt) r.isLt l.isLt), fun r l => (p4 r l).trans (heads_eq q k v _ _ r l (hN r r.isLt) r.isLt l.isLt),
      fun R z => (p5 R z).trans (congrArg Real.toEReal (lses_eq q k _ _ R (hN _ (by omega)) R.isLt))⟩
  · have hN : ∀ r, keys (128 * (t.val % 18) + r) = 2304 := fun r => if_neg (by omega)
    obtain ⟨p3, p4, p5⟩ := caseB B h (by omega)
    exact ⟨fun r l => (p3 r l).trans (heads_eq q k v _ _ r l (hN r) r.isLt l.isLt), fun r l => (p4 r l).trans (heads_eq q k v _ _ r l (hN r) r.isLt l.isLt),
      fun R z => (p5 R z).trans (congrArg Real.toEReal (lses_eq q k _ _ R (hN _) R.isLt))⟩

/-- What a point leaves in a block of outputs is the reference's block. -/
theorem out_block {x : S128x384.Idx → EReal} (t : Fin cfg0.N) (I : S9216x384.Idx) (y : S128x384.Idx)
    (hx : E2 128 384 x fun r l => attnE q k v (t.val / 18) (l / 64) (128 * (t.val % 18) + r) (l % 64))
    (e0 : (I 0).val = 128 * t.val + (y 0).val) (e1 : (I 1).val = (y 1).val) :
    x y = Cert.Reference20Ideal.Read.val_main_v51 (F := Ideal) (argQ m c) (argK m c) (argV m c) I := by
  have b0 : (y 0).val < 128 := (y 0).isLt
  rw [out_entries h0 h1 h2, e0, e1, show (128 * t.val + (y 0).val) / 2304 = t.val / 18 by omega, show (128 * t.val + (y 0).val) % 2304 = 128 * (t.val % 18) + (y 0).val by omega]
  exact (congrArg x (eq_ix2 y)).trans (hx (y 0) (y 1))

/-- What a point writes back of the first output. -/
theorem flushed_o (t : Fin cfg0.N) : (dats m 0 c).flushed 3 t = ((cfg0.win 3).blk t).view.read (Elt Ideal) (Cert.Reference20Ideal.Read.val_main_v52 (F := Ideal) (argQ m c) (argK m c) (argV m c)) := by
  obtain ⟨e0, e1⟩ := idx3 t
  rw [flushed3]
  funext y
  rw [View.read_apply]
  refine out_block h0 h1 h2 t (((cfg0.win 3).blk t).view.emb y) y (point h0 h1 h2 t).1 ?_ ?_
  · show win0_3.index t (0 : Fin 2) * 128 + 1 * (y 0).val = _
    omega
  · show win0_3.index t (1 : Fin 2) * 384 + 1 * (y 1).val = _
    omega

/-- What a point writes back of the second output. -/
theorem flushed_o32 (t : Fin cfg0.N) : (dats m 0 c).flushed 4 t = ((cfg0.win 4).blk t).view.read (Elt Ideal) (Cert.Reference20Ideal.Read.val_main_v51 (F := Ideal) (argQ m c) (argK m c) (argV m c)) := by
  obtain ⟨e0, e1⟩ := idx4 t
  rw [flushed4]
  funext y
  rw [View.read_apply]
  refine out_block h0 h1 h2 t (((cfg0.win 4).blk t).view.emb y) y (point h0 h1 h2 t).2.1 ?_ ?_
  · show win0_4.index t (0 : Fin 2) * 128 + 1 * (y 0).val = _
    omega
  · show win0_4.index t (1 : Fin 2) * 384 + 1 * (y 1).val = _
    omega

/-- What a point writes back of the logarithms. -/
theorem flushed_lse (t : Fin cfg0.N) : (dats m 0 c).flushed 5 t = ((cfg0.win 5).blk t).view.read (Elt Ideal) (Cert.Reference20Ideal.Read.val_main_v87 (F := Ideal) (argQ m c) (argK m c)) := by
  obtain ⟨e0, e1, e2⟩ := idx5 t
  rw [flushed5]
  funext y
  rw [View.read_apply]
  have b0 : (y 0).val < 1 := (y 0).isLt
  have a0 : (((cfg0.win 5).blk t).view.emb y (0 : Fin 3)).val = t.val := by
    show win0_5.index t (0 : Fin 3) * 1 + 1 * (y 0).val = _
    omega
  have a1 : (((cfg0.win 5).blk t).view.emb y (1 : Fin 3)).val = (y 1).val := by
    show win0_5.index t (1 : Fin 3) * 768 + 1 * (y 1).val = _
    omega
  refine Eq.trans ?_ (lse_entries h0 h1 (((cfg0.win 5).blk t).view.emb y)).symm
  rw [a0, a1]
  have hy : y = ix3 (n0 := 1) (n1 := 768) (n2 := 1) (0 : Fin 1) (y 1) (y 2) := by
    funext a
    match a with
    | ⟨0, _⟩ => exact Fin.ext (by show (y 0).val = 0; omega)
    | ⟨1, _⟩ => rfl
    | ⟨2, _⟩ => rfl
  exact (congrArg (outsAt0 m c t.val t.isLt).2.2 hy).trans ((point h0 h1 h2 t).2.2 (y 1) (y 2))

omit h0 h1 h2 in
/-- Every row lies in the block of some point. -/
theorem cover3 (i : S9216x384.Idx) : ∃ t : Fin cfg0.N, i ∈ (win0_3.rect t).set := by
  have hN : cfg0.N = 72 := N_0
  have b0 : (i 0 : Nat) < 9216 := (i 0).isLt
  have b1 : (i 1 : Nat) < 384 := (i 1).isLt
  let t : Fin cfg0.N := ⟨(i 0 : Nat) / 128, by omega⟩
  have ht : t.val = (i 0 : Nat) / 128 := rfl
  obtain ⟨e0, e1⟩ := idx3 t
  refine ⟨t, (Rect.mem_set_unit ..).mpr fun a => ?_⟩
  match a with
  | ⟨0, _⟩ =>
    show win0_3.index t (0 : Fin 2) * 128 ≤ (i 0 : Nat) ∧ (i 0 : Nat) < win0_3.index t (0 : Fin 2) * 128 + 128
    omega
  | ⟨1, _⟩ =>
    show win0_3.index t (1 : Fin 2) * 384 ≤ (i 1 : Nat) ∧ (i 1 : Nat) < win0_3.index t (1 : Fin 2) * 384 + 384
    omega

omit h0 h1 h2 in
/-- Every block of logarithms is the block of some point. -/
theorem cover5 (i : S72x768x1.Idx) : ∃ t : Fin cfg0.N, i ∈ (win0_5.rect t).set := by
  have hN : cfg0.N = 72 := N_0
  have b0 : (i 0 : Nat) < 72 := (i 0).isLt
  have b1 : (i 1 : Nat) < 768 := (i 1).isLt
  have b2 : (i 2 : Nat) < 1 := (i 2).isLt
  let t : Fin cfg0.N := ⟨(i 0 : Nat), by omega⟩
  have ht : t.val = (i 0 : Nat) := rfl
  obtain ⟨e0, e1, e2⟩ := idx5 t
  refine ⟨t, (Rect.mem_set_unit ..).mpr fun a => ?_⟩
  match a with
  | ⟨0, _⟩ =>
    show win0_5.index t (0 : Fin 3) * 1 ≤ (i 0 : Nat) ∧ (i 0 : Nat) < win0_5.index t (0 : Fin 3) * 1 + 1
    omega
  | ⟨1, _⟩ =>
    show win0_5.index t (1 : Fin 3) * 768 ≤ (i 1 : Nat) ∧ (i 1 : Nat) < win0_5.index t (1 : Fin 3) * 768 + 768
    omega
  | ⟨2, _⟩ =>
    show win0_5.index t (2 : Fin 3) * 1 ≤ (i 2 : Nat) ∧ (i 2 : Nat) < win0_5.index t (2 : Fin 3) * 1 + 1
    omega

/-- The first array ends holding the reference's output. -/
theorem final_o : (dats m 0 c).arrAt 3 cfg0.N = Cert.Reference20Ideal.Read.val_main_v52 (F := Ideal) (argQ m c) (argK m c) (argV m c) := by
  refine (dats m 0 c).arrAt_eq_of_cover 3 _ (fun t _ => flushed_o h0 h1 h2 t) fun i => ?_
  obtain ⟨t, h⟩ := cover3 i
  refine ⟨t, flush0_3 t, ?_⟩
  show i ∈ ((View.whole main_v0_0).slice (win0_3.rect t)).set
  rw [View.set_slice_whole]
  exact h

/-- The second, too. -/
theorem final_o32 : (dats m 0 c).arrAt 4 cfg0.N = Cert.Reference20Ideal.Read.val_main_v51 (F := Ideal) (argQ m c) (argK m c) (argV m c) := by
  refine (dats m 0 c).arrAt_eq_of_cover 4 _ (fun t _ => flushed_o32 h0 h1 h2 t) fun i => ?_
  obtain ⟨t, h⟩ := cover3 i
  refine ⟨t, flush0_4 t, ?_⟩
  show i ∈ ((View.whole main_v0_1).slice (win0_4.rect t)).set
  rw [View.set_slice_whole]
  exact h

/-- The third ends holding the reference's logarithms. -/
theorem final_lse : (dats m 0 c).arrAt 5 cfg0.N = Cert.Reference20Ideal.Read.val_main_v87 (F := Ideal) (argQ m c) (argK m c) := by
  refine (dats m 0 c).arrAt_eq_of_cover 5 _ (fun t _ => flushed_lse h0 h1 h2 t) fun i => ?_
  obtain ⟨t, h⟩ := cover5 i
  refine ⟨t, flush0_5 t, ?_⟩
  show i ∈ ((View.whole main_v0_2).slice (win0_5.rect t)).set
  rw [View.set_slice_whole]
  exact h

end Cert.Kernel20Ideal.Value
end
end
-- ==== Proof.lean ====
module

public import proofs.«01_k».proof.Defs
public import proofs.«01_k».proof.Proof.Result
public import proofs.«01_k».proof.Proof.Finite
public import proofs.«01_k».proof.Proof.MixerGate
public import proofs.«01_k».proof.Proof.MixerInput
public import proofs.«01_k».proof.Proof.MixerFirstWeights
public import proofs.«01_k».proof.Proof.MixerSecondWeights
public import proofs.«01_k».proof.Proof.MixerFirst
public import proofs.«01_k».proof.Proof.MixerSecond
public import proofs.«01_k».proof.Proof.ProjectIn
public import proofs.«01_k».proof.Proof.ProjectInInput
public import proofs.«01_k».proof.Proof.ProjectInWeights
public import proofs.«01_k».proof.Proof.ProjectOut
public import proofs.«01_k».proof.Proof.ProjectOutInput
public import proofs.«01_k».proof.Proof.ProjectOutWeights
public import proofs.«01_k».proof.Proof.MergeBackward
public import proofs.«01_k».proof.Proof.Merge
public import proofs.«01_k».proof.Proof.BranchInput
public import proofs.«01_k».proof.Proof.PoolInput
public import proofs.«01_k».proof.Proof.BranchWeights
public import proofs.«01_k».proof.Proof.PoolWeights
public import proofs.«01_k».proof.Proof.Gen.KernelIdeal.Value
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2Ideal.Value
public import proofs.«01_k».proof.Proof.Gen.Kernel2.Frame
public import proofs.«01_k».proof.Proof.Gen.Reference2Ideal.Read
public import proofs.«01_k».proof.Proof.Gen.Kernel3Ideal.Value
public import proofs.«01_k».proof.Proof.Gen.Kernel3.Frame
public import proofs.«01_k».proof.Proof.Gen.Reference3Ideal.Read
public import proofs.«01_k».proof.Proof.Gen.Kernel4Ideal.Value
public import proofs.«01_k».proof.Proof.Gen.Kernel4.Frame
public import proofs.«01_k».proof.Proof.Gen.Reference4Ideal.Read
public import proofs.«01_k».proof.Proof.Gen.Kernel5Ideal.Value
public import proofs.«01_k».proof.Proof.Gen.Kernel5.Frame
public import proofs.«01_k».proof.Proof.Gen.Reference5Ideal.Read
public import proofs.«01_k».proof.Proof.Gen.Kernel6Ideal.Value
public import proofs.«01_k».proof.Proof.Gen.Kernel6.Frame
public import proofs.«01_k».proof.Proof.Gen.Reference6Ideal.Read
public import proofs.«01_k».proof.Proof.Gen.Kernel7Ideal.Value
public import proofs.«01_k».proof.Proof.Gen.Kernel7.Frame
public import proofs.«01_k».proof.Proof.Gen.Reference7Ideal.Read
public import proofs.«01_k».proof.Proof.Gen.Kernel8Ideal.Value
public import proofs.«01_k».proof.Proof.Gen.Kernel8.Frame
public import proofs.«01_k».proof.Proof.Gen.Reference8Ideal.Read
public import proofs.«01_k».proof.Proof.Gen.Kernel9Ideal.Value
public import proofs.«01_k».proof.Proof.Gen.Kernel9.Frame
public import proofs.«01_k».proof.Proof.Gen.Reference9Ideal.Read
public import proofs.«01_k».proof.Proof.Gen.Kernel10Ideal.Value
public import proofs.«01_k».proof.Proof.Gen.Kernel10.Frame
public import proofs.«01_k».proof.Proof.Gen.Reference10Ideal.Read
public import proofs.«01_k».proof.Proof.Gen.Kernel11Ideal.Value
public import proofs.«01_k».proof.Proof.Gen.Kernel11.Frame
public import proofs.«01_k».proof.Proof.Gen.Reference11Ideal.Read
public import proofs.«01_k».proof.Proof.Gen.Kernel12Ideal.Value
public import proofs.«01_k».proof.Proof.Gen.Kernel12.Frame
public import proofs.«01_k».proof.Proof.Gen.Reference12Ideal.Read
public import proofs.«01_k».proof.Proof.Gen.Kernel13Ideal.Value
public import proofs.«01_k».proof.Proof.Gen.Kernel13.Frame
public import proofs.«01_k».proof.Proof.Gen.Reference13Ideal.Read
public import proofs.«01_k».proof.Proof.Gen.Kernel14Ideal.Value
public import proofs.«01_k».proof.Proof.Gen.Kernel14.Frame
public import proofs.«01_k».proof.Proof.Gen.Reference14Ideal.Read
public import proofs.«01_k».proof.Proof.Gen.Kernel15Ideal.Value
public import proofs.«01_k».proof.Proof.Gen.Kernel15.Frame
public import proofs.«01_k».proof.Proof.Gen.Reference15Ideal.Read
public import proofs.«01_k».proof.Proof.Gen.Kernel16Ideal.Value
public import proofs.«01_k».proof.Proof.Gen.Kernel16.Frame
public import proofs.«01_k».proof.Proof.Gen.Reference16Ideal.Read
public import proofs.«01_k».proof.Proof.Gen.Kernel17Ideal.Value
public import proofs.«01_k».proof.Proof.Gen.Kernel17.Frame
public import proofs.«01_k».proof.Proof.Gen.Reference17Ideal.Read
public import proofs.«01_k».proof.Proof.Gen.Kernel18Ideal.Value
public import proofs.«01_k».proof.Proof.Gen.Kernel18.Frame
public import proofs.«01_k».proof.Proof.Gen.Reference18Ideal.Read
public import proofs.«01_k».proof.Proof.Gen.Kernel19Ideal.Value
public import proofs.«01_k».proof.Proof.Gen.Kernel19.Frame
public import proofs.«01_k».proof.Proof.Gen.Reference19Ideal.Read
public import proofs.«01_k».proof.Proof.ForwardResult
public import proofs.«01_k».proof.Proof.Gen.Kernel20Ideal.Value
public import proofs.«01_k».proof.Proof.Gen.Kernel20.Frame
public import proofs.«01_k».proof.Proof.Gen.Reference20Ideal.Read
public import Idealize.ShloMosaic.Adequacy
public import Idealize.ShloMosaic.Init

@[expose] public section

set_option maxRecDepth 16384

noncomputable section

namespace Cert.Proof

open Idealize.ShloMosaic Idealize.SL.Sem Cert.Kernel

/-- The kernel runs, leaves its arguments and every semaphore as they were. -/
theorem frame_kernel : Cert.quiescent_Kernel := fun m g _ => Cert.Kernel.Gen.frame m g

section
variable {x0 : Cert.ReferenceIdeal.Read.TQ} {x1 x2 : Cert.ReferenceIdeal.Read.TK} {x3 : Cert.ReferenceIdeal.Read.TW}
  {m : (ℓ : Loc Cert.KernelIdeal.nD Cert.KernelIdeal.τ Cert.KernelIdeal.sig) → Buf (Elt Ideal) ℓ} (c : Dev Cert.KernelIdeal.nD)
  (e0 : x0 = m ((c.tc : Thread Cert.KernelIdeal.nD Cert.KernelIdeal.τ).loc Cert.KernelIdeal.main_arg0))
  (e1 : x1 = m ((c.tc : Thread Cert.KernelIdeal.nD Cert.KernelIdeal.τ).loc Cert.KernelIdeal.main_arg1))
  (e2 : x2 = m ((c.tc : Thread Cert.KernelIdeal.nD Cert.KernelIdeal.τ).loc Cert.KernelIdeal.main_arg2))
  (e3 : x3 = m ((c.tc : Thread Cert.KernelIdeal.nD Cert.KernelIdeal.τ).loc Cert.KernelIdeal.main_arg3))
  (hp : haveI := Cert.Pre_finite.facts; Cert.Pre_finite.fn (F := Ideal) x0 x1 x2 x3 = fun _ => 1#1)

include e0 e1 e2 e3 hp

/-- The reference's gradient of the queries is the kernel's first array. -/
theorem same_q : Cert.ReferenceIdeal.Read.val_main_v145 (F := Ideal) x0 x1 x2 x3 = Cert.KernelIdeal.Value.G6 m c := by
  obtain ⟨h0, h1, h2, h3⟩ := @Cert.Pre_finite.reals Cert.Pre_finite.facts x0 x1 x2 x3 hp
  subst e0 e1 e2 e3
  exact funext fun i => (Cert.ReferenceIdeal.Read.dq_result h0 h1 h2 h3 i).trans (Cert.KernelIdeal.Value.G6_real h0 h1 h2 h3 i).symm

/-- The reference's gradient of the keys is the kernel's second array. -/
theorem same_k : Cert.ReferenceIdeal.Read.val_main_v144 (F := Ideal) x0 x1 x2 x3 = Cert.KernelIdeal.Value.G7 m c := by
  obtain ⟨h0, h1, h2, h3⟩ := @Cert.Pre_finite.reals Cert.Pre_finite.facts x0 x1 x2 x3 hp
  subst e0 e1 e2 e3
  exact funext fun i => (Cert.ReferenceIdeal.Read.dk_result h0 h1 h2 h3 i).trans (Cert.KernelIdeal.Value.G7_real h0 h1 h2 h3 i).symm

/-- The reference's gradient of the values is the kernel's third array. -/
theorem same_v : Cert.ReferenceIdeal.Read.val_main_v143 (F := Ideal) x0 x1 x3 = Cert.KernelIdeal.Value.G8 m c := by
  obtain ⟨h0, h1, h2, h3⟩ := @Cert.Pre_finite.reals Cert.Pre_finite.facts x0 x1 x2 x3 hp
  subst e0 e1 e2 e3
  exact funext fun i => (Cert.ReferenceIdeal.Read.dv_result h0 h1 h3 i).trans (Cert.KernelIdeal.Value.G8_real h0 h1 h2 h3 i).symm

end

/-- The kernel in its ideal form and the reference end with the same three gradients, from the same finite inputs. -/
theorem algebraic : Cert.algebraic_KernelIdeal_ReferenceIdeal_pre_finite (hPre_finite := Cert.Pre_finite.facts) := by
  intro m g m' g' hp ha
  refine ⟨fun c => Cert.KernelIdeal.Value.G6 m c, fun c => Cert.KernelIdeal.Value.G7 m c, fun c => Cert.KernelIdeal.Value.G8 m c,
    Cert.KernelIdeal.Value.run m g, (θ_run Cert.ReferenceIdeal.defs _ _).mono (fun r h c => ?_) (Cert.ReferenceIdeal.Value.run (F := Ideal) m' g')⟩
  obtain ⟨a0, a1, a2, a3⟩ := ha c
  have hc : @Cert.Pre_finite.fn Cert.Pre_finite.facts Ideal _ (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = fun _ => 1#1 := by
    rw [a0, a1, a2, a3]
    exact hp c
  obtain ⟨r0, r1, r2, k0, k1, k2, k3⟩ := h c
  exact ⟨r0.trans ((Cert.ReferenceIdeal.Read.val_main_v145_eq m' c).trans (same_q c a0 a1 a2 a3 hc)),
    r1.trans ((Cert.ReferenceIdeal.Read.val_main_v144_eq m' c).trans (same_k c a0 a1 a2 a3 hc)),
    r2.trans ((Cert.ReferenceIdeal.Read.val_main_v143_eq m' c).trans (same_v c a0 a1 a2 a3 hc)), k0, k1, k2, k3⟩

/-- The reference runs, leaves its arguments and every semaphore as they were. -/
theorem frame_reference : Cert.quiescent_ReferenceIdeal := fun m g _ => (θ_run Cert.ReferenceIdeal.defs _ _).mono
  (fun r h => ⟨fun c => (h c).2.2.2, Idealize.ShloMosaic.sem_eq_zero_of_no_sems (by decide) r.2⟩) (Cert.ReferenceIdeal.Value.run (F := Ideal) m g)

/-- The reference of the gradient under the activation runs, leaves its arguments and every semaphore as they were. -/
theorem frame_reference2 : Cert.quiescent_Reference2Ideal := fun m g _ => (θ_run Cert.Reference2Ideal.defs _ _).mono
  (fun r h => ⟨fun c => (h c).2, Idealize.ShloMosaic.sem_eq_zero_of_no_sems (by decide) r.2⟩) (Cert.Reference2Ideal.Value.run (F := Ideal) m g)

/-- The kernel of the gradient under the activation in its ideal form and its reference end with the same array. -/
theorem algebraic2 : Cert.algebraic_Kernel2Ideal_Reference2Ideal := by
  intro m g m' g' _ ha
  refine ⟨fun c => Cert.Kernel2Ideal.Value.grad m c, Cert.Kernel2Ideal.Value.run m g,
    (θ_run Cert.Reference2Ideal.defs _ _).mono (fun r h c => ?_) (Cert.Reference2Ideal.Value.run (F := Ideal) m' g')⟩
  obtain ⟨a0, a1, a2⟩ := ha c
  obtain ⟨r0, k⟩ := h c
  have e : Cert.Reference2Ideal.Read.val_main_v15 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
      = Cert.Kernel2Ideal.Value.grad m c := by
    rw [a0, a1, a2]
    exact Cert.Kernel2Ideal.Value.reference_eq m c
  exact ⟨r0.trans ((Cert.Reference2Ideal.Read.val_main_v15_eq _ _ _).trans e), k⟩

/-- The reference of the gradient of the mixer's input runs, leaves its arguments and every semaphore as they were. -/
theorem frame_reference3 : Cert.quiescent_Reference3Ideal := fun m g _ => (θ_run Cert.Reference3Ideal.defs _ _).mono
  (fun r h => ⟨fun c => (h c).2, Idealize.ShloMosaic.sem_eq_zero_of_no_sems (by decide) r.2⟩) (Cert.Reference3Ideal.Value.run (F := Ideal) m g)

/-- The kernel of the gradient of the mixer's input in its ideal form and its reference end with the same array. -/
theorem algebraic3 : Cert.algebraic_Kernel3Ideal_Reference3Ideal := by
  intro m g m' g' _ ha
  refine ⟨fun c => Cert.Kernel3Ideal.Value.grad m c, Cert.Kernel3Ideal.Value.run m g,
    (θ_run Cert.Reference3Ideal.defs _ _).mono (fun r h c => ?_) (Cert.Reference3Ideal.Value.run (F := Ideal) m' g')⟩
  obtain ⟨a0, a1⟩ := ha c
  obtain ⟨r0, k⟩ := h c
  have e : Cert.Reference3Ideal.Read.val_main_v6 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      = Cert.Kernel3Ideal.Value.grad m c := by
    rw [a0, a1]
    exact Cert.Kernel3Ideal.Value.reference_eq m c
  exact ⟨r0.trans ((Cert.Reference3Ideal.Read.val_main_v6_eq _ _).trans e), k⟩

/-- The reference of the gradient of the mixer's first weights runs, leaves its arguments and every semaphore as they were. -/
theorem frame_reference4 : Cert.quiescent_Reference4Ideal := fun m g _ => (θ_run Cert.Reference4Ideal.defs _ _).mono
  (fun r h => ⟨fun c => (h c).2.2, Idealize.ShloMosaic.sem_eq_zero_of_no_sems (by decide) r.2⟩) (Cert.Reference4Ideal.Value.run (F := Ideal) m g)

/-- The kernel of the gradient of the mixer's first weights in its ideal form and its reference end with the same arrays. -/
theorem algebraic4 : Cert.algebraic_Kernel4Ideal_Reference4Ideal := by
  intro m g m' g' _ ha
  refine ⟨fun c => Cert.Kernel4Ideal.Value.grad m c, fun c => Cert.Kernel4Ideal.Value.grad m c, Cert.Kernel4Ideal.Value.run m g,
    (θ_run Cert.Reference4Ideal.defs _ _).mono (fun r h c => ?_) (Cert.Reference4Ideal.Value.run (F := Ideal) m' g')⟩
  obtain ⟨a0, a1⟩ := ha c
  obtain ⟨r0, r1, k⟩ := h c
  have e : Cert.Reference4Ideal.Read.val_main_v9 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
      = Cert.Kernel4Ideal.Value.grad m c := by
    rw [a0, a1]
    exact Cert.Kernel4Ideal.Value.reference_eq m c
  exact ⟨r0.trans ((Cert.Reference4Ideal.Read.val_main_v9_eq _ _).trans e), r1.trans ((Cert.Reference4Ideal.Read.val_main_v10_eq _ _).trans e), k⟩

/-- The reference of the gradient of the mixer's second weights runs, leaves its arguments and every semaphore as they were. -/
theorem frame_reference5 : Cert.quiescent_Reference5Ideal := fun m g _ => (θ_run Cert.Reference5Ideal.defs _ _).mono
  (fun r h => ⟨fun c => (h c).2.2, Idealize.ShloMosaic.sem_eq_zero_of_no_sems (by decide) r.2⟩) (Cert.Reference5Ideal.Value.run (F := Ideal) m g)

/-- The kernel of the gradient of the mixer's second weights in its ideal form and its reference end with the same arrays. -/
theorem algebraic5 : Cert.algebraic_Kernel5Ideal_Reference5Ideal := by
  intro m g m' g' _ ha
  refine ⟨fun c => Cert.Kernel5Ideal.Value.grad m c, fun c => Cert.Kernel5Ideal.Value.grad m c, Cert.Kernel5Ideal.Value.run m g,
    (θ_run Cert.Reference5Ideal.defs _ _).mono (fun r h c => ?_) (Cert.Reference5Ideal.Value.run (F := Ideal) m' g')⟩
  obtain ⟨a0, a1⟩ := ha c
  obtain ⟨r0, r1, k⟩ := h c
  have e : Cert.Reference5Ideal.Read.val_main_v5 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
      = Cert.Kernel5Ideal.Value.grad m c := by
    rw [a0, a1]
    exact Cert.Kernel5Ideal.Value.reference_eq m c
  exact ⟨r0.trans ((Cert.Reference5Ideal.Read.val_main_v5_eq _ _).trans e), r1.trans ((Cert.Reference5Ideal.Read.val_main_v6_eq _ _).trans e), k⟩

/-- The reference of the gradient of the projection in's input runs, leaves its arguments and every semaphore as they were. -/
theorem frame_reference6 : Cert.quiescent_Reference6Ideal := fun m g _ => (θ_run Cert.Reference6Ideal.defs _ _).mono
  (fun r h => ⟨fun c => (h c).2, Idealize.ShloMosaic.sem_eq_zero_of_no_sems (by decide) r.2⟩) (Cert.Reference6Ideal.Value.run (F := Ideal) m g)

/-- The kernel of the gradient of the projection in's input in its ideal form and its reference end with the same array. -/
theorem algebraic6 : Cert.algebraic_Kernel6Ideal_Reference6Ideal := by
  intro m g m' g' _ ha
  refine ⟨fun c => Cert.Kernel6Ideal.Value.grad m c, Cert.Kernel6Ideal.Value.run m g,
    (θ_run Cert.Reference6Ideal.defs _ _).mono (fun r h c => ?_) (Cert.Reference6Ideal.Value.run (F := Ideal) m' g')⟩
  obtain ⟨a0, a1⟩ := ha c
  obtain ⟨r0, k⟩ := h c
  have e : Cert.Reference6Ideal.Read.val_main_v6 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
      = Cert.Kernel6Ideal.Value.grad m c := by
    rw [a0, a1]
    exact Cert.Kernel6Ideal.Value.reference_eq m c
  exact ⟨r0.trans ((Cert.Reference6Ideal.Read.val_main_v6_eq _ _).trans e), k⟩

/-- The reference of the gradient of the projection in's weights runs, leaves its arguments and every semaphore as they were. -/
theorem frame_reference7 : Cert.quiescent_Reference7Ideal := fun m g _ => (θ_run Cert.Reference7Ideal.defs _ _).mono
  (fun r h => ⟨fun c => (h c).2.2, Idealize.ShloMosaic.sem_eq_zero_of_no_sems (by decide) r.2⟩) (Cert.Reference7Ideal.Value.run (F := Ideal) m g)

/-- The kernel of the gradient of the projection in's weights in its ideal form and its reference end with the same arrays. -/
theorem algebraic7 : Cert.algebraic_Kernel7Ideal_Reference7Ideal := by
  intro m g m' g' _ ha
  refine ⟨fun c => Cert.Kernel7Ideal.Value.grad m c, fun c => Cert.Kernel7Ideal.Value.grad m c, Cert.Kernel7Ideal.Value.run m g,
    (θ_run Cert.Reference7Ideal.defs _ _).mono (fun r h c => ?_) (Cert.Reference7Ideal.Value.run (F := Ideal) m' g')⟩
  obtain ⟨a0, a1⟩ := ha c
  obtain ⟨r0, r1, k⟩ := h c
  have e : Cert.Reference7Ideal.Read.val_main_v9 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      = Cert.Kernel7Ideal.Value.grad m c := by
    rw [a0, a1]
    exact Cert.Kernel7Ideal.Value.reference_eq m c
  exact ⟨r0.trans ((Cert.Reference7Ideal.Read.val_main_v9_eq _ _).trans e), r1.trans ((Cert.Reference7Ideal.Read.val_main_v10_eq _ _).trans e), k⟩

/-- The reference of the projection in runs, leaves its arguments and every semaphore as they were. -/
theorem frame_reference8 : Cert.quiescent_Reference8Ideal := fun m g _ => (θ_run Cert.Reference8Ideal.defs _ _).mono
  (fun r h => ⟨fun c => (h c).2, Idealize.ShloMosaic.sem_eq_zero_of_no_sems (by decide) r.2⟩) (Cert.Reference8Ideal.Value.run (F := Ideal) m g)

/-- The kernel of the projection in in its ideal form and its reference end with the same array. -/
theorem algebraic8 : Cert.algebraic_Kernel8Ideal_Reference8Ideal := by
  intro m g m' g' _ ha
  refine ⟨fun c => Cert.Kernel8Ideal.Value.value m c, Cert.Kernel8Ideal.Value.run m g,
    (θ_run Cert.Reference8Ideal.defs _ _).mono (fun r h c => ?_) (Cert.Reference8Ideal.Value.run (F := Ideal) m' g')⟩
  obtain ⟨a0, a1⟩ := ha c
  obtain ⟨r0, k⟩ := h c
  have e : Cert.Reference8Ideal.Read.val_main_v4 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))
      = Cert.Kernel8Ideal.Value.value m c := by
    rw [a0, a1]
    exact Cert.Kernel8Ideal.Value.reference_eq m c
  exact ⟨r0.trans ((Cert.Reference8Ideal.Read.val_main_v4_eq _ _).trans e), k⟩

/-- The reference of the mixer's first product and its activation runs, leaves its arguments and every semaphore as they were. -/
theorem frame_reference9 : Cert.quiescent_Reference9Ideal := fun m g _ => (θ_run Cert.Reference9Ideal.defs _ _).mono
  (fun r h => ⟨fun c => (h c).2.2, Idealize.ShloMosaic.sem_eq_zero_of_no_sems (by decide) r.2⟩) (Cert.Reference9Ideal.Value.run (F := Ideal) m g)

/-- The kernel of the mixer's first product and its activation in its ideal form and its reference end with the same arrays. -/
theorem algebraic9 : Cert.algebraic_Kernel9Ideal_Reference9Ideal := by
  intro m g m' g' _ ha
  refine ⟨fun c => Cert.Kernel9Ideal.Value.value m c, fun c => Cert.Kernel9Ideal.Value.act m c, Cert.Kernel9Ideal.Value.run m g,
    (θ_run Cert.Reference9Ideal.defs _ _).mono (fun r h c => ?_) (Cert.Reference9Ideal.Value.run (F := Ideal) m' g')⟩
  obtain ⟨a0, a1⟩ := ha c
  obtain ⟨r0, r1, k⟩ := h c
  have e0 : Cert.Reference9Ideal.Read.val_main_v4 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))
      = Cert.Kernel9Ideal.Value.value m c := by
    rw [a0, a1]
    exact Cert.Kernel9Ideal.Value.reference_eq m c
  have e1 : Cert.Reference9Ideal.Read.val_main_v7 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))
      = Cert.Kernel9Ideal.Value.act m c := by
    rw [a0, a1]
    exact Cert.Kernel9Ideal.Value.reference_act m c
  exact ⟨r0.trans ((Cert.Reference9Ideal.Read.val_main_v4_eq _ _).trans e0), r1.trans ((Cert.Reference9Ideal.Read.val_main_v7_eq _ _).trans e1), k⟩

/-- The reference of the mixer's second product runs, leaves its arguments and every semaphore as they were. -/
theorem frame_reference10 : Cert.quiescent_Reference10Ideal := fun m g _ => (θ_run Cert.Reference10Ideal.defs _ _).mono
  (fun r h => ⟨fun c => (h c).2, Idealize.ShloMosaic.sem_eq_zero_of_no_sems (by decide) r.2⟩) (Cert.Reference10Ideal.Value.run (F := Ideal) m g)

/-- The kernel of the mixer's second product in its ideal form and its reference end with the same array. -/
theorem algebraic10 : Cert.algebraic_Kernel10Ideal_Reference10Ideal := by
  intro m g m' g' _ ha
  refine ⟨fun c => Cert.Kernel10Ideal.Value.value m c, Cert.Kernel10Ideal.Value.run m g,
    (θ_run Cert.Reference10Ideal.defs _ _).mono (fun r h c => ?_) (Cert.Reference10Ideal.Value.run (F := Ideal) m' g')⟩
  obtain ⟨a0, a1⟩ := ha c
  obtain ⟨r0, k⟩ := h c
  have e : Cert.Reference10Ideal.Read.val_main_v3 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1))
      = Cert.Kernel10Ideal.Value.value m c := by
    rw [a0, a1]
    exact Cert.Kernel10Ideal.Value.reference_eq m c
  exact ⟨r0.trans ((Cert.Reference10Ideal.Read.val_main_v3_eq _ _).trans e), k⟩

/-- The reference of the projection out runs, leaves its arguments and every semaphore as they were. -/
theorem frame_reference11 : Cert.quiescent_Reference11Ideal := fun m g _ => (θ_run Cert.Reference11Ideal.defs _ _).mono
  (fun r h => ⟨fun c => (h c).2, Idealize.ShloMosaic.sem_eq_zero_of_no_sems (by decide) r.2⟩) (Cert.Reference11Ideal.Value.run (F := Ideal) m g)

/-- The kernel of the projection out in its ideal form and its reference end with the same array. -/
theorem algebraic11 : Cert.algebraic_Kernel11Ideal_Reference11Ideal := by
  intro m g m' g' _ ha
  refine ⟨fun c => Cert.Kernel11Ideal.Value.value m c, Cert.Kernel11Ideal.Value.run m g,
    (θ_run Cert.Reference11Ideal.defs _ _).mono (fun r h c => ?_) (Cert.Reference11Ideal.Value.run (F := Ideal) m' g')⟩
  obtain ⟨a0, a1⟩ := ha c
  obtain ⟨r0, k⟩ := h c
  have e : Cert.Reference11Ideal.Read.val_main_v3 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1))
      = Cert.Kernel11Ideal.Value.value m c := by
    rw [a0, a1]
    exact Cert.Kernel11Ideal.Value.reference_eq m c
  exact ⟨r0.trans ((Cert.Reference11Ideal.Read.val_main_v3_eq _ _).trans e), k⟩

/-- The reference of the gradient of the projection out's input runs, leaves its arguments and every semaphore as they were. -/
theorem frame_reference12 : Cert.quiescent_Reference12Ideal := fun m g _ => (θ_run Cert.Reference12Ideal.defs _ _).mono
  (fun r h => ⟨fun c => (h c).2, Idealize.ShloMosaic.sem_eq_zero_of_no_sems (by decide) r.2⟩) (Cert.Reference12Ideal.Value.run (F := Ideal) m g)

/-- The kernel of the gradient of the projection out's input in its ideal form and its reference end with the same array. -/
theorem algebraic12 : Cert.algebraic_Kernel12Ideal_Reference12Ideal := by
  intro m g m' g' _ ha
  refine ⟨fun c => Cert.Kernel12Ideal.Value.grad m c, Cert.Kernel12Ideal.Value.run m g,
    (θ_run Cert.Reference12Ideal.defs _ _).mono (fun r h c => ?_) (Cert.Reference12Ideal.Value.run (F := Ideal) m' g')⟩
  obtain ⟨a0, a1⟩ := ha c
  obtain ⟨r0, k⟩ := h c
  have e : Cert.Reference12Ideal.Read.val_main_v5 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1))
      = Cert.Kernel12Ideal.Value.grad m c := by
    rw [a0, a1]
    exact Cert.Kernel12Ideal.Value.reference_eq m c
  exact ⟨r0.trans ((Cert.Reference12Ideal.Read.val_main_v5_eq _ _).trans e), k⟩

/-- The reference of the gradient of the projection out's weights runs, leaves its arguments and every semaphore as they were. -/
theorem frame_reference13 : Cert.quiescent_Reference13Ideal := fun m g _ => (θ_run Cert.Reference13Ideal.defs _ _).mono
  (fun r h => ⟨fun c => (h c).2.2, Idealize.ShloMosaic.sem_eq_zero_of_no_sems (by decide) r.2⟩) (Cert.Reference13Ideal.Value.run (F := Ideal) m g)

/-- The kernel of the gradient of the projection out's weights in its ideal form and its reference end with the same arrays. -/
theorem algebraic13 : Cert.algebraic_Kernel13Ideal_Reference13Ideal := by
  intro m g m' g' _ ha
  refine ⟨fun c => Cert.Kernel13Ideal.Value.grad m c, fun c => Cert.Kernel13Ideal.Value.grad m c, Cert.Kernel13Ideal.Value.run m g,
    (θ_run Cert.Reference13Ideal.defs _ _).mono (fun r h c => ?_) (Cert.Reference13Ideal.Value.run (F := Ideal) m' g')⟩
  obtain ⟨a0, a1⟩ := ha c
  obtain ⟨r0, r1, k⟩ := h c
  have e : Cert.Reference13Ideal.Read.val_main_v5 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1))
      = Cert.Kernel13Ideal.Value.grad m c := by
    rw [a0, a1]
    exact Cert.Kernel13Ideal.Value.reference_eq m c
  exact ⟨r0.trans ((Cert.Reference13Ideal.Read.val_main_v5_eq _ _).trans e), r1.trans ((Cert.Reference13Ideal.Read.val_main_v6_eq _ _).trans e), k⟩

/-- The reference of the gradients of the gated sum of the branches runs, leaves its arguments and every semaphore as they were. -/
theorem frame_reference14 : Cert.quiescent_Reference14Ideal := fun m g _ => (θ_run Cert.Reference14Ideal.defs _ _).mono
  (fun r h => ⟨fun c => (h c).2.2.2.2.2.2, Idealize.ShloMosaic.sem_eq_zero_of_no_sems (by decide) r.2⟩) (Cert.Reference14Ideal.Value.run (F := Ideal) m g)

/-- The kernel of the gradients of the gated sum of the branches in its ideal form and its reference end with the same arrays. -/
theorem algebraic14 : Cert.algebraic_Kernel14Ideal_Reference14Ideal := by
  intro m g m' g' _ ha
  refine ⟨fun c => Cert.Kernel14Ideal.Value.ofProduct m c 0, fun c => Cert.Kernel14Ideal.Value.ofProduct m c 1, fun c => Cert.Kernel14Ideal.Value.ofProduct m c 2, fun c => Cert.Kernel14Ideal.Value.ofGate1 m c, fun c => Cert.Kernel14Ideal.Value.ofGate2 m c, fun c => Cert.Kernel14Ideal.Value.ofGate3 m c, Cert.Kernel14Ideal.Value.run m g,
    (θ_run Cert.Reference14Ideal.defs _ _).mono (fun r h c => ?_) (Cert.Reference14Ideal.Value.run (F := Ideal) m' g')⟩
  obtain ⟨a0, a1, a2, a3, a4, a5, a6, a7⟩ := ha c
  obtain ⟨r0, r1, r2, r3, r4, r5, k⟩ := h c
  have e0 : Cert.Reference14Ideal.Read.val_main_v61 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg4))
      = Cert.Kernel14Ideal.Value.ofProduct m c 0 := by
    rw [a0, a4]
    exact Cert.Kernel14Ideal.Value.same_p1 m c
  have e1 : Cert.Reference14Ideal.Read.val_main_v62 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg4))
      = Cert.Kernel14Ideal.Value.ofProduct m c 1 := by
    rw [a0, a4]
    exact Cert.Kernel14Ideal.Value.same_p2 m c
  have e2 : Cert.Reference14Ideal.Read.val_main_v63 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg4))
      = Cert.Kernel14Ideal.Value.ofProduct m c 2 := by
    rw [a0, a4]
    exact Cert.Kernel14Ideal.Value.same_p3 m c
  have e3 : Cert.Reference14Ideal.Read.val_main_v64 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg4)) (m' ((c.tc : Thread Cert.Reference14Ideal.nD Cert.Reference14Ideal.τ).loc Cert.Reference14Ideal.main_arg5))
      = Cert.Kernel14Ideal.Value.ofGate1 m c := by
    rw [a0, a1, a4, a5]
    exact Cert.Kernel14Ideal.Value.same_g1 m c
  have e4 : Cert.Reference14Ideal.Read.val_main_v65 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg4)) (m' ((c.tc : Thread Cert.Reference14Ideal.nD Cert.Reference14Ideal.τ).loc Cert.Reference14Ideal.main_arg6))
      = Cert.Kernel14Ideal.Value.ofGate2 m c := by
    rw [a0, a2, a4, a6]
    exact Cert.Kernel14Ideal.Value.same_g2 m c
  have e5 : Cert.Reference14Ideal.Read.val_main_v66 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg3)) (m' ((c.tc : Thread Cert.Reference14Ideal.nD Cert.Reference14Ideal.τ).loc Cert.Reference14Ideal.main_arg4)) (m' ((c.tc : Thread Cert.Reference14Ideal.nD Cert.Reference14Ideal.τ).loc Cert.Reference14Ideal.main_arg7))
      = Cert.Kernel14Ideal.Value.ofGate3 m c := by
    rw [a0, a3, a4, a7]
    exact Cert.Kernel14Ideal.Value.same_g3 m c
  exact ⟨r0.trans ((Cert.Reference14Ideal.Read.val_main_v61_eq _ _).trans e0), r1.trans ((Cert.Reference14Ideal.Read.val_main_v62_eq _ _).trans e1), r2.trans ((Cert.Reference14Ideal.Read.val_main_v63_eq _ _).trans e2), r3.trans ((Cert.Reference14Ideal.Read.val_main_v64_eq _ _ _ _).trans e3), r4.trans ((Cert.Reference14Ideal.Read.val_main_v65_eq _ _ _ _).trans e4), r5.trans ((Cert.Reference14Ideal.Read.val_main_v66_eq _ _ _ _).trans e5), k⟩

/-- The reference of the gated sum of the branches runs, leaves its arguments and every semaphore as they were. -/
theorem frame_reference15 : Cert.quiescent_Reference15Ideal := fun m g _ => (θ_run Cert.Reference15Ideal.defs _ _).mono
  (fun r h => ⟨fun c => (h c).2, Idealize.ShloMosaic.sem_eq_zero_of_no_sems (by decide) r.2⟩) (Cert.Reference15Ideal.Value.run (F := Ideal) m g)

/-- The kernel of the gated sum of the branches in its ideal form and its reference end with the same array. -/
theorem algebraic15 : Cert.algebraic_Kernel15Ideal_Reference15Ideal := by
  intro m g m' g' _ ha
  refine ⟨fun c => Cert.Kernel15Ideal.Value.result m c, Cert.Kernel15Ideal.Value.run m g,
    (θ_run Cert.Reference15Ideal.defs _ _).mono (fun r h c => ?_) (Cert.Reference15Ideal.Value.run (F := Ideal) m' g')⟩
  obtain ⟨a0, a1, a2, a3, a4, a5, a6⟩ := ha c
  obtain ⟨r0, k⟩ := h c
  have e : Cert.Reference15Ideal.Read.val_main_v41 (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) (m' ((c.tc : Thread Cert.Reference15Ideal.nD Cert.Reference15Ideal.τ).loc Cert.Reference15Ideal.main_arg4)) (m' ((c.tc : Thread Cert.Reference15Ideal.nD Cert.Reference15Ideal.τ).loc Cert.Reference15Ideal.main_arg5)) (m' ((c.tc : Thread Cert.Reference15Ideal.nD Cert.Reference15Ideal.τ).loc Cert.Reference15Ideal.main_arg6))
      = Cert.Kernel15Ideal.Value.result m c := by
    rw [a0, a1, a2, a3, a4, a5, a6]
    exact Cert.Kernel15Ideal.Value.reference_eq m c
  exact ⟨r0.trans ((Cert.Reference15Ideal.Read.val_main_v41_eq _ _ _ _ _ _ _).trans e), k⟩

/-- The reference of the gradient of a branch of width 384 runs, leaves its arguments and every semaphore as they were. -/
theorem frame_reference16 : Cert.quiescent_Reference16Ideal := fun m g _ => (θ_run Cert.Reference16Ideal.defs _ _).mono
  (fun r h => ⟨fun c => (h c).2, Idealize.ShloMosaic.sem_eq_zero_of_no_sems (by decide) r.2⟩) (Cert.Reference16Ideal.Value.run (F := Ideal) m g)

/-- The kernel of the gradient of a branch of width 384 in its ideal form and its reference end with the same array. -/
theorem algebraic16 : Cert.algebraic_Kernel16Ideal_Reference16Ideal := by
  intro m g m' g' _ ha
  refine ⟨fun c => Cert.Kernel16Ideal.Value.grad m c, Cert.Kernel16Ideal.Value.grad_run m g,
    (θ_run Cert.Reference16Ideal.defs _ _).mono (fun r h c => ?_) (Cert.Reference16Ideal.Value.run (F := Ideal) m' g')⟩
  obtain ⟨a0, a1⟩ := ha c
  obtain ⟨r0, k⟩ := h c
  have e : Cert.Reference16Ideal.Read.val_main_v7 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1))
      = Cert.Kernel16Ideal.Value.grad m c := by
    rw [a0, a1]
    exact Cert.Kernel16Ideal.Value.reference_eq m c
  exact ⟨r0.trans ((Cert.Reference16Ideal.Read.val_main_v7_eq _ _).trans e), k⟩

/-- The reference of the gradient of the branch of width 256 runs, leaves its arguments and every semaphore as they were. -/
theorem frame_reference17 : Cert.quiescent_Reference17Ideal := fun m g _ => (θ_run Cert.Reference17Ideal.defs _ _).mono
  (fun r h => ⟨fun c => (h c).2, Idealize.ShloMosaic.sem_eq_zero_of_no_sems (by decide) r.2⟩) (Cert.Reference17Ideal.Value.run (F := Ideal) m g)

/-- The kernel of the gradient of the branch of width 256 in its ideal form and its reference end with the same array. -/
theorem algebraic17 : Cert.algebraic_Kernel17Ideal_Reference17Ideal := by
  intro m g m' g' _ ha
  refine ⟨fun c => Cert.Kernel17Ideal.Value.grad m c, Cert.Kernel17Ideal.Value.grad_run m g,
    (θ_run Cert.Reference17Ideal.defs _ _).mono (fun r h c => ?_) (Cert.Reference17Ideal.Value.run (F := Ideal) m' g')⟩
  obtain ⟨a0, a1⟩ := ha c
  obtain ⟨r0, k⟩ := h c
  have e : Cert.Reference17Ideal.Read.val_main_v6 (F := Ideal) (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1))
      = Cert.Kernel17Ideal.Value.grad m c := by
    rw [a0, a1]
    exact Cert.Kernel17Ideal.Value.reference_eq m c
  exact ⟨r0.trans ((Cert.Reference17Ideal.Read.val_main_v6_eq _ _).trans e), k⟩

/-- The reference of the gradient of the weights of a branch of width 384 runs, leaves its arguments and every semaphore as they were. -/
theorem frame_reference18 : Cert.quiescent_Reference18Ideal := fun m g _ => (θ_run Cert.Reference18Ideal.defs _ _).mono
  (fun r h => ⟨fun c => (h c).2.2, Idealize.ShloMosaic.sem_eq_zero_of_no_sems (by decide) r.2⟩) (Cert.Reference18Ideal.Value.run (F := Ideal) m g)

/-- The kernel of the gradient of the weights of a branch of width 384 in its ideal form and its reference end with the same arrays. -/
theorem algebraic18 : Cert.algebraic_Kernel18Ideal_Reference18Ideal := by
  intro m g m' g' _ ha
  refine ⟨fun c => Cert.Kernel18Ideal.Value.grad m c, fun c => Cert.Kernel18Ideal.Value.grad m c, Cert.Kernel18Ideal.Value.run m g,
    (θ_run Cert.Reference18Ideal.defs _ _).mono (fun r h c => ?_) (Cert.Reference18Ideal.Value.run (F := Ideal) m' g')⟩
  obtain ⟨a0, a1⟩ := ha c
  obtain ⟨r0, r1, k⟩ := h c
  have e : Cert.Reference18Ideal.Read.val_main_v9 (F := Ideal) (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1))
      = Cert.Kernel18Ideal.Value.grad m c := by
    rw [a0, a1]
    exact Cert.Kernel18Ideal.Value.reference_eq m c
  exact ⟨r0.trans ((Cert.Reference18Ideal.Read.val_main_v9_eq _ _).trans e), r1.trans ((Cert.Reference18Ideal.Read.val_main_v10_eq _ _).trans e), k⟩

/-- The reference of the gradient of the weights of the branch of width 256 runs, leaves its arguments and every semaphore as they were. -/
theorem frame_reference19 : Cert.quiescent_Reference19Ideal := fun m g _ => (θ_run Cert.Reference19Ideal.defs _ _).mono
  (fun r h => ⟨fun c => (h c).2.2, Idealize.ShloMosaic.sem_eq_zero_of_no_sems (by decide) r.2⟩) (Cert.Reference19Ideal.Value.run (F := Ideal) m g)

/-- The kernel of the gradient of the weights of the branch of width 256 in its ideal form and its reference end with the same arrays. -/
theorem algebraic19 : Cert.algebraic_Kernel19Ideal_Reference19Ideal := by
  intro m g m' g' _ ha
  refine ⟨fun c => Cert.Kernel19Ideal.Value.grad m c, fun c => Cert.Kernel19Ideal.Value.grad m c, Cert.Kernel19Ideal.Value.run m g,
    (θ_run Cert.Reference19Ideal.defs _ _).mono (fun r h c => ?_) (Cert.Reference19Ideal.Value.run (F := Ideal) m' g')⟩
  obtain ⟨a0, a1⟩ := ha c
  obtain ⟨r0, r1, k⟩ := h c
  have e : Cert.Reference19Ideal.Read.val_main_v9 (F := Ideal) (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1))
      = Cert.Kernel19Ideal.Value.grad m c := by
    rw [a0, a1]
    exact Cert.Kernel19Ideal.Value.reference_eq m c
  exact ⟨r0.trans ((Cert.Reference19Ideal.Read.val_main_v9_eq _ _).trans e), r1.trans ((Cert.Reference19Ideal.Read.val_main_v10_eq _ _).trans e), k⟩

/-- The reference of the forward attention runs, leaves its arguments and every semaphore as they were. -/
theorem frame_reference20 : Cert.quiescent_Reference20Ideal := fun m g _ => (θ_run Cert.Reference20Ideal.defs _ _).mono
  (fun r h => ⟨fun c => (h c).2.2.2, Idealize.ShloMosaic.sem_eq_zero_of_no_sems (by decide) r.2⟩) (Cert.Reference20Ideal.Value.run (F := Ideal) m g)

/-- The kernel of the forward attention in its ideal form and its reference end with the same arrays, when the queries and the keys are finite. -/
theorem algebraic20 : Cert.algebraic_Kernel20Ideal_Reference20Ideal_pre_finite20 (hPre_finite20 := Cert.Reference20Ideal.Read.facts20) := by
  intro m g m' g' hp ha
  refine ⟨fun c => (Cert.Kernel20Ideal.Gen.dats m 0 c).arrAt 3 Cert.Kernel20Ideal.cfg0.N, fun c => (Cert.Kernel20Ideal.Gen.dats m 0 c).arrAt 4 Cert.Kernel20Ideal.cfg0.N, fun c => (Cert.Kernel20Ideal.Gen.dats m 0 c).arrAt 5 Cert.Kernel20Ideal.cfg0.N,
    Cert.Kernel20Ideal.Value.run_blocks m g, (θ_run Cert.Reference20Ideal.defs _ _).mono (fun r h c => ?_) (Cert.Reference20Ideal.Value.run (F := Ideal) m' g')⟩
  obtain ⟨a0, a1, a2⟩ := ha c
  obtain ⟨h0, h1⟩ := Cert.Reference20Ideal.Read.reals20 _ _ _ (hp c)
  have h2 := Cert.Reference20Ideal.Read.entries_layer 9216 128 (Cert.Kernel20Ideal.Value.argV m c)
  obtain ⟨r0, r1, r2, k⟩ := h c
  have e0 : Cert.Reference20Ideal.Read.val_main_v52 (F := Ideal) (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) = (Cert.Kernel20Ideal.Gen.dats m 0 c).arrAt 3 Cert.Kernel20Ideal.cfg0.N := by
    rw [a0, a1, a2]
    exact (Cert.Kernel20Ideal.Value.final_o h0 h1 h2).symm
  have e1 : Cert.Reference20Ideal.Read.val_main_v51 (F := Ideal) (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) = (Cert.Kernel20Ideal.Gen.dats m 0 c).arrAt 4 Cert.Kernel20Ideal.cfg0.N := by
    rw [a0, a1, a2]
    exact (Cert.Kernel20Ideal.Value.final_o32 h0 h1 h2).symm
  have e2 : Cert.Reference20Ideal.Read.val_main_v87 (F := Ideal) (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) = (Cert.Kernel20Ideal.Gen.dats m 0 c).arrAt 5 Cert.Kernel20Ideal.cfg0.N := by
    rw [a0, a1]
    exact (Cert.Kernel20Ideal.Value.final_lse h0 h1 h2).symm
  exact ⟨r0.trans ((Cert.Reference20Ideal.Read.val_main_v52_eq m' c).trans e0), r1.trans ((Cert.Reference20Ideal.Read.val_main_v51_eq m' c).trans e1),
    r2.trans ((Cert.Reference20Ideal.Read.val_main_v87_eq m' c).trans e2), k⟩

/-- The claim: the frames of the kernels, of their ideal forms and of their references, and that the last two compute the same. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Pre_finite.facts, Cert.Reference20Ideal.Read.facts20, frame_kernel,
  fun m g _ => Cert.KernelIdeal.Gen.frame m g, fun m g _ => Cert.KernelIdeal.Gen.frame m g, frame_reference,
  fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  fun m g _ => Cert.Kernel9.Gen.frame m g, fun m g _ => Cert.Kernel9Ideal.Gen.frame m g, frame_reference9,
  fun m g _ => Cert.Kernel10.Gen.frame m g, fun m g _ => Cert.Kernel10Ideal.Gen.frame m g, frame_reference10,
  fun m g _ => Cert.Kernel11.Gen.frame m g, fun m g _ => Cert.Kernel11Ideal.Gen.frame m g, frame_reference11,
  fun m g _ => Cert.Kernel12.Gen.frame m g, fun m g _ => Cert.Kernel12Ideal.Gen.frame m g, frame_reference12,
  fun m g _ => Cert.Kernel13.Gen.frame m g, fun m g _ => Cert.Kernel13Ideal.Gen.frame m g, frame_reference13,
  fun m g _ => Cert.Kernel14.Gen.frame m g, fun m g _ => Cert.Kernel14Ideal.Gen.frame m g, frame_reference14,
  fun m g _ => Cert.Kernel15.Gen.frame m g, fun m g _ => Cert.Kernel15Ideal.Gen.frame m g, frame_reference15,
  fun m g _ => Cert.Kernel16.Gen.frame m g, fun m g _ => Cert.Kernel16Ideal.Gen.frame m g, frame_reference16,
  fun m g _ => Cert.Kernel17.Gen.frame m g, fun m g _ => Cert.Kernel17Ideal.Gen.frame m g, frame_reference17,
  fun m g _ => Cert.Kernel18.Gen.frame m g, fun m g _ => Cert.Kernel18Ideal.Gen.frame m g, frame_reference18,
  fun m g _ => Cert.Kernel19.Gen.frame m g, fun m g _ => Cert.Kernel19Ideal.Gen.frame m g, frame_reference19,
  fun m g _ => Cert.Kernel20.Gen.frame m g, fun m g _ => Cert.Kernel20Ideal.Gen.frame m g, fun m g _ => Cert.Kernel20Ideal.Gen.frame m g, frame_reference20,
  fun m g _ => frame_reference20 m g trivial,
  trivial, algebraic, trivial, algebraic2, trivial, algebraic3, trivial, algebraic4, trivial, algebraic5,
  trivial, algebraic6, trivial, algebraic7, trivial, algebraic8, trivial, algebraic9, trivial, algebraic10, trivial, algebraic11, trivial, algebraic12, trivial, algebraic13,
  trivial, algebraic14, trivial, algebraic15, trivial, algebraic16, trivial, algebraic17, trivial, algebraic18, trivial, algebraic19, trivial, algebraic20⟩

end Cert.Proof

end
